-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "gelu_c1" .f32 0x3D122279#32 ((80338380498831 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_v258) = v1 c
          ∧ r.2.mem ((c.tc : Thread Cert.ReferenceIdeal.nD Cert.ReferenceIdeal.τ).loc Cert.ReferenceIdeal.main_v260) = v2 c
          ∧ r.2.mem ((c.tc : Thread Cert.ReferenceIdeal.nD Cert.ReferenceIdeal.τ).loc Cert.ReferenceIdeal.main_v262) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Ffn_FfnIdeal : Prop :=
  True

def algebraic_FfnIdeal_FfnReferenceIdeal_pre_ffn_finite [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v36) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPre_finite : Cert.Pre_finite.Facts) (hPre_ffn_finite : Cert.Pre_ffn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_ffn_finite (hFfnIdeal := hFfnIdeal) (hFfnReferenceIdeal := hFfnReferenceIdeal) (hPre_ffn_finite := hPre_ffn_finite)
-- ==== Pre_ffn_finite.lean ====
abbrev S4x4096x1024 : Shape := ⟨3, ![4, 4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  bcast_S_S1x1024 : S_.BroadcastsInDim S1x1024 (![] : Fin 0 → Fin S1x1024.rank)
  bitsLt_bf16_f32 : FTy.bits .bf16 < FTy.bits .f32
  bcast_S_S1024x2816 : S_.BroadcastsInDim S1024x2816 (![] : Fin 0 → Fin S1024x2816.rank)

variable [Facts]

def fn {F : FTy → Type} [FloatOps F] (main_arg0 : FVec F S4x4096x1024 .f32) (main_arg1 : FVec F S1x1024 .f32) (main_arg2 : FVec F S1024x2816 .bf16) (main_arg3 : FVec F S1024x2816 .bf16) (main_arg4 : FVec F S2816x1024 .bf16) (main_arg5 : FVec F S1024 .f32) : IVec S4x4096x1024 1 × IVec S1x1024 1 × IVec S1024x2816 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := (extf .f32 · bitsLt_bf16_f32) main_arg2
  let main_v7 : FVec F S1024x2816 .f32 := Host.absf main_v6
  let main_cst_1 : FVec F S_ .f32 := constant S_ .f32 0x7F800000#32
  let main_v8 : FVec F S1024x2816 .f32 := broadcastInDim S1024x2816 ![] bcast_S_S1024x2816 main_cst_1
  let main_v9 : IVec S1024x2816 1 := cmpf .olt main_v7 main_v8
  (main_v2, main_v5, main_v9)
-- ==== Pre_finite.lean ====
abbrev S4x4096x1024 : Shape := ⟨3, ![4, 4096, 1024]⟩
abbrev S1x1024 : Shape := ⟨2, ![1, 1024]⟩
abbrev S1x1024x7184 : Shape := ⟨3, ![1, 1024, 7184]⟩
abbrev S1x7184 : Shape := ⟨2, ![1, 7184]⟩
abbrev S1x8x128x128 : Shape := ⟨4, ![1, 8, 128, 128]⟩
abbrev S1x8x128 : Shape := ⟨3, ![1, 8, 128]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4x4096x1024 : S_.BroadcastsInDim S4x4096x1024 (![] : Fin 0 → Fin S4x4096x1024.rank)
  bcast_S_S1x1024 : S_.BroadcastsInDim S1x1024 (![] : Fin 0 → Fin S1x1024.rank)
  bcast_S_S1x1024x7184 : S_.BroadcastsInDim S1x1024x7184 (![] : Fin 0 → Fin S1x1024x7184.rank)
  bcast_S_S1x7184 : S_.BroadcastsInDim S1x7184 (![] : Fin 0 → Fin S1x7184.rank)

variable [Facts]

def fn {F : FTy → Type} [FloatOps F] (main_arg0 : FVec F S4x4096x1024 .f32) (main_arg1 : FVec F S1x1024 .f32) (main_arg2 : FVec F S1x1024x7184 .f32) (main_arg3 : FVec F S1x7184 .f32) (main_arg4 : FVec F S1x1024 .f32) (main_arg5 : FVec F S1x1024 .f32) (main_arg6 : FVec F S1x8x128x128 .f32) (main_arg7 : FVec F S1x8x128 .f32) (main_arg8 : FVec F S1x16x512 .f32) (main_arg9 : FVec F S1x512 .f32) (main_arg10 : FVec F S1x256 .f32) (main_arg11 : FVec F S1x1024x1024 .f32) (main_arg12 : FVec F S1x1024x1024 .f32) (main_arg13 : FVec F S1x1024x1024 .f32) (main_arg14 : FVec F S1x1024x2816 .f32) (main_arg15 : FVec F S1x1024x2816 .f32) (main_arg16 : FVec F S1x2816x1024 .f32) : IVec S4x4096x1024 1 × IVec S1x1024 1 × IVec S1x1024x7184 1 × IVec S1x7184 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x7184 .f32 := Host.absf main_arg2
  let main_cst_1 : FVec F S_ .f32 := constant S_ .f32 0x7F800000#32
  let main_v7 : FVec F S1x1024x7184 .f32 := broadcastInDim S1x1024x7184 ![] bcast_S_S1x1024x7184 main_cst_1
  let main_v8 : IVec S1x1024x7184 1 := cmpf .olt main_v6 main_v7
  let main_v9 : FVec F S1x7184 .f32 := Host.absf main_arg3
  let main_cst_2 : FVec F S_ .f32 := constant S_ .f32 0x7F800000#32
  let main_v10 : FVec F S1x7184 .f32 := broadcastInDim S1x7184 ![] bcast_S_S1x7184 main_cst_2
  let main_v11 : IVec S1x7184 1 := cmpf .olt main_v9 main_v10
  (main_v2, main_v5, main_v8, main_v11)
-- ==== Kernel.lean ====
abbrev S4x4096x1024 : Shape := ⟨3, ![4, 4096, 1024]⟩
abbrev S1x1024 : Shape := ⟨2, ![1, 1024]⟩
abbrev S1x1024x7184 : Shape := ⟨3, ![1, 1024, 7184]⟩
abbrev S1x7184 : Shape := ⟨2, ![1, 7184]⟩
abbrev S1x8x128x128 : Shape := ⟨4, ![1, 8, 128, 128]⟩
abbrev S1x8x128 : Shape := ⟨3, ![1, 8, 128]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024x7184 : Shape := ⟨2, ![1024, 7184]⟩
abbrev S7184 : Shape := ⟨1, ![7184]⟩
abbrev S1024x2048 : Shape := ⟨2, ![1024, 2048]⟩
abbrev S_ : Shape := ⟨0, ![]⟩
abbrev S1024x2176 : Shape := ⟨2, ![1024, 2176]⟩
abbrev S1024x1024 : Shape := ⟨2, ![1024, 1024]⟩
abbrev S1024x16 : Shape := ⟨2, ![1024, 16]⟩
abbrev S1024x112 : Shape := ⟨2, ![1024, 112]⟩
abbrev S1024x1152 : Shape := ⟨2, ![1024, 1152]⟩
abbrev S1024 : Shape := ⟨1, ![1024]⟩
abbrev S16 : Shape := ⟨1, ![16]⟩
abbrev S112 : Shape := ⟨1, ![112]⟩
abbrev S1152 : Shape := ⟨1, ![1152]⟩
abbrev S8x128 : Shape := ⟨2, ![8, 128]⟩
abbrev S128x8 : Shape := ⟨2, ![128, 8]⟩
abbrev S128x8x1 : Shape := ⟨3, ![128, 8, 1]⟩
abbrev S128x8x128 : Shape := ⟨3, ![128, 8, 128]⟩
abbrev S128x1024 : Shape := ⟨2, ![128, 1024]⟩
abbrev S16x512 : Shape := ⟨2, ![16, 512]⟩
abbrev S128x512 : Shape := ⟨2, ![128, 512]⟩
abbrev S2048 : Shape := ⟨1, ![2048]⟩
abbrev S1x2048 : Shape := ⟨2, ![1, 2048]⟩
abbrev S1x1152 : Shape := ⟨2, ![1, 1152]⟩
abbrev S8x128x128 : Shape := ⟨3, ![8, 128, 128]⟩
abbrev S512 : Shape := ⟨1, ![512]⟩
abbrev S256 : Shape := ⟨1, ![256]⟩
abbrev S1024x2816 : Shape := ⟨2, ![1024, 2816]⟩
abbrev S2816x1024 : Shape := ⟨2, ![2816, 1024]⟩
abbrev S1x512x1024 : Shape := ⟨3, ![1, 512, 1024]⟩
abbrev S32x2816 : Shape := ⟨2, ![32, 2816]⟩
abbrev S176x1024 : Shape := ⟨2, ![176, 1024]⟩
abbrev S4x128x256 : Shape := ⟨3, ![4, 128, 256]⟩
abbrev S1x128x256 : Shape := ⟨3, ![1, 128, 256]⟩
abbrev S128x256 : Shape := ⟨2, ![128, 256]⟩
abbrev S512x1024 : Shape := ⟨2, ![512, 1024]⟩
abbrev S512x1 : Shape := ⟨2, ![512, 1]⟩
abbrev S512x1152 : Shape := ⟨2, ![512, 1152]⟩
abbrev S512x128 : Shape := ⟨2, ![512, 128]⟩
abbrev S1x128 : Shape := ⟨2, ![1, 128]⟩
abbrev S512x512 : Shape := ⟨2, ![512, 512]⟩
abbrev S512x2048 : Shape := ⟨2, ![512, 2048]⟩
abbrev S128x128 : Shape := ⟨2, ![128, 128]⟩
abbrev S256x512 : Shape := ⟨2, ![256, 512]⟩
abbrev S64x512 : Shape := ⟨2, ![64, 512]⟩
abbrev S8x512 : Shape := ⟨2, ![8, 512]⟩
abbrev S512x8 : Shape := ⟨2, ![512, 8]⟩
abbrev S1x128x128 : Shape := ⟨3, ![1, 128, 128]⟩
abbrev S576x512 : Shape := ⟨2, ![576, 512]⟩
abbrev S64x128 : Shape := ⟨2, ![64, 128]⟩
abbrev S64x256 : Shape := ⟨2, ![64, 256]⟩
abbrev S256x256 : Shape := ⟨2, ![256, 256]⟩
abbrev S128x1 : Shape := ⟨2, ![128, 1]⟩
abbrev S512x256 : Shape := ⟨2, ![512, 256]⟩

abbrev nBuf : Space → Nat
  | .hbm => 95
  | .vmem => 36
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x7184, .f32⟩
  | .hbm, ⟨3, _⟩ => ⟨S1x7184, .f32⟩
  | .hbm, ⟨4, _⟩ => ⟨S1x1024, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x16x512, .f32⟩
  | .hbm, ⟨9, _⟩ => ⟨S1x512, .f32⟩
  | .hbm, ⟨10, _⟩ => ⟨S1x256, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1x1024x2816, .f32⟩
  | .hbm, ⟨15, _⟩ => ⟨S1x1024x2816, .f32⟩
  | .hbm, ⟨16, _⟩ => ⟨S1x2816x1024, .f32⟩
  | .hbm, ⟨17, _⟩ => ⟨S1024x7184, .f32⟩
  | .hbm, ⟨18, _⟩ => ⟨S7184, .f32⟩
  | .hbm, ⟨19, _⟩ => ⟨S1024x2048, .f32⟩
  | .hbm, ⟨20, _⟩ => ⟨S_, .i32⟩
  | .hbm, ⟨21, _⟩ => ⟨S_, .f32⟩
  | .hbm, ⟨22, _⟩ => ⟨S1024x2176, .f32⟩
  | .hbm, ⟨23, _⟩ => ⟨S1024x2176, .bf16⟩
  | .hbm, ⟨24, _⟩ => ⟨S1024x1024, .f32⟩
  | .hbm, ⟨25, _⟩ => ⟨S1024x16, .f32⟩
  | .hbm, ⟨26, _⟩ => ⟨S_, .f32⟩
  | .hbm, ⟨27, _⟩ => ⟨S1024x112, .f32⟩
  | .hbm, ⟨28, _⟩ => ⟨S1024x1152, .f32⟩
  | .hbm, ⟨29, _⟩ => ⟨S1024x1152, .bf16⟩
  | .hbm, ⟨30, _⟩ => ⟨S1024x2048, .f32⟩
  | .hbm, ⟨31, _⟩ => ⟨S_, .i32⟩
  | .hbm, ⟨32, _⟩ => ⟨S_, .f32⟩
  | .hbm, ⟨33, _⟩ => ⟨S1024x2176, .f32⟩
  | .hbm, ⟨34, _⟩ => ⟨S1024x2176, .bf16⟩
  | .hbm, ⟨35, _⟩ => ⟨S1024x2048, .f32⟩
  | .hbm, ⟨36, _⟩ => ⟨S_, .i32⟩
  | .hbm, ⟨37, _⟩ => ⟨S_, .f32⟩
  | .hbm, ⟨38, _⟩ => ⟨S1024x2176, .f32⟩
  | .hbm, ⟨39, _⟩ => ⟨S1024x2176, .bf16⟩
  | .hbm, ⟨40, _⟩ => ⟨S1024, .f32⟩
  | .hbm, ⟨41, _⟩ => ⟨S16, .f32⟩
  | .hbm, ⟨42, _⟩ => ⟨S_, .f32⟩
  | .hbm, ⟨43, _⟩ => ⟨S112, .f32⟩
  | .hbm, ⟨44, _⟩ => ⟨S1152, .f32⟩
  | .hbm, ⟨45, _⟩ => ⟨S8x128, .f32⟩
  | .hbm, ⟨46, _⟩ => ⟨S128x8, .f32⟩
  | .hbm, ⟨47, _⟩ => ⟨S128x8x1, .f32⟩
  | .hbm, ⟨48, _⟩ => ⟨S128x8x128, .f32⟩
  | .hbm, ⟨49, _⟩ => ⟨S128x1024, .f32⟩
  | .hbm, ⟨50, _⟩ => ⟨S16x512, .f32⟩
  | .hbm, ⟨51, _⟩ => ⟨S_, .i32⟩
  | .hbm, ⟨52, _⟩ => ⟨S_, .f32⟩
  | .hbm, ⟨53, _⟩ => ⟨S128x512, .f32⟩
  | .hbm, ⟨54, _⟩ => ⟨S128x512, .bf16⟩
  | .hbm, ⟨55, _⟩ => ⟨S1024, .f32⟩
  | .hbm, ⟨56, _⟩ => ⟨S1x1024, .f32⟩
  | .hbm, ⟨57, _⟩ => ⟨S2048, .f32⟩
  | .hbm, ⟨58, _⟩ => ⟨S1x2048, .f32⟩
  | .hbm, ⟨59, _⟩ => ⟨S1x1152, .f32⟩
  | .hbm, ⟨60, _⟩ => ⟨S2048, .f32⟩
  | .hbm, ⟨61, _⟩ => ⟨S1x2048, .f32⟩
  | .hbm, ⟨62, _⟩ => ⟨S2048, .f32⟩
  | .hbm, ⟨63, _⟩ => ⟨S1x2048, .f32⟩
  | .hbm, ⟨64, _⟩ => ⟨S1024, .f32⟩
  | .hbm, ⟨65, _⟩ => ⟨S1x1024, .f32⟩
  | .hbm, ⟨66, _⟩ => ⟨S1024, .f32⟩
  | .hbm, ⟨67, _⟩ => ⟨S1x1024, .f32⟩
  | .hbm, ⟨68, _⟩ => ⟨S8x128x128, .f32⟩
  | .hbm, ⟨69, _⟩ => ⟨S512, .f32⟩
  | .hbm, ⟨70, _⟩ => ⟨S1x512, .f32⟩
  | .hbm, ⟨71, _⟩ => ⟨S256, .f32⟩
  | .hbm, ⟨72, _⟩ => ⟨S1x256, .f32⟩
  | .hbm, ⟨73, _⟩ => ⟨S1024x1024, .f32⟩
  | .hbm, ⟨74, _⟩ => ⟨S_, .i32⟩
  | .hbm, ⟨75, _⟩ => ⟨S_, .f32⟩
  | .hbm, ⟨76, _⟩ => ⟨S1024x1152, .f32⟩
  | .hbm, ⟨77, _⟩ => ⟨S1024x1152, .bf16⟩
  | .hbm, ⟨78, _⟩ => ⟨S1024x1024, .f32⟩
  | .hbm, ⟨79, _⟩ => ⟨S_, .i32⟩
  | .hbm, ⟨80, _⟩ => ⟨S_, .f32⟩
  | .hbm, ⟨81, _⟩ => ⟨S1024x1152, .f32⟩
  | .hbm, ⟨82, _⟩ => ⟨S1024x1152, .bf16⟩
  | .hbm, ⟨83, _⟩ => ⟨S1024x1024, .f32⟩
  | .hbm, ⟨84, _⟩ => ⟨S_, .i32⟩
  | .hbm, ⟨85, _⟩ => ⟨S_, .f32⟩
  | .hbm, ⟨86, _⟩ => ⟨S1024x1152, .f32⟩
  | .hbm, ⟨87, _⟩ => ⟨S1024x1152, .bf16⟩
  | .hbm, ⟨88, _⟩ => ⟨S1024x2816, .f32⟩
  | .hbm, ⟨89, _⟩ => ⟨S1024x2816, .f32⟩
  | .hbm, ⟨90, _⟩ => ⟨S2816x1024, .f32⟩
  | .hbm, ⟨91, _⟩ => ⟨S4x4096x1024, .f32⟩
  | .hbm, ⟨92, _⟩ => ⟨S1024x2816, .bf16⟩
  | .hbm, ⟨93, _⟩ => ⟨S1024x2816, .bf16⟩
  | .hbm, ⟨94, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2176, .bf16⟩
  | .local _ .vmem, ⟨4, _⟩ => ⟨S1x2048, .f32⟩
  | .local _ .vmem, ⟨5, _⟩ => ⟨S1024x1152, .bf16⟩
  | .local _ .vmem, ⟨6, _⟩ => ⟨S1x1152, .f32⟩
  | .local _ .vmem, ⟨7, _⟩ => ⟨S1024x2176, .bf16⟩
  | .local _ .vmem, ⟨8, _⟩ => ⟨S1x2048, .f32⟩
  | .local _ .vmem, ⟨9, _⟩ => ⟨S1024x2176, .bf16⟩
  | .local _ .vmem, ⟨10, _⟩ => ⟨S1x2048, .f32⟩
  | .local _ .vmem, ⟨11, _⟩ => ⟨S1x1024, .f32⟩
  | .local _ .vmem, ⟨12, _⟩ => ⟨S1x1024, .f32⟩
  | .local _ .vmem, ⟨13, _⟩ => ⟨S8x128x128, .f32⟩
  | .local _ .vmem, ⟨14, _⟩ => ⟨S128x1024, .f32⟩
  | .local _ .vmem, ⟨15, _⟩ => ⟨S128x512, .bf16⟩
  | .local _ .vmem, ⟨16, _⟩ => ⟨S1x512, .f32⟩
  | .local _ .vmem, ⟨17, _⟩ => ⟨S1x256, .f32⟩
  | .local _ .vmem, ⟨18, _⟩ => ⟨S1024x1152, .bf16⟩
  | .local _ .vmem, ⟨19, _⟩ => ⟨S1024x1152, .bf16⟩
  | .local _ .vmem, ⟨20, _⟩ => ⟨S1024x1152, .bf16⟩
  | .local _ .vmem, ⟨21, _⟩ => ⟨S32x2816, .f32⟩
  | .local _ .vmem, ⟨22, _⟩ => ⟨S32x2816, .f32⟩
  | .local _ .vmem, ⟨23, _⟩ => ⟨S32x2816, .f32⟩
  | .local _ .vmem, ⟨24, _⟩ => ⟨S32x2816, .f32⟩
  | .local _ .vmem, ⟨25, _⟩ => ⟨S176x1024, .f32⟩
  | .local _ .vmem, ⟨26, _⟩ => ⟨S176x1024, .f32⟩
  | .local _ .vmem, ⟨27, _⟩ => ⟨S1x512x1024, .f32⟩
  | .local _ .vmem, ⟨28, _⟩ => ⟨S1x512x1024, .f32⟩
  | .local _ .vmem, ⟨29, _⟩ => ⟨S32x2816, .bf16⟩
  | .local _ .vmem, ⟨30, _⟩ => ⟨S32x2816, .bf16⟩
  | .local _ .vmem, ⟨31, _⟩ => ⟨S32x2816, .bf16⟩
  | .local _ .vmem, ⟨32, _⟩ => ⟨S32x2816, .bf16⟩
  | .local _ .vmem, ⟨33, _⟩ => ⟨S176x1024, .bf16⟩
  | .local _ .vmem, ⟨34, _⟩ => ⟨S176x1024, .bf16⟩
  | .local _ .vmem, ⟨35, _⟩ => ⟨S4x128x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_call3_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_4 : Ref sig .tc := ⟨.hbm, 74, rfl⟩
abbrev main_call4_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_5 : Ref sig .tc := ⟨.hbm, 79, rfl⟩
abbrev main_call5_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_6 : Ref sig .tc := ⟨.hbm, 84, rfl⟩
abbrev main_call6_v0 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58_0 : Ref sig .tc := ⟨.hbm, 91, rfl⟩
abbrev main_v58_1 : Ref sig .tc := ⟨.hbm, 92, rfl⟩
abbrev main_v58_2 : Ref sig .tc := ⟨.hbm, 93, rfl⟩
abbrev main_v58_3 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22
abbrev cc0_sem21_0 : DmaSem sig := 23
abbrev cc0_sem21_1 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31
abbrev cc0_sem25_1 : DmaSem sig := 32
abbrev cc0_sem26_0 : DmaSem sig := 33
abbrev cc0_sem26_1 : DmaSem sig := 34

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_25 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_26 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2176 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2176 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1152 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1152 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1024x1152 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S32x2816 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S32x2816 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S176x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S32x2816 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S32x2816 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S176x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== KernelIdeal.lean ====
variable {F : FTy → Type} [FloatOps F] [Named F]
def κ : String → Option EReal := fun
  | "gelu_c1" => some ((80338380498831 / 2251799813685248 : ℝ) : EReal)
  | "log2e" => some (((Real.log 2)⁻¹ : ℝ) : EReal)
  | "neg_log2e" => some ((-((Real.log 2)⁻¹) : ℝ) : EReal)
  | _ => none
-- ==== ReferenceIdeal.lean ====
abbrev S4x4096x1024 : Shape := ⟨3, ![4, 4096, 1024]⟩
abbrev S1x1024 : Shape := ⟨2, ![1, 1024]⟩
abbrev S1x1024x7184 : Shape := ⟨3, ![1, 1024, 7184]⟩
abbrev S1x7184 : Shape := ⟨2, ![1, 7184]⟩
abbrev S1x8x128x128 : Shape := ⟨4, ![1, 8, 128, 128]⟩
abbrev S1x8x128 : Shape := ⟨3, ![1, 8, 128]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x7184 : Shape := ⟨2, ![1024, 7184]⟩
abbrev S7184 : Shape := ⟨1, ![7184]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x7184 : Shape := ⟨3, ![4, 4096, 7184]⟩
abbrev S1x1x7184 : Shape := ⟨3, ![1, 1, 7184]⟩
abbrev S4x4096x512 : Shape := ⟨3, ![4, 4096, 512]⟩
abbrev S4x4096x16 : Shape := ⟨3, ![4, 4096, 16]⟩
abbrev S16x512 : Shape := ⟨2, ![16, 512]⟩
abbrev S512 : Shape := ⟨1, ![512]⟩
abbrev S1x1x512 : Shape := ⟨3, ![1, 1, 512]⟩
abbrev S4x64x64x4x128 : Shape := ⟨5, ![4, 64, 64, 4, 128]⟩
abbrev S4x4x64x64x128 : Shape := ⟨5, ![4, 4, 64, 64, 128]⟩
abbrev S4x4x64x1x128 : Shape := ⟨5, ![4, 4, 64, 1, 128]⟩
abbrev S4x64x64x4x256 : Shape := ⟨5, ![4, 64, 64, 4, 256]⟩
abbrev S4x4x64x64x256 : Shape := ⟨5, ![4, 4, 64, 64, 256]⟩
abbrev S4x4x64x128x256 : Shape := ⟨5, ![4, 4, 64, 128, 256]⟩
abbrev S4x4x64x128 : Shape := ⟨4, ![4, 4, 64, 128]⟩
abbrev S4x4x128x256 : Shape := ⟨4, ![4, 4, 128, 256]⟩
abbrev S64x4x4x128 : Shape := ⟨4, ![64, 4, 4, 128]⟩
abbrev S64x4x4x128x256 : Shape := ⟨5, ![64, 4, 4, 128, 256]⟩
abbrev S1x4x4x128 : Shape := ⟨4, ![1, 4, 4, 128]⟩
abbrev S4x4x128 : Shape := ⟨3, ![4, 4, 128]⟩
abbrev S1x4x4x128x256 : Shape := ⟨5, ![1, 4, 4, 128, 256]⟩
abbrev S4x4x128x1 : Shape := ⟨4, ![4, 4, 128, 1]⟩
abbrev S8x128x128 : Shape := ⟨3, ![8, 128, 128]⟩
abbrev S8x128 : Shape := ⟨2, ![8, 128]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S256 : Shape := ⟨1, ![256]⟩
abbrev S64x64 : Shape := ⟨2, ![64, 64]⟩
abbrev S4x4x64x64x64 : Shape := ⟨5, ![4, 4, 64, 64, 64]⟩
abbrev S4x4x64x64 : Shape := ⟨4, ![4, 4, 64, 64]⟩
abbrev S4x4x64x64x1 : Shape := ⟨5, ![4, 4, 64, 64, 1]⟩
abbrev S1x1x1x1x256 : Shape := ⟨5, ![1, 1, 1, 1, 256]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 379
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x7184, .f32⟩
  | 3 => ⟨S1x7184, .f32⟩
  | 4 => ⟨S1x1024, .f32⟩
  | 5 => ⟨S1x1024, .f32⟩
  | 6 => ⟨S1x8x128x128, .f32⟩
  | 7 => ⟨S1x8x128, .f32⟩
  | 8 => ⟨S1x16x512, .f32⟩
  | 9 => ⟨S1x512, .f32⟩
  | 10 => ⟨S1x256, .f32⟩
  | 11 => ⟨S1x1024x1024, .f32⟩
  | 12 => ⟨S1x1024x1024, .f32⟩
  | 13 => ⟨S1x1024x1024, .f32⟩
  | 14 => ⟨S1x1024x2816, .f32⟩
  | 15 => ⟨S1x1024x2816, .f32⟩
  | 16 => ⟨S1x2816x1024, .f32⟩
  | 17 => ⟨S1024, .f32⟩
  | 18 => ⟨S1024x7184, .f32⟩
  | 19 => ⟨S7184, .f32⟩
  | 20 => ⟨S4x4096x1024, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S_, .f32⟩
  | 28 => ⟨S4x4096x1, .f32⟩
  | 29 => ⟨S4x4096x1, .f32⟩
  | 30 => ⟨S4x4096x1, .f32⟩
  | 31 => ⟨S4x4096x1024, .f32⟩
  | 32 => ⟨S4x4096x1024, .f32⟩
  | 33 => ⟨S1x1x1024, .f32⟩
  | 34 => ⟨S4x4096x1024, .f32⟩
  | 35 => ⟨S4x4096x1024, .f32⟩
  | 36 => ⟨S4x4096x7184, .f32⟩
  | 37 => ⟨S1x1x7184, .f32⟩
  | 38 => ⟨S4x4096x7184, .f32⟩
  | 39 => ⟨S4x4096x7184, .f32⟩
  | 40 => ⟨S4x4096x1024, .f32⟩
  | 41 => ⟨S4x4096x1024, .f32⟩
  | 42 => ⟨S4x4096x512, .f32⟩
  | 43 => ⟨S4x4096x512, .f32⟩
  | 44 => ⟨S4x4096x1024, .f32⟩
  | 45 => ⟨S4x4096x1024, .f32⟩
  | 46 => ⟨S4x4096x16, .f32⟩
  | 47 => ⟨S4x4096x1024, .f32⟩
  | 48 => ⟨S4x4096x1024, .f32⟩
  | 49 => ⟨S16x512, .f32⟩
  | 50 => ⟨S512, .f32⟩
  | 51 => ⟨S4x4096x512, .f32⟩
  | 52 => ⟨S1x1x512, .f32⟩
  | 53 => ⟨S4x4096x512, .f32⟩
  | 54 => ⟨S4x4096x512, .f32⟩
  | 55 => ⟨S4x4096x512, .f32⟩
  | 56 => ⟨S_, .f32⟩
  | 57 => ⟨S4x4096x512, .f32⟩
  | 58 => ⟨S4x4096x512, .f32⟩
  | 59 => ⟨S4x4096x512, .f32⟩
  | 60 => ⟨S4x4096x512, .f32⟩
  | 61 => ⟨S4x4096x512, .i1⟩
  | 62 => ⟨S4x4096x512, .f32⟩
  | 63 => ⟨S4x4096x512, .f32⟩
  | 64 => ⟨S4x4096x512, .f32⟩
  | 65 => ⟨S4x4096x512, .f32⟩
  | 66 => ⟨S4x4096x512, .f32⟩
  | 67 => ⟨S4x4096x512, .f32⟩
  | 68 => ⟨S4x4096x512, .f32⟩
  | 69 => ⟨S4x4096x512, .f32⟩
  | 70 => ⟨S4x4096x512, .f32⟩
  | 71 => ⟨S_, .f32⟩
  | 72 => ⟨S4x4096x512, .f32⟩
  | 73 => ⟨S4x4096x512, .f32⟩
  | 74 => ⟨S4x64x64x4x128, .f32⟩
  | 75 => ⟨S4x4x64x64x128, .f32⟩
  | 76 => ⟨S_, .f32⟩
  | 77 => ⟨S_, .f32⟩
  | 78 => ⟨S4x4x64x64x128, .f32⟩
  | 79 => ⟨S4x4x64x1x128, .f32⟩
  | 80 => ⟨S4x64x64x4x128, .f32⟩
  | 81 => ⟨S4x4x64x64x128, .f32⟩
  | 82 => ⟨S4x4x64x64x128, .f32⟩
  | 83 => ⟨S4x4x64x64x128, .f32⟩
  | 84 => ⟨S4x4x64x64x128, .f32⟩
  | 85 => ⟨S4x4x64x64x128, .f32⟩
  | 86 => ⟨S4x64x64x4x256, .f32⟩
  | 87 => ⟨S4x4x64x64x256, .f32⟩
  | 88 => ⟨S4x4x64x128x256, .f32⟩
  | 89 => ⟨S4x4x64x128, .f32⟩
  | 90 => ⟨S4x4x64x128, .f32⟩
  | 91 => ⟨S_, .f32⟩
  | 92 => ⟨S4x4x128x256, .f32⟩
  | 93 => ⟨S64x4x4x128, .f32⟩
  | 94 => ⟨S64x4x4x128x256, .f32⟩
  | 95 => ⟨S_, .f32⟩
  | 96 => ⟨S64x4x4x128x256, .f32⟩
  | 97 => ⟨S_, .i32⟩
  | 98 => ⟨S64x4x4x128, .f32⟩
  | 99 => ⟨S64x4x4x128x256, .f32⟩
  | 100 => ⟨S_, .i32⟩
  | 101 => ⟨S4x4x128x256, .f32⟩
  | 102 => ⟨S64x4x4x128x256, .f32⟩
  | 103 => ⟨S_, .i32⟩
  | 104 => ⟨S_, .i1⟩
  | 105 => ⟨S_, .i32⟩
  | 106 => ⟨S_, .i32⟩
  | 107 => ⟨S_, .i32⟩
  | 108 => ⟨S1x4x4x128, .f32⟩
  | 109 => ⟨S4x4x128, .f32⟩
  | 110 => ⟨S_, .i32⟩
  | 111 => ⟨S_, .i32⟩
  | 112 => ⟨S_, .i32⟩
  | 113 => ⟨S_, .i32⟩
  | 114 => ⟨S1x4x4x128x256, .f32⟩
  | 115 => ⟨S4x4x128x256, .f32⟩
  | 116 => ⟨S4x4x128x1, .f32⟩
  | 117 => ⟨S4x4x128x256, .f32⟩
  | 118 => ⟨S4x4x128x256, .f32⟩
  | 119 => ⟨S4x4x128x256, .f32⟩
  | 120 => ⟨S1x4x4x128x256, .f32⟩
  | 121 => ⟨S_, .i32⟩
  | 122 => ⟨S_, .i32⟩
  | 123 => ⟨S_, .i32⟩
  | 124 => ⟨S_, .i32⟩
  | 125 => ⟨S64x4x4x128x256, .f32⟩
  | 126 => ⟨S_, .i32⟩
  | 127 => ⟨S_, .i32⟩
  | _ => ⟨S4x4096x1024, .f32⟩

abbrev hbmTy0_1 (i : Nat) : BufTy := match i % 128 with
  | 0 => ⟨S4x4x64x128x256, .f32⟩
  | 1 => ⟨S1024, .f32⟩
  | 2 => ⟨S1024x7184, .f32⟩
  | 3 => ⟨S7184, .f32⟩
  | 4 => ⟨S4x4096x1024, .f32⟩
  | 5 => ⟨S_, .f32⟩
  | 6 => ⟨S4x4096, .f32⟩
  | 7 => ⟨S4x4096x1, .f32⟩
  | 8 => ⟨S_, .f32⟩
  | 9 => ⟨S4x4096x1, .f32⟩
  | 10 => ⟨S4x4096x1, .f32⟩
  | 11 => ⟨S_, .f32⟩
  | 12 => ⟨S4x4096x1, .f32⟩
  | 13 => ⟨S4x4096x1, .f32⟩
  | 14 => ⟨S4x4096x1, .f32⟩
  | 15 => ⟨S4x4096x1024, .f32⟩
  | 16 => ⟨S4x4096x1024, .f32⟩
  | 17 => ⟨S1x1x1024, .f32⟩
  | 18 => ⟨S4x4096x1024, .f32⟩
  | 19 => ⟨S4x4096x1024, .f32⟩
  | 20 => ⟨S4x4096x7184, .f32⟩
  | 21 => ⟨S1x1x7184, .f32⟩
  | 22 => ⟨S4x4096x7184, .f32⟩
  | 23 => ⟨S4x4096x7184, .f32⟩
  | 24 => ⟨S4x4096x1024, .f32⟩
  | 25 => ⟨S4x4096x1024, .f32⟩
  | 26 => ⟨S4x4096x512, .f32⟩
  | 27 => ⟨S4x4096x512, .f32⟩
  | 28 => ⟨S4x4096x1024, .f32⟩
  | 29 => ⟨S4x4096x1024, .f32⟩
  | 30 => ⟨S4x4096x16, .f32⟩
  | 31 => ⟨S4x4096x1024, .f32⟩
  | 32 => ⟨S4x4096x1024, .f32⟩
  | 33 => ⟨S4x4096x1024, .f32⟩
  | 34 => ⟨S4x4096x1024, .f32⟩
  | 35 => ⟨S_, .f32⟩
  | 36 => ⟨S4x4096x1024, .f32⟩
  | 37 => ⟨S4x4096x1024, .f32⟩
  | 38 => ⟨S4x4096x1024, .f32⟩
  | 39 => ⟨S_, .f32⟩
  | 40 => ⟨S4x4096x1024, .f32⟩
  | 41 => ⟨S4x4096x1024, .f32⟩
  | 42 => ⟨S4x4096x1024, .f32⟩
  | 43 => ⟨S_, .f32⟩
  | 44 => ⟨S4x4096x1024, .f32⟩
  | 45 => ⟨S4x4096x1024, .f32⟩
  | 46 => ⟨S_, .f32⟩
  | 47 => ⟨S4x4096x1024, .f32⟩
  | 48 => ⟨S4x4096x1024, .f32⟩
  | 49 => ⟨S4x4096x1024, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S4x4096x1024, .f32⟩
  | 56 => ⟨S_, .f32⟩
  | 57 => ⟨S4x4096x1024, .f32⟩
  | 58 => ⟨S4x4096x1024, .f32⟩
  | 59 => ⟨S4x4096x1024, .f32⟩
  | 60 => ⟨S_, .f32⟩
  | 61 => ⟨S4x4096x1024, .f32⟩
  | 62 => ⟨S4x4096x1024, .f32⟩
  | 63 => ⟨S_, .f32⟩
  | 64 => ⟨S4x4096x1024, .f32⟩
  | 65 => ⟨S4x4096x1024, .f32⟩
  | 66 => ⟨S4x4096x1024, .f32⟩
  | 67 => ⟨S1024, .f32⟩
  | 68 => ⟨S1024, .f32⟩
  | 69 => ⟨S8x128x128, .f32⟩
  | 70 => ⟨S8x128, .f32⟩
  | 71 => ⟨S_, .f32⟩
  | 72 => ⟨S4x4096, .f32⟩
  | 73 => ⟨S4x4096x1, .f32⟩
  | 74 => ⟨S_, .f32⟩
  | 75 => ⟨S4x4096x1, .f32⟩
  | 76 => ⟨S4x4096x1, .f32⟩
  | 77 => ⟨S4x4096x1024, .f32⟩
  | 78 => ⟨S4x4096x1024, .f32⟩
  | 79 => ⟨S4x4096x1024, .f32⟩
  | 80 => ⟨S_, .f32⟩
  | 81 => ⟨S4x4096, .f32⟩
  | 82 => ⟨S4x4096x1, .f32⟩
  | 83 => ⟨S_, .f32⟩
  | 84 => ⟨S4x4096x1, .f32⟩
  | 85 => ⟨S4x4096x1, .f32⟩
  | 86 => ⟨S4x4096x1024, .f32⟩
  | 87 => ⟨S4x4096x1024, .f32⟩
  | 88 => ⟨S_, .f32⟩
  | 89 => ⟨S4x4096x1, .f32⟩
  | 90 => ⟨S4x4096x1, .f32⟩
  | 91 => ⟨S4x4096x1, .f32⟩
  | 92 => ⟨S4x4096x1024, .f32⟩
  | 93 => ⟨S4x4096x1024, .f32⟩
  | 94 => ⟨S1x1x1024, .f32⟩
  | 95 => ⟨S4x4096x1024, .f32⟩
  | 96 => ⟨S4x4096x1024, .f32⟩
  | 97 => ⟨S1x1x1024, .f32⟩
  | 98 => ⟨S4x4096x1024, .f32⟩
  | 99 => ⟨S4x4096x1024, .f32⟩
  | 100 => ⟨S4x32x128x8x128, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S1x128x128, .i1⟩
  | 113 => ⟨S_, .f32⟩
  | 114 => ⟨S8x128x128, .f32⟩
  | 115 => ⟨S8x128x128, .i1⟩
  | 116 => ⟨S8x128x128, .f32⟩
  | 117 => ⟨S8x4x32x128x128, .f32⟩
  | 118 => ⟨S4x32x128x8x128, .f32⟩
  | 119 => ⟨S128x8, .f32⟩
  | 120 => ⟨S128x8x1, .f32⟩
  | 121 => ⟨S1x1x128x8x1, .f32⟩
  | 122 => ⟨S4x32x128x8x128, .f32⟩
  | 123 => ⟨S4x32x128x8x128, .f32⟩
  | 124 => ⟨S4x4096x1024, .f32⟩
  | 125 => ⟨S4x4096x1024, .f32⟩
  | 126 => ⟨S16x512, .f32⟩
  | 127 => ⟨S512, .f32⟩
  | _ => ⟨S4x4096x1024, .f32⟩

abbrev hbmTy0_2 (i : Nat) : BufTy := match i % 128 with
  | 0 => ⟨S4x4096x512, .f32⟩
  | 1 => ⟨S1x1x512, .f32⟩
  | 2 => ⟨S4x4096x512, .f32⟩
  | 3 => ⟨S4x4096x512, .f32⟩
  | 4 => ⟨S4x4096x512, .f32⟩
  | 5 => ⟨S_, .f32⟩
  | 6 => ⟨S4x4096x512, .f32⟩
  | 7 => ⟨S4x4096x512, .f32⟩
  | 8 => ⟨S4x4096x512, .f32⟩
  | 9 => ⟨S4x4096x512, .f32⟩
  | 10 => ⟨S4x4096x512, .i1⟩
  | 11 => ⟨S4x4096x512, .f32⟩
  | 12 => ⟨S4x4096x512, .f32⟩
  | 13 => ⟨S4x4096x512, .f32⟩
  | 14 => ⟨S4x4096x512, .f32⟩
  | 15 => ⟨S4x4096x512, .f32⟩
  | 16 => ⟨S4x4096x512, .f32⟩
  | 17 => ⟨S4x4096x512, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x64x64x4x128, .f32⟩
  | 24 => ⟨S4x4x64x64x128, .f32⟩
  | 25 => ⟨S_, .f32⟩
  | 26 => ⟨S_, .f32⟩
  | 27 => ⟨S4x4x64x64x128, .f32⟩
  | 28 => ⟨S256, .f32⟩
  | 29 => ⟨S4x64x64x4x128, .f32⟩
  | 30 => ⟨S4x4x64x64x128, .f32⟩
  | 31 => ⟨S_, .f32⟩
  | 32 => ⟨S4x4x64x64x128, .f32⟩
  | 33 => ⟨S4x4x64x64x128, .f32⟩
  | 34 => ⟨S4x4x64x64x128, .f32⟩
  | 35 => ⟨S4x4x64x64x128, .f32⟩
  | 36 => ⟨S4x64x64x4x128, .f32⟩
  | 37 => ⟨S4x4x64x64x128, .f32⟩
  | 38 => ⟨S4x4x64x64x128, .f32⟩
  | 39 => ⟨S4x4x64x64x128, .f32⟩
  | 40 => ⟨S4x4x64x64x128, .f32⟩
  | 41 => ⟨S_, .i1⟩
  | 42 => ⟨S64x64, .i1⟩
  | 43 => ⟨S64x64, .i32⟩
  | 44 => ⟨S_, .i32⟩
  | 45 => ⟨S64x64, .i32⟩
  | 46 => ⟨S64x64, .i32⟩
  | 47 => ⟨S64x64, .i32⟩
  | 48 => ⟨S64x64, .i1⟩
  | 49 => ⟨S_, .i1⟩
  | 50 => ⟨S64x64, .i1⟩
  | 51 => ⟨S64x64, .i1⟩
  | 52 => ⟨S4x4x64x64x64, .f32⟩
  | 53 => ⟨S_, .f32⟩
  | 54 => ⟨S_, .f32⟩
  | 55 => ⟨S4x4x64x64x64, .i1⟩
  | 56 => ⟨S4x4x64x64x64, .f32⟩
  | 57 => ⟨S4x4x64x64x64, .f32⟩
  | 58 => ⟨S4x64x64x4x256, .f32⟩
  | 59 => ⟨S4x4x64x64x256, .f32⟩
  | 60 => ⟨S4x4x64x64x256, .f32⟩
  | 61 => ⟨S4x4x64x64x256, .f32⟩
  | 62 => ⟨S4x4x64x64x256, .f32⟩
  | 63 => ⟨S4x4x64x64x256, .f32⟩
  | 64 => ⟨S_, .f32⟩
  | 65 => ⟨S4x4x64x64, .f32⟩
  | 66 => ⟨S4x4x64x64x1, .f32⟩
  | 67 => ⟨S_, .f32⟩
  | 68 => ⟨S4x4x64x64x1, .f32⟩
  | 69 => ⟨S4x4x64x64x1, .f32⟩
  | 70 => ⟨S_, .f32⟩
  | 71 => ⟨S4x4x64x64x1, .f32⟩
  | 72 => ⟨S4x4x64x64x1, .f32⟩
  | 73 => ⟨S4x4x64x64x1, .f32⟩
  | 74 => ⟨S4x4x64x64x256, .f32⟩
  | 75 => ⟨S4x4x64x64x256, .f32⟩
  | 76 => ⟨S1x1x1x1x256, .f32⟩
  | 77 => ⟨S4x4x64x64x256, .f32⟩
  | 78 => ⟨S4x4x64x64x256, .f32⟩
  | 79 => ⟨S4x64x64x4x256, .f32⟩
  | 80 => ⟨S4x4096x1024, .f32⟩
  | 81 => ⟨S4x4096x1024, .f32⟩
  | 82 => ⟨S4x4096x1024, .f32⟩
  | 83 => ⟨S_, .f32⟩
  | 84 => ⟨S4x4096x1024, .f32⟩
  | 85 => ⟨S4x4096x1024, .f32⟩
  | 86 => ⟨S_, .f32⟩
  | 87 => ⟨S4x4096x1024, .f32⟩
  | 88 => ⟨S4x4096x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S_, .f32⟩
  | 94 => ⟨S4x4096x1024, .f32⟩
  | 95 => ⟨S4x4096x1024, .f32⟩
  | 96 => ⟨S_, .f32⟩
  | 97 => ⟨S4x4096x1024, .f32⟩
  | 98 => ⟨S4x4096x1024, .f32⟩
  | 99 => ⟨S1024x1024, .f32⟩
  | 100 => ⟨S4x4096x1024, .f32⟩
  | 101 => ⟨S4x4096x1024, .f32⟩
  | 102 => ⟨S4x4096x1024, .f32⟩
  | 103 => ⟨S4x4096x1024, .f32⟩
  | 104 => ⟨S_, .f32⟩
  | 105 => ⟨S4x4096x1024, .f32⟩
  | 106 => ⟨S4x4096x1024, .f32⟩
  | 107 => ⟨S_, .f32⟩
  | 108 => ⟨S4x4096x1024, .f32⟩
  | 109 => ⟨S4x4096x1024, .f32⟩
  | 110 => ⟨S1024x1024, .f32⟩
  | 111 => ⟨S4x4096x1024, .f32⟩
  | 112 => ⟨S4x4096x1024, .f32⟩
  | 113 => ⟨S4x4096x1024, .f32⟩
  | 114 => ⟨S1024x1024, .f32⟩
  | 115 => ⟨S4x4096x1024, .f32⟩
  | 116 => ⟨S4x4096x1024, .f32⟩
  | 117 => ⟨S1024x2816, .f32⟩
  | 118 => ⟨S1024x2816, .bf16⟩
  | 119 => ⟨S1024x2816, .f32⟩
  | 120 => ⟨S1024x2816, .bf16⟩
  | 121 => ⟨S2816x1024, .f32⟩
  | 122 => ⟨S2816x1024, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_call0_cst : Ref sig .tc := ⟨.hbm, 76, rfl⟩
abbrev main_call0_call0_v0 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_4 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_5 : Ref sig .tc := ⟨.hbm, 95, rfl⟩
abbrev main_v70 : Ref sig .tc := ⟨.hbm, 96, rfl⟩
abbrev main_c : Ref sig .tc := ⟨.hbm, 97, rfl⟩
abbrev main_v71_0 : Ref sig .tc := ⟨.hbm, 98, rfl⟩
abbrev main_v71_1 : Ref sig .tc := ⟨.hbm, 99, rfl⟩
abbrev main_v71_2 : Ref sig .tc := ⟨.hbm, 100, rfl⟩
abbrev main_v71_3 : Ref sig .tc := ⟨.hbm, 101, rfl⟩
abbrev main_v71_4 : Ref sig .tc := ⟨.hbm, 102, rfl⟩
abbrev main_while0c_c_40 : Ref sig .tc := ⟨.hbm, 103, rfl⟩
abbrev main_while0c_v263 : Ref sig .tc := ⟨.hbm, 104, rfl⟩
abbrev main_while0b_call1_c : Ref sig .tc := ⟨.hbm, 105, rfl⟩
abbrev main_while0b_call1_c_0 : Ref sig .tc := ⟨.hbm, 106, rfl⟩
abbrev main_while0b_call1_c_1 : Ref sig .tc := ⟨.hbm, 107, rfl⟩
abbrev main_while0b_call1_v0 : Ref sig .tc := ⟨.hbm, 108, rfl⟩
abbrev main_while0b_v263 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_c_1 : Ref sig .tc := ⟨.hbm, 112, rfl⟩
abbrev main_while0b_call2_c_2 : Ref sig .tc := ⟨.hbm, 113, rfl⟩
abbrev main_while0b_call2_v0 : Ref sig .tc := ⟨.hbm, 114, rfl⟩
abbrev main_while0b_v264 : Ref sig .tc := ⟨.hbm, 115, rfl⟩
abbrev main_while0b_v265 : Ref sig .tc := ⟨.hbm, 116, rfl⟩
abbrev main_while0b_v266 : Ref sig .tc := ⟨.hbm, 117, rfl⟩
abbrev main_while0b_v267 : Ref sig .tc := ⟨.hbm, 118, rfl⟩
abbrev main_while0b_v268 : Ref sig .tc := ⟨.hbm, 119, rfl⟩
abbrev main_while0b_call3_v0 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_c_1 : Ref sig .tc := ⟨.hbm, 123, rfl⟩
abbrev main_while0b_call3_c_2 : Ref sig .tc := ⟨.hbm, 124, rfl⟩
abbrev main_while0b_v269 : Ref sig .tc := ⟨.hbm, 125, rfl⟩
abbrev main_while0b_c_40 : Ref sig .tc := ⟨.hbm, 126, rfl⟩
abbrev main_while0b_v270 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_6 : Ref sig .tc := ⟨.hbm, 133, rfl⟩
abbrev main_v77 : Ref sig .tc := ⟨.hbm, 134, rfl⟩
abbrev main_v78 : Ref sig .tc := ⟨.hbm, 135, rfl⟩
abbrev main_cst_7 : Ref sig .tc := ⟨.hbm, 136, rfl⟩
abbrev main_v79 : Ref sig .tc := ⟨.hbm, 137, rfl⟩
abbrev main_v80 : Ref sig .tc := ⟨.hbm, 138, rfl⟩
abbrev main_cst_8 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_9 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_10 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_11 : Ref sig .tc := ⟨.hbm, 171, rfl⟩
abbrev main_v110 : Ref sig .tc := ⟨.hbm, 172, rfl⟩
abbrev main_v111 : Ref sig .tc := ⟨.hbm, 173, rfl⟩
abbrev main_cst_12 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_13 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_14 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_15 : Ref sig .tc := ⟨.hbm, 188, rfl⟩
abbrev main_v123 : Ref sig .tc := ⟨.hbm, 189, rfl⟩
abbrev main_v124 : Ref sig .tc := ⟨.hbm, 190, rfl⟩
abbrev main_cst_16 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_cst_17 : Ref sig .tc := ⟨.hbm, 199, rfl⟩
abbrev main_v132 : Ref sig .tc := ⟨.hbm, 200, rfl⟩
abbrev main_v133 : Ref sig .tc := ⟨.hbm, 201, rfl⟩
abbrev main_cst_18 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_19 : Ref sig .tc := ⟨.hbm, 208, rfl⟩
abbrev main_v139 : Ref sig .tc := ⟨.hbm, 209, rfl⟩
abbrev main_v140 : Ref sig .tc := ⟨.hbm, 210, rfl⟩
abbrev main_cst_20 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_cst_21 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_c_22 : Ref sig .tc := ⟨.hbm, 229, rfl⟩
abbrev main_v157 : Ref sig .tc := ⟨.hbm, 230, rfl⟩
abbrev main_call4_v0 : Ref sig .tc := ⟨.hbm, 231, rfl⟩
abbrev main_call4_c : Ref sig .tc := ⟨.hbm, 232, rfl⟩
abbrev main_call4_v1 : Ref sig .tc := ⟨.hbm, 233, rfl⟩
abbrev main_call4_v2 : Ref sig .tc := ⟨.hbm, 234, rfl⟩
abbrev main_call4_v3 : Ref sig .tc := ⟨.hbm, 235, rfl⟩
abbrev main_call4_v4 : Ref sig .tc := ⟨.hbm, 236, rfl⟩
abbrev main_call4_c_0 : Ref sig .tc := ⟨.hbm, 237, rfl⟩
abbrev main_call4_v5 : Ref sig .tc := ⟨.hbm, 238, rfl⟩
abbrev main_v158 : Ref sig .tc := ⟨.hbm, 239, rfl⟩
abbrev main_v159 : Ref sig .tc := ⟨.hbm, 240, rfl⟩
abbrev main_cst_23 : Ref sig .tc := ⟨.hbm, 241, rfl⟩
abbrev main_v160 : Ref sig .tc := ⟨.hbm, 242, rfl⟩
abbrev main_call5_v0 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_cst_24 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_cst_25 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_call6_call0_cst : Ref sig .tc := ⟨.hbm, 281, rfl⟩
abbrev main_call6_call0_v0 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_cst_26 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_c_27 : Ref sig .tc := ⟨.hbm, 297, rfl⟩
abbrev main_v209 : Ref sig .tc := ⟨.hbm, 298, rfl⟩
abbrev main_call7_v0 : Ref sig .tc := ⟨.hbm, 299, rfl⟩
abbrev main_call7_c : Ref sig .tc := ⟨.hbm, 300, rfl⟩
abbrev main_call7_v1 : Ref sig .tc := ⟨.hbm, 301, rfl⟩
abbrev main_call7_v2 : Ref sig .tc := ⟨.hbm, 302, rfl⟩
abbrev main_call7_v3 : Ref sig .tc := ⟨.hbm, 303, rfl⟩
abbrev main_call7_v4 : Ref sig .tc := ⟨.hbm, 304, rfl⟩
abbrev main_call7_c_0 : Ref sig .tc := ⟨.hbm, 305, rfl⟩
abbrev main_call7_v5 : Ref sig .tc := ⟨.hbm, 306, rfl⟩
abbrev main_v210 : Ref sig .tc := ⟨.hbm, 307, rfl⟩
abbrev main_v211 : Ref sig .tc := ⟨.hbm, 308, rfl⟩
abbrev main_cst_28 : Ref sig .tc := ⟨.hbm, 309, rfl⟩
abbrev main_call8_v0 : Ref sig .tc := ⟨.hbm, 310, rfl⟩
abbrev main_call8_v1 : Ref sig .tc := ⟨.hbm, 311, rfl⟩
abbrev main_call8_v2 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_cst_29 : Ref sig .tc := ⟨.hbm, 320, rfl⟩
abbrev main_v219 : Ref sig .tc := ⟨.hbm, 321, rfl⟩
abbrev main_v220 : Ref sig .tc := ⟨.hbm, 322, rfl⟩
abbrev main_cst_30 : Ref sig .tc := ⟨.hbm, 323, rfl⟩
abbrev main_v221 : Ref sig .tc := ⟨.hbm, 324, rfl⟩
abbrev main_v222 : Ref sig .tc := ⟨.hbm, 325, rfl⟩
abbrev main_cst_31 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_call9_v0 : Ref sig .tc := ⟨.hbm, 337, rfl⟩
abbrev main_call9_v1 : Ref sig .tc := ⟨.hbm, 338, rfl⟩
abbrev main_call9_cst : Ref sig .tc := ⟨.hbm, 339, rfl⟩
abbrev main_call9_v2 : Ref sig .tc := ⟨.hbm, 340, rfl⟩
abbrev main_call9_v3 : Ref sig .tc := ⟨.hbm, 341, rfl⟩
abbrev main_call9_cst_0 : Ref sig .tc := ⟨.hbm, 342, rfl⟩
abbrev main_call9_v4 : Ref sig .tc := ⟨.hbm, 343, rfl⟩
abbrev main_call9_v5 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_cst_32 : Ref sig .tc := ⟨.hbm, 349, rfl⟩
abbrev main_v237 : Ref sig .tc := ⟨.hbm, 350, rfl⟩
abbrev main_v238 : Ref sig .tc := ⟨.hbm, 351, rfl⟩
abbrev main_cst_33 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_cst_34 : Ref sig .tc := ⟨.hbm, 360, rfl⟩
abbrev main_v246 : Ref sig .tc := ⟨.hbm, 361, rfl⟩
abbrev main_v247 : Ref sig .tc := ⟨.hbm, 362, rfl⟩
abbrev main_cst_35 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_v261 : Ref sig .tc := ⟨.hbm, 377, rfl⟩
abbrev main_v262 : Ref sig .tc := ⟨.hbm, 378, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S4x4096x1024 : Shape := ⟨3, ![4, 4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S16384x1024 : Shape := ⟨2, ![16384, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 11
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S4x4096x1024 : Shape := ⟨3, ![4, 4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S16384x1024 : Shape := ⟨2, ![16384, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S4x4096x2816, .f32⟩
  | .hbm, ⟨27, _⟩ => ⟨S4x4096x2816, .f32⟩
  | .hbm, ⟨28, _⟩ => ⟨S4x4096x2816, .f32⟩
  | .hbm, ⟨29, _⟩ => ⟨S_, .f32⟩
  | .hbm, ⟨30, _⟩ => ⟨S4x4096x2816, .f32⟩
  | .hbm, ⟨31, _⟩ => ⟨S4x4096x2816, .f32⟩
  | .hbm, ⟨32, _⟩ => ⟨S_, .f32⟩
  | .hbm, ⟨33, _⟩ => ⟨S4x4096x2816, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x1024, .f32⟩
  | .hbm, ⟨52, _⟩ => ⟨S4x4096x1024, .f32⟩
  | .hbm, ⟨53, _⟩ => ⟨S1x1x1024, .f32⟩
  | .hbm, ⟨54, _⟩ => ⟨S4x4096x1024, .f32⟩
  | .hbm, ⟨55, _⟩ => ⟨S4x4096x1024, .f32⟩
  | .hbm, ⟨56, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Scalars.lean ====
module

public import Idealize.ShloMosaic.Lib.Pointwise
public import Mathlib.Analysis.SpecialFunctions.Trigonometric.DerivHyp

/-! Facts about single extended reals: the constants the programs spell as words, and SiLU in its two spellings. -/

@[expose] public section

noncomputable section

namespace Cert.Scalars

open Idealize.ShloMosaic

/-- The word of one half. -/
theorem w_half : Ideal.ofBits FTy.f32 0x3F000000#32 = ((1 / 2 : ℝ) : EReal) := by
  simp [Ideal.ofBits, Ideal.ieee]
  rw [← EReal.coe_mul]; congr 1; norm_num

/-- The word of 1024. -/
theorem w_1024 : Ideal.ofBits FTy.f32 0x44800000#32 = ((1024 : ℝ) : EReal) := by
  simp [Ideal.ofBits, Ideal.ieee]
  rw [← EReal.coe_mul]; congr 1; norm_num

/-- The word of the norms' epsilon, a positive real. -/
theorem w_eps : ∃ e : ℝ, 0 < e ∧ Ideal.ofBits FTy.f32 0x358637BD#32 = (e : EReal) := by
  refine ⟨_, ?_, by simp [Ideal.ofBits, Ideal.ieee]; rfl⟩
  norm_num

/-- An extended real that is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsR.ne_bot {x : EReal} (hx : IsR x) : x ≠ ⊥ := by
  obtain ⟨a, rfl⟩ := hx; exact EReal.coe_ne_bot a

/-- A value whose absolute value compares below the infinity's word is a real number. -/
theorem isR_of_abs {x : EReal} (h : max x (-x) < Ideal.ofBits FTy.f32 0x7F800000#32) : IsR x := by
  have hw : Ideal.ofBits FTy.f32 0x7F800000#32 = ⊤ := by simp [Ideal.ofBits, Ideal.ieee]
  rw [hw] at h
  induction x with
  | bot => simp at h
  | top => simp at h
  | coe r => exact ⟨r, rfl⟩

/-- The reciprocal root of a mean of squares plus epsilon, over real entries, is a real number. -/
theorem isR_rsqrt {n : ℕ} (f : Fin n → EReal) (h : ∀ k, IsR (f k)) :
    IsR (Ideal.rsqrt (Ideal.div (∑ k, f k * f k) (Ideal.ofBits FTy.f32 0x44800000#32)
      + Ideal.ofBits FTy.f32 0x358637BD#32)) := by
  obtain ⟨e, he, hw⟩ := w_eps
  choose g hg using h
  have hs : (∑ k, f k * f k) = ((∑ k, g k * g k : ℝ) : EReal) := by
    simp only [hg, ← EReal.coe_mul]
    exact (map_sum (⟨⟨((↑) : ℝ → EReal), EReal.coe_zero⟩, EReal.coe_add⟩ : ℝ →+ EReal) _ _).symm
  rw [hs, w_1024, hw, Ideal.div_coe (by norm_num), ← EReal.coe_mul, ← EReal.coe_add, Ideal.rsqrt_coe]
  have h0 : 0 ≤ ∑ k, g k * g k := Finset.sum_nonneg fun k _ => mul_self_nonneg _
  have hp : 0 < (∑ k, g k * g k) * (1 / 1024) + e := by positivity
  rw [if_neg (not_lt.mpr hp.le), if_neg hp.ne']
  exact ⟨_, rfl⟩

/-- SiLU as the kernels spell it: `z/2 + z/2 · tanh (z/2)`. -/
def silK (z : EReal) : EReal :=
  Ideal.ofBits FTy.f32 0x3F000000#32 * z
    + Ideal.ofBits FTy.f32 0x3F000000#32 * z * Ideal.tanh (Ideal.ofBits FTy.f32 0x3F000000#32 * z)

/-- SiLU as the references spell it: `z · (1 / (1 + exp (-z)))`. -/
def silR (z : EReal) : EReal := z * Ideal.div 1 (1 + Ideal.exp (-z))

/-- The two spellings agree at every real number. -/
theorem silK_eq {z : EReal} (hz : IsR z) : silK z = silR z := by
  obtain ⟨r, rfl⟩ := hz
  have hp : (0 : ℝ) < 1 + Real.exp (-r) := by positivity
  have h1 : (1 : EReal) + ((Real.exp (-r) : ℝ) : EReal) = ((1 + Real.exp (-r) : ℝ) : EReal) := by
    rw [EReal.coe_add, EReal.coe_one]
  rw [silK, silR, w_half, ← EReal.coe_mul, Ideal.tanh_coe, ← EReal.coe_mul, ← EReal.coe_add,
    ← EReal.coe_neg, Ideal.exp_coe, h1, Ideal.div_coe hp.ne', one_mul, ← EReal.coe_mul]
  congr 1
  rw [Real.tanh_eq_sinh_div_cosh, Real.sinh_eq, Real.cosh_eq]
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add]; simp
  have ha : 0 < Real.exp (1 / 2 * r) := Real.exp_pos _
  have hb : 0 < Real.exp (-(1 / 2 * r)) := Real.exp_pos _
  rw [e1] at hp ⊢
  generalize Real.exp (1 / 2 * r) = a at *
  generalize Real.exp (-(1 / 2 * r)) = b at *
  field_simp
  linear_combination (2 * r * b) * e2
end Cert.Scalars

end
-- ==== Proof.FfnPure.lean ====
module

public import proofs.«01_k».proof.Proof.Gen.FfnIdeal.Skeleton
public import proofs.«01_k».proof.Proof.Gen.FfnReferenceIdeal.Run
public import proofs.«01_k».proof.Proof.Scalars
public import Idealize.ShloMosaic.Lib.Pointwise

/-! The feed-forward sublayer of one token, as a function of its row and the weights, and the reference's result read as it. -/

@[expose] public section

set_option maxRecDepth 16384

noncomputable section

namespace Cert.FfnPure

open Idealize.ShloMosaic Idealize.ShloMosaic.TcCoe Idealize.SL.Sem Cert.Scalars

/-- The root-mean-square norm of a row of 1024, scaled by a weight row. -/
def rms (v w : Fin 1024 → EReal) (k : Fin 1024) : EReal :=
  v k * Ideal.rsqrt (Ideal.div (∑ j, v j * v j) (Ideal.ofBits FTy.f32 0x44800000#32)
    + Ideal.ofBits FTy.f32 0x358637BD#32) * w k

/-- The residual row: the token's row plus the gated product of its normed row with the three weights. -/
def mid (sil : EReal → EReal) (v w2 : Fin 1024 → EReal) (wg wu : Fin 1024 → Fin 2816 → EReal)
    (wd : Fin 2816 → Fin 1024 → EReal) (d : Fin 1024) : EReal :=
  v d + ∑ j, sil (∑ k, rms v w2 k * wg k j) * (∑ k, rms v w2 k * wu k j) * wd j d

/-- The result row: the residual row through the final norm. -/
def out (sil : EReal → EReal) (v w2 : Fin 1024 → EReal) (wg wu : Fin 1024 → Fin 2816 → EReal)
    (wd : Fin 2816 → Fin 1024 → EReal) (wf : Fin 1024 → EReal) (d : Fin 1024) : EReal :=
  rms (mid sil v w2 wg wu wd) wf d

/-- With real entries in the row, the norm weight and the gate weight, the kernel's SiLU gives the reference's row. -/
theorem out_sil (v w2 : Fin 1024 → EReal) (wg wu : Fin 1024 → Fin 2816 → EReal)
    (wd : Fin 2816 → Fin 1024 → EReal) (wf : Fin 1024 → EReal) (d : Fin 1024)
    (hv : ∀ k, IsR (v k)) (h2 : ∀ k, IsR (w2 k)) (hg : ∀ k j, IsR (wg k j)) :
    out silK v w2 wg wu wd wf d = out silR v w2 wg wu wd wf d := by
  have h : mid silK v w2 wg wu wd = mid silR v w2 wg wu wd := by
    funext e
    refine congrArg (v e + ·) (Finset.sum_congr rfl fun j _ => ?_)
    have hr : IsR (∑ k, rms v w2 k * wg k j) :=
      IsR.sum _ _ fun k _ => ((((hv k).mul (isR_rsqrt v hv)).mul (h2 k)).mul (hg k j))
    rw [silK_eq hr]
  rw [out, out, h]

set_option maxHeartbeats 2000000 in
/-- The reference's result, read at a token and a feature, is the token's row through `out`. -/
theorem ref_at (m : (ℓ : Loc Cert.FfnReferenceIdeal.nD Cert.FfnReferenceIdeal.τ Cert.FfnReferenceIdeal.sig) → Buf (Elt Ideal) ℓ)
    (c : Dev Cert.FfnReferenceIdeal.nD)
    (a0 : FVec Ideal Cert.FfnReferenceIdeal.S4x4096x1024 .f32) (a1 : FVec Ideal Cert.FfnReferenceIdeal.S1x1024 .f32)
    (a2 a3 : FVec Ideal Cert.FfnReferenceIdeal.S1024x2816 .bf16) (a4 : FVec Ideal Cert.FfnReferenceIdeal.S2816x1024 .bf16)
    (a5 : FVec Ideal Cert.FfnReferenceIdeal.S1024 .f32)
    (h0 : m ((c.tc : Thread Cert.FfnReferenceIdeal.nD Cert.FfnReferenceIdeal.τ).loc Cert.FfnReferenceIdeal.main_arg0) = a0)
    (h1 : m ((c.tc : Thread Cert.FfnReferenceIdeal.nD Cert.FfnReferenceIdeal.τ).loc Cert.FfnReferenceIdeal.main_arg1) = a1)
    (h2 : m ((c.tc : Thread Cert.FfnReferenceIdeal.nD Cert.FfnReferenceIdeal.τ).loc Cert.FfnReferenceIdeal.main_arg2) = a2)
    (h3 : m ((c.tc : Thread Cert.FfnReferenceIdeal.nD Cert.FfnReferenceIdeal.τ).loc Cert.FfnReferenceIdeal.main_arg3) = a3)
    (h4 : m ((c.tc : Thread Cert.FfnReferenceIdeal.nD Cert.FfnReferenceIdeal.τ).loc Cert.FfnReferenceIdeal.main_arg4) = a4)
    (h5 : m ((c.tc : Thread Cert.FfnReferenceIdeal.nD Cert.FfnReferenceIdeal.τ).loc Cert.FfnReferenceIdeal.main_arg5) = a5)
    (i : Fin 16384) (d : Fin 1024) :
    Cert.FfnReferenceIdeal.Value.res_out0 m c (ix2 i d)
      = out silR (fun k => a0 (ix3 ⟨(i : ℕ) / 4096, by omega⟩ ⟨(i : ℕ) % 4096, by omega⟩ k)) (fun k => a1 (ix2 0 k))
          (fun k j => a2 (ix2 k j)) (fun k j => a3 (ix2 k j)) (fun j e => a4 (ix2 j e)) (fun e => a5 (ix1 e)) d := by
  unfold Cert.FfnReferenceIdeal.Value.res_out0 Cert.FfnReferenceIdeal.Value.res_main_v36
  rw [h0, h1, h2, h3, h4, h5]
  generalize hX : addf a0 _ = X
  have hx : ∀ (b : Fin 4) (s : Fin 4096) (e : Fin 1024), X (ix3 b s e)
      = mid silR (fun k => a0 (ix3 b s k)) (fun k => a1 (ix2 0 k)) (fun k j => a2 (ix2 k j)) (fun k j => a3 (ix2 k j))
          (fun j e => a4 (ix2 j e)) e := by
    intro b s e
    rw [← hX]
    generalize hY : mulf (mulf a0 _) _ = Y
    have hy : ∀ (b : Fin 4) (s : Fin 4096) (e : Fin 1024), Y (ix3 b s e)
        = rms (fun k => a0 (ix3 b s k)) (fun k => a1 (ix2 0 k)) e := by
      intro b s e
      rw [← hY]
      pointwise [rms]
    clear hY hX
    pointwise [mid, silR, hy]
  clear hX
  generalize hZ : mulf (mulf X _) _ = Z
  have hz : ∀ (b : Fin 4) (s : Fin 4096) (e : Fin 1024), Z (ix3 b s e)
      = rms (fun k => X (ix3 b s k)) (fun k => a5 (ix1 k)) e := by
    intro b s e
    rw [← hZ]
    pointwise [rms]
  clear hZ
  have hcast : ∀ h, shapeCast (α := EReal) Cert.FfnReferenceIdeal.S16384x1024 Z h (ix2 i d) = Z (ix3 ⟨(i : ℕ) / 4096, by omega⟩ ⟨(i : ℕ) % 4096, by omega⟩ d) := by
    intro h
    pointwise
  refine (hcast _).trans ((hz _ _ _).trans ?_)
  simp only [hx, out]

section Pieces

open Cert.FfnIdeal Cert.FfnIdeal.Gen

variable (x : Vec Ideal S256x1024 .f32) (w2 : Vec Ideal S1x1024 .f32) (wg wu : Vec Ideal S1024x2816 .bf16)
    (wd : Vec Ideal S2816x1024 .bf16) (wf : Vec Ideal S1x1024 .f32) (r : Fin 256) (d : Fin 1024)

/-- What the body stores for its first 256 tokens, read at a token and a feature. -/
theorem piece_0 : k0_pay22 (F := Ideal) (k0_pay3 x) (k0_pay5 x w2 wg) (k0_pay6 x w2 wu) wd wf (ix2 r d)
    = out silK (fun k => x (ix2 r k)) (fun k => w2 (ix2 0 k)) (fun k j => wg (ix2 k j)) (fun k j => wu (ix2 k j))
        (fun j e => wd (ix2 j e)) (fun e => wf (ix2 0 e)) d := by
  pointwise [k0_pay22, k0_pay3, k0_pay5, k0_pay6, k0_pay4, out, mid, rms, silK]

/-- The same for the second 256 tokens. -/
theorem piece_1 : k0_pay24 (F := Ideal) (k0_pay7 x) (k0_pay10 (k0_pay8 x w2) wu) (k0_pay23 (k0_pay9 (k0_pay8 x w2) wg)) wd wf (ix2 r d)
    = out silK (fun k => x (ix2 r k)) (fun k => w2 (ix2 0 k)) (fun k j => wg (ix2 k j)) (fun k j => wu (ix2 k j))
        (fun j e => wd (ix2 j e)) (fun e => wf (ix2 0 e)) d := by
  pointwise [k0_pay24, k0_pay7, k0_pay10, k0_pay8, k0_pay23, k0_pay9, out, mid, rms, silK]

/-- The same for the third 256 tokens. -/
theorem piece_2 : k0_pay1 (F := Ideal) (k0_pay25 (k0_pay11 x) (k0_pay13 x w2 wg) (k0_pay14 x w2 wu) wd) (k0_pay26 wf)
      (k0_pay27 (k0_pay11 x) (k0_pay13 x w2 wg) (k0_pay14 x w2 wu) wd) (ix2 r d)
    = out silK (fun k => x (ix2 r k)) (fun k => w2 (ix2 0 k)) (fun k j => wg (ix2 k j)) (fun k j => wu (ix2 k j))
        (fun j e => wd (ix2 j e)) (fun e => wf (ix2 0 e)) d := by
  pointwise [k0_pay1, k0_pay25, k0_pay11, k0_pay13, k0_pay14, k0_pay12, k0_pay26, k0_pay27, out, mid, rms, silK]

/-- The same for the last 256 tokens. -/
theorem piece_3 : k0_pay2 (F := Ideal) (k0_pay15 x)
      (k0_pay20 (k0_pay15 x) (k0_pay16 w2) (k0_pay17 x) k0_pay18 wg)
      (k0_pay21 (k0_pay15 x) (k0_pay16 w2) (k0_pay17 x) k0_pay18 wu) wd wf (ix2 r d)
    = out silK (fun k => x (ix2 r k)) (fun k => w2 (ix2 0 k)) (fun k j => wg (ix2 k j)) (fun k j => wu (ix2 k j))
        (fun j e => wd (ix2 j e)) (fun e => wf (ix2 0 e)) d := by
  pointwise [k0_pay2, k0_pay15, k0_pay20, k0_pay16, k0_pay17, k0_pay18, k0_pay19, k0_pay21, out, mid, rms, silK]

end Pieces

end Cert.FfnPure

end
-- ==== Proof.FfnValue.lean ====
module

public import proofs.«01_k».proof.Proof.Gen.FfnIdeal.Value
public import proofs.«01_k».proof.Proof.FfnPure
public import Idealize.ShloMosaic.Lib.Pipeline.ValueKit

/-! The feed-forward call's result array: every row is `FfnPure.out` of the token's row. -/

@[expose] public section

set_option maxRecDepth 16384

noncomputable section

namespace Cert.FfnIdeal.Hand

open Cert.FfnIdeal Cert.FfnIdeal.Gen Idealize.ShloMosaic Idealize.ShloMosaic.TcCoe Idealize.SL.Sem Cert.Scalars Cert.FfnPure
open Idealize.ShloMosaic.Pipeline (Dat)

/-- The row of a staged block of 1024 tokens, as `FfnPure.out` gives it. -/
def blockOut (x0 : Vec Ideal S1024x1024 .f32) (x1 : Vec Ideal S1x1024 .f32) (x2 x3 : Vec Ideal S1024x2816 .bf16)
    (x4 : Vec Ideal S2816x1024 .bf16) (x5 : Vec Ideal S1x1024 .f32) (r : Fin 1024) (d : Fin 1024) : EReal :=
  out silK (fun k => x0 (ix2 r k)) (fun k => x1 (ix2 0 k)) (fun k j => x2 (ix2 k j)) (fun k j => x3 (ix2 k j))
    (fun j e => x4 (ix2 j e)) (fun e => x5 (ix2 0 e)) d

/-- What the body leaves in its output block, read at an index. -/
theorem out_at (X0 : Vec Ideal S1024x1024 .f32) (X1 : Vec Ideal S1x1024 .f32) (X2 X3 : Vec Ideal S1024x2816 .bf16)
    (X4 : Vec Ideal S2816x1024 .bf16) (X5 : Vec Ideal S1x1024 .f32) (r : Fin 1024) (d : Fin 1024) :
    out0_6 (F := Ideal) X0 X1 X2 X3 X4 X5 (ix2 r d) = blockOut X0 X1 X2 X3 X4 X5 r d := by
  unfold_out out0_6
  canon_tiles x h
  case piece0 =>
    idx_vars x
    refine (piece_3 _ _ _ _ _ _ x0 x1).trans ?_
    obtain rfl : r = ⟨768 + x0, lt_of_lt_of_le (Nat.add_lt_add_left x0.isLt 768) (by decide)⟩ := Fin.ext (by simpa using h0)
    obtain rfl : d = x1 := Fin.ext (by simpa using h1)
    pointwise [blockOut]
  case piece1 =>
    idx_vars x
    refine (piece_2 _ _ _ _ _ _ x0 x1).trans ?_
    obtain rfl : r = ⟨512 + x0, lt_of_lt_of_le (Nat.add_lt_add_left x0.isLt 512) (by decide)⟩ := Fin.ext (by simpa using h0)
    obtain rfl : d = x1 := Fin.ext (by simpa using h1)
    pointwise [blockOut]
  case piece2 =>
    idx_vars x
    refine (piece_1 _ _ _ _ _ _ x0 x1).trans ?_
    obtain rfl : r = ⟨256 + x0, lt_of_lt_of_le (Nat.add_lt_add_left x0.isLt 256) (by decide)⟩ := Fin.ext (by simpa using h0)
    obtain rfl : d = x1 := Fin.ext (by simpa using h1)
    pointwise [blockOut]
  case piece3 =>
    idx_vars x
    refine (piece_0 _ _ _ _ _ _ x0 x1).trans ?_
    obtain rfl : r = ⟨x0, lt_of_lt_of_le x0.isLt (by decide)⟩ := Fin.ext (by simpa using h0)
    obtain rfl : d = x1 := Fin.ext (by simpa using h1)
    pointwise [blockOut]

variable (m : (ℓ : Loc nD τ sig) → Buf (Elt Ideal) ℓ)

/-- The windows' block indices: the token blocks follow the grid point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The result at a token and a feature, over the arguments. -/
def G (a0 : FVec Ideal S4x4096x1024 .f32) (a1 : FVec Ideal S1x1024 .f32) (a2 a3 : FVec Ideal S1024x2816 .bf16)
    (a4 : FVec Ideal S2816x1024 .bf16) (a5 : FVec Ideal S1024 .f32) (i : Fin 16384) (d : Fin 1024) : EReal :=
  out silK (fun k => a0 (ix3 ⟨(i : ℕ) / 4096, by omega⟩ ⟨(i : ℕ) % 4096, by omega⟩ k)) (fun k => a1 (ix2 0 k))
    (fun k j => a2 (ix2 k j)) (fun k j => a3 (ix2 k j)) (fun j e => a4 (ix2 j e)) (fun e => a5 (ix1 e)) d

theorem out_congr {s : EReal → EReal} {v v' w2 w2' : Fin 1024 → EReal} {wg wg' wu wu' : Fin 1024 → Fin 2816 → EReal}
    {wd wd' : Fin 2816 → Fin 1024 → EReal} {wf wf' : Fin 1024 → EReal} {d d' : Fin 1024}
    (h0 : ∀ k, v k = v' k) (h1 : ∀ k, w2 k = w2' k) (h2 : ∀ k j, wg k j = wg' k j) (h3 : ∀ k j, wu k j = wu' k j)
    (h4 : ∀ j e, wd j e = wd' j e) (h5 : ∀ e, wf e = wf' e) (h6 : d = d') :
    out s v w2 wg wu wd wf d = out s v' w2' wg' wu' wd' wf' d' := by
  obtain rfl : v = v' := funext h0
  obtain rfl : w2 = w2' := funext h1
  obtain rfl : wg = wg' := funext fun k => funext (h2 k)
  obtain rfl : wu = wu' := funext fun k => funext (h3 k)
  obtain rfl : wd = wd' := funext fun k => funext (h4 k)
  obtain rfl : wf = wf' := funext h5
  rw [h6]

/-- The host's merge of the batch and sequence axes, read at an index. -/
theorem merge_at (a0 : FVec Ideal S4x4096x1024 .f32) (h) (i : Fin 16384) (k : Fin 1024) :
    shapeCast (α := EReal) S16384x1024 a0 h (ix2 i k) = a0 (ix3 ⟨(i : ℕ) / 4096, by omega⟩ ⟨(i : ℕ) % 4096, by omega⟩ k) := by
  pointwise

/-- What the call finds in its token operand: the argument with its two token axes merged. -/
theorem V_tokens (c : Dev nD) : V m c main_v3 = shapeCast (α := EReal) S16384x1024 (show FVec Ideal S4x4096x1024 .f32 from m ((c : Thread nD τ).loc main_arg0)) shapeCasts_S4x4096x1024_S16384x1024 := by
  entry_read
  rfl

/-- The call's result array, at every index. -/
theorem final (c : Dev nD) : (dats m 0 c).arrAt 6 (cfgs 0).N = fun y : S16384x1024.Idx =>
    G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) := by
  refine (dats m 0 c).arrAt_eq_of_covers 6 _ (by decide +kernel) fun t _ y => ?_
  blk_simp
  rw [after0_6]
  obtain ⟨r, d, rfl⟩ : ∃ (r d : Fin 1024), y = ix2 r d := ⟨y 0, y 1, eq_ix2 y⟩
  refine (out_at _ _ _ _ _ _ r d).trans ?_
  unfold blockOut G
  refine out_congr (fun k => ?_) (fun k => ?_) (fun k j => ?_) (fun k j => ?_) (fun j e => ?_) (fun e => ?_) ?_
  · have hi : ((cfg0.win 0).blk t).view.emb (ix2 r k) = ix2 (((cfg0.win 6).blk t).view.emb (ix2 r d) 0) k := by
      blk_ext [idx t]
    refine Eq.trans (b := V m c main_v3 (((cfg0.win 0).blk t).view.emb (ix2 r k))) (by blk_simp [iblk]) ?_
    rw [V_tokens, hi]
    exact merge_at _ _ _ _
  · blk_point [iblk, V, idx t]
  · blk_point [iblk, V, idx t]
  · blk_point [iblk, V, idx t]
  · blk_point [iblk, V, idx t]
  · blk_point [iblk, V, idx t]
  · refine Fin.ext ?_
    blk_simp [idx t]

end Cert.FfnIdeal.Hand

end
-- ==== Proof.FfnClaim.lean ====
module

public import proofs.«01_k».proof.Defs
public import proofs.«01_k».proof.Proof.FfnValue
public import proofs.«01_k».proof.Proof.Gen.FfnReferenceIdeal.Run
public import proofs.«01_k».proof.Proof.Gen.Pre_ffn_finite
public import Idealize.ShloMosaic.Lib.Claim

/-! The feed-forward call equals its reference, over real entries. -/

@[expose] public section

set_option maxRecDepth 16384

noncomputable section

namespace Cert.FfnClaim

open Idealize.ShloMosaic Idealize.ShloMosaic.TcCoe Idealize.SL.Sem Cert.Scalars Cert.FfnPure

/-- A comparison word that is one says the comparison holds. -/
theorem lt_of_cmp {x y : EReal} (h : Ideal.cmp .olt x y = 1#1) : x < y := by
  by_contra hn
  simp [Ideal.cmp, hn] at h

/-- The precondition's first test says the tokens are real numbers. -/
theorem pre_tokens {a0 : FVec Ideal Cert.FfnIdeal.S4x4096x1024 .f32} {a1 : FVec Ideal Cert.FfnIdeal.S1x1024 .f32}
    {a2 a3 : FVec Ideal Cert.FfnIdeal.S1024x2816 .bf16} {a4 : FVec Ideal Cert.FfnIdeal.S2816x1024 .bf16} {a5 : FVec Ideal Cert.FfnIdeal.S1024 .f32}
    (h : (Cert.Pre_ffn_finite.fn (F := Ideal) a0 a1 a2 a3 a4 a5).1 = fun _ => 1#1) (b : Fin 4) (s : Fin 4096) (k : Fin 1024) :
    IsR (a0 (ix3 b s k)) := by
  have h' := congrFun h (ix3 b s k)
  pointwise [Cert.Pre_ffn_finite.fn] at h'
  exact isR_of_abs (lt_of_cmp h')

/-- Its second test says the norm weight's entries are. -/
theorem pre_norm {a0 : FVec Ideal Cert.FfnIdeal.S4x4096x1024 .f32} {a1 : FVec Ideal Cert.FfnIdeal.S1x1024 .f32}
    {a2 a3 : FVec Ideal Cert.FfnIdeal.S1024x2816 .bf16} {a4 : FVec Ideal Cert.FfnIdeal.S2816x1024 .bf16} {a5 : FVec Ideal Cert.FfnIdeal.S1024 .f32}
    (h : (Cert.Pre_ffn_finite.fn (F := Ideal) a0 a1 a2 a3 a4 a5).2.1 = fun _ => 1#1) (k : Fin 1024) :
    IsR (a1 (ix2 0 k)) := by
  have h' := congrFun h (ix2 0 k)
  pointwise [Cert.Pre_ffn_finite.fn] at h'
  exact isR_of_abs (lt_of_cmp h')

/-- Its third test says the gate weight's entries are. -/
theorem pre_gate {a0 : FVec Ideal Cert.FfnIdeal.S4x4096x1024 .f32} {a1 : FVec Ideal Cert.FfnIdeal.S1x1024 .f32}
    {a2 a3 : FVec Ideal Cert.FfnIdeal.S1024x2816 .bf16} {a4 : FVec Ideal Cert.FfnIdeal.S2816x1024 .bf16} {a5 : FVec Ideal Cert.FfnIdeal.S1024 .f32}
    (h : (Cert.Pre_ffn_finite.fn (F := Ideal) a0 a1 a2 a3 a4 a5).2.2 = fun _ => 1#1) (k : Fin 1024) (j : Fin 2816) :
    IsR (a2 (ix2 k j)) := by
  have h' := congrFun h (ix2 k j)
  pointwise [Cert.Pre_ffn_finite.fn] at h'
  exact isR_of_abs (lt_of_cmp h')

/-- The feed-forward call's result is its reference's, from memories agreeing on real arguments. -/
theorem algebraic : Cert.algebraic_FfnIdeal_FfnReferenceIdeal_pre_ffn_finite := by
  pair_intro
  · run_from Cert.FfnIdeal.Gen.run_main m g
  · run_from Cert.FfnReferenceIdeal.Value.run m' g'
    rw [Cert.FfnIdeal.Hand.final m c]
    obtain ⟨e0, e1, e2, e3, e4, e5⟩ := hagree c
    obtain ⟨p0, p1, p2⟩ := hpre c
    funext y
    obtain ⟨i, d, rfl⟩ : ∃ (i : Fin 16384) (d : Fin 1024), y = ix2 i d := ⟨y 0, y 1, eq_ix2 y⟩
    refine (ref_at m' c _ _ _ _ _ _ e0 e1 e2 e3 e4 e5 i d).trans ?_
    exact (out_sil _ _ _ _ _ _ d (fun k => pre_tokens p0 _ _ k) (fun k => pre_norm p1 k) (fun k j => pre_gate p2 k j)).symm

end Cert.FfnClaim

end
-- ==== Proof.MixBufs.lean ====
module

public import proofs.«01_k».proof.Proof.Gen.KernelIdeal.Frame.Runs

/-! The buffers of one grid step of the mixer, and what its inputs hold. -/

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The buffers one step is handed: 23 inputs, four outputs, the carried state. -/
structure Bufs where
  b0 : Memref sig .tc .vmem S1x512x1024 .f32
  b1 : Memref sig .tc .vmem S1x1024 .f32
  b2 : Memref sig .tc .vmem S1024x2176 .bf16
  b3 : Memref sig .tc .vmem S1x2048 .f32
  b4 : Memref sig .tc .vmem S1024x1152 .bf16
  b5 : Memref sig .tc .vmem S1x1152 .f32
  b6 : Memref sig .tc .vmem S1024x2176 .bf16
  b7 : Memref sig .tc .vmem S1x2048 .f32
  b8 : Memref sig .tc .vmem S1024x2176 .bf16
  b9 : Memref sig .tc .vmem S1x2048 .f32
  b10 : Memref sig .tc .vmem S1x1024 .f32
  b11 : Memref sig .tc .vmem S1x1024 .f32
  b12 : Memref sig .tc .vmem S8x128x128 .f32
  b13 : Memref sig .tc .vmem S128x1024 .f32
  b14 : Memref sig .tc .vmem S128x512 .bf16
  b15 : Memref sig .tc .vmem S1x512 .f32
  b16 : Memref sig .tc .vmem S1x256 .f32
  b17 : Memref sig .tc .vmem S1024x1152 .bf16
  b18 : Memref sig .tc .vmem S1024x1152 .bf16
  b19 : Memref sig .tc .vmem S1024x1152 .bf16
  b20 : Memref sig .tc .vmem S32x2816 .f32
  b21 : Memref sig .tc .vmem S32x2816 .f32
  b22 : Memref sig .tc .vmem S176x1024 .f32
  b23 : Memref sig .tc .vmem S1x512x1024 .f32
  b24 : Memref sig .tc .vmem S32x2816 .bf16
  b25 : Memref sig .tc .vmem S32x2816 .bf16
  b26 : Memref sig .tc .vmem S176x1024 .bf16
  b27 : Memref sig .tc .vmem S4x128x256 .f32

/-- Each of them is a whole buffer. -/
structure Bufs.Whole (B : Bufs) : Prop where
  h0 : B.b0.IsWhole
  h1 : B.b1.IsWhole
  h2 : B.b2.IsWhole
  h3 : B.b3.IsWhole
  h4 : B.b4.IsWhole
  h5 : B.b5.IsWhole
  h6 : B.b6.IsWhole
  h7 : B.b7.IsWhole
  h8 : B.b8.IsWhole
  h9 : B.b9.IsWhole
  h10 : B.b10.IsWhole
  h11 : B.b11.IsWhole
  h12 : B.b12.IsWhole
  h13 : B.b13.IsWhole
  h14 : B.b14.IsWhole
  h15 : B.b15.IsWhole
  h16 : B.b16.IsWhole
  h17 : B.b17.IsWhole
  h18 : B.b18.IsWhole
  h19 : B.b19.IsWhole
  h20 : B.b20.IsWhole
  h21 : B.b21.IsWhole
  h22 : B.b22.IsWhole
  h23 : B.b23.IsWhole
  h24 : B.b24.IsWhole
  h25 : B.b25.IsWhole
  h26 : B.b26.IsWhole
  h27 : B.b27.IsWhole

variable (F) in
/-- The contents of the 23 inputs. -/
structure Ins where
  x0 : Vec F S1x512x1024 .f32
  x1 : Vec F S1x1024 .f32
  x2 : Vec F S1024x2176 .bf16
  x3 : Vec F S1x2048 .f32
  x4 : Vec F S1024x1152 .bf16
  x5 : Vec F S1x1152 .f32
  x6 : Vec F S1024x2176 .bf16
  x7 : Vec F S1x2048 .f32
  x8 : Vec F S1024x2176 .bf16
  x9 : Vec F S1x2048 .f32
  x10 : Vec F S1x1024 .f32
  x11 : Vec F S1x1024 .f32
  x12 : Vec F S8x128x128 .f32
  x13 : Vec F S128x1024 .f32
  x14 : Vec F S128x512 .bf16
  x15 : Vec F S1x512 .f32
  x16 : Vec F S1x256 .f32
  x17 : Vec F S1024x1152 .bf16
  x18 : Vec F S1024x1152 .bf16
  x19 : Vec F S1024x1152 .bf16
  x20 : Vec F S32x2816 .f32
  x21 : Vec F S32x2816 .f32
  x22 : Vec F S176x1024 .f32

/-- The inputs are owned, at these contents. -/
def Bufs.own (B : Bufs) (c : Dev nD) (X : Ins F) : sProp 𝕄 :=
  iprop(owns (c : Thread nD τ) B.b0 fullShare X.x0
    ∗ owns (c : Thread nD τ) B.b1 fullShare X.x1
    ∗ owns (c : Thread nD τ) B.b2 fullShare X.x2
    ∗ owns (c : Thread nD τ) B.b3 fullShare X.x3
    ∗ owns (c : Thread nD τ) B.b4 fullShare X.x4
    ∗ owns (c : Thread nD τ) B.b5 fullShare X.x5
    ∗ owns (c : Thread nD τ) B.b6 fullShare X.x6
    ∗ owns (c : Thread nD τ) B.b7 fullShare X.x7
    ∗ owns (c : Thread nD τ) B.b8 fullShare X.x8
    ∗ owns (c : Thread nD τ) B.b9 fullShare X.x9
    ∗ owns (c : Thread nD τ) B.b10 fullShare X.x10
    ∗ owns (c : Thread nD τ) B.b11 fullShare X.x11
    ∗ owns (c : Thread nD τ) B.b12 fullShare X.x12
    ∗ owns (c : Thread nD τ) B.b13 fullShare X.x13
    ∗ owns (c : Thread nD τ) B.b14 fullShare X.x14
    ∗ owns (c : Thread nD τ) B.b15 fullShare X.x15
    ∗ owns (c : Thread nD τ) B.b16 fullShare X.x16
    ∗ owns (c : Thread nD τ) B.b17 fullShare X.x17
    ∗ owns (c : Thread nD τ) B.b18 fullShare X.x18
    ∗ owns (c : Thread nD τ) B.b19 fullShare X.x19
    ∗ owns (c : Thread nD τ) B.b20 fullShare X.x20
    ∗ owns (c : Thread nD τ) B.b21 fullShare X.x21
    ∗ owns (c : Thread nD τ) B.b22 fullShare X.x22)

/-- The step over these buffers. -/
abbrev step (i : grid0.Coords) (B : Bufs) (hB : B.Whole) : Prog (TpuEff nD τ sig (Elt F) Λ₀ .tc) PUnit :=
  cc0_mixer i B.b0 hB.h0 B.b1 hB.h1 B.b2 hB.h2 B.b3 hB.h3 B.b4 hB.h4 B.b5 hB.h5 B.b6 hB.h6 B.b7 hB.h7 B.b8 hB.h8 B.b9 hB.h9 B.b10 hB.h10 B.b11 hB.h11 B.b12 hB.h12 B.b13 hB.h13 B.b14 hB.h14 B.b15 hB.h15 B.b16 hB.h16 B.b17 hB.h17 B.b18 hB.h18 B.b19 hB.h19 B.b20 hB.h20 B.b21 hB.h21 B.b22 hB.h22 B.b23 hB.h23 B.b24 hB.h24 B.b25 hB.h25 B.b26 hB.h26 B.b27 hB.h27

end Cert.KernelIdeal.Mix

end
-- ==== Proof.MixRunA.lean ====
module

public import proofs.«01_k».proof.Proof.MixBufs

/-! One step of the mixer at a sequence start, the state cleared first. -/

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the step writes, as pieces per output and for the state, with the proof that it runs to a continuation holding
    the inputs unchanged and each buffer with its pieces written. -/
def runA (c : Dev nD) (i : grid0.Coords) (B : Bufs) (hB : B.Whole) (hc0 : cond0_0 i) (X : Ins F) :
    Σ' (L23 : List (View.Piece (Elt F) S1x512x1024 .f32)), Σ' (L24 : List (View.Piece (Elt F) S32x2816 .bf16)), Σ' (L25 : List (View.Piece (Elt F) S32x2816 .bf16)), Σ' (L26 : List (View.Piece (Elt F) S176x1024 .bf16)), { LS0 : List (View.Piece (Elt F) S4x128x256 .f32) //
      ∀ (E : Set ℕ) (K : PUnit → sProp 𝕄),
        iprop(B.own c X ∗ (∃ d, owns (c : Thread nD τ) B.b23 fullShare d) ∗ (∃ d, owns (c : Thread nD τ) B.b24 fullShare d) ∗ (∃ d, owns (c : Thread nD τ) B.b25 fullShare d) ∗ (∃ d, owns (c : Thread nD τ) B.b26 fullShare d) ∗ (∃ d, owns (c : Thread nD τ) B.b27 fullShare d)
            ∗ (iprop(B.own c X ∗ (∃ f, B.b23.view.loc (c : Thread nD τ) ↦[B.b23.view.set]{fullShare} B.b23.view.writes (Elt F) f L23) ∗ (∃ f, B.b24.view.loc (c : Thread nD τ) ↦[B.b24.view.set]{fullShare} B.b24.view.writes (Elt F) f L24) ∗ (∃ f, B.b25.view.loc (c : Thread nD τ) ↦[B.b25.view.set]{fullShare} B.b25.view.writes (Elt F) f L25) ∗ (∃ f, B.b26.view.loc (c : Thread nD τ) ↦[B.b26.view.set]{fullShare} B.b26.view.writes (Elt F) f L26) ∗ (∃ f, B.b27.view.loc (c : Thread nD τ) ↦[B.b27.view.set]{fullShare} B.b27.view.writes (Elt F) f LS0)) -∗ K ⟨⟩))
          ⊢ wp frame (wpE (defs₀ (F := F)) Variants.none c none) E (step i B hB) K } := by
  refine ⟨?_, ?_, ?_, ?_, ?_, fun E K => ?run⟩
  case run =>
    unfold Bufs.own owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, ⟨%d23, %f23, -, H23⟩, ⟨%d24, %f24, -, H24⟩, ⟨%d25, %f25, -, H25⟩, ⟨%d26, %f26, -, H26⟩, ⟨%ds0, %fs0, -, HS0⟩, Hk⟩
    obtain rfl := hB.h0.eq_unread hf0
    obtain rfl := hB.h1.eq_unread hf1
    obtain rfl := hB.h2.eq_unread hf2
    obtain rfl := hB.h3.eq_unread hf3
    obtain rfl := hB.h4.eq_unread hf4
    obtain rfl := hB.h5.eq_unread hf5
    obtain rfl := hB.h6.eq_unread hf6
    obtain rfl := hB.h7.eq_unread hf7
    obtain rfl := hB.h8.eq_unread hf8
    obtain rfl := hB.h9.eq_unread hf9
    obtain rfl := hB.h10.eq_unread hf10
    obtain rfl := hB.h11.eq_unread hf11
    obtain rfl := hB.h12.eq_unread hf12
    obtain rfl := hB.h13.eq_unread hf13
    obtain rfl := hB.h14.eq_unread hf14
    obtain rfl := hB.h15.eq_unread hf15
    obtain rfl := hB.h16.eq_unread hf16
    obtain rfl := hB.h17.eq_unread hf17
    obtain rfl := hB.h18.eq_unread hf18
    obtain rfl := hB.h19.eq_unread hf19
    obtain rfl := hB.h20.eq_unread hf20
    obtain rfl := hB.h21.eq_unread hf21
    obtain rfl := hB.h22.eq_unread hf22
    unfold step
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    sl_exec (disch := first | sl_exact hc0)
    sl_step
    iapply Hk
    isplitl [H0 H1 H2 H3 H4 H5 H6 H7 H8 H9 H10 H11 H12 H13 H14 H15 H16 H17 H18 H19 H20 H21 H22]
    · isplitl [H0]
      · iexists _; isplitr; · ipureintro; exact hB.h0.read_unread _
        iexact H0
      isplitl [H1]
      · iexists _; isplitr; · ipureintro; exact hB.h1.read_unread _
        iexact H1
      isplitl [H2]
      · iexists _; isplitr; · ipureintro; exact hB.h2.read_unread _
        iexact H2
      isplitl [H3]
      · iexists _; isplitr; · ipureintro; exact hB.h3.read_unread _
        iexact H3
      isplitl [H4]
      · iexists _; isplitr; · ipureintro; exact hB.h4.read_unread _
        iexact H4
      isplitl [H5]
      · iexists _; isplitr; · ipureintro; exact hB.h5.read_unread _
        iexact H5
      isplitl [H6]
      · iexists _; isplitr; · ipureintro; exact hB.h6.read_unread _
        iexact H6
      isplitl [H7]
      · iexists _; isplitr; · ipureintro; exact hB.h7.read_unread _
        iexact H7
      isplitl [H8]
      · iexists _; isplitr; · ipureintro; exact hB.h8.read_unread _
        iexact H8
      isplitl [H9]
      · iexists _; isplitr; · ipureintro; exact hB.h9.read_unread _
        iexact H9
      isplitl [H10]
      · iexists _; isplitr; · ipureintro; exact hB.h10.read_unread _
        iexact H10
      isplitl [H11]
      · iexists _; isplitr; · ipureintro; exact hB.h11.read_unread _
        iexact H11
      isplitl [H12]
      · iexists _; isplitr; · ipureintro; exact hB.h12.read_unread _
        iexact H12
      isplitl [H13]
      · iexists _; isplitr; · ipureintro; exact hB.h13.read_unread _
        iexact H13
      isplitl [H14]
      · iexists _; isplitr; · ipureintro; exact hB.h14.read_unread _
        iexact H14
      isplitl [H15]
      · iexists _; isplitr; · ipureintro; exact hB.h15.read_unread _
        iexact H15
      isplitl [H16]
      · iexists _; isplitr; · ipureintro; exact hB.h16.read_unread _
        iexact H16
      isplitl [H17]
      · iexists _; isplitr; · ipureintro; exact hB.h17.read_unread _
        iexact H17
      isplitl [H18]
      · iexists _; isplitr; · ipureintro; exact hB.h18.read_unread _
        iexact H18
      isplitl [H19]
      · iexists _; isplitr; · ipureintro; exact hB.h19.read_unread _
        iexact H19
      isplitl [H20]
      · iexists _; isplitr; · ipureintro; exact hB.h20.read_unread _
        iexact H20
      isplitl [H21]
      · iexists _; isplitr; · ipureintro; exact hB.h21.read_unread _
        iexact H21
      iexists _; isplitr; · ipureintro; exact hB.h22.read_unread _
      iexact H22
    isplitl [H23]; · iexists _; iexact H23
    isplitl [H24]; · iexists _; iexact H24
    isplitl [H25]; · iexists _; iexact H25
    isplitl [H26]; · iexists _; iexact H26
    iexists _; iexact HS0

end Cert.KernelIdeal.Mix

end
-- ==== Proof.MixRunB.lean ====
module

public import proofs.«01_k».proof.Proof.MixBufs

/-! One step of the mixer at a later tile, the state as the step before left it. -/

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the step writes, as pieces per output and for the state, with the proof that it runs to a continuation holding
    the inputs unchanged and each buffer with its pieces written. -/
def runB (c : Dev nD) (i : grid0.Coords) (B : Bufs) (hB : B.Whole) (hc0 : ¬cond0_0 i) (X : Ins F) (xs0 : Vec F S4x128x256 .f32) :
    Σ' (L23 : List (View.Piece (Elt F) S1x512x1024 .f32)), Σ' (L24 : List (View.Piece (Elt F) S32x2816 .bf16)), Σ' (L25 : List (View.Piece (Elt F) S32x2816 .bf16)), Σ' (L26 : List (View.Piece (Elt F) S176x1024 .bf16)), { LS0 : List (View.Piece (Elt F) S4x128x256 .f32) //
      ∀ (E : Set ℕ) (K : PUnit → sProp 𝕄),
        iprop(B.own c X ∗ (∃ d, owns (c : Thread nD τ) B.b23 fullShare d) ∗ (∃ d, owns (c : Thread nD τ) B.b24 fullShare d) ∗ (∃ d, owns (c : Thread nD τ) B.b25 fullShare d) ∗ (∃ d, owns (c : Thread nD τ) B.b26 fullShare d) ∗ owns (c : Thread nD τ) B.b27 fullShare xs0
            ∗ (iprop(B.own c X ∗ (∃ f, B.b23.view.loc (c : Thread nD τ) ↦[B.b23.view.set]{fullShare} B.b23.view.writes (Elt F) f L23) ∗ (∃ f, B.b24.view.loc (c : Thread nD τ) ↦[B.b24.view.set]{fullShare} B.b24.view.writes (Elt F) f L24) ∗ (∃ f, B.b25.view.loc (c : Thread nD τ) ↦[B.b25.view.set]{fullShare} B.b25.view.writes (Elt F) f L25) ∗ (∃ f, B.b26.view.loc (c : Thread nD τ) ↦[B.b26.view.set]{fullShare} B.b26.view.writes (Elt F) f L26) ∗ (∃ f, B.b27.view.loc (c : Thread nD τ) ↦[B.b27.view.set]{fullShare} B.b27.view.writes (Elt F) f LS0)) -∗ K ⟨⟩))
          ⊢ wp frame (wpE (defs₀ (F := F)) Variants.none c none) E (step i B hB) K } := by
  refine ⟨?_, ?_, ?_, ?_, ?_, fun E K => ?run⟩
  case run =>
    unfold Bufs.own owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, ⟨%d23, %f23, -, H23⟩, ⟨%d24, %f24, -, H24⟩, ⟨%d25, %f25, -, H25⟩, ⟨%d26, %f26, -, H26⟩, ⟨%fs0, %hfs0, HS0⟩, Hk⟩
    obtain rfl := hB.h0.eq_unread hf0
    obtain rfl := hB.h1.eq_unread hf1
    obtain rfl := hB.h2.eq_unread hf2
    obtain rfl := hB.h3.eq_unread hf3
    obtain rfl := hB.h4.eq_unread hf4
    obtain rfl := hB.h5.eq_unread hf5
    obtain rfl := hB.h6.eq_unread hf6
    obtain rfl := hB.h7.eq_unread hf7
    obtain rfl := hB.h8.eq_unread hf8
    obtain rfl := hB.h9.eq_unread hf9
    obtain rfl := hB.h10.eq_unread hf10
    obtain rfl := hB.h11.eq_unread hf11
    obtain rfl := hB.h12.eq_unread hf12
    obtain rfl := hB.h13.eq_unread hf13
    obtain rfl := hB.h14.eq_unread hf14
    obtain rfl := hB.h15.eq_unread hf15
    obtain rfl := hB.h16.eq_unread hf16
    obtain rfl := hB.h17.eq_unread hf17
    obtain rfl := hB.h18.eq_unread hf18
    obtain rfl := hB.h19.eq_unread hf19
    obtain rfl := hB.h20.eq_unread hf20
    obtain rfl := hB.h21.eq_unread hf21
    obtain rfl := hB.h22.eq_unread hf22
    obtain rfl := hB.h27.eq_unread hfs0
    unfold step
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    sl_exec (disch := first | sl_exact hc0)
    sl_step
    iapply Hk
    isplitl [H0 H1 H2 H3 H4 H5 H6 H7 H8 H9 H10 H11 H12 H13 H14 H15 H16 H17 H18 H19 H20 H21 H22]
    · isplitl [H0]
      · iexists _; isplitr; · ipureintro; exact hB.h0.read_unread _
        iexact H0
      isplitl [H1]
      · iexists _; isplitr; · ipureintro; exact hB.h1.read_unread _
        iexact H1
      isplitl [H2]
      · iexists _; isplitr; · ipureintro; exact hB.h2.read_unread _
        iexact H2
      isplitl [H3]
      · iexists _; isplitr; · ipureintro; exact hB.h3.read_unread _
        iexact H3
      isplitl [H4]
      · iexists _; isplitr; · ipureintro; exact hB.h4.read_unread _
        iexact H4
      isplitl [H5]
      · iexists _; isplitr; · ipureintro; exact hB.h5.read_unread _
        iexact H5
      isplitl [H6]
      · iexists _; isplitr; · ipureintro; exact hB.h6.read_unread _
        iexact H6
      isplitl [H7]
      · iexists _; isplitr; · ipureintro; exact hB.h7.read_unread _
        iexact H7
      isplitl [H8]
      · iexists _; isplitr; · ipureintro; exact hB.h8.read_unread _
        iexact H8
      isplitl [H9]
      · iexists _; isplitr; · ipureintro; exact hB.h9.read_unread _
        iexact H9
      isplitl [H10]
      · iexists _; isplitr; · ipureintro; exact hB.h10.read_unread _
        iexact H10
      isplitl [H11]
      · iexists _; isplitr; · ipureintro; exact hB.h11.read_unread _
        iexact H11
      isplitl [H12]
      · iexists _; isplitr; · ipureintro; exact hB.h12.read_unread _
        iexact H12
      isplitl [H13]
      · iexists _; isplitr; · ipureintro; exact hB.h13.read_unread _
        iexact H13
      isplitl [H14]
      · iexists _; isplitr; · ipureintro; exact hB.h14.read_unread _
        iexact H14
      isplitl [H15]
      · iexists _; isplitr; · ipureintro; exact hB.h15.read_unread _
        iexact H15
      isplitl [H16]
      · iexists _; isplitr; · ipureintro; exact hB.h16.read_unread _
        iexact H16
      isplitl [H17]
      · iexists _; isplitr; · ipureintro; exact hB.h17.read_unread _
        iexact H17
      isplitl [H18]
      · iexists _; isplitr; · ipureintro; exact hB.h18.read_unread _
        iexact H18
      isplitl [H19]
      · iexists _; isplitr; · ipureintro; exact hB.h19.read_unread _
        iexact H19
      isplitl [H20]
      · iexists _; isplitr; · ipureintro; exact hB.h20.read_unread _
        iexact H20
      isplitl [H21]
      · iexists _; isplitr; · ipureintro; exact hB.h21.read_unread _
        iexact H21
      iexists _; isplitr; · ipureintro; exact hB.h22.read_unread _
      iexact H22
    isplitl [H23]; · iexists _; iexact H23
    isplitl [H24]; · iexists _; iexact H24
    isplitl [H25]; · iexists _; iexact H25
    isplitl [H26]; · iexists _; iexact H26
    iexists _; iexact HS0

end Cert.KernelIdeal.Mix

end
-- ==== Proof.MixFrame.lean ====
module

public import proofs.«01_k».proof.Proof.MixRunA
public import proofs.«01_k».proof.Proof.MixRunB
public import Idealize.ShloMosaic.Lib.Claim

/-! The mixer's frame: what every grid step leaves, the invariant that carries the state from step to step, and the run of
    the whole program. -/

@[expose] public section

set_option maxRecDepth 16384

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## One step -/

/-- What a step leaves: its four output blocks and the carried state. -/
structure Outs (F : FTy → Type) where
  o23 : Vec F S1x512x1024 .f32
  o24 : Vec F S32x2816 .bf16
  o25 : Vec F S32x2816 .bf16
  o26 : Vec F S176x1024 .bf16
  st : Vec F S4x128x256 .f32

/-- A first step of a row writes all of its o23 result. -/
theorem coverA_o23 (c : Dev nD) (i : grid0.Coords) (B : Bufs) (hB : B.Whole) (hc0 : cond0_0 i) (X : Ins F)  (y : S1x512x1024.Idx) :
    ∃ p ∈ (runA c i B hB hc0 X).1, y ∈ p.1.set :=
  View.cover_of_tiledL (runA c i B hB hc0 X).1 S1x512x1024.size (by sl_kernel_rfl) y

/-- A first step of a row writes all of its o24 result. -/
theorem coverA_o24 (c : Dev nD) (i : grid0.Coords) (B : Bufs) (hB : B.Whole) (hc0 : cond0_0 i) (X : Ins F)  (y : S32x2816.Idx) :
    ∃ p ∈ (runA c i B hB hc0 X).2.1, y ∈ p.1.set :=
  View.cover_of_tiledL (runA c i B hB hc0 X).2.1 S32x2816.size (by sl_kernel_rfl) y

/-- A first step of a row writes all of its o25 result. -/
theorem coverA_o25 (c : Dev nD) (i : grid0.Coords) (B : Bufs) (hB : B.Whole) (hc0 : cond0_0 i) (X : Ins F)  (y : S32x2816.Idx) :
    ∃ p ∈ (runA c i B hB hc0 X).2.2.1, y ∈ p.1.set :=
  View.cover_of_tiledL (runA c i B hB hc0 X).2.2.1 S32x2816.size (by sl_kernel_rfl) y

/-- A first step of a row writes all of its o26 result. -/
theorem coverA_o26 (c : Dev nD) (i : grid0.Coords) (B : Bufs) (hB : B.Whole) (hc0 : cond0_0 i) (X : Ins F)  (y : S176x1024.Idx) :
    ∃ p ∈ (runA c i B hB hc0 X).2.2.2.1, y ∈ p.1.set :=
  View.cover_of_tiledL (runA c i B hB hc0 X).2.2.2.1 S176x1024.size (by sl_kernel_rfl) y

/-- A first step of a row writes all of its st result. -/
theorem coverA_st (c : Dev nD) (i : grid0.Coords) (B : Bufs) (hB : B.Whole) (hc0 : cond0_0 i) (X : Ins F)  (y : S4x128x256.Idx) :
    ∃ p ∈ (runA c i B hB hc0 X).2.2.2.2.1, y ∈ p.1.set :=
  View.cover_of_wholeMem (runA c i B hB hc0 X).2.2.2.2.1 (by sl_whole_mem) y

/-- A later step writes all of its o23 result. -/
theorem coverB_o23 (c : Dev nD) (i : grid0.Coords) (B : Bufs) (hB : B.Whole) (hc0 : ¬cond0_0 i) (X : Ins F) (xs0 : Vec F S4x128x256 .f32) (y : S1x512x1024.Idx) :
    ∃ p ∈ (runB c i B hB hc0 X xs0).1, y ∈ p.1.set :=
  View.cover_of_tiledL (runB c i B hB hc0 X xs0).1 S1x512x1024.size (by sl_kernel_rfl) y

/-- A later step writes all of its o24 result. -/
theorem coverB_o24 (c : Dev nD) (i : grid0.Coords) (B : Bufs) (hB : B.Whole) (hc0 : ¬cond0_0 i) (X : Ins F) (xs0 : Vec F S4x128x256 .f32) (y : S32x2816.Idx) :
    ∃ p ∈ (runB c i B hB hc0 X xs0).2.1, y ∈ p.1.set :=
  View.cover_of_tiledL (runB c i B hB hc0 X xs0).2.1 S32x2816.size (by sl_kernel_rfl) y

/-- A later step writes all of its o25 result. -/
theorem coverB_o25 (c : Dev nD) (i : grid0.Coords) (B : Bufs) (hB : B.Whole) (hc0 : ¬cond0_0 i) (X : Ins F) (xs0 : Vec F S4x128x256 .f32) (y : S32x2816.Idx) :
    ∃ p ∈ (runB c i B hB hc0 X xs0).2.2.1, y ∈ p.1.set :=
  View.cover_of_tiledL (runB c i B hB hc0 X xs0).2.2.1 S32x2816.size (by sl_kernel_rfl) y

/-- A later step writes all of its o26 result. -/
theorem coverB_o26 (c : Dev nD) (i : grid0.Coords) (B : Bufs) (hB : B.Whole) (hc0 : ¬cond0_0 i) (X : Ins F) (xs0 : Vec F S4x128x256 .f32) (y : S176x1024.Idx) :
    ∃ p ∈ (runB c i B hB hc0 X xs0).2.2.2.1, y ∈ p.1.set :=
  View.cover_of_tiledL (runB c i B hB hc0 X xs0).2.2.2.1 S176x1024.size (by sl_kernel_rfl) y

/-- A later step writes all of its st result. -/
theorem coverB_st (c : Dev nD) (i : grid0.Coords) (B : Bufs) (hB : B.Whole) (hc0 : ¬cond0_0 i) (X : Ins F) (xs0 : Vec F S4x128x256 .f32) (y : S4x128x256.Idx) :
    ∃ p ∈ (runB c i B hB hc0 X xs0).2.2.2.2.1, y ∈ p.1.set :=
  View.cover_of_tiledL (runB c i B hB hc0 X xs0).2.2.2.2.1 S1x128x256.size (by sl_kernel_rfl) y

open Classical in
/-- What a step leaves, from its inputs and the state before it. -/
def stepOut (c : Dev nD) (i : grid0.Coords) (B : Bufs) (hB : B.Whole) (X : Ins F) (acc : Vec F S4x128x256 .f32) : Outs F :=
  if h : cond0_0 i then ⟨View.canon (runA c i B hB h X).1, View.canon (runA c i B hB h X).2.1, View.canon (runA c i B hB h X).2.2.1, View.canon (runA c i B hB h X).2.2.2.1, View.canon (runA c i B hB h X).2.2.2.2.1⟩
  else ⟨View.canon (runB c i B hB h X acc).1, View.canon (runB c i B hB h X acc).2.1, View.canon (runB c i B hB h X acc).2.2.1, View.canon (runB c i B hB h X acc).2.2.2.1, View.canon (runB c i B hB h X acc).2.2.2.2.1⟩

/-- At the first step of a row: what that case leaves, whatever the state was. -/
theorem stepOut_first (c : Dev nD) (i : grid0.Coords) (B : Bufs) (hB : B.Whole) (X : Ins F) (acc : Vec F S4x128x256 .f32) (h : cond0_0 i) :
    stepOut c i B hB X acc = ⟨View.canon (runA c i B hB h X).1, View.canon (runA c i B hB h X).2.1, View.canon (runA c i B hB h X).2.2.1, View.canon (runA c i B hB h X).2.2.2.1, View.canon (runA c i B hB h X).2.2.2.2.1⟩ := dif_pos h

/-- At a later step: what that case leaves, over the state before it. -/
theorem stepOut_later (c : Dev nD) (i : grid0.Coords) (B : Bufs) (hB : B.Whole) (X : Ins F) (acc : Vec F S4x128x256 .f32) (h : ¬cond0_0 i) :
    stepOut c i B hB X acc = ⟨View.canon (runB c i B hB h X acc).1, View.canon (runB c i B hB h X acc).2.1, View.canon (runB c i B hB h X acc).2.2.1, View.canon (runB c i B hB h X acc).2.2.2.1, View.canon (runB c i B hB h X acc).2.2.2.2.1⟩ := dif_neg h

set_option maxHeartbeats 4000000 in
/-- A step over any buffers: from its inputs and any state it ends with its inputs untouched and its results as `stepOut` says. -/
theorem step_any (c : Dev nD) (i : grid0.Coords) (B : Bufs) (hB : B.Whole) (X : Ins F) (acc : Vec F S4x128x256 .f32) (E : Set ℕ) (K : PUnit → sProp 𝕄) :
    iprop(B.own c X ∗ (∃ d, owns (c : Thread nD τ) B.b23 fullShare d) ∗ (∃ d, owns (c : Thread nD τ) B.b24 fullShare d) ∗ (∃ d, owns (c : Thread nD τ) B.b25 fullShare d) ∗ (∃ d, owns (c : Thread nD τ) B.b26 fullShare d) ∗ owns (c : Thread nD τ) B.b27 fullShare acc
        ∗ (iprop(B.own c X ∗ owns (c : Thread nD τ) B.b23 fullShare (stepOut c i B hB X acc).o23 ∗ owns (c : Thread nD τ) B.b24 fullShare (stepOut c i B hB X acc).o24 ∗ owns (c : Thread nD τ) B.b25 fullShare (stepOut c i B hB X acc).o25 ∗ owns (c : Thread nD τ) B.b26 fullShare (stepOut c i B hB X acc).o26 ∗ owns (c : Thread nD τ) B.b27 fullShare (stepOut c i B hB X acc).st) -∗ K ⟨⟩))
      ⊢ wp frame (wpE (defs₀ (F := F)) Variants.none c none) E (step i B hB) K := by
  by_cases h : cond0_0 i
  · rw [stepOut_first c i B hB X acc h]
    dsimp only
    iintro ⟨HI, H23, H24, H25, H26, HS, Hk⟩
    iapply (runA c i B hB h X).2.2.2.2.2 E K
    isplitl [HI]; · iexact HI
    isplitl [H23]; · iexact H23
    isplitl [H24]; · iexact H24
    isplitl [H25]; · iexact H25
    isplitl [H26]; · iexact H26
    isplitl [HS]; · iexists _; iexact HS
    iintro ⟨HI, ⟨%e23, H23⟩, ⟨%e24, H24⟩, ⟨%e25, H25⟩, ⟨%e26, H26⟩, ⟨%es, HS⟩⟩
    iapply Hk
    isplitl [HI]; · iexact HI
    isplitl [H23]
    · unfold owns; iexists _; isplitr
      swap; · iexact H23
      ipureintro; exact View.read_writes_eq_canon _ _ _ (coverA_o23 c i B hB h X)
    isplitl [H24]
    · unfold owns; iexists _; isplitr
      swap; · iexact H24
      ipureintro; exact View.read_writes_eq_canon _ _ _ (coverA_o24 c i B hB h X)
    isplitl [H25]
    · unfold owns; iexists _; isplitr
      swap; · iexact H25
      ipureintro; exact View.read_writes_eq_canon _ _ _ (coverA_o25 c i B hB h X)
    isplitl [H26]
    · unfold owns; iexists _; isplitr
      swap; · iexact H26
      ipureintro; exact View.read_writes_eq_canon _ _ _ (coverA_o26 c i B hB h X)
    unfold owns; iexists _; isplitr
    swap; · iexact HS
    ipureintro; exact View.read_writes_eq_canon _ _ _ (coverA_st c i B hB h X)
  · rw [stepOut_later c i B hB X acc h]
    dsimp only
    iintro ⟨HI, H23, H24, H25, H26, HS, Hk⟩
    iapply (runB c i B hB h X acc).2.2.2.2.2 E K
    isplitl [HI]; · iexact HI
    isplitl [H23]; · iexact H23
    isplitl [H24]; · iexact H24
    isplitl [H25]; · iexact H25
    isplitl [H26]; · iexact H26
    isplitl [HS]; · iexact HS
    iintro ⟨HI, ⟨%e23, H23⟩, ⟨%e24, H24⟩, ⟨%e25, H25⟩, ⟨%e26, H26⟩, ⟨%es, HS⟩⟩
    iapply Hk
    isplitl [HI]; · iexact HI
    isplitl [H23]
    · unfold owns; iexists _; isplitr
      swap; · iexact H23
      ipureintro; exact View.read_writes_eq_canon _ _ _ (coverB_o23 c i B hB h X acc)
    isplitl [H24]
    · unfold owns; iexists _; isplitr
      swap; · iexact H24
      ipureintro; exact View.read_writes_eq_canon _ _ _ (coverB_o24 c i B hB h X acc)
    isplitl [H25]
    · unfold owns; iexists _; isplitr
      swap; · iexact H25
      ipureintro; exact View.read_writes_eq_canon _ _ _ (coverB_o25 c i B hB h X acc)
    isplitl [H26]
    · unfold owns; iexists _; isplitr
      swap; · iexact H26
      ipureintro; exact View.read_writes_eq_canon _ _ _ (coverB_o26 c i B hB h X acc)
    unfold owns; iexists _; isplitr
    swap; · iexact HS
    ipureintro; exact View.read_writes_eq_canon _ _ _ (coverB_st c i B hB h X acc)

/-! ## The steps of the grid -/

/-- The buffers of the step at point `t`. -/
def bufs (t : Fin cfg0.N) : Bufs := ⟨ms0_0 t, ms0_1 t, ms0_2 t, ms0_3 t, ms0_4 t, ms0_5 t, ms0_6 t, ms0_7 t, ms0_8 t, ms0_9 t, ms0_10 t, ms0_11 t, ms0_12 t, ms0_13 t, ms0_14 t, ms0_15 t, ms0_16 t, ms0_17 t, ms0_18 t, ms0_19 t, ms0_20 t, ms0_21 t, ms0_22 t, ms0_23 t, ms0_24 t, ms0_25 t, ms0_26 t, scM0_0⟩

/-- They are whole buffers. -/
theorem bufs_whole (t : Fin cfg0.N) : (bufs t).Whole := ⟨hs0_0 t, hs0_1 t, hs0_2 t, hs0_3 t, hs0_4 t, hs0_5 t, hs0_6 t, hs0_7 t, hs0_8 t, hs0_9 t, hs0_10 t, hs0_11 t, hs0_12 t, hs0_13 t, hs0_14 t, hs0_15 t, hs0_16 t, hs0_17 t, hs0_18 t, hs0_19 t, hs0_20 t, hs0_21 t, hs0_22 t, hs0_23 t, hs0_24 t, hs0_25 t, hs0_26 t, Memref.isWhole_whole _⟩

variable (m : (ℓ : Loc nD τ sig) → Buf (Elt F) ℓ) (ρ : Dev nD → PrngReg)

/-- What the step at point `t` reads: its input blocks. -/
def ins (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t⟩

/-- What the step at point `t` leaves, from the state before it. -/
def outOf (c : Dev nD) (t : Fin cfg0.N) (acc : Vec F S4x128x256 .f32) : Outs F :=
  stepOut c (grid0.coords t) (bufs t) (bufs_whole t) (ins m c t) acc

/-- The state before position `n`: what the steps before it left, starting from anything. -/
def accAt (c : Dev nD) : (n : ℕ) → n ≤ cfg0.N → Vec F S4x128x256 .f32
  | 0, _ => View.canon []
  | n + 1, hn => (outOf m c ⟨n, hn⟩ (accAt c n (Nat.le_of_lt hn))).st

/-- What the step at point `t` leaves in the run. -/
def outAt (c : Dev nD) (t : Fin cfg0.N) : Outs F := outOf m c t (accAt m c t.val (Nat.le_of_lt t.isLt))

/-- The invariant: before the first point every scoped buffer at anything; afterwards the state at what the steps left. -/
def PhiS (c : Dev nD) : (n : ℕ) → n ≤ cfg0.N → sProp 𝕄
  | 0, _ => Pipeline.ΦA spec0 c
  | n + 1, hn => iprop(iprop(owns (c : Thread nD τ) scM0_0 fullShare (accAt m c (n + 1) hn)) ∗ (∃ r, prngReg c r))

/-- Before any point the state is owned at contents from which the step leaves what `outAt` says. -/
theorem PhiS_open (c : Dev nD) (t : Fin cfg0.N) :
    PhiS m c t.val (Nat.le_of_lt t.isLt)
      ⊢ iprop((∃ d, ⌜outOf m c t d = outAt m c t⌝ ∗ owns (c : Thread nD τ) scM0_0 fullShare d) ∗ (∃ r, prngReg c r)) := by
  obtain ⟨n, hn⟩ := t
  cases n with
  | zero =>
    have h0 : cond0_0 (grid0.coords ⟨0, hn⟩) := (hcond0_0 ⟨0, hn⟩).mpr rfl
    show Pipeline.ΦA spec0 c ⊢ _
    rw [PhiA0_eq]
    iintro ⟨⟨%d, HS⟩, Hg⟩
    isplitl [HS]
    · iexists d; isplitr
      swap; · iexact HS
      ipureintro
      exact (stepOut_first c _ _ _ _ _ h0).trans (stepOut_first c _ _ _ _ _ h0).symm
    iexact Hg
  | succ n =>
    show iprop(iprop(owns (c : Thread nD τ) scM0_0 fullShare (accAt m c (n + 1) _)) ∗ (∃ r, prngReg c r)) ⊢ _
    iintro ⟨HS, Hg⟩
    isplitl [HS]
    · iexists _; isplitr
      swap; · iexact HS
      ipureintro; rfl
    iexact Hg

/-! ## The pipeline's data -/

/-- The data of the pipeline on core `c`: the arrays as the region finds them; after each step every input's buffer at its
    block and the results at `outAt`; the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outAt m c t).o23
    | ⟨24, _⟩ => (outAt m c t).o24
    | ⟨25, _⟩ => (outAt m c t).o25
    | ⟨26, _⟩ => (outAt m c t).o26
    | ⟨_ + 27, h⟩ => absurd h (Nat.not_lt.2 (Nat.le_add_left _ _))
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The invariant after a point. -/
theorem PhiS_after (c : Dev nD) (t : Fin cfg0.N) :
    (dats m 0 c).Φ t.succ = iprop(iprop(owns (c : Thread nD τ) scM0_0 fullShare (outAt m c t).st) ∗ (∃ r, prngReg c r)) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outAt m c t).o23 := by dsimp only [dats]
theorem after0_24 (c : Dev nD) (t : Fin cfg0.N) : (dats m 0 c).after 24 t = (outAt m c t).o24 := by dsimp only [dats]
theorem after0_25 (c : Dev nD) (t : Fin cfg0.N) : (dats m 0 c).after 25 t = (outAt m c t).o25 := by dsimp only [dats]
theorem after0_26 (c : Dev nD) (t : Fin cfg0.N) : (dats m 0 c).after 26 t = (outAt m c t).o26 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 8000000 in
/-- The body at any point runs from what it is handed to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [PhiS_after, PhiS_castSucc]
  rw [show bodyAt0 (F := F) t = step (F := F) (grid0.coords t) (bufs t) (bufs_whole t) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  ihave HP := PhiS_open m c t $$ HP
  icases HP with ⟨⟨%d, %hd, HS⟩, Hg⟩
  rw [← hd]
  iapply step_any c (grid0.coords t) (bufs t) (bufs_whole t) (ins m c t) d
  unfold Bufs.own bufs ins outOf
  dsimp only
  isplitl [H0 H1 H2 H3 H4 H5 H6 H7 H8 H9 H10 H11 H12 H13 H14 H15 H16 H17 H18 H19 H20 H21 H22]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [H23]; · iexists _; iexact H23
  isplitl [H24]; · iexists _; iexact H24
  isplitl [H25]; · iexists _; iexact H25
  isplitl [H26]; · iexists _; iexact H26
  isplitl [HS]; · iexact HS
  iintro ⟨⟨H0, H1, H2, H3, H4, H5, H6, H7, H8, H9, H10, H11, H12, H13, H14, H15, H16, H17, H18, H19, H20, H21, H22⟩, H23, H24, H25, H26, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at a point is the body there. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  show Pipeline.ΦA spec0 c ⊢ PhiS m c 0 (Nat.zero_le _)
  exact Idealize.SL.BI.Entails.refl _

/-- After the last point the state's contents are forgotten. -/
theorem hout (c : Dev nD) : (dats m 0 c).Φ (Fin.last cfg0.N) ⊢ Pipeline.ΦA spec0 c := by
  have hN : cfg0.N = 32 := N_0
  have key : ∀ (n : ℕ) (h : n ≤ cfg0.N), n ≠ 0 → PhiS m c n h ⊢ Pipeline.ΦA spec0 c := by
    intro n h hz
    cases n with
    | zero => exact absurd rfl hz
    | succ n =>
      rw [PhiA0_eq]; unfold PhiS
      iintro ⟨HS, Hg⟩
      isplitl [HS]
      · iexists _; iexact HS
      iexact Hg
  exact key (Fin.last cfg0.N).val (Nat.le_of_lt_succ (Fin.last cfg0.N).isLt) (by rw [Fin.val_last]; omega)

/-! ## The run -/

-- the library theorem's implicit arguments are found by unification through plain definitions
set_option backward.isDefEq.respectTransparency.types false in
/-- The program runs; its arrays end at what the steps leave in them, everything else as it was, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they were, and every counter is at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_main m ρ)) ((θ_run defs _ _).mono (fun _ h => h.2) (run_main_quiescent m ρ))

end Cert.KernelIdeal.Mix

end
-- ==== Proof.MixTile.lean ====
module

public import proofs.«01_k».proof.Proof.Gen.KernelIdeal.Skeleton

/-! One tile of the mixer as a chain of named arrays over what the tile's body loads. -/

@[expose] public section

noncomputable section

namespace Cert.KernelIdeal.Tile

open Idealize.ShloMosaic Idealize.ShloMosaic.TcCoe
open Cert.KernelIdeal.Gen

/-- What the body of one tile loads: the four heads' states, the token tile, the weights and biases. -/
structure In where
  st0 : Vec Ideal S1x128x256 .f32
  st1 : Vec Ideal S1x128x256 .f32
  st2 : Vec Ideal S1x128x256 .f32
  st3 : Vec Ideal S1x128x256 .f32
  x : Vec Ideal S1x512x1024 .f32
  n1w : Vec Ideal S1x1024 .f32
  wqkl : Vec Ideal S1024x1152 .bf16
  bqkl : Vec Ideal S1x1152 .f32
  wgk2 : Vec Ideal S128x512 .bf16
  bgk : Vec Ideal S1x512 .f32
  wuv : Vec Ideal S1024x2048 .bf16
  wvr : Vec Ideal S1024x2048 .bf16
  wgt : Vec Ideal S1024x2048 .bf16
  buv : Vec Ideal S1x2048 .f32
  lnw : Vec Ideal S1x1024 .f32
  lnb : Vec Ideal S1x1024 .f32
  sw0 : Vec Ideal S1x128x128 .f32
  sb0 : Vec Ideal S128x128 .f32
  sw1 : Vec Ideal S1x128x128 .f32
  sb1 : Vec Ideal S128x128 .f32
  sw2 : Vec Ideal S1x128x128 .f32
  sb2 : Vec Ideal S128x128 .f32
  sw3 : Vec Ideal S1x128x128 .f32
  sb3 : Vec Ideal S128x128 .f32
  sw4 : Vec Ideal S1x128x128 .f32
  sb4 : Vec Ideal S128x128 .f32
  sw5 : Vec Ideal S1x128x128 .f32
  sb5 : Vec Ideal S128x128 .f32
  sw6 : Vec Ideal S1x128x128 .f32
  sb6 : Vec Ideal S128x128 .f32
  sw7 : Vec Ideal S1x128x128 .f32
  sb7 : Vec Ideal S128x128 .f32
  wa : Vec Ideal S1024x1024 .bf16
  bvr : Vec Ideal S1x2048 .f32
  gnw : Vec Ideal S1x256 .f32
  bgt : Vec Ideal S1x2048 .f32
  wb : Vec Ideal S1024x1024 .bf16
  wo : Vec Ideal S1024x1024 .bf16

/-- Row numbers of a 128 × 128 square, -/
def rowIx : IVec S128x128 32 := iota .tc S128x128 32 [0] iota_S128x128_d0_w32

/-- and its column numbers. -/
def colIx : IVec S128x128 32 := iota .tc S128x128 32 [1] iota_S128x128_d1_w32

variable (I : In)

def t_0 : FVec Ideal S128x256 .f32 := k0_pay9 I.st0
def t_1 : FVec Ideal S128x256 .f32 := k0_pay10 I.st1
def t_2 : FVec Ideal S128x256 .f32 := k0_pay11 I.st2
def t_3 : FVec Ideal S128x256 .f32 := k0_pay12 I.st3
def t_4 : FVec Ideal S512x1024 .f32 := k0_pay13 I.x
def t_5 : FVec Ideal S512x1024 .bf16 := k0_pay14 (t_4 I) I.n1w
def t_6 : FVec Ideal S512x1152 .f32 := k0_pay15 (t_4 I) I.n1w I.wqkl
def t_7 : FVec Ideal S1x1152 .f32 := k0_pay16 I.bqkl
def t_8 : FVec Ideal S512x512 .f32 := k0_pay17 (t_4 I) I.n1w I.wqkl I.bqkl I.wgk2 I.bgk
def t_9 : FVec Ideal S512x2048 .f32 := k0_pay18 (t_4 I) I.n1w I.wuv
def t_10 : FVec Ideal S512x2048 .f32 := k0_pay19 (t_4 I) I.n1w I.wvr
def t_11 : FVec Ideal S512x2048 .f32 := k0_pay20 (t_5 I) I.wgt
def t_12 : FVec Ideal S512x512 .f32 := k0_pay21 (t_8 I)
def t_13 : FVec Ideal S128x512 .f32 := k0_pay26 (t_12 I) rowIx colIx k0_pay22
def t_14 : FVec Ideal S128x512 .f32 := k0_pay27 (t_12 I) rowIx colIx k0_pay22
def t_15 : FVec Ideal S128x512 .f32 := k0_pay28 (t_12 I) rowIx colIx k0_pay22
def t_16 : FVec Ideal S256x512 .bf16 := k0_pay29 (t_12 I)
def t_17 : FVec Ideal S512x512 .bf16 := k0_pay40 (t_6 I) (t_7 I) (k0_pay23 rowIx colIx k0_pay22) (t_13 I) (t_14 I) (t_15 I) (t_16 I)
def t_18 : FVec Ideal S512x512 .bf16 := k0_pay41 (t_6 I) (t_7 I) (k0_pay23 rowIx colIx k0_pay22) (t_13 I) (t_14 I) (t_15 I) (t_16 I)
def t_19 : FVec Ideal S512x512 .bf16 := k0_pay42 (t_6 I) (t_7 I) (k0_pay23 rowIx colIx k0_pay22) (t_13 I) (t_14 I) (t_15 I) (t_16 I)
def t_20 : FVec Ideal S512x8 .f32 := k0_pay43 (k0_pay23 rowIx colIx k0_pay22) (t_13 I) (t_14 I) (t_15 I) (t_16 I)
def t_21 : FVec Ideal S1x2048 .f32 := k0_pay44 I.buv
def t_22 : FVec Ideal S512x1024 .f32 := k0_pay45 (t_9 I)
def t_23 : FVec Ideal S512x1024 .f32 := k0_pay46 (t_21 I) (t_22 I)
def t_24 : FVec Ideal S512x1024 .f32 := k0_pay47 (t_9 I) (t_21 I)
def t_25 : FVec Ideal S512x1024 .bf16 := k0_pay48 (t_24 I) I.lnw I.lnb
def t_26 : FVec Ideal S512x128 .bf16 := k0_pay50 (t_23 I) (t_24 I) I.lnw I.lnb I.sw0 I.sb0 I.sb0 I.sb0 I.sb0
def t_27 : FVec Ideal S512x128 .bf16 := k0_pay51 (t_23 I) (t_25 I) k0_pay49 I.sw1 I.sb1 I.sb1 I.sb1 I.sb1
def t_28 : FVec Ideal S128x512 .f32 := k0_pay52 (t_25 I) k0_pay49 I.sw2
def t_29 : FVec Ideal S512x128 .bf16 := k0_pay53 (t_23 I) (t_28 I) I.sb2 I.sb2 I.sb2 I.sb2
def t_30 : FVec Ideal S128x512 .f32 := k0_pay54 (t_25 I) k0_pay49 I.sw3
def t_31 : FVec Ideal S128x128 .f32 := k0_pay55 (t_25 I) k0_pay49 I.sw3 I.sb3
def t_32 : FVec Ideal S128x128 .f32 := k0_pay56 (t_25 I) k0_pay49 I.sw3 I.sb3
def t_33 : FVec Ideal S128x128 .f32 := k0_pay57 (t_25 I) k0_pay49 I.sw3
def t_34 : FVec Ideal S128x128 .f32 := I.sb3
def t_35 : FVec Ideal S512x128 .bf16 := k0_pay58 (t_23 I) (t_30 I) (t_31 I) (t_32 I) (t_33 I) (t_34 I) I.sb3
def t_36 : FVec Ideal S512x128 .bf16 := k0_pay59 (t_23 I) (t_25 I) k0_pay49 I.sw4 I.sb4 I.sb4 I.sb4 I.sb4
def t_37 : FVec Ideal S1x128x128 .f32 := I.sw5
def t_38 : FVec Ideal S512x128 .bf16 := k0_pay60 (t_23 I) (t_25 I) k0_pay49 (t_37 I) I.sb5 I.sb5 I.sb5 I.sb5
def t_39 : FVec Ideal S128x512 .f32 := k0_pay61 (t_25 I) k0_pay49 I.sw6
def t_40 : FVec Ideal S128x128 .f32 := k0_pay62 (t_25 I) k0_pay49 I.sw6
def t_41 : FVec Ideal S128x128 .f32 := I.sb6
def t_42 : FVec Ideal S512x128 .bf16 := k0_pay63 (t_23 I) (t_39 I) (t_40 I) (t_41 I) I.sb6 I.sb6 I.sb6
def t_43 : FVec Ideal S128x128 .f32 := k0_pay65 (t_25 I) k0_pay49 I.sw7 I.sb7
def t_44 : FVec Ideal S128x128 .f32 := k0_pay66 (t_25 I) k0_pay49 I.sw7 I.sb7
def t_45 : FVec Ideal S128x128 .f32 := k0_pay67 (t_25 I) k0_pay49 I.sw7 I.sb7
def t_46 : FVec Ideal S128x128 .f32 := k0_pay68 (t_25 I) k0_pay49 I.sw7
def t_47 : FVec Ideal S512x1024 .f32 := k0_pay69 (t_23 I) (t_26 I) (t_27 I) (t_29 I) (t_35 I) (t_36 I) (t_38 I) (t_42 I) (t_43 I) (t_44 I) (t_45 I) (t_46 I) I.sb7 I.wa
def t_48 : FVec Ideal S1x2048 .f32 := k0_pay70 I.bvr
def t_49 : FVec Ideal S512x1024 .bf16 := k0_pay71 (t_10 I) I.bvr
def t_50 : FVec Ideal S576x512 .bf16 := k0_pay72 (t_18 I)
def t_51 : FVec Ideal S64x256 .bf16 := k0_pay75 (t_17 I) (t_18 I)
def t_52 : FVec Ideal S128x256 .f32 := k0_pay76 (t_10 I) (t_19 I) I.bvr
def t_53 : FVec Ideal S64x256 .bf16 := k0_pay77 (t_17 I) (t_18 I)
def t_54 : FVec Ideal S128x256 .f32 := k0_pay78 (t_10 I) (t_19 I) I.bvr
def t_55 : FVec Ideal S64x128 .bf16 := k0_pay79 (t_17 I)
def t_56 : FVec Ideal S128x128 .bf16 := k0_pay80 (t_18 I)
def t_57 : FVec Ideal S64x256 .bf16 := k0_pay81 k0_pay73 (t_55 I) (t_56 I)
def t_58 : FVec Ideal S128x256 .f32 := k0_pay82 (t_19 I) (t_49 I)
def t_59 : FVec Ideal S64x256 .bf16 := k0_pay83 (t_17 I) (t_50 I) k0_pay73
def t_60 : FVec Ideal S128x256 .f32 := k0_pay84 (t_19 I) (t_49 I)
def t_61 : FVec Ideal S64x256 .bf16 := k0_pay85 (t_17 I) (t_50 I) k0_pay73
def t_62 : FVec Ideal S128x256 .f32 := k0_pay86 (t_19 I) (t_49 I)
def t_63 : FVec Ideal S64x256 .bf16 := k0_pay87 (t_17 I) (t_50 I) k0_pay73
def t_64 : FVec Ideal S128x256 .f32 := k0_pay88 (t_19 I) (t_49 I)
def t_65 : FVec Ideal S64x256 .bf16 := k0_pay89 (t_17 I) (t_50 I) k0_pay73
def t_66 : FVec Ideal S64x128 .bf16 := k0_pay90 (t_19 I)
def t_67 : FVec Ideal S128x256 .f32 := k0_pay91 (t_49 I) (t_66 I)
def t_68 : FVec Ideal S64x256 .bf16 := k0_pay92 (t_17 I) (t_50 I) k0_pay73
def t_69 : FVec Ideal S128x256 .f32 := k0_pay93 (t_19 I) (t_49 I)
def t_70 : FVec Ideal S64x256 .bf16 := k0_pay94 (t_17 I) (t_50 I) k0_pay73
def t_71 : FVec Ideal S128x256 .f32 := k0_pay95 (t_19 I) (t_49 I)
def t_72 : FVec Ideal S64x256 .bf16 := k0_pay96 (t_17 I) (t_50 I) k0_pay73
def t_73 : FVec Ideal S128x256 .f32 := k0_pay97 (t_19 I) (t_49 I)
def t_74 : FVec Ideal S64x256 .bf16 := k0_pay98 (t_17 I) (t_50 I) k0_pay73
def t_75 : FVec Ideal S128x256 .f32 := k0_pay99 (t_19 I) (t_49 I)
def t_76 : FVec Ideal S64x128 .bf16 := k0_pay100 (t_17 I)
def t_77 : FVec Ideal S64x128 .f32 := k0_pay101 (t_17 I) (t_50 I)
def t_78 : FVec Ideal S64x256 .bf16 := k0_pay102 k0_pay73 (t_76 I) (t_77 I) (FloatOps.ofBits (F := Ideal) .f32 0x00000000#32)
def t_79 : FVec Ideal S128x256 .f32 := k0_pay103 (t_19 I) (t_49 I)
def t_80 : FVec Ideal S64x256 .bf16 := k0_pay104 (t_17 I) (t_50 I) k0_pay73
def t_81 : FVec Ideal S128x256 .f32 := k0_pay105 (t_19 I) (t_49 I)
def t_82 : FVec Ideal S64x256 .bf16 := k0_pay106 (t_17 I) (t_50 I) k0_pay73
def t_83 : FVec Ideal S128x256 .f32 := k0_pay107 (t_19 I) (t_49 I)
def t_84 : FVec Ideal S64x256 .bf16 := k0_pay108 (t_17 I) (t_50 I) k0_pay73
def t_85 : FVec Ideal S128x256 .f32 := k0_pay109 (t_19 I) (t_49 I)
def t_86 : FVec Ideal S64x256 .bf16 := k0_pay110 (t_17 I) (t_50 I) k0_pay73
def t_87 : FVec Ideal S128x256 .f32 := k0_pay111 (t_19 I) (t_49 I)
def t_88 : FVec Ideal S64x256 .bf16 := k0_pay112 (t_17 I) (t_50 I) k0_pay73
def t_89 : FVec Ideal S128x256 .f32 := k0_pay113 (t_19 I) (t_49 I)
def t_90 : FVec Ideal S64x256 .bf16 := k0_pay114 (t_17 I) (t_50 I) k0_pay73
def t_91 : FVec Ideal S128x256 .f32 := k0_pay115 (t_19 I) (t_49 I)
def t_92 : FVec Ideal S64x256 .bf16 := k0_pay116 (t_17 I) (t_50 I) k0_pay73
def t_93 : FVec Ideal S128x256 .f32 := k0_pay117 (t_19 I) (t_49 I)
def t_94 : FVec Ideal S64x256 .bf16 := k0_pay118 (t_17 I) (t_50 I) k0_pay73
def t_95 : FVec Ideal S128x256 .f32 := k0_pay119 (t_19 I) (t_49 I)
def t_96 : FVec Ideal S64x128 .bf16 := k0_pay120 (t_17 I)
def t_97 : FVec Ideal S64x128 .bf16 := k0_pay121 (t_17 I) (t_50 I) k0_pay73
def t_98 : FVec Ideal S64x256 .bf16 := k0_pay122 (t_96 I) (t_97 I)
def t_99 : FVec Ideal S128x256 .f32 := k0_pay123 (t_19 I) (t_49 I)
def t_100 : FVec Ideal S64x256 .bf16 := k0_pay124 (t_17 I) (t_50 I) k0_pay73
def t_101 : FVec Ideal S128x256 .f32 := k0_pay125 (t_19 I) (t_49 I)
def t_102 : FVec Ideal S64x256 .bf16 := k0_pay126 (t_17 I) (t_50 I) k0_pay73
def t_103 : FVec Ideal S128x256 .f32 := k0_pay127 (t_19 I) (t_49 I)
def t_104 : FVec Ideal S64x256 .bf16 := k0_pay128 (t_17 I) (t_50 I) k0_pay73
def t_105 : FVec Ideal S128x256 .f32 := k0_pay129 (t_19 I) (t_49 I)
def t_106 : FVec Ideal S64x256 .bf16 := k0_pay130 (t_17 I) (t_50 I) k0_pay73
def t_107 : FVec Ideal S128x256 .f32 := k0_pay131 (t_19 I) (t_49 I)
def t_108 : FVec Ideal S64x128 .bf16 := k0_pay132 (t_17 I)
def t_109 : FVec Ideal S128x128 .bf16 := k0_pay133 (t_50 I)
def t_110 : FVec Ideal S64x256 .bf16 := k0_pay134 k0_pay73 (t_108 I) (t_109 I) (constant S64x128 .f32 0x00000000#32)
def t_111 : FVec Ideal S128x256 .f32 := k0_pay135 (t_19 I) (t_49 I)
def t_112 : FVec Ideal S64x256 .bf16 := k0_pay136 (t_17 I) (t_50 I) k0_pay73
def t_113 : FVec Ideal S128x256 .f32 := k0_pay137 (t_19 I) (t_49 I)
def t_114 : FVec Ideal S64x256 .bf16 := k0_pay138 (t_17 I) (t_50 I) k0_pay73
def t_115 : FVec Ideal S128x256 .f32 := k0_pay139 (t_19 I) (t_49 I)
def t_116 : FVec Ideal S64x256 .bf16 := k0_pay140 (t_17 I) (t_50 I) k0_pay73
def t_117 : FVec Ideal S128x256 .f32 := k0_pay141 (t_19 I) (t_49 I)
def t_118 : FVec Ideal S64x256 .bf16 := k0_pay142 (t_17 I) (t_50 I) k0_pay73
def t_119 : FVec Ideal S64x128 .bf16 := k0_pay143 (t_19 I)
def t_120 : FVec Ideal S64x256 .bf16 := k0_pay144 (t_49 I)
def t_121 : FVec Ideal S128x256 .f32 := k0_pay145 (t_119 I) (t_120 I)
def t_122 : FVec Ideal S64x256 .bf16 := k0_pay146 (t_17 I) (t_50 I) k0_pay73
def t_123 : FVec Ideal S128x256 .f32 := k0_pay147 (t_19 I) (t_49 I)
def t_124 : FVec Ideal S64x256 .bf16 := k0_pay148 (t_17 I) (t_50 I) k0_pay73
def t_125 : FVec Ideal S128x256 .f32 := k0_pay149 (t_19 I) (t_49 I)
def t_126 : FVec Ideal S512x1024 .f32 := k0_pay150 (t_10 I) (t_48 I)
def t_127 : FVec Ideal S64x256 .f32 := k0_pay151 (t_0 I) (t_49 I) k0_pay74 (t_51 I)
def t_128 : FVec Ideal S64x256 .f32 := k0_pay153 (t_0 I) (t_20 I) (t_49 I) k0_pay74 (t_52 I) (t_53 I)
def t_129 : FVec Ideal S128x256 .f32 := k0_pay154 (t_0 I) (t_20 I) (t_52 I) (t_54 I)
def t_130 : FVec Ideal S256x256 .bf16 := k0_pay155 (t_0 I) (t_20 I) (t_49 I) k0_pay74 (t_52 I) (t_54 I)
def t_131 : FVec Ideal S128x256 .f32 := k0_pay161 (t_20 I) (t_58 I) (t_60 I) (t_62 I) (t_64 I) (t_67 I) (t_69 I) (t_129 I)
def t_132 : FVec Ideal S512x256 .f32 := k0_pay162 (t_20 I) (t_49 I) k0_pay74 (t_57 I) (t_58 I) (t_59 I) (t_60 I) (t_61 I) (t_62 I) (t_63 I) (t_64 I) (t_65 I) (t_67 I) (t_68 I) (t_127 I) (t_128 I) (t_129 I) (t_130 I) (constant S64x256 .f32 0x00000000#32)
def t_133 : FVec Ideal S512x1 .f32 := k0_pay163 (t_20 I) (t_49 I) k0_pay74 (t_57 I) (t_58 I) (t_59 I) (t_60 I) (t_61 I) (t_62 I) (t_63 I) (t_64 I) (t_65 I) (t_67 I) (t_68 I) (t_127 I) (t_128 I) (t_129 I) (t_130 I) (constant S64x256 .f32 0x00000000#32)
def t_134 : FVec Ideal S512x256 .bf16 := k0_pay165 (t_126 I) (t_132 I) (t_133 I) k0_pay164 I.gnw
def t_135 : FVec Ideal S64x256 .f32 := k0_pay166 (t_1 I) (t_49 I) k0_pay74 (t_70 I)
def t_136 : FVec Ideal S64x256 .f32 := k0_pay168 (t_1 I) (t_20 I) (t_49 I) k0_pay74 (t_71 I) (t_72 I)
def t_137 : FVec Ideal S64x256 .f32 := k0_pay170 (t_1 I) (t_20 I) (t_49 I) k0_pay74 (t_71 I) (t_73 I) (t_74 I)
def t_138 : FVec Ideal S64x256 .f32 := k0_pay172 (t_1 I) (t_20 I) (t_49 I) k0_pay74 (t_71 I) (t_73 I) (t_75 I) (t_78 I)
def t_139 : FVec Ideal S64x256 .f32 := k0_pay174 (t_1 I) (t_20 I) (t_49 I) k0_pay74 (t_71 I) (t_73 I) (t_75 I) (t_79 I) (t_80 I)
def t_140 : FVec Ideal S128x256 .f32 := k0_pay175 (t_1 I) (t_20 I) (t_71 I) (t_73 I) (t_75 I) (t_79 I) (t_81 I)
def t_141 : FVec Ideal S64x256 .bf16 := k0_pay176 (t_49 I)
def t_142 : FVec Ideal S128x256 .bf16 := k0_pay177 (t_1 I) (t_20 I) (t_71 I) (t_73 I) (t_75 I) (t_79 I) (t_81 I)
def t_143 : FVec Ideal S128x256 .f32 := k0_pay180 (t_20 I) (t_83 I) (t_85 I) (t_87 I) (t_140 I)
def t_144 : FVec Ideal S512x256 .bf16 := k0_pay181 (t_20 I) (t_49 I) k0_pay74 (t_82 I) (t_83 I) (t_84 I) (t_85 I) (t_86 I) (t_126 I) (t_135 I) (t_136 I) (t_137 I) (t_138 I) (t_139 I) (t_140 I) (t_141 I) (t_142 I) I.gnw
def t_145 : FVec Ideal S64x256 .f32 := k0_pay182 (t_2 I) (t_49 I) k0_pay74 (t_88 I)
def t_146 : FVec Ideal S128x256 .f32 := k0_pay183 (t_2 I) (t_20 I) (t_89 I)
def t_147 : FVec Ideal S256x256 .bf16 := k0_pay184 (t_2 I) (t_20 I) (t_49 I) k0_pay74 (t_89 I)
def t_148 : FVec Ideal S64x256 .f32 := k0_pay185 (t_90 I) (t_147 I)
def t_149 : FVec Ideal S64x256 .f32 := k0_pay187 (t_20 I) (t_49 I) k0_pay74 (t_91 I) (t_92 I) (t_146 I)
def t_150 : FVec Ideal S64x256 .f32 := k0_pay189 (t_20 I) (t_49 I) k0_pay74 (t_91 I) (t_93 I) (t_94 I) (t_146 I)
def t_151 : FVec Ideal S64x256 .f32 := k0_pay191 (t_20 I) (t_49 I) k0_pay74 (t_91 I) (t_93 I) (t_95 I) (t_98 I) (t_146 I)
def t_152 : FVec Ideal S64x256 .f32 := k0_pay193 (t_20 I) (t_49 I) k0_pay74 (t_91 I) (t_93 I) (t_95 I) (t_99 I) (t_100 I) (t_146 I)
def t_153 : FVec Ideal S64x256 .f32 := k0_pay195 (t_20 I) (t_49 I) k0_pay74 (t_91 I) (t_93 I) (t_95 I) (t_99 I) (t_101 I) (t_102 I) (t_146 I)
def t_154 : FVec Ideal S64x256 .f32 := k0_pay197 (t_20 I) (t_49 I) k0_pay74 (t_91 I) (t_93 I) (t_95 I) (t_99 I) (t_101 I) (t_103 I) (t_104 I) (t_146 I)
def t_155 : FVec Ideal S128x256 .f32 := k0_pay198 (t_20 I) (t_91 I) (t_93 I) (t_95 I) (t_99 I) (t_101 I) (t_103 I) (t_105 I) (t_146 I)
def t_156 : FVec Ideal S512x256 .bf16 := k0_pay199 (t_126 I) (t_145 I) (t_148 I) (t_149 I) (t_150 I) (t_151 I) (t_152 I) (t_153 I) (t_154 I) I.gnw
def t_157 : FVec Ideal S64x256 .f32 := k0_pay200 (t_3 I) (t_49 I) k0_pay74 (t_106 I)
def t_158 : FVec Ideal S64x256 .f32 := k0_pay202 (t_3 I) (t_20 I) (t_49 I) k0_pay74 (t_107 I) (t_110 I)
def t_159 : FVec Ideal S64x256 .f32 := k0_pay204 (t_3 I) (t_20 I) (t_49 I) k0_pay74 (t_107 I) (t_111 I) (t_112 I)
def t_160 : FVec Ideal S64x256 .f32 := k0_pay206 (t_3 I) (t_20 I) (t_49 I) k0_pay74 (t_107 I) (t_111 I) (t_113 I) (t_114 I)
def t_161 : FVec Ideal S128x256 .f32 := k0_pay207 (t_3 I) (t_20 I) (t_107 I) (t_111 I) (t_113 I) (t_115 I)
def t_162 : FVec Ideal S64x256 .bf16 := k0_pay208 (t_49 I)
def t_163 : FVec Ideal S128x256 .f32 := k0_pay212 (t_20 I) (t_117 I) (t_121 I) (t_123 I) (t_125 I) (t_161 I)
def t_164 : FVec Ideal S512x1024 .bf16 := k0_pay213 (t_20 I) (t_49 I) k0_pay74 (t_116 I) (t_117 I) (t_118 I) (t_121 I) (t_122 I) (t_123 I) (t_124 I) (t_126 I) (t_134 I) (t_144 I) (t_156 I) (t_157 I) (t_158 I) (t_159 I) (t_160 I) (t_161 I) (t_162 I) I.gnw

/-- The tile's result rows. -/
def tileH : FVec Ideal S1x512x1024 .f32 := k0_pay214 (t_4 I) (t_11 I) (t_47 I) (t_164 I) I.bgt I.wb I.wo

end Cert.KernelIdeal.Tile

end
-- ==== Proof.MixEqA.lean ====
module

public import proofs.«01_k».proof.Proof.MixTile
public import proofs.«01_k».proof.Proof.MixFrame

/-! What the two runs of a step leave, as the tile's result and states at what the step loads. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem

/-- What a row's first step loads. -/
def inA (B : Bufs) (hB : B.Whole) (X : Ins Ideal) : In where
  st0 := runA.sl.v15 B
  st1 := runA.sl.v17 B
  st2 := runA.sl.v19 B
  st3 := runA.sl.v21 B
  x := B.b0.view.readAt (Elt Ideal) (Rect.unit (s := S1x512x1024) ![0, 0, 0] S1x512x1024.size inb_S1x512x1024_S1x512x1024_0_0_0).toLoadRect (hB.h0.unread X.x0)
  n1w := B.b1.view.readAt (Elt Ideal) (Rect.unit (s := S1x1024) ![0, 0] S1x1024.size inb_S1x1024_S1x1024_0_0).toLoadRect (hB.h1.unread X.x1)
  wqkl := B.b4.view.readAt (Elt Ideal) (Rect.unit (s := S1024x1152) ![0, 0] S1024x1152.size inb_S1024x1152_S1024x1152_0_0).toLoadRect (hB.h4.unread X.x4)
  bqkl := B.b5.view.readAt (Elt Ideal) (Rect.unit (s := S1x1152) ![0, 0] S1x1152.size inb_S1x1152_S1x1152_0_0).toLoadRect (hB.h5.unread X.x5)
  wgk2 := B.b14.view.readAt (Elt Ideal) (Rect.unit (s := S128x512) ![0, 0] S128x512.size inb_S128x512_S128x512_0_0).toLoadRect (hB.h14.unread X.x14)
  bgk := B.b15.view.readAt (Elt Ideal) (Rect.unit (s := S1x512) ![0, 0] S1x512.size inb_S1x512_S1x512_0_0).toLoadRect (hB.h15.unread X.x15)
  wuv := B.b2.view.readAt (Elt Ideal) (Rect.unit (s := S1024x2176) ![0, 0] S1024x2048.size inb_S1024x2176_S1024x2048_0_0).toLoadRect (hB.h2.unread X.x2)
  wvr := B.b6.view.readAt (Elt Ideal) (Rect.unit (s := S1024x2176) ![0, 0] S1024x2048.size inb_S1024x2176_S1024x2048_0_0).toLoadRect (hB.h6.unread X.x6)
  wgt := B.b8.view.readAt (Elt Ideal) (Rect.unit (s := S1024x2176) ![0, 0] S1024x2048.size inb_S1024x2176_S1024x2048_0_0).toLoadRect (hB.h8.unread X.x8)
  buv := B.b3.view.readAt (Elt Ideal) (Rect.unit (s := S1x2048) ![0, 0] S1x2048.size inb_S1x2048_S1x2048_0_0).toLoadRect (hB.h3.unread X.x3)
  lnw := B.b10.view.readAt (Elt Ideal) (Rect.unit (s := S1x1024) ![0, 0] S1x1024.size inb_S1x1024_S1x1024_0_0).toLoadRect (hB.h10.unread X.x10)
  lnb := B.b11.view.readAt (Elt Ideal) (Rect.unit (s := S1x1024) ![0, 0] S1x1024.size inb_S1x1024_S1x1024_0_0).toLoadRect (hB.h11.unread X.x11)
  sw0 := B.b12.view.readAt (Elt Ideal) (Rect.unit (s := S8x128x128) ![0, 0, 0] S1x128x128.size inb_S8x128x128_S1x128x128_0_0_0).toLoadRect (hB.h12.unread X.x12)
  sb0 := B.b13.view.readAt (Elt Ideal) (Rect.unit (s := S128x1024) ![0, 0] S128x128.size inb_S128x1024_S128x128_0_0).toLoadRect (hB.h13.unread X.x13)
  sw1 := B.b12.view.readAt (Elt Ideal) (Rect.unit (s := S8x128x128) ![1, 0, 0] S1x128x128.size inb_S8x128x128_S1x128x128_1_0_0).toLoadRect (hB.h12.unread X.x12)
  sb1 := B.b13.view.readAt (Elt Ideal) (Rect.unit (s := S128x1024) ![0, 128] S128x128.size inb_S128x1024_S128x128_0_128).toLoadRect (hB.h13.unread X.x13)
  sw2 := B.b12.view.readAt (Elt Ideal) (Rect.unit (s := S8x128x128) ![2, 0, 0] S1x128x128.size inb_S8x128x128_S1x128x128_2_0_0).toLoadRect (hB.h12.unread X.x12)
  sb2 := B.b13.view.readAt (Elt Ideal) (Rect.unit (s := S128x1024) ![0, 256] S128x128.size inb_S128x1024_S128x128_0_256).toLoadRect (hB.h13.unread X.x13)
  sw3 := B.b12.view.readAt (Elt Ideal) (Rect.unit (s := S8x128x128) ![3, 0, 0] S1x128x128.size inb_S8x128x128_S1x128x128_3_0_0).toLoadRect (hB.h12.unread X.x12)
  sb3 := B.b13.view.readAt (Elt Ideal) (Rect.unit (s := S128x1024) ![0, 384] S128x128.size inb_S128x1024_S128x128_0_384).toLoadRect (hB.h13.unread X.x13)
  sw4 := B.b12.view.readAt (Elt Ideal) (Rect.unit (s := S8x128x128) ![4, 0, 0] S1x128x128.size inb_S8x128x128_S1x128x128_4_0_0).toLoadRect (hB.h12.unread X.x12)
  sb4 := B.b13.view.readAt (Elt Ideal) (Rect.unit (s := S128x1024) ![0, 512] S128x128.size inb_S128x1024_S128x128_0_512).toLoadRect (hB.h13.unread X.x13)
  sw5 := B.b12.view.readAt (Elt Ideal) (Rect.unit (s := S8x128x128) ![5, 0, 0] S1x128x128.size inb_S8x128x128_S1x128x128_5_0_0).toLoadRect (hB.h12.unread X.x12)
  sb5 := B.b13.view.readAt (Elt Ideal) (Rect.unit (s := S128x1024) ![0, 640] S128x128.size inb_S128x1024_S128x128_0_640).toLoadRect (hB.h13.unread X.x13)
  sw6 := B.b12.view.readAt (Elt Ideal) (Rect.unit (s := S8x128x128) ![6, 0, 0] S1x128x128.size inb_S8x128x128_S1x128x128_6_0_0).toLoadRect (hB.h12.unread X.x12)
  sb6 := B.b13.view.readAt (Elt Ideal) (Rect.unit (s := S128x1024) ![0, 768] S128x128.size inb_S128x1024_S128x128_0_768).toLoadRect (hB.h13.unread X.x13)
  sw7 := B.b12.view.readAt (Elt Ideal) (Rect.unit (s := S8x128x128) ![7, 0, 0] S1x128x128.size inb_S8x128x128_S1x128x128_7_0_0).toLoadRect (hB.h12.unread X.x12)
  sb7 := B.b13.view.readAt (Elt Ideal) (Rect.unit (s := S128x1024) ![0, 896] S128x128.size inb_S128x1024_S128x128_0_896).toLoadRect (hB.h13.unread X.x13)
  wa := B.b17.view.readAt (Elt Ideal) (Rect.unit (s := S1024x1152) ![0, 0] S1024x1024.size inb_S1024x1152_S1024x1024_0_0).toLoadRect (hB.h17.unread X.x17)
  bvr := B.b7.view.readAt (Elt Ideal) (Rect.unit (s := S1x2048) ![0, 0] S1x2048.size inb_S1x2048_S1x2048_0_0).toLoadRect (hB.h7.unread X.x7)
  gnw := B.b16.view.readAt (Elt Ideal) (Rect.unit (s := S1x256) ![0, 0] S1x256.size inb_S1x256_S1x256_0_0).toLoadRect (hB.h16.unread X.x16)
  bgt := B.b9.view.readAt (Elt Ideal) (Rect.unit (s := S1x2048) ![0, 0] S1x2048.size inb_S1x2048_S1x2048_0_0).toLoadRect (hB.h9.unread X.x9)
  wb := B.b18.view.readAt (Elt Ideal) (Rect.unit (s := S1024x1152) ![0, 0] S1024x1024.size inb_S1024x1152_S1024x1024_0_0).toLoadRect (hB.h18.unread X.x18)
  wo := B.b19.view.readAt (Elt Ideal) (Rect.unit (s := S1024x1152) ![0, 0] S1024x1024.size inb_S1024x1152_S1024x1024_0_0).toLoadRect (hB.h19.unread X.x19)

theorem a_0 (B : Bufs) (hB : B.Whole) (X : Ins Ideal) : runA.sl.r (F := Ideal) B = t_0 (inA B hB X) := by
  unfold runA.sl.r t_0
  try rfl

theorem a_1 (B : Bufs) (hB : B.Whole) (X : Ins Ideal) : runA.sl.r_1 (F := Ideal) B = t_1 (inA B hB X) := by
  unfold runA.sl.r_1 t_1
  try rfl

theorem a_2 (B : Bufs) (hB : B.Whole) (X : Ins Ideal) : runA.sl.r_2 (F := Ideal) B = t_2 (inA B hB X) := by
  unfold runA.sl.r_2 t_2
  try rfl

theorem a_3 (B : Bufs) (hB : B.Whole) (X : Ins Ideal) : runA.sl.r_3 (F := Ideal) B = t_3 (inA B hB X) := by
  unfold runA.sl.r_3 t_3
  try rfl

theorem a_4 (B : Bufs) (hB : B.Whole) (X : Ins Ideal) : runA.sl.r_4 (F := Ideal) B hB X = t_4 (inA B hB X) := by
  unfold runA.sl.r_4 t_4
  try rfl

theorem a_5 (B : Bufs) (hB : B.Whole) (X : Ins Ideal) : runA.sl.r_5 (F := Ideal) B hB X = t_5 (inA B hB X) := by
  unfold runA.sl.r_5 t_5
  rw [a_4 B hB X]
  try rfl

theorem a_6 (B : Bufs) (hB : B.Whole) (X : Ins Ideal) : runA.sl.r_6 (F := Ideal) B hB X = t_6 (inA B hB X) := by
  unfold runA.sl.r_6 t_6
  rw [a_4 B hB X]
  try rfl

theorem a_7 (B : Bufs) (hB : B.Whole) (X : Ins Ideal) : runA.sl.r_7 (F := Ideal) B hB X = t_7 (inA B hB X) := by
  unfold runA.sl.r_7 t_7
  try rfl

theorem a_8 (B : Bufs) (hB : B.Whole) (X : Ins Ideal) : runA.sl.r_8 (F := Ideal) B hB X = t_8 (inA B hB X) := by
  unfold runA.sl.r_8 t_8
  rw [a_4 B hB X]
  try rfl

theorem a_9 (B : Bufs) (hB : B.Whole) (X : Ins Ideal) : runA.sl.r_9 (F := Ideal) B hB X = t_9 (inA B hB X) := by
  unfold runA.sl.r_9 t_9
  rw [a_4 B hB X]
  try rfl

theorem a_10 (B : Bufs) (hB : B.Whole) (X : Ins Ideal) : runA.sl.r_10 (F := Ideal) B hB X = t_10 (inA B hB X) := by
  unfold runA.sl.r_10 t_10
  rw [a_4 B hB X]
  try rfl

theorem a_11 (B : Bufs) (hB : B.Whole) (X : Ins Ideal) : runA.sl.r_11 (F := Ideal) B hB X = t_11 (inA B hB X) := by
  unfold runA.sl.r_11 t_11
  rw [a_5 B hB X]
  try rfl

theorem a_12 (B : Bufs) (hB : B.Whole) (X : Ins Ideal) : runA.sl.r_12 (F := Ideal) B hB X = t_12 (inA B hB X) := by
  unfold runA.sl.r_12 t_12
  rw [a_8 B hB X]
  try rfl

theorem a_13 (B : Bufs) (hB : B.Whole) (X : Ins Ideal) : runA.sl.r_13 (F := Ideal) B hB X = t_13 (inA B hB X) := by
  unfold runA.sl.r_13 t_13
  rw [a_12 B hB X]
  try rfl

theorem a_14 (B : Bufs) (hB : B.Whole) (X : Ins Ideal) : runA.sl.r_14 (F := Ideal) B hB X = t_14 (inA B hB X) := by
  unfold runA.sl.r_14 t_14
  rw [a_12 B hB X]
  try rfl

theorem a_15 (B : Bufs) (hB : B.Whole) (X : Ins Ideal) : runA.sl.r_15 (F := Ideal) B hB X = t_15 (inA B hB X) := by
  unfold runA.sl.r_15 t_15
  rw [a_12 B hB X]
  try rfl

theorem a_16 (B : Bufs) (hB : B.Whole) (X : Ins Ideal) : runA.sl.r_16 (F := Ideal) B hB X = t_16 (inA B hB X) := by
  unfold runA.sl.r_16 t_16
  rw [a_12 B hB X]
  try rfl

theorem a_17 (B : Bufs) (hB : B.Whole) (X : Ins Ideal) : runA.sl.r_17 (F := Ideal) B hB X = t_17 (inA B hB X) := by
  unfold runA.sl.r_17 t_17
  rw [a_6 B hB X, a_7 B hB X, a_13 B hB X, a_14 B hB X, a_15 B hB X, a_16 B hB X]
  try rfl

theorem a_18 (B : Bufs) (hB : B.Whole) (X : Ins Ideal) : runA.sl.r_18 (F := Ideal) B hB X = t_18 (inA B hB X) := by
  unfold runA.sl.r_18 t_18
  rw [a_6 B hB X, a_7 B hB X, a_13 B hB X, a_14 B hB X, a_15 B hB X, a_16 B hB X]
  try rfl

theorem a_19 (B : Bufs) (hB : B.Whole) (X : Ins Ideal) : runA.sl.r_19 (F := Ideal) B hB X = t_19 (inA B hB X) := by
  unfold runA.sl.r_19 t_19
  rw [a_6 B hB X, a_7 B hB X, a_13 B hB X, a_14 B hB X, a_15 B hB X, a_16 B hB X]
  try rfl

theorem a_20 (B : Bufs) (hB : B.Whole) (X : Ins Ideal) : runA.sl.r_20 (F := Ideal) B hB X = t_20 (inA B hB X) := by
  unfold runA.sl.r_20 t_20
  rw [a_13 B hB X, a_14 B hB X, a_15 B hB X, a_16 B hB X]
  try rfl

theorem a_21 (B : Bufs) (hB : B.Whole) (X : Ins Ideal) : runA.sl.r_21 (F := Ideal) B hB X = t_21 (inA B hB X) := by
  unfold runA.sl.r_21 t_21
  try rfl

theorem a_22 (B : Bufs) (hB : B.Whole) (X : Ins Ideal) : runA.sl.r_22 (F := Ideal) B hB X = t_22 (inA B hB X) := by
  unfold runA.sl.r_22 t_22
  rw [a_9 B hB X]
  try rfl

theorem a_23 (B : Bufs) (hB : B.Whole) (X : Ins Ideal) : runA.sl.r_23 (F := Ideal) B hB X = t_23 (inA B hB X) := by
  unfold runA.sl.r_23 t_23
  rw [a_21 B hB X, a_22 B hB X]
  try rfl

theorem a_24 (B : Bufs) (hB : B.Whole) (X : Ins Ideal) : runA.sl.r_24 (F := Ideal) B hB X = t_24 (inA B hB X) := by
  unfold runA.sl.r_24 t_24
  rw [a_9 B hB X, a_21 B hB X]
  try rfl

theorem a_25 (B : Bufs) (hB : B.Whole) (X : Ins Ideal) : runA.sl.r_25 (F := Ideal) B hB X = t_25 (inA B hB X) := by
  unfold runA.sl.r_25 t_25
  rw [a_24 B hB X]
  try rfl

theorem a_26 (B : Bufs) (hB : B.Whole) (X : Ins Ideal) : runA.sl.r_26 (F := Ideal) B hB X = t_26 (inA B hB X) := by
  unfold runA.sl.r_26 t_26
  rw [a_23 B hB X, a_24 B hB X]
  try rfl

theorem a_27 (B : Bufs) (hB : B.Whole) (X : Ins Ideal) : runA.sl.r_27 (F := Ideal) B hB X = t_27 (inA B hB X) := by
  unfold runA.sl.r_27 t_27
  rw [a_23 B hB X, a_25 B hB X]
  try rfl

theorem a_28 (B : Bufs) (hB : B.Whole) (X : Ins Ideal) : runA.sl.r_28 (F := Ideal) B hB X = t_28 (inA B hB X) := by
  unfold runA.sl.r_28 t_28
  rw [a_25 B hB X]
  try rfl

theorem a_29 (B : Bufs) (hB : B.Whole) (X : Ins Ideal) : runA.sl.r_29 (F := Ideal) B hB X = t_29 (inA B hB X) := by
  unfold runA.sl.r_29 t_29
  rw [a_23 B hB X, a_28 B hB X]
  try rfl

theorem a_30 (B : Bufs) (hB : B.Whole) (X : Ins Ideal) : runA.sl.r_30 (F := Ideal) B hB X = t_30 (inA B hB X) := by
  unfold runA.sl.r_30 t_30
  rw [a_25 B hB X]
  try rfl

theorem a_31 (B : Bufs) (hB : B.Whole) (X : Ins Ideal) : runA.sl.r_31 (F := Ideal) B hB X = t_31 (inA B hB X) := by
  unfold runA.sl.r_31 t_31
  rw [a_25 B hB X]
  try rfl

theorem a_32 (B : Bufs) (hB : B.Whole) (X : Ins Ideal) : runA.sl.r_32 (F := Ideal) B hB X = t_32 (inA B hB X) := by
  unfold runA.sl.r_32 t_32
  rw [a_25 B hB X]
  try rfl

theorem a_33 (B : Bufs) (hB : B.Whole) (X : Ins Ideal) : runA.sl.r_33 (F := Ideal) B hB X = t_33 (inA B hB X) := by
  unfold runA.sl.r_33 t_33
  rw [a_25 B hB X]
  try rfl

theorem a_34 (B : Bufs) (hB : B.Whole) (X : Ins Ideal) : runA.sl.r_34 (F := Ideal) B hB X = t_34 (inA B hB X) := by
  unfold runA.sl.r_34 t_34
  try rfl

theorem a_35 (B : Bufs) (hB : B.Whole) (X : Ins Ideal) : runA.sl.r_35 (F := Ideal) B hB X = t_35 (inA B hB X) := by
  unfold runA.sl.r_35 t_35
  rw [a_23 B hB X, a_30 B hB X, a_31 B hB X, a_32 B hB X, a_33 B hB X, a_34 B hB X]
  try rfl

theorem a_36 (B : Bufs) (hB : B.Whole) (X : Ins Ideal) : runA.sl.r_36 (F := Ideal) B hB X = t_36 (inA B hB X) := by
  unfold runA.sl.r_36 t_36
  rw [a_23 B hB X, a_25 B hB X]
  try rfl

theorem a_37 (B : Bufs) (hB : B.Whole) (X : Ins Ideal) : runA.sl.r_37 (F := Ideal) B hB X = t_37 (inA B hB X) := by
  unfold runA.sl.r_37 t_37
  try rfl

theorem a_38 (B : Bufs) (hB : B.Whole) (X : Ins Ideal) : runA.sl.r_38 (F := Ideal) B hB X = t_38 (inA B hB X) := by
  unfold runA.sl.r_38 t_38
  rw [a_23 B hB X, a_25 B hB X, a_37 B hB X]
  try rfl

theorem a_39 (B : Bufs) (hB : B.Whole) (X : Ins Ideal) : runA.sl.r_39 (F := Ideal) B hB X = t_39 (inA B hB X) := by
  unfold runA.sl.r_39 t_39
  rw [a_25 B hB X]
  try rfl

theorem a_40 (B : Bufs) (hB : B.Whole) (X : Ins Ideal) : runA.sl.r_40 (F := Ideal) B hB X = t_40 (inA B hB X) := by
  unfold runA.sl.r_40 t_40
  rw [a_25 B hB X]
  try rfl

theorem a_41 (B : Bufs) (hB : B.Whole) (X : Ins Ideal) : runA.sl.r_41 (F := Ideal) B hB X = t_41 (inA B hB X) := by
  unfold runA.sl.r_41 t_41
  try rfl

theorem a_42 (B : Bufs) (hB : B.Whole) (X : Ins Ideal) : runA.sl.r_42 (F := Ideal) B hB X = t_42 (inA B hB X) := by
  unfold runA.sl.r_42 t_42
  rw [a_23 B hB X, a_39 B hB X, a_40 B hB X, a_41 B hB X]
  try rfl

theorem a_43 (B : Bufs) (hB : B.Whole) (X : Ins Ideal) : runA.sl.r_43 (F := Ideal) B hB X = t_43 (inA B hB X) := by
  unfold runA.sl.r_43 t_43
  rw [a_25 B hB X]
  try rfl

theorem a_44 (B : Bufs) (hB : B.Whole) (X : Ins Ideal) : runA.sl.r_44 (F := Ideal) B hB X = t_44 (inA B hB X) := by
  unfold runA.sl.r_44 t_44
  rw [a_25 B hB X]
  try rfl

theorem a_45 (B : Bufs) (hB : B.Whole) (X : Ins Ideal) : runA.sl.r_45 (F := Ideal) B hB X = t_45 (inA B hB X) := by
  unfold runA.sl.r_45 t_45
  rw [a_25 B hB X]
  try rfl

theorem a_46 (B : Bufs) (hB : B.Whole) (X : Ins Ideal) : runA.sl.r_46 (F := Ideal) B hB X = t_46 (inA B hB X) := by
  unfold runA.sl.r_46 t_46
  rw [a_25 B hB X]
  try rfl

theorem a_47 (B : Bufs) (hB : B.Whole) (X : Ins Ideal) : runA.sl.r_47 (F := Ideal) B hB X = t_47 (inA B hB X) := by
  unfold runA.sl.r_47 t_47
  rw [a_23 B hB X, a_26 B hB X, a_27 B hB X, a_29 B hB X, a_35 B hB X, a_36 B hB X, a_38 B hB X, a_42 B hB X, a_43 B hB X, a_44 B hB X, a_45 B hB X, a_46 B hB X]
  try rfl

theorem a_48 (B : Bufs) (hB : B.Whole) (X : Ins Ideal) : runA.sl.r_48 (F := Ideal) B hB X = t_48 (inA B hB X) := by
  unfold runA.sl.r_48 t_48
  try rfl

theorem a_49 (B : Bufs) (hB : B.Whole) (X : Ins Ideal) : runA.sl.r_49 (F := Ideal) B hB X = t_49 (inA B hB X) := by
  unfold runA.sl.r_49 t_49
  rw [a_10 B hB X]
  try rfl

theorem a_50 (B : Bufs) (hB : B.Whole) (X : Ins Ideal) : runA.sl.r_50 (F := Ideal) B hB X = t_50 (inA B hB X) := by
  unfold runA.sl.r_50 t_50
  rw [a_18 B hB X]
  try rfl

theorem a_51 (B : Bufs) (hB : B.Whole) (X : Ins Ideal) : runA.sl.r_51 (F := Ideal) B hB X = t_51 (inA B hB X) := by
  unfold runA.sl.r_51 t_51
  rw [a_17 B hB X, a_18 B hB X]
  try rfl

theorem a_52 (B : Bufs) (hB : B.Whole) (X : Ins Ideal) : runA.sl.r_52 (F := Ideal) B hB X = t_52 (inA B hB X) := by
  unfold runA.sl.r_52 t_52
  rw [a_10 B hB X, a_19 B hB X]
  try rfl

theorem a_53 (B : Bufs) (hB : B.Whole) (X : Ins Ideal) : runA.sl.r_53 (F := Ideal) B hB X = t_53 (inA B hB X) := by
  unfold runA.sl.r_53 t_53
  rw [a_17 B hB X, a_18 B hB X]
  try rfl

theorem a_54 (B : Bufs) (hB : B.Whole) (X : Ins Ideal) : runA.sl.r_54 (F := Ideal) B hB X = t_54 (inA B hB X) := by
  unfold runA.sl.r_54 t_54
  rw [a_10 B hB X, a_19 B hB X]
  try rfl

theorem a_55 (B : Bufs) (hB : B.Whole) (X : Ins Ideal) : runA.sl.r_55 (F := Ideal) B hB X = t_55 (inA B hB X) := by
  unfold runA.sl.r_55 t_55
  rw [a_17 B hB X]
  try rfl

theorem a_56 (B : Bufs) (hB : B.Whole) (X : Ins Ideal) : runA.sl.r_56 (F := Ideal) B hB X = t_56 (inA B hB X) := by
  unfold runA.sl.r_56 t_56
  rw [a_18 B hB X]
  try rfl

theorem a_57 (B : Bufs) (hB : B.Whole) (X : Ins Ideal) : runA.sl.r_57 (F := Ideal) B hB X = t_57 (inA B hB X) := by
  unfold runA.sl.r_57 t_57
  rw [a_55 B hB X, a_56 B hB X]
  try rfl

theorem a_58 (B : Bufs) (hB : B.Whole) (X : Ins Ideal) : runA.sl.r_58 (F := Ideal) B hB X = t_58 (inA B hB X) := by
  unfold runA.sl.r_58 t_58
  rw [a_19 B hB X, a_49 B hB X]
  try rfl

theorem a_59 (B : Bufs) (hB : B.Whole) (X : Ins Ideal) : runA.sl.r_59 (F := Ideal) B hB X = t_59 (inA B hB X) := by
  unfold runA.sl.r_59 t_59
  rw [a_17 B hB X, a_50 B hB X]
  try rfl

theorem a_60 (B : Bufs) (hB : B.Whole) (X : Ins Ideal) : runA.sl.r_60 (F := Ideal) B hB X = t_60 (inA B hB X) := by
  unfold runA.sl.r_60 t_60
  rw [a_19 B hB X, a_49 B hB X]
  try rfl

theorem a_61 (B : Bufs) (hB : B.Whole) (X : Ins Ideal) : runA.sl.r_61 (F := Ideal) B hB X = t_61 (inA B hB X) := by
  unfold runA.sl.r_61 t_61
  rw [a_17 B hB X, a_50 B hB X]
  try rfl

theorem a_62 (B : Bufs) (hB : B.Whole) (X : Ins Ideal) : runA.sl.r_62 (F := Ideal) B hB X = t_62 (inA B hB X) := by
  unfold runA.sl.r_62 t_62
  rw [a_19 B hB X, a_49 B hB X]
  try rfl

theorem a_63 (B : Bufs) (hB : B.Whole) (X : Ins Ideal) : runA.sl.r_63 (F := Ideal) B hB X = t_63 (inA B hB X) := by
  unfold runA.sl.r_63 t_63
  rw [a_17 B hB X, a_50 B hB X]
  try rfl

theorem a_64 (B : Bufs) (hB : B.Whole) (X : Ins Ideal) : runA.sl.r_64 (F := Ideal) B hB X = t_64 (inA B hB X) := by
  unfold runA.sl.r_64 t_64
  rw [a_19 B hB X, a_49 B hB X]
  try rfl

theorem a_65 (B : Bufs) (hB : B.Whole) (X : Ins Ideal) : runA.sl.r_65 (F := Ideal) B hB X = t_65 (inA B hB X) := by
  unfold runA.sl.r_65 t_65
  rw [a_17 B hB X, a_50 B hB X]
  try rfl

theorem a_66 (B : Bufs) (hB : B.Whole) (X : Ins Ideal) : runA.sl.r_66 (F := Ideal) B hB X = t_66 (inA B hB X) := by
  unfold runA.sl.r_66 t_66
  rw [a_19 B hB X]
  try rfl

theorem a_67 (B : Bufs) (hB : B.Whole) (X : Ins Ideal) : runA.sl.r_67 (F := Ideal) B hB X = t_67 (inA B hB X) := by
  unfold runA.sl.r_67 t_67
  rw [a_49 B hB X, a_66 B hB X]
  try rfl

theorem a_68 (B : Bufs) (hB : B.Whole) (X : Ins Ideal) : runA.sl.r_68 (F := Ideal) B hB X = t_68 (inA B hB X) := by
  unfold runA.sl.r_68 t_68
  rw [a_17 B hB X, a_50 B hB X]
  try rfl

theorem a_69 (B : Bufs) (hB : B.Whole) (X : Ins Ideal) : runA.sl.r_69 (F := Ideal) B hB X = t_69 (inA B hB X) := by
  unfold runA.sl.r_69 t_69
  rw [a_19 B hB X, a_49 B hB X]
  try rfl

theorem a_70 (B : Bufs) (hB : B.Whole) (X : Ins Ideal) : runA.sl.r_70 (F := Ideal) B hB X = t_70 (inA B hB X) := by
  unfold runA.sl.r_70 t_70
  rw [a_17 B hB X, a_50 B hB X]
  try rfl

theorem a_71 (B : Bufs) (hB : B.Whole) (X : Ins Ideal) : runA.sl.r_71 (F := Ideal) B hB X = t_71 (inA B hB X) := by
  unfold runA.sl.r_71 t_71
  rw [a_19 B hB X, a_49 B hB X]
  try rfl

theorem a_72 (B : Bufs) (hB : B.Whole) (X : Ins Ideal) : runA.sl.r_72 (F := Ideal) B hB X = t_72 (inA B hB X) := by
  unfold runA.sl.r_72 t_72
  rw [a_17 B hB X, a_50 B hB X]
  try rfl

theorem a_73 (B : Bufs) (hB : B.Whole) (X : Ins Ideal) : runA.sl.r_73 (F := Ideal) B hB X = t_73 (inA B hB X) := by
  unfold runA.sl.r_73 t_73
  rw [a_19 B hB X, a_49 B hB X]
  try rfl

theorem a_74 (B : Bufs) (hB : B.Whole) (X : Ins Ideal) : runA.sl.r_74 (F := Ideal) B hB X = t_74 (inA B hB X) := by
  unfold runA.sl.r_74 t_74
  rw [a_17 B hB X, a_50 B hB X]
  try rfl

theorem a_75 (B : Bufs) (hB : B.Whole) (X : Ins Ideal) : runA.sl.r_75 (F := Ideal) B hB X = t_75 (inA B hB X) := by
  unfold runA.sl.r_75 t_75
  rw [a_19 B hB X, a_49 B hB X]
  try rfl

theorem a_76 (B : Bufs) (hB : B.Whole) (X : Ins Ideal) : runA.sl.r_76 (F := Ideal) B hB X = t_76 (inA B hB X) := by
  unfold runA.sl.r_76 t_76
  rw [a_17 B hB X]
  try rfl

theorem a_77 (B : Bufs) (hB : B.Whole) (X : Ins Ideal) : runA.sl.r_77 (F := Ideal) B hB X = t_77 (inA B hB X) := by
  unfold runA.sl.r_77 t_77
  rw [a_17 B hB X, a_50 B hB X]
  try rfl

theorem a_78 (B : Bufs) (hB : B.Whole) (X : Ins Ideal) : runA.sl.r_78 (F := Ideal) B hB X = t_78 (inA B hB X) := by
  unfold runA.sl.r_78 t_78
  rw [a_76 B hB X, a_77 B hB X]
  try rfl

theorem a_79 (B : Bufs) (hB : B.Whole) (X : Ins Ideal) : runA.sl.r_79 (F := Ideal) B hB X = t_79 (inA B hB X) := by
  unfold runA.sl.r_79 t_79
  rw [a_19 B hB X, a_49 B hB X]
  try rfl

theorem a_80 (B : Bufs) (hB : B.Whole) (X : Ins Ideal) : runA.sl.r_80 (F := Ideal) B hB X = t_80 (inA B hB X) := by
  unfold runA.sl.r_80 t_80
  rw [a_17 B hB X, a_50 B hB X]
  try rfl

theorem a_81 (B : Bufs) (hB : B.Whole) (X : Ins Ideal) : runA.sl.r_81 (F := Ideal) B hB X = t_81 (inA B hB X) := by
  unfold runA.sl.r_81 t_81
  rw [a_19 B hB X, a_49 B hB X]
  try rfl

theorem a_82 (B : Bufs) (hB : B.Whole) (X : Ins Ideal) : runA.sl.r_82 (F := Ideal) B hB X = t_82 (inA B hB X) := by
  unfold runA.sl.r_82 t_82
  rw [a_17 B hB X, a_50 B hB X]
  try rfl

theorem a_83 (B : Bufs) (hB : B.Whole) (X : Ins Ideal) : runA.sl.r_83 (F := Ideal) B hB X = t_83 (inA B hB X) := by
  unfold runA.sl.r_83 t_83
  rw [a_19 B hB X, a_49 B hB X]
  try rfl

theorem a_84 (B : Bufs) (hB : B.Whole) (X : Ins Ideal) : runA.sl.r_84 (F := Ideal) B hB X = t_84 (inA B hB X) := by
  unfold runA.sl.r_84 t_84
  rw [a_17 B hB X, a_50 B hB X]
  try rfl

theorem a_85 (B : Bufs) (hB : B.Whole) (X : Ins Ideal) : runA.sl.r_85 (F := Ideal) B hB X = t_85 (inA B hB X) := by
  unfold runA.sl.r_85 t_85
  rw [a_19 B hB X, a_49 B hB X]
  try rfl

theorem a_86 (B : Bufs) (hB : B.Whole) (X : Ins Ideal) : runA.sl.r_86 (F := Ideal) B hB X = t_86 (inA B hB X) := by
  unfold runA.sl.r_86 t_86
  rw [a_17 B hB X, a_50 B hB X]
  try rfl

theorem a_87 (B : Bufs) (hB : B.Whole) (X : Ins Ideal) : runA.sl.r_87 (F := Ideal) B hB X = t_87 (inA B hB X) := by
  unfold runA.sl.r_87 t_87
  rw [a_19 B hB X, a_49 B hB X]
  try rfl

theorem a_88 (B : Bufs) (hB : B.Whole) (X : Ins Ideal) : runA.sl.r_88 (F := Ideal) B hB X = t_88 (inA B hB X) := by
  unfold runA.sl.r_88 t_88
  rw [a_17 B hB X, a_50 B hB X]
  try rfl

theorem a_89 (B : Bufs) (hB : B.Whole) (X : Ins Ideal) : runA.sl.r_89 (F := Ideal) B hB X = t_89 (inA B hB X) := by
  unfold runA.sl.r_89 t_89
  rw [a_19 B hB X, a_49 B hB X]
  try rfl

theorem a_90 (B : Bufs) (hB : B.Whole) (X : Ins Ideal) : runA.sl.r_90 (F := Ideal) B hB X = t_90 (inA B hB X) := by
  unfold runA.sl.r_90 t_90
  rw [a_17 B hB X, a_50 B hB X]
  try rfl

theorem a_91 (B : Bufs) (hB : B.Whole) (X : Ins Ideal) : runA.sl.r_91 (F := Ideal) B hB X = t_91 (inA B hB X) := by
  unfold runA.sl.r_91 t_91
  rw [a_19 B hB X, a_49 B hB X]
  try rfl

theorem a_92 (B : Bufs) (hB : B.Whole) (X : Ins Ideal) : runA.sl.r_92 (F := Ideal) B hB X = t_92 (inA B hB X) := by
  unfold runA.sl.r_92 t_92
  rw [a_17 B hB X, a_50 B hB X]
  try rfl

theorem a_93 (B : Bufs) (hB : B.Whole) (X : Ins Ideal) : runA.sl.r_93 (F := Ideal) B hB X = t_93 (inA B hB X) := by
  unfold runA.sl.r_93 t_93
  rw [a_19 B hB X, a_49 B hB X]
  try rfl

theorem a_94 (B : Bufs) (hB : B.Whole) (X : Ins Ideal) : runA.sl.r_94 (F := Ideal) B hB X = t_94 (inA B hB X) := by
  unfold runA.sl.r_94 t_94
  rw [a_17 B hB X, a_50 B hB X]
  try rfl

theorem a_95 (B : Bufs) (hB : B.Whole) (X : Ins Ideal) : runA.sl.r_95 (F := Ideal) B hB X = t_95 (inA B hB X) := by
  unfold runA.sl.r_95 t_95
  rw [a_19 B hB X, a_49 B hB X]
  try rfl

theorem a_96 (B : Bufs) (hB : B.Whole) (X : Ins Ideal) : runA.sl.r_96 (F := Ideal) B hB X = t_96 (inA B hB X) := by
  unfold runA.sl.r_96 t_96
  rw [a_17 B hB X]
  try rfl

theorem a_97 (B : Bufs) (hB : B.Whole) (X : Ins Ideal) : runA.sl.r_97 (F := Ideal) B hB X = t_97 (inA B hB X) := by
  unfold runA.sl.r_97 t_97
  rw [a_17 B hB X, a_50 B hB X]
  try rfl

theorem a_98 (B : Bufs) (hB : B.Whole) (X : Ins Ideal) : runA.sl.r_98 (F := Ideal) B hB X = t_98 (inA B hB X) := by
  unfold runA.sl.r_98 t_98
  rw [a_96 B hB X, a_97 B hB X]
  try rfl

theorem a_99 (B : Bufs) (hB : B.Whole) (X : Ins Ideal) : runA.sl.r_99 (F := Ideal) B hB X = t_99 (inA B hB X) := by
  unfold runA.sl.r_99 t_99
  rw [a_19 B hB X, a_49 B hB X]
  try rfl

theorem a_100 (B : Bufs) (hB : B.Whole) (X : Ins Ideal) : runA.sl.r_100 (F := Ideal) B hB X = t_100 (inA B hB X) := by
  unfold runA.sl.r_100 t_100
  rw [a_17 B hB X, a_50 B hB X]
  try rfl

theorem a_101 (B : Bufs) (hB : B.Whole) (X : Ins Ideal) : runA.sl.r_101 (F := Ideal) B hB X = t_101 (inA B hB X) := by
  unfold runA.sl.r_101 t_101
  rw [a_19 B hB X, a_49 B hB X]
  try rfl

theorem a_102 (B : Bufs) (hB : B.Whole) (X : Ins Ideal) : runA.sl.r_102 (F := Ideal) B hB X = t_102 (inA B hB X) := by
  unfold runA.sl.r_102 t_102
  rw [a_17 B hB X, a_50 B hB X]
  try rfl

theorem a_103 (B : Bufs) (hB : B.Whole) (X : Ins Ideal) : runA.sl.r_103 (F := Ideal) B hB X = t_103 (inA B hB X) := by
  unfold runA.sl.r_103 t_103
  rw [a_19 B hB X, a_49 B hB X]
  try rfl

theorem a_104 (B : Bufs) (hB : B.Whole) (X : Ins Ideal) : runA.sl.r_104 (F := Ideal) B hB X = t_104 (inA B hB X) := by
  unfold runA.sl.r_104 t_104
  rw [a_17 B hB X, a_50 B hB X]
  try rfl

theorem a_105 (B : Bufs) (hB : B.Whole) (X : Ins Ideal) : runA.sl.r_105 (F := Ideal) B hB X = t_105 (inA B hB X) := by
  unfold runA.sl.r_105 t_105
  rw [a_19 B hB X, a_49 B hB X]
  try rfl

theorem a_106 (B : Bufs) (hB : B.Whole) (X : Ins Ideal) : runA.sl.r_106 (F := Ideal) B hB X = t_106 (inA B hB X) := by
  unfold runA.sl.r_106 t_106
  rw [a_17 B hB X, a_50 B hB X]
  try rfl

theorem a_107 (B : Bufs) (hB : B.Whole) (X : Ins Ideal) : runA.sl.r_107 (F := Ideal) B hB X = t_107 (inA B hB X) := by
  unfold runA.sl.r_107 t_107
  rw [a_19 B hB X, a_49 B hB X]
  try rfl

theorem a_108 (B : Bufs) (hB : B.Whole) (X : Ins Ideal) : runA.sl.r_108 (F := Ideal) B hB X = t_108 (inA B hB X) := by
  unfold runA.sl.r_108 t_108
  rw [a_17 B hB X]
  try rfl

theorem a_109 (B : Bufs) (hB : B.Whole) (X : Ins Ideal) : runA.sl.r_109 (F := Ideal) B hB X = t_109 (inA B hB X) := by
  unfold runA.sl.r_109 t_109
  rw [a_50 B hB X]
  try rfl

theorem a_110 (B : Bufs) (hB : B.Whole) (X : Ins Ideal) : runA.sl.r_110 (F := Ideal) B hB X = t_110 (inA B hB X) := by
  unfold runA.sl.r_110 t_110
  rw [a_108 B hB X, a_109 B hB X]
  try rfl

theorem a_111 (B : Bufs) (hB : B.Whole) (X : Ins Ideal) : runA.sl.r_111 (F := Ideal) B hB X = t_111 (inA B hB X) := by
  unfold runA.sl.r_111 t_111
  rw [a_19 B hB X, a_49 B hB X]
  try rfl

theorem a_112 (B : Bufs) (hB : B.Whole) (X : Ins Ideal) : runA.sl.r_112 (F := Ideal) B hB X = t_112 (inA B hB X) := by
  unfold runA.sl.r_112 t_112
  rw [a_17 B hB X, a_50 B hB X]
  try rfl

theorem a_113 (B : Bufs) (hB : B.Whole) (X : Ins Ideal) : runA.sl.r_113 (F := Ideal) B hB X = t_113 (inA B hB X) := by
  unfold runA.sl.r_113 t_113
  rw [a_19 B hB X, a_49 B hB X]
  try rfl

theorem a_114 (B : Bufs) (hB : B.Whole) (X : Ins Ideal) : runA.sl.r_114 (F := Ideal) B hB X = t_114 (inA B hB X) := by
  unfold runA.sl.r_114 t_114
  rw [a_17 B hB X, a_50 B hB X]
  try rfl

theorem a_115 (B : Bufs) (hB : B.Whole) (X : Ins Ideal) : runA.sl.r_115 (F := Ideal) B hB X = t_115 (inA B hB X) := by
  unfold runA.sl.r_115 t_115
  rw [a_19 B hB X, a_49 B hB X]
  try rfl

theorem a_116 (B : Bufs) (hB : B.Whole) (X : Ins Ideal) : runA.sl.r_116 (F := Ideal) B hB X = t_116 (inA B hB X) := by
  unfold runA.sl.r_116 t_116
  rw [a_17 B hB X, a_50 B hB X]
  try rfl

theorem a_117 (B : Bufs) (hB : B.Whole) (X : Ins Ideal) : runA.sl.r_117 (F := Ideal) B hB X = t_117 (inA B hB X) := by
  unfold runA.sl.r_117 t_117
  rw [a_19 B hB X, a_49 B hB X]
  try rfl

theorem a_118 (B : Bufs) (hB : B.Whole) (X : Ins Ideal) : runA.sl.r_118 (F := Ideal) B hB X = t_118 (inA B hB X) := by
  unfold runA.sl.r_118 t_118
  rw [a_17 B hB X, a_50 B hB X]
  try rfl

theorem a_119 (B : Bufs) (hB : B.Whole) (X : Ins Ideal) : runA.sl.r_119 (F := Ideal) B hB X = t_119 (inA B hB X) := by
  unfold runA.sl.r_119 t_119
  rw [a_19 B hB X]
  try rfl

theorem a_120 (B : Bufs) (hB : B.Whole) (X : Ins Ideal) : runA.sl.r_120 (F := Ideal) B hB X = t_120 (inA B hB X) := by
  unfold runA.sl.r_120 t_120
  rw [a_49 B hB X]
  try rfl

theorem a_121 (B : Bufs) (hB : B.Whole) (X : Ins Ideal) : runA.sl.r_121 (F := Ideal) B hB X = t_121 (inA B hB X) := by
  unfold runA.sl.r_121 t_121
  rw [a_119 B hB X, a_120 B hB X]
  try rfl

theorem a_122 (B : Bufs) (hB : B.Whole) (X : Ins Ideal) : runA.sl.r_122 (F := Ideal) B hB X = t_122 (inA B hB X) := by
  unfold runA.sl.r_122 t_122
  rw [a_17 B hB X, a_50 B hB X]
  try rfl

theorem a_123 (B : Bufs) (hB : B.Whole) (X : Ins Ideal) : runA.sl.r_123 (F := Ideal) B hB X = t_123 (inA B hB X) := by
  unfold runA.sl.r_123 t_123
  rw [a_19 B hB X, a_49 B hB X]
  try rfl

theorem a_124 (B : Bufs) (hB : B.Whole) (X : Ins Ideal) : runA.sl.r_124 (F := Ideal) B hB X = t_124 (inA B hB X) := by
  unfold runA.sl.r_124 t_124
  rw [a_17 B hB X, a_50 B hB X]
  try rfl

theorem a_125 (B : Bufs) (hB : B.Whole) (X : Ins Ideal) : runA.sl.r_125 (F := Ideal) B hB X = t_125 (inA B hB X) := by
  unfold runA.sl.r_125 t_125
  rw [a_19 B hB X, a_49 B hB X]
  try rfl

theorem a_126 (B : Bufs) (hB : B.Whole) (X : Ins Ideal) : runA.sl.r_126 (F := Ideal) B hB X = t_126 (inA B hB X) := by
  unfold runA.sl.r_126 t_126
  rw [a_10 B hB X, a_48 B hB X]
  try rfl

theorem a_127 (B : Bufs) (hB : B.Whole) (X : Ins Ideal) : runA.sl.r_127 (F := Ideal) B hB X = t_127 (inA B hB X) := by
  unfold runA.sl.r_127 t_127
  rw [a_0 B hB X, a_49 B hB X, a_51 B hB X]
  try rfl

theorem a_128 (B : Bufs) (hB : B.Whole) (X : Ins Ideal) : runA.sl.r_128 (F := Ideal) B hB X = t_128 (inA B hB X) := by
  unfold runA.sl.r_128 t_128
  rw [a_0 B hB X, a_20 B hB X, a_49 B hB X, a_52 B hB X, a_53 B hB X]
  try rfl

theorem a_129 (B : Bufs) (hB : B.Whole) (X : Ins Ideal) : runA.sl.r_129 (F := Ideal) B hB X = t_129 (inA B hB X) := by
  unfold runA.sl.r_129 t_129
  rw [a_0 B hB X, a_20 B hB X, a_52 B hB X, a_54 B hB X]
  try rfl

theorem a_130 (B : Bufs) (hB : B.Whole) (X : Ins Ideal) : runA.sl.r_130 (F := Ideal) B hB X = t_130 (inA B hB X) := by
  unfold runA.sl.r_130 t_130
  rw [a_0 B hB X, a_20 B hB X, a_49 B hB X, a_52 B hB X, a_54 B hB X]
  try rfl

theorem a_131 (B : Bufs) (hB : B.Whole) (X : Ins Ideal) : runA.sl.r_131 (F := Ideal) B hB X = t_131 (inA B hB X) := by
  unfold runA.sl.r_131 t_131
  rw [a_20 B hB X, a_58 B hB X, a_60 B hB X, a_62 B hB X, a_64 B hB X, a_67 B hB X, a_69 B hB X, a_129 B hB X]
  try rfl

theorem a_132 (B : Bufs) (hB : B.Whole) (X : Ins Ideal) : runA.sl.r_132 (F := Ideal) B hB X = t_132 (inA B hB X) := by
  unfold runA.sl.r_132 t_132
  rw [a_20 B hB X, a_49 B hB X, a_57 B hB X, a_58 B hB X, a_59 B hB X, a_60 B hB X, a_61 B hB X, a_62 B hB X, a_63 B hB X, a_64 B hB X, a_65 B hB X, a_67 B hB X, a_68 B hB X, a_127 B hB X, a_128 B hB X, a_129 B hB X, a_130 B hB X]
  try rfl

theorem a_133 (B : Bufs) (hB : B.Whole) (X : Ins Ideal) : runA.sl.r_133 (F := Ideal) B hB X = t_133 (inA B hB X) := by
  unfold runA.sl.r_133 t_133
  rw [a_20 B hB X, a_49 B hB X, a_57 B hB X, a_58 B hB X, a_59 B hB X, a_60 B hB X, a_61 B hB X, a_62 B hB X, a_63 B hB X, a_64 B hB X, a_65 B hB X, a_67 B hB X, a_68 B hB X, a_127 B hB X, a_128 B hB X, a_129 B hB X, a_130 B hB X]
  try rfl

theorem a_134 (B : Bufs) (hB : B.Whole) (X : Ins Ideal) : runA.sl.r_134 (F := Ideal) B hB X = t_134 (inA B hB X) := by
  unfold runA.sl.r_134 t_134
  rw [a_126 B hB X, a_132 B hB X, a_133 B hB X]
  try rfl

theorem a_135 (B : Bufs) (hB : B.Whole) (X : Ins Ideal) : runA.sl.r_135 (F := Ideal) B hB X = t_135 (inA B hB X) := by
  unfold runA.sl.r_135 t_135
  rw [a_1 B hB X, a_49 B hB X, a_70 B hB X]
  try rfl

theorem a_136 (B : Bufs) (hB : B.Whole) (X : Ins Ideal) : runA.sl.r_136 (F := Ideal) B hB X = t_136 (inA B hB X) := by
  unfold runA.sl.r_136 t_136
  rw [a_1 B hB X, a_20 B hB X, a_49 B hB X, a_71 B hB X, a_72 B hB X]
  try rfl

theorem a_137 (B : Bufs) (hB : B.Whole) (X : Ins Ideal) : runA.sl.r_137 (F := Ideal) B hB X = t_137 (inA B hB X) := by
  unfold runA.sl.r_137 t_137
  rw [a_1 B hB X, a_20 B hB X, a_49 B hB X, a_71 B hB X, a_73 B hB X, a_74 B hB X]
  try rfl

theorem a_138 (B : Bufs) (hB : B.Whole) (X : Ins Ideal) : runA.sl.r_138 (F := Ideal) B hB X = t_138 (inA B hB X) := by
  unfold runA.sl.r_138 t_138
  rw [a_1 B hB X, a_20 B hB X, a_49 B hB X, a_71 B hB X, a_73 B hB X, a_75 B hB X, a_78 B hB X]
  try rfl

theorem a_139 (B : Bufs) (hB : B.Whole) (X : Ins Ideal) : runA.sl.r_139 (F := Ideal) B hB X = t_139 (inA B hB X) := by
  unfold runA.sl.r_139 t_139
  rw [a_1 B hB X, a_20 B hB X, a_49 B hB X, a_71 B hB X, a_73 B hB X, a_75 B hB X, a_79 B hB X, a_80 B hB X]
  try rfl

theorem a_140 (B : Bufs) (hB : B.Whole) (X : Ins Ideal) : runA.sl.r_140 (F := Ideal) B hB X = t_140 (inA B hB X) := by
  unfold runA.sl.r_140 t_140
  rw [a_1 B hB X, a_20 B hB X, a_71 B hB X, a_73 B hB X, a_75 B hB X, a_79 B hB X, a_81 B hB X]
  try rfl

theorem a_141 (B : Bufs) (hB : B.Whole) (X : Ins Ideal) : runA.sl.r_141 (F := Ideal) B hB X = t_141 (inA B hB X) := by
  unfold runA.sl.r_141 t_141
  rw [a_49 B hB X]
  try rfl

theorem a_142 (B : Bufs) (hB : B.Whole) (X : Ins Ideal) : runA.sl.r_142 (F := Ideal) B hB X = t_142 (inA B hB X) := by
  unfold runA.sl.r_142 t_142
  rw [a_1 B hB X, a_20 B hB X, a_71 B hB X, a_73 B hB X, a_75 B hB X, a_79 B hB X, a_81 B hB X]
  try rfl

theorem a_143 (B : Bufs) (hB : B.Whole) (X : Ins Ideal) : runA.sl.r_143 (F := Ideal) B hB X = t_143 (inA B hB X) := by
  unfold runA.sl.r_143 t_143
  rw [a_20 B hB X, a_83 B hB X, a_85 B hB X, a_87 B hB X, a_140 B hB X]
  try rfl

theorem a_144 (B : Bufs) (hB : B.Whole) (X : Ins Ideal) : runA.sl.r_144 (F := Ideal) B hB X = t_144 (inA B hB X) := by
  unfold runA.sl.r_144 t_144
  rw [a_20 B hB X, a_49 B hB X, a_82 B hB X, a_83 B hB X, a_84 B hB X, a_85 B hB X, a_86 B hB X, a_126 B hB X, a_135 B hB X, a_136 B hB X, a_137 B hB X, a_138 B hB X, a_139 B hB X, a_140 B hB X, a_141 B hB X, a_142 B hB X]
  try rfl

theorem a_145 (B : Bufs) (hB : B.Whole) (X : Ins Ideal) : runA.sl.r_145 (F := Ideal) B hB X = t_145 (inA B hB X) := by
  unfold runA.sl.r_145 t_145
  rw [a_2 B hB X, a_49 B hB X, a_88 B hB X]
  try rfl

theorem a_146 (B : Bufs) (hB : B.Whole) (X : Ins Ideal) : runA.sl.r_146 (F := Ideal) B hB X = t_146 (inA B hB X) := by
  unfold runA.sl.r_146 t_146
  rw [a_2 B hB X, a_20 B hB X, a_89 B hB X]
  try rfl

theorem a_147 (B : Bufs) (hB : B.Whole) (X : Ins Ideal) : runA.sl.r_147 (F := Ideal) B hB X = t_147 (inA B hB X) := by
  unfold runA.sl.r_147 t_147
  rw [a_2 B hB X, a_20 B hB X, a_49 B hB X, a_89 B hB X]
  try rfl

theorem a_148 (B : Bufs) (hB : B.Whole) (X : Ins Ideal) : runA.sl.r_148 (F := Ideal) B hB X = t_148 (inA B hB X) := by
  unfold runA.sl.r_148 t_148
  rw [a_90 B hB X, a_147 B hB X]
  try rfl

theorem a_149 (B : Bufs) (hB : B.Whole) (X : Ins Ideal) : runA.sl.r_149 (F := Ideal) B hB X = t_149 (inA B hB X) := by
  unfold runA.sl.r_149 t_149
  rw [a_20 B hB X, a_49 B hB X, a_91 B hB X, a_92 B hB X, a_146 B hB X]
  try rfl

theorem a_150 (B : Bufs) (hB : B.Whole) (X : Ins Ideal) : runA.sl.r_150 (F := Ideal) B hB X = t_150 (inA B hB X) := by
  unfold runA.sl.r_150 t_150
  rw [a_20 B hB X, a_49 B hB X, a_91 B hB X, a_93 B hB X, a_94 B hB X, a_146 B hB X]
  try rfl

theorem a_151 (B : Bufs) (hB : B.Whole) (X : Ins Ideal) : runA.sl.r_151 (F := Ideal) B hB X = t_151 (inA B hB X) := by
  unfold runA.sl.r_151 t_151
  rw [a_20 B hB X, a_49 B hB X, a_91 B hB X, a_93 B hB X, a_95 B hB X, a_98 B hB X, a_146 B hB X]
  try rfl

theorem a_152 (B : Bufs) (hB : B.Whole) (X : Ins Ideal) : runA.sl.r_152 (F := Ideal) B hB X = t_152 (inA B hB X) := by
  unfold runA.sl.r_152 t_152
  rw [a_20 B hB X, a_49 B hB X, a_91 B hB X, a_93 B hB X, a_95 B hB X, a_99 B hB X, a_100 B hB X, a_146 B hB X]
  try rfl

theorem a_153 (B : Bufs) (hB : B.Whole) (X : Ins Ideal) : runA.sl.r_153 (F := Ideal) B hB X = t_153 (inA B hB X) := by
  unfold runA.sl.r_153 t_153
  rw [a_20 B hB X, a_49 B hB X, a_91 B hB X, a_93 B hB X, a_95 B hB X, a_99 B hB X, a_101 B hB X, a_102 B hB X, a_146 B hB X]
  try rfl

theorem a_154 (B : Bufs) (hB : B.Whole) (X : Ins Ideal) : runA.sl.r_154 (F := Ideal) B hB X = t_154 (inA B hB X) := by
  unfold runA.sl.r_154 t_154
  rw [a_20 B hB X, a_49 B hB X, a_91 B hB X, a_93 B hB X, a_95 B hB X, a_99 B hB X, a_101 B hB X, a_103 B hB X, a_104 B hB X, a_146 B hB X]
  try rfl

theorem a_155 (B : Bufs) (hB : B.Whole) (X : Ins Ideal) : runA.sl.r_155 (F := Ideal) B hB X = t_155 (inA B hB X) := by
  unfold runA.sl.r_155 t_155
  rw [a_20 B hB X, a_91 B hB X, a_93 B hB X, a_95 B hB X, a_99 B hB X, a_101 B hB X, a_103 B hB X, a_105 B hB X, a_146 B hB X]
  try rfl

theorem a_156 (B : Bufs) (hB : B.Whole) (X : Ins Ideal) : runA.sl.r_156 (F := Ideal) B hB X = t_156 (inA B hB X) := by
  unfold runA.sl.r_156 t_156
  rw [a_126 B hB X, a_145 B hB X, a_148 B hB X, a_149 B hB X, a_150 B hB X, a_151 B hB X, a_152 B hB X, a_153 B hB X, a_154 B hB X]
  try rfl

theorem a_157 (B : Bufs) (hB : B.Whole) (X : Ins Ideal) : runA.sl.r_157 (F := Ideal) B hB X = t_157 (inA B hB X) := by
  unfold runA.sl.r_157 t_157
  rw [a_3 B hB X, a_49 B hB X, a_106 B hB X]
  try rfl

theorem a_158 (B : Bufs) (hB : B.Whole) (X : Ins Ideal) : runA.sl.r_158 (F := Ideal) B hB X = t_158 (inA B hB X) := by
  unfold runA.sl.r_158 t_158
  rw [a_3 B hB X, a_20 B hB X, a_49 B hB X, a_107 B hB X, a_110 B hB X]
  try rfl

theorem a_159 (B : Bufs) (hB : B.Whole) (X : Ins Ideal) : runA.sl.r_159 (F := Ideal) B hB X = t_159 (inA B hB X) := by
  unfold runA.sl.r_159 t_159
  rw [a_3 B hB X, a_20 B hB X, a_49 B hB X, a_107 B hB X, a_111 B hB X, a_112 B hB X]
  try rfl

theorem a_160 (B : Bufs) (hB : B.Whole) (X : Ins Ideal) : runA.sl.r_160 (F := Ideal) B hB X = t_160 (inA B hB X) := by
  unfold runA.sl.r_160 t_160
  rw [a_3 B hB X, a_20 B hB X, a_49 B hB X, a_107 B hB X, a_111 B hB X, a_113 B hB X, a_114 B hB X]
  try rfl

theorem a_161 (B : Bufs) (hB : B.Whole) (X : Ins Ideal) : runA.sl.r_161 (F := Ideal) B hB X = t_161 (inA B hB X) := by
  unfold runA.sl.r_161 t_161
  rw [a_3 B hB X, a_20 B hB X, a_107 B hB X, a_111 B hB X, a_113 B hB X, a_115 B hB X]
  try rfl

theorem a_162 (B : Bufs) (hB : B.Whole) (X : Ins Ideal) : runA.sl.r_162 (F := Ideal) B hB X = t_162 (inA B hB X) := by
  unfold runA.sl.r_162 t_162
  rw [a_49 B hB X]
  try rfl

theorem a_163 (B : Bufs) (hB : B.Whole) (X : Ins Ideal) : runA.sl.r_163 (F := Ideal) B hB X = t_163 (inA B hB X) := by
  unfold runA.sl.r_163 t_163
  rw [a_20 B hB X, a_117 B hB X, a_121 B hB X, a_123 B hB X, a_125 B hB X, a_161 B hB X]
  try rfl

theorem a_164 (B : Bufs) (hB : B.Whole) (X : Ins Ideal) : runA.sl.r_164 (F := Ideal) B hB X = t_164 (inA B hB X) := by
  unfold runA.sl.r_164 t_164
  rw [a_20 B hB X, a_49 B hB X, a_116 B hB X, a_117 B hB X, a_118 B hB X, a_121 B hB X, a_122 B hB X, a_123 B hB X, a_124 B hB X, a_126 B hB X, a_134 B hB X, a_144 B hB X, a_156 B hB X, a_157 B hB X, a_158 B hB X, a_159 B hB X, a_160 B hB X, a_161 B hB X, a_162 B hB X]
  try rfl

end Cert.KernelIdeal.Tile

end
-- ==== Proof.MixEqB.lean ====
module

public import proofs.«01_k».proof.Proof.MixTile
public import proofs.«01_k».proof.Proof.MixFrame

/-! What the two runs of a step leave, as the tile's result and states at what the step loads. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem

/-- What a later step loads. -/
def inB (B : Bufs) (hB : B.Whole) (X : Ins Ideal) (xs0 : Vec Ideal S4x128x256 .f32) : In where
  st0 := B.b27.view.readAt (Elt Ideal) (Rect.unit (s := S4x128x256) ![0, 0, 0] S1x128x256.size inb_S4x128x256_S1x128x256_0_0_0).toLoadRect (hB.h27.unread xs0)
  st1 := B.b27.view.readAt (Elt Ideal) (Rect.unit (s := S4x128x256) ![1, 0, 0] S1x128x256.size inb_S4x128x256_S1x128x256_1_0_0).toLoadRect (hB.h27.unread xs0)
  st2 := B.b27.view.readAt (Elt Ideal) (Rect.unit (s := S4x128x256) ![2, 0, 0] S1x128x256.size inb_S4x128x256_S1x128x256_2_0_0).toLoadRect (hB.h27.unread xs0)
  st3 := B.b27.view.readAt (Elt Ideal) (Rect.unit (s := S4x128x256) ![3, 0, 0] S1x128x256.size inb_S4x128x256_S1x128x256_3_0_0).toLoadRect (hB.h27.unread xs0)
  x := B.b0.view.readAt (Elt Ideal) (Rect.unit (s := S1x512x1024) ![0, 0, 0] S1x512x1024.size inb_S1x512x1024_S1x512x1024_0_0_0).toLoadRect (hB.h0.unread X.x0)
  n1w := B.b1.view.readAt (Elt Ideal) (Rect.unit (s := S1x1024) ![0, 0] S1x1024.size inb_S1x1024_S1x1024_0_0).toLoadRect (hB.h1.unread X.x1)
  wqkl := B.b4.view.readAt (Elt Ideal) (Rect.unit (s := S1024x1152) ![0, 0] S1024x1152.size inb_S1024x1152_S1024x1152_0_0).toLoadRect (hB.h4.unread X.x4)
  bqkl := B.b5.view.readAt (Elt Ideal) (Rect.unit (s := S1x1152) ![0, 0] S1x1152.size inb_S1x1152_S1x1152_0_0).toLoadRect (hB.h5.unread X.x5)
  wgk2 := B.b14.view.readAt (Elt Ideal) (Rect.unit (s := S128x512) ![0, 0] S128x512.size inb_S128x512_S128x512_0_0).toLoadRect (hB.h14.unread X.x14)
  bgk := B.b15.view.readAt (Elt Ideal) (Rect.unit (s := S1x512) ![0, 0] S1x512.size inb_S1x512_S1x512_0_0).toLoadRect (hB.h15.unread X.x15)
  wuv := B.b2.view.readAt (Elt Ideal) (Rect.unit (s := S1024x2176) ![0, 0] S1024x2048.size inb_S1024x2176_S1024x2048_0_0).toLoadRect (hB.h2.unread X.x2)
  wvr := B.b6.view.readAt (Elt Ideal) (Rect.unit (s := S1024x2176) ![0, 0] S1024x2048.size inb_S1024x2176_S1024x2048_0_0).toLoadRect (hB.h6.unread X.x6)
  wgt := B.b8.view.readAt (Elt Ideal) (Rect.unit (s := S1024x2176) ![0, 0] S1024x2048.size inb_S1024x2176_S1024x2048_0_0).toLoadRect (hB.h8.unread X.x8)
  buv := B.b3.view.readAt (Elt Ideal) (Rect.unit (s := S1x2048) ![0, 0] S1x2048.size inb_S1x2048_S1x2048_0_0).toLoadRect (hB.h3.unread X.x3)
  lnw := B.b10.view.readAt (Elt Ideal) (Rect.unit (s := S1x1024) ![0, 0] S1x1024.size inb_S1x1024_S1x1024_0_0).toLoadRect (hB.h10.unread X.x10)
  lnb := B.b11.view.readAt (Elt Ideal) (Rect.unit (s := S1x1024) ![0, 0] S1x1024.size inb_S1x1024_S1x1024_0_0).toLoadRect (hB.h11.unread X.x11)
  sw0 := B.b12.view.readAt (Elt Ideal) (Rect.unit (s := S8x128x128) ![0, 0, 0] S1x128x128.size inb_S8x128x128_S1x128x128_0_0_0).toLoadRect (hB.h12.unread X.x12)
  sb0 := B.b13.view.readAt (Elt Ideal) (Rect.unit (s := S128x1024) ![0, 0] S128x128.size inb_S128x1024_S128x128_0_0).toLoadRect (hB.h13.unread X.x13)
  sw1 := B.b12.view.readAt (Elt Ideal) (Rect.unit (s := S8x128x128) ![1, 0, 0] S1x128x128.size inb_S8x128x128_S1x128x128_1_0_0).toLoadRect (hB.h12.unread X.x12)
  sb1 := B.b13.view.readAt (Elt Ideal) (Rect.unit (s := S128x1024) ![0, 128] S128x128.size inb_S128x1024_S128x128_0_128).toLoadRect (hB.h13.unread X.x13)
  sw2 := B.b12.view.readAt (Elt Ideal) (Rect.unit (s := S8x128x128) ![2, 0, 0] S1x128x128.size inb_S8x128x128_S1x128x128_2_0_0).toLoadRect (hB.h12.unread X.x12)
  sb2 := B.b13.view.readAt (Elt Ideal) (Rect.unit (s := S128x1024) ![0, 256] S128x128.size inb_S128x1024_S128x128_0_256).toLoadRect (hB.h13.unread X.x13)
  sw3 := B.b12.view.readAt (Elt Ideal) (Rect.unit (s := S8x128x128) ![3, 0, 0] S1x128x128.size inb_S8x128x128_S1x128x128_3_0_0).toLoadRect (hB.h12.unread X.x12)
  sb3 := B.b13.view.readAt (Elt Ideal) (Rect.unit (s := S128x1024) ![0, 384] S128x128.size inb_S128x1024_S128x128_0_384).toLoadRect (hB.h13.unread X.x13)
  sw4 := B.b12.view.readAt (Elt Ideal) (Rect.unit (s := S8x128x128) ![4, 0, 0] S1x128x128.size inb_S8x128x128_S1x128x128_4_0_0).toLoadRect (hB.h12.unread X.x12)
  sb4 := B.b13.view.readAt (Elt Ideal) (Rect.unit (s := S128x1024) ![0, 512] S128x128.size inb_S128x1024_S128x128_0_512).toLoadRect (hB.h13.unread X.x13)
  sw5 := B.b12.view.readAt (Elt Ideal) (Rect.unit (s := S8x128x128) ![5, 0, 0] S1x128x128.size inb_S8x128x128_S1x128x128_5_0_0).toLoadRect (hB.h12.unread X.x12)
  sb5 := B.b13.view.readAt (Elt Ideal) (Rect.unit (s := S128x1024) ![0, 640] S128x128.size inb_S128x1024_S128x128_0_640).toLoadRect (hB.h13.unread X.x13)
  sw6 := B.b12.view.readAt (Elt Ideal) (Rect.unit (s := S8x128x128) ![6, 0, 0] S1x128x128.size inb_S8x128x128_S1x128x128_6_0_0).toLoadRect (hB.h12.unread X.x12)
  sb6 := B.b13.view.readAt (Elt Ideal) (Rect.unit (s := S128x1024) ![0, 768] S128x128.size inb_S128x1024_S128x128_0_768).toLoadRect (hB.h13.unread X.x13)
  sw7 := B.b12.view.readAt (Elt Ideal) (Rect.unit (s := S8x128x128) ![7, 0, 0] S1x128x128.size inb_S8x128x128_S1x128x128_7_0_0).toLoadRect (hB.h12.unread X.x12)
  sb7 := B.b13.view.readAt (Elt Ideal) (Rect.unit (s := S128x1024) ![0, 896] S128x128.size inb_S128x1024_S128x128_0_896).toLoadRect (hB.h13.unread X.x13)
  wa := B.b17.view.readAt (Elt Ideal) (Rect.unit (s := S1024x1152) ![0, 0] S1024x1024.size inb_S1024x1152_S1024x1024_0_0).toLoadRect (hB.h17.unread X.x17)
  bvr := B.b7.view.readAt (Elt Ideal) (Rect.unit (s := S1x2048) ![0, 0] S1x2048.size inb_S1x2048_S1x2048_0_0).toLoadRect (hB.h7.unread X.x7)
  gnw := B.b16.view.readAt (Elt Ideal) (Rect.unit (s := S1x256) ![0, 0] S1x256.size inb_S1x256_S1x256_0_0).toLoadRect (hB.h16.unread X.x16)
  bgt := B.b9.view.readAt (Elt Ideal) (Rect.unit (s := S1x2048) ![0, 0] S1x2048.size inb_S1x2048_S1x2048_0_0).toLoadRect (hB.h9.unread X.x9)
  wb := B.b18.view.readAt (Elt Ideal) (Rect.unit (s := S1024x1152) ![0, 0] S1024x1024.size inb_S1024x1152_S1024x1024_0_0).toLoadRect (hB.h18.unread X.x18)
  wo := B.b19.view.readAt (Elt Ideal) (Rect.unit (s := S1024x1152) ![0, 0] S1024x1024.size inb_S1024x1152_S1024x1024_0_0).toLoadRect (hB.h19.unread X.x19)

theorem b_0 (B : Bufs) (hB : B.Whole) (X : Ins Ideal) (xs0 : Vec Ideal S4x128x256 .f32) : runB.sl.r (F := Ideal) B hB xs0 = t_0 (inB B hB X xs0) := by
  unfold runB.sl.r t_0
  try rfl

theorem b_1 (B : Bufs) (hB : B.Whole) (X : Ins Ideal) (xs0 : Vec Ideal S4x128x256 .f32) : runB.sl.r_1 (F := Ideal) B hB xs0 = t_1 (inB B hB X xs0) := by
  unfold runB.sl.r_1 t_1
  try rfl

theorem b_2 (B : Bufs) (hB : B.Whole) (X : Ins Ideal) (xs0 : Vec Ideal S4x128x256 .f32) : runB.sl.r_2 (F := Ideal) B hB xs0 = t_2 (inB B hB X xs0) := by
  unfold runB.sl.r_2 t_2
  try rfl

theorem b_3 (B : Bufs) (hB : B.Whole) (X : Ins Ideal) (xs0 : Vec Ideal S4x128x256 .f32) : runB.sl.r_3 (F := Ideal) B hB xs0 = t_3 (inB B hB X xs0) := by
  unfold runB.sl.r_3 t_3
  try rfl

theorem b_4 (B : Bufs) (hB : B.Whole) (X : Ins Ideal) (xs0 : Vec Ideal S4x128x256 .f32) : runB.sl.r_4 (F := Ideal) B hB X = t_4 (inB B hB X xs0) := by
  unfold runB.sl.r_4 t_4
  try rfl

theorem b_5 (B : Bufs) (hB : B.Whole) (X : Ins Ideal) (xs0 : Vec Ideal S4x128x256 .f32) : runB.sl.r_5 (F := Ideal) B hB X = t_5 (inB B hB X xs0) := by
  unfold runB.sl.r_5 t_5
  rw [b_4 B hB X xs0]
  try rfl

theorem b_6 (B : Bufs) (hB : B.Whole) (X : Ins Ideal) (xs0 : Vec Ideal S4x128x256 .f32) : runB.sl.r_6 (F := Ideal) B hB X = t_6 (inB B hB X xs0) := by
  unfold runB.sl.r_6 t_6
  rw [b_4 B hB X xs0]
  try rfl

theorem b_7 (B : Bufs) (hB : B.Whole) (X : Ins Ideal) (xs0 : Vec Ideal S4x128x256 .f32) : runB.sl.r_7 (F := Ideal) B hB X = t_7 (inB B hB X xs0) := by
  unfold runB.sl.r_7 t_7
  try rfl

theorem b_8 (B : Bufs) (hB : B.Whole) (X : Ins Ideal) (xs0 : Vec Ideal S4x128x256 .f32) : runB.sl.r_8 (F := Ideal) B hB X = t_8 (inB B hB X xs0) := by
  unfold runB.sl.r_8 t_8
  rw [b_4 B hB X xs0]
  try rfl

theorem b_9 (B : Bufs) (hB : B.Whole) (X : Ins Ideal) (xs0 : Vec Ideal S4x128x256 .f32) : runB.sl.r_9 (F := Ideal) B hB X = t_9 (inB B hB X xs0) := by
  unfold runB.sl.r_9 t_9
  rw [b_4 B hB X xs0]
  try rfl

theorem b_10 (B : Bufs) (hB : B.Whole) (X : Ins Ideal) (xs0 : Vec Ideal S4x128x256 .f32) : runB.sl.r_10 (F := Ideal) B hB X = t_10 (inB B hB X xs0) := by
  unfold runB.sl.r_10 t_10
  rw [b_4 B hB X xs0]
  try rfl

theorem b_11 (B : Bufs) (hB : B.Whole) (X : Ins Ideal) (xs0 : Vec Ideal S4x128x256 .f32) : runB.sl.r_11 (F := Ideal) B hB X = t_11 (inB B hB X xs0) := by
  unfold runB.sl.r_11 t_11
  rw [b_5 B hB X xs0]
  try rfl

theorem b_12 (B : Bufs) (hB : B.Whole) (X : Ins Ideal) (xs0 : Vec Ideal S4x128x256 .f32) : runB.sl.r_12 (F := Ideal) B hB X = t_12 (inB B hB X xs0) := by
  unfold runB.sl.r_12 t_12
  rw [b_8 B hB X xs0]
  try rfl

theorem b_13 (B : Bufs) (hB : B.Whole) (X : Ins Ideal) (xs0 : Vec Ideal S4x128x256 .f32) : runB.sl.r_13 (F := Ideal) B hB X = t_13 (inB B hB X xs0) := by
  unfold runB.sl.r_13 t_13
  rw [b_12 B hB X xs0]
  try rfl

theorem b_14 (B : Bufs) (hB : B.Whole) (X : Ins Ideal) (xs0 : Vec Ideal S4x128x256 .f32) : runB.sl.r_14 (F := Ideal) B hB X = t_14 (inB B hB X xs0) := by
  unfold runB.sl.r_14 t_14
  rw [b_12 B hB X xs0]
  try rfl

theorem b_15 (B : Bufs) (hB : B.Whole) (X : Ins Ideal) (xs0 : Vec Ideal S4x128x256 .f32) : runB.sl.r_15 (F := Ideal) B hB X = t_15 (inB B hB X xs0) := by
  unfold runB.sl.r_15 t_15
  rw [b_12 B hB X xs0]
  try rfl

theorem b_16 (B : Bufs) (hB : B.Whole) (X : Ins Ideal) (xs0 : Vec Ideal S4x128x256 .f32) : runB.sl.r_16 (F := Ideal) B hB X = t_16 (inB B hB X xs0) := by
  unfold runB.sl.r_16 t_16
  rw [b_12 B hB X xs0]
  try rfl

theorem b_17 (B : Bufs) (hB : B.Whole) (X : Ins Ideal) (xs0 : Vec Ideal S4x128x256 .f32) : runB.sl.r_17 (F := Ideal) B hB X = t_17 (inB B hB X xs0) := by
  unfold runB.sl.r_17 t_17
  rw [b_6 B hB X xs0, b_7 B hB X xs0, b_13 B hB X xs0, b_14 B hB X xs0, b_15 B hB X xs0, b_16 B hB X xs0]
  try rfl

theorem b_18 (B : Bufs) (hB : B.Whole) (X : Ins Ideal) (xs0 : Vec Ideal S4x128x256 .f32) : runB.sl.r_18 (F := Ideal) B hB X = t_18 (inB B hB X xs0) := by
  unfold runB.sl.r_18 t_18
  rw [b_6 B hB X xs0, b_7 B hB X xs0, b_13 B hB X xs0, b_14 B hB X xs0, b_15 B hB X xs0, b_16 B hB X xs0]
  try rfl

theorem b_19 (B : Bufs) (hB : B.Whole) (X : Ins Ideal) (xs0 : Vec Ideal S4x128x256 .f32) : runB.sl.r_19 (F := Ideal) B hB X = t_19 (inB B hB X xs0) := by
  unfold runB.sl.r_19 t_19
  rw [b_6 B hB X xs0, b_7 B hB X xs0, b_13 B hB X xs0, b_14 B hB X xs0, b_15 B hB X xs0, b_16 B hB X xs0]
  try rfl

theorem b_20 (B : Bufs) (hB : B.Whole) (X : Ins Ideal) (xs0 : Vec Ideal S4x128x256 .f32) : runB.sl.r_20 (F := Ideal) B hB X = t_20 (inB B hB X xs0) := by
  unfold runB.sl.r_20 t_20
  rw [b_13 B hB X xs0, b_14 B hB X xs0, b_15 B hB X xs0, b_16 B hB X xs0]
  try rfl

theorem b_21 (B : Bufs) (hB : B.Whole) (X : Ins Ideal) (xs0 : Vec Ideal S4x128x256 .f32) : runB.sl.r_21 (F := Ideal) B hB X = t_21 (inB B hB X xs0) := by
  unfold runB.sl.r_21 t_21
  try rfl

theorem b_22 (B : Bufs) (hB : B.Whole) (X : Ins Ideal) (xs0 : Vec Ideal S4x128x256 .f32) : runB.sl.r_22 (F := Ideal) B hB X = t_22 (inB B hB X xs0) := by
  unfold runB.sl.r_22 t_22
  rw [b_9 B hB X xs0]
  try rfl

theorem b_23 (B : Bufs) (hB : B.Whole) (X : Ins Ideal) (xs0 : Vec Ideal S4x128x256 .f32) : runB.sl.r_23 (F := Ideal) B hB X = t_23 (inB B hB X xs0) := by
  unfold runB.sl.r_23 t_23
  rw [b_21 B hB X xs0, b_22 B hB X xs0]
  try rfl

theorem b_24 (B : Bufs) (hB : B.Whole) (X : Ins Ideal) (xs0 : Vec Ideal S4x128x256 .f32) : runB.sl.r_24 (F := Ideal) B hB X = t_24 (inB B hB X xs0) := by
  unfold runB.sl.r_24 t_24
  rw [b_9 B hB X xs0, b_21 B hB X xs0]
  try rfl

theorem b_25 (B : Bufs) (hB : B.Whole) (X : Ins Ideal) (xs0 : Vec Ideal S4x128x256 .f32) : runB.sl.r_25 (F := Ideal) B hB X = t_25 (inB B hB X xs0) := by
  unfold runB.sl.r_25 t_25
  rw [b_24 B hB X xs0]
  try rfl

theorem b_26 (B : Bufs) (hB : B.Whole) (X : Ins Ideal) (xs0 : Vec Ideal S4x128x256 .f32) : runB.sl.r_26 (F := Ideal) B hB X = t_26 (inB B hB X xs0) := by
  unfold runB.sl.r_26 t_26
  rw [b_23 B hB X xs0, b_24 B hB X xs0]
  try rfl

theorem b_27 (B : Bufs) (hB : B.Whole) (X : Ins Ideal) (xs0 : Vec Ideal S4x128x256 .f32) : runB.sl.r_27 (F := Ideal) B hB X = t_27 (inB B hB X xs0) := by
  unfold runB.sl.r_27 t_27
  rw [b_23 B hB X xs0, b_25 B hB X xs0]
  try rfl

theorem b_28 (B : Bufs) (hB : B.Whole) (X : Ins Ideal) (xs0 : Vec Ideal S4x128x256 .f32) : runB.sl.r_28 (F := Ideal) B hB X = t_28 (inB B hB X xs0) := by
  unfold runB.sl.r_28 t_28
  rw [b_25 B hB X xs0]
  try rfl

theorem b_29 (B : Bufs) (hB : B.Whole) (X : Ins Ideal) (xs0 : Vec Ideal S4x128x256 .f32) : runB.sl.r_29 (F := Ideal) B hB X = t_29 (inB B hB X xs0) := by
  unfold runB.sl.r_29 t_29
  rw [b_23 B hB X xs0, b_28 B hB X xs0]
  try rfl

theorem b_30 (B : Bufs) (hB : B.Whole) (X : Ins Ideal) (xs0 : Vec Ideal S4x128x256 .f32) : runB.sl.r_30 (F := Ideal) B hB X = t_30 (inB B hB X xs0) := by
  unfold runB.sl.r_30 t_30
  rw [b_25 B hB X xs0]
  try rfl

theorem b_31 (B : Bufs) (hB : B.Whole) (X : Ins Ideal) (xs0 : Vec Ideal S4x128x256 .f32) : runB.sl.r_31 (F := Ideal) B hB X = t_31 (inB B hB X xs0) := by
  unfold runB.sl.r_31 t_31
  rw [b_25 B hB X xs0]
  try rfl

theorem b_32 (B : Bufs) (hB : B.Whole) (X : Ins Ideal) (xs0 : Vec Ideal S4x128x256 .f32) : runB.sl.r_32 (F := Ideal) B hB X = t_32 (inB B hB X xs0) := by
  unfold runB.sl.r_32 t_32
  rw [b_25 B hB X xs0]
  try rfl

theorem b_33 (B : Bufs) (hB : B.Whole) (X : Ins Ideal) (xs0 : Vec Ideal S4x128x256 .f32) : runB.sl.r_33 (F := Ideal) B hB X = t_33 (inB B hB X xs0) := by
  unfold runB.sl.r_33 t_33
  rw [b_25 B hB X xs0]
  try rfl

theorem b_34 (B : Bufs) (hB : B.Whole) (X : Ins Ideal) (xs0 : Vec Ideal S4x128x256 .f32) : runB.sl.r_34 (F := Ideal) B hB X = t_34 (inB B hB X xs0) := by
  unfold runB.sl.r_34 t_34
  try rfl

theorem b_35 (B : Bufs) (hB : B.Whole) (X : Ins Ideal) (xs0 : Vec Ideal S4x128x256 .f32) : runB.sl.r_35 (F := Ideal) B hB X = t_35 (inB B hB X xs0) := by
  unfold runB.sl.r_35 t_35
  rw [b_23 B hB X xs0, b_30 B hB X xs0, b_31 B hB X xs0, b_32 B hB X xs0, b_33 B hB X xs0, b_34 B hB X xs0]
  try rfl

theorem b_36 (B : Bufs) (hB : B.Whole) (X : Ins Ideal) (xs0 : Vec Ideal S4x128x256 .f32) : runB.sl.r_36 (F := Ideal) B hB X = t_36 (inB B hB X xs0) := by
  unfold runB.sl.r_36 t_36
  rw [b_23 B hB X xs0, b_25 B hB X xs0]
  try rfl

theorem b_37 (B : Bufs) (hB : B.Whole) (X : Ins Ideal) (xs0 : Vec Ideal S4x128x256 .f32) : runB.sl.r_37 (F := Ideal) B hB X = t_37 (inB B hB X xs0) := by
  unfold runB.sl.r_37 t_37
  try rfl

theorem b_38 (B : Bufs) (hB : B.Whole) (X : Ins Ideal) (xs0 : Vec Ideal S4x128x256 .f32) : runB.sl.r_38 (F := Ideal) B hB X = t_38 (inB B hB X xs0) := by
  unfold runB.sl.r_38 t_38
  rw [b_23 B hB X xs0, b_25 B hB X xs0, b_37 B hB X xs0]
  try rfl

theorem b_39 (B : Bufs) (hB : B.Whole) (X : Ins Ideal) (xs0 : Vec Ideal S4x128x256 .f32) : runB.sl.r_39 (F := Ideal) B hB X = t_39 (inB B hB X xs0) := by
  unfold runB.sl.r_39 t_39
  rw [b_25 B hB X xs0]
  try rfl

theorem b_40 (B : Bufs) (hB : B.Whole) (X : Ins Ideal) (xs0 : Vec Ideal S4x128x256 .f32) : runB.sl.r_40 (F := Ideal) B hB X = t_40 (inB B hB X xs0) := by
  unfold runB.sl.r_40 t_40
  rw [b_25 B hB X xs0]
  try rfl

theorem b_41 (B : Bufs) (hB : B.Whole) (X : Ins Ideal) (xs0 : Vec Ideal S4x128x256 .f32) : runB.sl.r_41 (F := Ideal) B hB X = t_41 (inB B hB X xs0) := by
  unfold runB.sl.r_41 t_41
  try rfl

theorem b_42 (B : Bufs) (hB : B.Whole) (X : Ins Ideal) (xs0 : Vec Ideal S4x128x256 .f32) : runB.sl.r_42 (F := Ideal) B hB X = t_42 (inB B hB X xs0) := by
  unfold runB.sl.r_42 t_42
  rw [b_23 B hB X xs0, b_39 B hB X xs0, b_40 B hB X xs0, b_41 B hB X xs0]
  try rfl

theorem b_43 (B : Bufs) (hB : B.Whole) (X : Ins Ideal) (xs0 : Vec Ideal S4x128x256 .f32) : runB.sl.r_43 (F := Ideal) B hB X = t_43 (inB B hB X xs0) := by
  unfold runB.sl.r_43 t_43
  rw [b_25 B hB X xs0]
  try rfl

theorem b_44 (B : Bufs) (hB : B.Whole) (X : Ins Ideal) (xs0 : Vec Ideal S4x128x256 .f32) : runB.sl.r_44 (F := Ideal) B hB X = t_44 (inB B hB X xs0) := by
  unfold runB.sl.r_44 t_44
  rw [b_25 B hB X xs0]
  try rfl

theorem b_45 (B : Bufs) (hB : B.Whole) (X : Ins Ideal) (xs0 : Vec Ideal S4x128x256 .f32) : runB.sl.r_45 (F := Ideal) B hB X = t_45 (inB B hB X xs0) := by
  unfold runB.sl.r_45 t_45
  rw [b_25 B hB X xs0]
  try rfl

theorem b_46 (B : Bufs) (hB : B.Whole) (X : Ins Ideal) (xs0 : Vec Ideal S4x128x256 .f32) : runB.sl.r_46 (F := Ideal) B hB X = t_46 (inB B hB X xs0) := by
  unfold runB.sl.r_46 t_46
  rw [b_25 B hB X xs0]
  try rfl

theorem b_47 (B : Bufs) (hB : B.Whole) (X : Ins Ideal) (xs0 : Vec Ideal S4x128x256 .f32) : runB.sl.r_47 (F := Ideal) B hB X = t_47 (inB B hB X xs0) := by
  unfold runB.sl.r_47 t_47
  rw [b_23 B hB X xs0, b_26 B hB X xs0, b_27 B hB X xs0, b_29 B hB X xs0, b_35 B hB X xs0, b_36 B hB X xs0, b_38 B hB X xs0, b_42 B hB X xs0, b_43 B hB X xs0, b_44 B hB X xs0, b_45 B hB X xs0, b_46 B hB X xs0]
  try rfl

theorem b_48 (B : Bufs) (hB : B.Whole) (X : Ins Ideal) (xs0 : Vec Ideal S4x128x256 .f32) : runB.sl.r_48 (F := Ideal) B hB X = t_48 (inB B hB X xs0) := by
  unfold runB.sl.r_48 t_48
  try rfl

theorem b_49 (B : Bufs) (hB : B.Whole) (X : Ins Ideal) (xs0 : Vec Ideal S4x128x256 .f32) : runB.sl.r_49 (F := Ideal) B hB X = t_49 (inB B hB X xs0) := by
  unfold runB.sl.r_49 t_49
  rw [b_10 B hB X xs0]
  try rfl

theorem b_50 (B : Bufs) (hB : B.Whole) (X : Ins Ideal) (xs0 : Vec Ideal S4x128x256 .f32) : runB.sl.r_50 (F := Ideal) B hB X = t_50 (inB B hB X xs0) := by
  unfold runB.sl.r_50 t_50
  rw [b_18 B hB X xs0]
  try rfl

theorem b_51 (B : Bufs) (hB : B.Whole) (X : Ins Ideal) (xs0 : Vec Ideal S4x128x256 .f32) : runB.sl.r_51 (F := Ideal) B hB X = t_51 (inB B hB X xs0) := by
  unfold runB.sl.r_51 t_51
  rw [b_17 B hB X xs0, b_18 B hB X xs0]
  try rfl

theorem b_52 (B : Bufs) (hB : B.Whole) (X : Ins Ideal) (xs0 : Vec Ideal S4x128x256 .f32) : runB.sl.r_52 (F := Ideal) B hB X = t_52 (inB B hB X xs0) := by
  unfold runB.sl.r_52 t_52
  rw [b_10 B hB X xs0, b_19 B hB X xs0]
  try rfl

theorem b_53 (B : Bufs) (hB : B.Whole) (X : Ins Ideal) (xs0 : Vec Ideal S4x128x256 .f32) : runB.sl.r_53 (F := Ideal) B hB X = t_53 (inB B hB X xs0) := by
  unfold runB.sl.r_53 t_53
  rw [b_17 B hB X xs0, b_18 B hB X xs0]
  try rfl

theorem b_54 (B : Bufs) (hB : B.Whole) (X : Ins Ideal) (xs0 : Vec Ideal S4x128x256 .f32) : runB.sl.r_54 (F := Ideal) B hB X = t_54 (inB B hB X xs0) := by
  unfold runB.sl.r_54 t_54
  rw [b_10 B hB X xs0, b_19 B hB X xs0]
  try rfl

theorem b_55 (B : Bufs) (hB : B.Whole) (X : Ins Ideal) (xs0 : Vec Ideal S4x128x256 .f32) : runB.sl.r_55 (F := Ideal) B hB X = t_55 (inB B hB X xs0) := by
  unfold runB.sl.r_55 t_55
  rw [b_17 B hB X xs0]
  try rfl

theorem b_56 (B : Bufs) (hB : B.Whole) (X : Ins Ideal) (xs0 : Vec Ideal S4x128x256 .f32) : runB.sl.r_56 (F := Ideal) B hB X = t_56 (inB B hB X xs0) := by
  unfold runB.sl.r_56 t_56
  rw [b_18 B hB X xs0]
  try rfl

theorem b_57 (B : Bufs) (hB : B.Whole) (X : Ins Ideal) (xs0 : Vec Ideal S4x128x256 .f32) : runB.sl.r_57 (F := Ideal) B hB X = t_57 (inB B hB X xs0) := by
  unfold runB.sl.r_57 t_57
  rw [b_55 B hB X xs0, b_56 B hB X xs0]
  try rfl

theorem b_58 (B : Bufs) (hB : B.Whole) (X : Ins Ideal) (xs0 : Vec Ideal S4x128x256 .f32) : runB.sl.r_58 (F := Ideal) B hB X = t_58 (inB B hB X xs0) := by
  unfold runB.sl.r_58 t_58
  rw [b_19 B hB X xs0, b_49 B hB X xs0]
  try rfl

theorem b_59 (B : Bufs) (hB : B.Whole) (X : Ins Ideal) (xs0 : Vec Ideal S4x128x256 .f32) : runB.sl.r_59 (F := Ideal) B hB X = t_59 (inB B hB X xs0) := by
  unfold runB.sl.r_59 t_59
  rw [b_17 B hB X xs0, b_50 B hB X xs0]
  try rfl

theorem b_60 (B : Bufs) (hB : B.Whole) (X : Ins Ideal) (xs0 : Vec Ideal S4x128x256 .f32) : runB.sl.r_60 (F := Ideal) B hB X = t_60 (inB B hB X xs0) := by
  unfold runB.sl.r_60 t_60
  rw [b_19 B hB X xs0, b_49 B hB X xs0]
  try rfl

theorem b_61 (B : Bufs) (hB : B.Whole) (X : Ins Ideal) (xs0 : Vec Ideal S4x128x256 .f32) : runB.sl.r_61 (F := Ideal) B hB X = t_61 (inB B hB X xs0) := by
  unfold runB.sl.r_61 t_61
  rw [b_17 B hB X xs0, b_50 B hB X xs0]
  try rfl

theorem b_62 (B : Bufs) (hB : B.Whole) (X : Ins Ideal) (xs0 : Vec Ideal S4x128x256 .f32) : runB.sl.r_62 (F := Ideal) B hB X = t_62 (inB B hB X xs0) := by
  unfold runB.sl.r_62 t_62
  rw [b_19 B hB X xs0, b_49 B hB X xs0]
  try rfl

theorem b_63 (B : Bufs) (hB : B.Whole) (X : Ins Ideal) (xs0 : Vec Ideal S4x128x256 .f32) : runB.sl.r_63 (F := Ideal) B hB X = t_63 (inB B hB X xs0) := by
  unfold runB.sl.r_63 t_63
  rw [b_17 B hB X xs0, b_50 B hB X xs0]
  try rfl

theorem b_64 (B : Bufs) (hB : B.Whole) (X : Ins Ideal) (xs0 : Vec Ideal S4x128x256 .f32) : runB.sl.r_64 (F := Ideal) B hB X = t_64 (inB B hB X xs0) := by
  unfold runB.sl.r_64 t_64
  rw [b_19 B hB X xs0, b_49 B hB X xs0]
  try rfl

theorem b_65 (B : Bufs) (hB : B.Whole) (X : Ins Ideal) (xs0 : Vec Ideal S4x128x256 .f32) : runB.sl.r_65 (F := Ideal) B hB X = t_65 (inB B hB X xs0) := by
  unfold runB.sl.r_65 t_65
  rw [b_17 B hB X xs0, b_50 B hB X xs0]
  try rfl

theorem b_66 (B : Bufs) (hB : B.Whole) (X : Ins Ideal) (xs0 : Vec Ideal S4x128x256 .f32) : runB.sl.r_66 (F := Ideal) B hB X = t_66 (inB B hB X xs0) := by
  unfold runB.sl.r_66 t_66
  rw [b_19 B hB X xs0]
  try rfl

theorem b_67 (B : Bufs) (hB : B.Whole) (X : Ins Ideal) (xs0 : Vec Ideal S4x128x256 .f32) : runB.sl.r_67 (F := Ideal) B hB X = t_67 (inB B hB X xs0) := by
  unfold runB.sl.r_67 t_67
  rw [b_49 B hB X xs0, b_66 B hB X xs0]
  try rfl

theorem b_68 (B : Bufs) (hB : B.Whole) (X : Ins Ideal) (xs0 : Vec Ideal S4x128x256 .f32) : runB.sl.r_68 (F := Ideal) B hB X = t_68 (inB B hB X xs0) := by
  unfold runB.sl.r_68 t_68
  rw [b_17 B hB X xs0, b_50 B hB X xs0]
  try rfl

theorem b_69 (B : Bufs) (hB : B.Whole) (X : Ins Ideal) (xs0 : Vec Ideal S4x128x256 .f32) : runB.sl.r_69 (F := Ideal) B hB X = t_69 (inB B hB X xs0) := by
  unfold runB.sl.r_69 t_69
  rw [b_19 B hB X xs0, b_49 B hB X xs0]
  try rfl

theorem b_70 (B : Bufs) (hB : B.Whole) (X : Ins Ideal) (xs0 : Vec Ideal S4x128x256 .f32) : runB.sl.r_70 (F := Ideal) B hB X = t_70 (inB B hB X xs0) := by
  unfold runB.sl.r_70 t_70
  rw [b_17 B hB X xs0, b_50 B hB X xs0]
  try rfl

theorem b_71 (B : Bufs) (hB : B.Whole) (X : Ins Ideal) (xs0 : Vec Ideal S4x128x256 .f32) : runB.sl.r_71 (F := Ideal) B hB X = t_71 (inB B hB X xs0) := by
  unfold runB.sl.r_71 t_71
  rw [b_19 B hB X xs0, b_49 B hB X xs0]
  try rfl

theorem b_72 (B : Bufs) (hB : B.Whole) (X : Ins Ideal) (xs0 : Vec Ideal S4x128x256 .f32) : runB.sl.r_72 (F := Ideal) B hB X = t_72 (inB B hB X xs0) := by
  unfold runB.sl.r_72 t_72
  rw [b_17 B hB X xs0, b_50 B hB X xs0]
  try rfl

theorem b_73 (B : Bufs) (hB : B.Whole) (X : Ins Ideal) (xs0 : Vec Ideal S4x128x256 .f32) : runB.sl.r_73 (F := Ideal) B hB X = t_73 (inB B hB X xs0) := by
  unfold runB.sl.r_73 t_73
  rw [b_19 B hB X xs0, b_49 B hB X xs0]
  try rfl

theorem b_74 (B : Bufs) (hB : B.Whole) (X : Ins Ideal) (xs0 : Vec Ideal S4x128x256 .f32) : runB.sl.r_74 (F := Ideal) B hB X = t_74 (inB B hB X xs0) := by
  unfold runB.sl.r_74 t_74
  rw [b_17 B hB X xs0, b_50 B hB X xs0]
  try rfl

theorem b_75 (B : Bufs) (hB : B.Whole) (X : Ins Ideal) (xs0 : Vec Ideal S4x128x256 .f32) : runB.sl.r_75 (F := Ideal) B hB X = t_75 (inB B hB X xs0) := by
  unfold runB.sl.r_75 t_75
  rw [b_19 B hB X xs0, b_49 B hB X xs0]
  try rfl

theorem b_76 (B : Bufs) (hB : B.Whole) (X : Ins Ideal) (xs0 : Vec Ideal S4x128x256 .f32) : runB.sl.r_76 (F := Ideal) B hB X = t_76 (inB B hB X xs0) := by
  unfold runB.sl.r_76 t_76
  rw [b_17 B hB X xs0]
  try rfl

theorem b_77 (B : Bufs) (hB : B.Whole) (X : Ins Ideal) (xs0 : Vec Ideal S4x128x256 .f32) : runB.sl.r_77 (F := Ideal) B hB X = t_77 (inB B hB X xs0) := by
  unfold runB.sl.r_77 t_77
  rw [b_17 B hB X xs0, b_50 B hB X xs0]
  try rfl

theorem b_78 (B : Bufs) (hB : B.Whole) (X : Ins Ideal) (xs0 : Vec Ideal S4x128x256 .f32) : runB.sl.r_78 (F := Ideal) B hB X = t_78 (inB B hB X xs0) := by
  unfold runB.sl.r_78 t_78
  rw [b_76 B hB X xs0, b_77 B hB X xs0]
  try rfl

theorem b_79 (B : Bufs) (hB : B.Whole) (X : Ins Ideal) (xs0 : Vec Ideal S4x128x256 .f32) : runB.sl.r_79 (F := Ideal) B hB X = t_79 (inB B hB X xs0) := by
  unfold runB.sl.r_79 t_79
  rw [b_19 B hB X xs0, b_49 B hB X xs0]
  try rfl

theorem b_80 (B : Bufs) (hB : B.Whole) (X : Ins Ideal) (xs0 : Vec Ideal S4x128x256 .f32) : runB.sl.r_80 (F := Ideal) B hB X = t_80 (inB B hB X xs0) := by
  unfold runB.sl.r_80 t_80
  rw [b_17 B hB X xs0, b_50 B hB X xs0]
  try rfl

theorem b_81 (B : Bufs) (hB : B.Whole) (X : Ins Ideal) (xs0 : Vec Ideal S4x128x256 .f32) : runB.sl.r_81 (F := Ideal) B hB X = t_81 (inB B hB X xs0) := by
  unfold runB.sl.r_81 t_81
  rw [b_19 B hB X xs0, b_49 B hB X xs0]
  try rfl

theorem b_82 (B : Bufs) (hB : B.Whole) (X : Ins Ideal) (xs0 : Vec Ideal S4x128x256 .f32) : runB.sl.r_82 (F := Ideal) B hB X = t_82 (inB B hB X xs0) := by
  unfold runB.sl.r_82 t_82
  rw [b_17 B hB X xs0, b_50 B hB X xs0]
  try rfl

theorem b_83 (B : Bufs) (hB : B.Whole) (X : Ins Ideal) (xs0 : Vec Ideal S4x128x256 .f32) : runB.sl.r_83 (F := Ideal) B hB X = t_83 (inB B hB X xs0) := by
  unfold runB.sl.r_83 t_83
  rw [b_19 B hB X xs0, b_49 B hB X xs0]
  try rfl

theorem b_84 (B : Bufs) (hB : B.Whole) (X : Ins Ideal) (xs0 : Vec Ideal S4x128x256 .f32) : runB.sl.r_84 (F := Ideal) B hB X = t_84 (inB B hB X xs0) := by
  unfold runB.sl.r_84 t_84
  rw [b_17 B hB X xs0, b_50 B hB X xs0]
  try rfl

theorem b_85 (B : Bufs) (hB : B.Whole) (X : Ins Ideal) (xs0 : Vec Ideal S4x128x256 .f32) : runB.sl.r_85 (F := Ideal) B hB X = t_85 (inB B hB X xs0) := by
  unfold runB.sl.r_85 t_85
  rw [b_19 B hB X xs0, b_49 B hB X xs0]
  try rfl

theorem b_86 (B : Bufs) (hB : B.Whole) (X : Ins Ideal) (xs0 : Vec Ideal S4x128x256 .f32) : runB.sl.r_86 (F := Ideal) B hB X = t_86 (inB B hB X xs0) := by
  unfold runB.sl.r_86 t_86
  rw [b_17 B hB X xs0, b_50 B hB X xs0]
  try rfl

theorem b_87 (B : Bufs) (hB : B.Whole) (X : Ins Ideal) (xs0 : Vec Ideal S4x128x256 .f32) : runB.sl.r_87 (F := Ideal) B hB X = t_87 (inB B hB X xs0) := by
  unfold runB.sl.r_87 t_87
  rw [b_19 B hB X xs0, b_49 B hB X xs0]
  try rfl

theorem b_88 (B : Bufs) (hB : B.Whole) (X : Ins Ideal) (xs0 : Vec Ideal S4x128x256 .f32) : runB.sl.r_88 (F := Ideal) B hB X = t_88 (inB B hB X xs0) := by
  unfold runB.sl.r_88 t_88
  rw [b_17 B hB X xs0, b_50 B hB X xs0]
  try rfl

theorem b_89 (B : Bufs) (hB : B.Whole) (X : Ins Ideal) (xs0 : Vec Ideal S4x128x256 .f32) : runB.sl.r_89 (F := Ideal) B hB X = t_89 (inB B hB X xs0) := by
  unfold runB.sl.r_89 t_89
  rw [b_19 B hB X xs0, b_49 B hB X xs0]
  try rfl

theorem b_90 (B : Bufs) (hB : B.Whole) (X : Ins Ideal) (xs0 : Vec Ideal S4x128x256 .f32) : runB.sl.r_90 (F := Ideal) B hB X = t_90 (inB B hB X xs0) := by
  unfold runB.sl.r_90 t_90
  rw [b_17 B hB X xs0, b_50 B hB X xs0]
  try rfl

theorem b_91 (B : Bufs) (hB : B.Whole) (X : Ins Ideal) (xs0 : Vec Ideal S4x128x256 .f32) : runB.sl.r_91 (F := Ideal) B hB X = t_91 (inB B hB X xs0) := by
  unfold runB.sl.r_91 t_91
  rw [b_19 B hB X xs0, b_49 B hB X xs0]
  try rfl

theorem b_92 (B : Bufs) (hB : B.Whole) (X : Ins Ideal) (xs0 : Vec Ideal S4x128x256 .f32) : runB.sl.r_92 (F := Ideal) B hB X = t_92 (inB B hB X xs0) := by
  unfold runB.sl.r_92 t_92
  rw [b_17 B hB X xs0, b_50 B hB X xs0]
  try rfl

theorem b_93 (B : Bufs) (hB : B.Whole) (X : Ins Ideal) (xs0 : Vec Ideal S4x128x256 .f32) : runB.sl.r_93 (F := Ideal) B hB X = t_93 (inB B hB X xs0) := by
  unfold runB.sl.r_93 t_93
  rw [b_19 B hB X xs0, b_49 B hB X xs0]
  try rfl

theorem b_94 (B : Bufs) (hB : B.Whole) (X : Ins Ideal) (xs0 : Vec Ideal S4x128x256 .f32) : runB.sl.r_94 (F := Ideal) B hB X = t_94 (inB B hB X xs0) := by
  unfold runB.sl.r_94 t_94
  rw [b_17 B hB X xs0, b_50 B hB X xs0]
  try rfl

theorem b_95 (B : Bufs) (hB : B.Whole) (X : Ins Ideal) (xs0 : Vec Ideal S4x128x256 .f32) : runB.sl.r_95 (F := Ideal) B hB X = t_95 (inB B hB X xs0) := by
  unfold runB.sl.r_95 t_95
  rw [b_19 B hB X xs0, b_49 B hB X xs0]
  try rfl

theorem b_96 (B : Bufs) (hB : B.Whole) (X : Ins Ideal) (xs0 : Vec Ideal S4x128x256 .f32) : runB.sl.r_96 (F := Ideal) B hB X = t_96 (inB B hB X xs0) := by
  unfold runB.sl.r_96 t_96
  rw [b_17 B hB X xs0]
  try rfl

theorem b_97 (B : Bufs) (hB : B.Whole) (X : Ins Ideal) (xs0 : Vec Ideal S4x128x256 .f32) : runB.sl.r_97 (F := Ideal) B hB X = t_97 (inB B hB X xs0) := by
  unfold runB.sl.r_97 t_97
  rw [b_17 B hB X xs0, b_50 B hB X xs0]
  try rfl

theorem b_98 (B : Bufs) (hB : B.Whole) (X : Ins Ideal) (xs0 : Vec Ideal S4x128x256 .f32) : runB.sl.r_98 (F := Ideal) B hB X = t_98 (inB B hB X xs0) := by
  unfold runB.sl.r_98 t_98
  rw [b_96 B hB X xs0, b_97 B hB X xs0]
  try rfl

theorem b_99 (B : Bufs) (hB : B.Whole) (X : Ins Ideal) (xs0 : Vec Ideal S4x128x256 .f32) : runB.sl.r_99 (F := Ideal) B hB X = t_99 (inB B hB X xs0) := by
  unfold runB.sl.r_99 t_99
  rw [b_19 B hB X xs0, b_49 B hB X xs0]
  try rfl

theorem b_100 (B : Bufs) (hB : B.Whole) (X : Ins Ideal) (xs0 : Vec Ideal S4x128x256 .f32) : runB.sl.r_100 (F := Ideal) B hB X = t_100 (inB B hB X xs0) := by
  unfold runB.sl.r_100 t_100
  rw [b_17 B hB X xs0, b_50 B hB X xs0]
  try rfl

theorem b_101 (B : Bufs) (hB : B.Whole) (X : Ins Ideal) (xs0 : Vec Ideal S4x128x256 .f32) : runB.sl.r_101 (F := Ideal) B hB X = t_101 (inB B hB X xs0) := by
  unfold runB.sl.r_101 t_101
  rw [b_19 B hB X xs0, b_49 B hB X xs0]
  try rfl

theorem b_102 (B : Bufs) (hB : B.Whole) (X : Ins Ideal) (xs0 : Vec Ideal S4x128x256 .f32) : runB.sl.r_102 (F := Ideal) B hB X = t_102 (inB B hB X xs0) := by
  unfold runB.sl.r_102 t_102
  rw [b_17 B hB X xs0, b_50 B hB X xs0]
  try rfl

theorem b_103 (B : Bufs) (hB : B.Whole) (X : Ins Ideal) (xs0 : Vec Ideal S4x128x256 .f32) : runB.sl.r_103 (F := Ideal) B hB X = t_103 (inB B hB X xs0) := by
  unfold runB.sl.r_103 t_103
  rw [b_19 B hB X xs0, b_49 B hB X xs0]
  try rfl

theorem b_104 (B : Bufs) (hB : B.Whole) (X : Ins Ideal) (xs0 : Vec Ideal S4x128x256 .f32) : runB.sl.r_104 (F := Ideal) B hB X = t_104 (inB B hB X xs0) := by
  unfold runB.sl.r_104 t_104
  rw [b_17 B hB X xs0, b_50 B hB X xs0]
  try rfl

theorem b_105 (B : Bufs) (hB : B.Whole) (X : Ins Ideal) (xs0 : Vec Ideal S4x128x256 .f32) : runB.sl.r_105 (F := Ideal) B hB X = t_105 (inB B hB X xs0) := by
  unfold runB.sl.r_105 t_105
  rw [b_19 B hB X xs0, b_49 B hB X xs0]
  try rfl

theorem b_106 (B : Bufs) (hB : B.Whole) (X : Ins Ideal) (xs0 : Vec Ideal S4x128x256 .f32) : runB.sl.r_106 (F := Ideal) B hB X = t_106 (inB B hB X xs0) := by
  unfold runB.sl.r_106 t_106
  rw [b_17 B hB X xs0, b_50 B hB X xs0]
  try rfl

theorem b_107 (B : Bufs) (hB : B.Whole) (X : Ins Ideal) (xs0 : Vec Ideal S4x128x256 .f32) : runB.sl.r_107 (F := Ideal) B hB X = t_107 (inB B hB X xs0) := by
  unfold runB.sl.r_107 t_107
  rw [b_19 B hB X xs0, b_49 B hB X xs0]
  try rfl

theorem b_108 (B : Bufs) (hB : B.Whole) (X : Ins Ideal) (xs0 : Vec Ideal S4x128x256 .f32) : runB.sl.r_108 (F := Ideal) B hB X = t_108 (inB B hB X xs0) := by
  unfold runB.sl.r_108 t_108
  rw [b_17 B hB X xs0]
  try rfl

theorem b_109 (B : Bufs) (hB : B.Whole) (X : Ins Ideal) (xs0 : Vec Ideal S4x128x256 .f32) : runB.sl.r_109 (F := Ideal) B hB X = t_109 (inB B hB X xs0) := by
  unfold runB.sl.r_109 t_109
  rw [b_50 B hB X xs0]
  try rfl

theorem b_110 (B : Bufs) (hB : B.Whole) (X : Ins Ideal) (xs0 : Vec Ideal S4x128x256 .f32) : runB.sl.r_110 (F := Ideal) B hB X = t_110 (inB B hB X xs0) := by
  unfold runB.sl.r_110 t_110
  rw [b_108 B hB X xs0, b_109 B hB X xs0]
  try rfl

theorem b_111 (B : Bufs) (hB : B.Whole) (X : Ins Ideal) (xs0 : Vec Ideal S4x128x256 .f32) : runB.sl.r_111 (F := Ideal) B hB X = t_111 (inB B hB X xs0) := by
  unfold runB.sl.r_111 t_111
  rw [b_19 B hB X xs0, b_49 B hB X xs0]
  try rfl

theorem b_112 (B : Bufs) (hB : B.Whole) (X : Ins Ideal) (xs0 : Vec Ideal S4x128x256 .f32) : runB.sl.r_112 (F := Ideal) B hB X = t_112 (inB B hB X xs0) := by
  unfold runB.sl.r_112 t_112
  rw [b_17 B hB X xs0, b_50 B hB X xs0]
  try rfl

theorem b_113 (B : Bufs) (hB : B.Whole) (X : Ins Ideal) (xs0 : Vec Ideal S4x128x256 .f32) : runB.sl.r_113 (F := Ideal) B hB X = t_113 (inB B hB X xs0) := by
  unfold runB.sl.r_113 t_113
  rw [b_19 B hB X xs0, b_49 B hB X xs0]
  try rfl

theorem b_114 (B : Bufs) (hB : B.Whole) (X : Ins Ideal) (xs0 : Vec Ideal S4x128x256 .f32) : runB.sl.r_114 (F := Ideal) B hB X = t_114 (inB B hB X xs0) := by
  unfold runB.sl.r_114 t_114
  rw [b_17 B hB X xs0, b_50 B hB X xs0]
  try rfl

theorem b_115 (B : Bufs) (hB : B.Whole) (X : Ins Ideal) (xs0 : Vec Ideal S4x128x256 .f32) : runB.sl.r_115 (F := Ideal) B hB X = t_115 (inB B hB X xs0) := by
  unfold runB.sl.r_115 t_115
  rw [b_19 B hB X xs0, b_49 B hB X xs0]
  try rfl

theorem b_116 (B : Bufs) (hB : B.Whole) (X : Ins Ideal) (xs0 : Vec Ideal S4x128x256 .f32) : runB.sl.r_116 (F := Ideal) B hB X = t_116 (inB B hB X xs0) := by
  unfold runB.sl.r_116 t_116
  rw [b_17 B hB X xs0, b_50 B hB X xs0]
  try rfl

theorem b_117 (B : Bufs) (hB : B.Whole) (X : Ins Ideal) (xs0 : Vec Ideal S4x128x256 .f32) : runB.sl.r_117 (F := Ideal) B hB X = t_117 (inB B hB X xs0) := by
  unfold runB.sl.r_117 t_117
  rw [b_19 B hB X xs0, b_49 B hB X xs0]
  try rfl

theorem b_118 (B : Bufs) (hB : B.Whole) (X : Ins Ideal) (xs0 : Vec Ideal S4x128x256 .f32) : runB.sl.r_118 (F := Ideal) B hB X = t_118 (inB B hB X xs0) := by
  unfold runB.sl.r_118 t_118
  rw [b_17 B hB X xs0, b_50 B hB X xs0]
  try rfl

theorem b_119 (B : Bufs) (hB : B.Whole) (X : Ins Ideal) (xs0 : Vec Ideal S4x128x256 .f32) : runB.sl.r_119 (F := Ideal) B hB X = t_119 (inB B hB X xs0) := by
  unfold runB.sl.r_119 t_119
  rw [b_19 B hB X xs0]
  try rfl

theorem b_120 (B : Bufs) (hB : B.Whole) (X : Ins Ideal) (xs0 : Vec Ideal S4x128x256 .f32) : runB.sl.r_120 (F := Ideal) B hB X = t_120 (inB B hB X xs0) := by
  unfold runB.sl.r_120 t_120
  rw [b_49 B hB X xs0]
  try rfl

theorem b_121 (B : Bufs) (hB : B.Whole) (X : Ins Ideal) (xs0 : Vec Ideal S4x128x256 .f32) : runB.sl.r_121 (F := Ideal) B hB X = t_121 (inB B hB X xs0) := by
  unfold runB.sl.r_121 t_121
  rw [b_119 B hB X xs0, b_120 B hB X xs0]
  try rfl

theorem b_122 (B : Bufs) (hB : B.Whole) (X : Ins Ideal) (xs0 : Vec Ideal S4x128x256 .f32) : runB.sl.r_122 (F := Ideal) B hB X = t_122 (inB B hB X xs0) := by
  unfold runB.sl.r_122 t_122
  rw [b_17 B hB X xs0, b_50 B hB X xs0]
  try rfl

theorem b_123 (B : Bufs) (hB : B.Whole) (X : Ins Ideal) (xs0 : Vec Ideal S4x128x256 .f32) : runB.sl.r_123 (F := Ideal) B hB X = t_123 (inB B hB X xs0) := by
  unfold runB.sl.r_123 t_123
  rw [b_19 B hB X xs0, b_49 B hB X xs0]
  try rfl

theorem b_124 (B : Bufs) (hB : B.Whole) (X : Ins Ideal) (xs0 : Vec Ideal S4x128x256 .f32) : runB.sl.r_124 (F := Ideal) B hB X = t_124 (inB B hB X xs0) := by
  unfold runB.sl.r_124 t_124
  rw [b_17 B hB X xs0, b_50 B hB X xs0]
  try rfl

theorem b_125 (B : Bufs) (hB : B.Whole) (X : Ins Ideal) (xs0 : Vec Ideal S4x128x256 .f32) : runB.sl.r_125 (F := Ideal) B hB X = t_125 (inB B hB X xs0) := by
  unfold runB.sl.r_125 t_125
  rw [b_19 B hB X xs0, b_49 B hB X xs0]
  try rfl

theorem b_126 (B : Bufs) (hB : B.Whole) (X : Ins Ideal) (xs0 : Vec Ideal S4x128x256 .f32) : runB.sl.r_126 (F := Ideal) B hB X = t_126 (inB B hB X xs0) := by
  unfold runB.sl.r_126 t_126
  rw [b_10 B hB X xs0, b_48 B hB X xs0]
  try rfl

theorem b_127 (B : Bufs) (hB : B.Whole) (X : Ins Ideal) (xs0 : Vec Ideal S4x128x256 .f32) : runB.sl.r_127 (F := Ideal) B hB X xs0 = t_127 (inB B hB X xs0) := by
  unfold runB.sl.r_127 t_127
  rw [b_0 B hB X xs0, b_49 B hB X xs0, b_51 B hB X xs0]
  try rfl

theorem b_128 (B : Bufs) (hB : B.Whole) (X : Ins Ideal) (xs0 : Vec Ideal S4x128x256 .f32) : runB.sl.r_128 (F := Ideal) B hB X xs0 = t_128 (inB B hB X xs0) := by
  unfold runB.sl.r_128 t_128
  rw [b_0 B hB X xs0, b_20 B hB X xs0, b_49 B hB X xs0, b_52 B hB X xs0, b_53 B hB X xs0]
  try rfl

theorem b_129 (B : Bufs) (hB : B.Whole) (X : Ins Ideal) (xs0 : Vec Ideal S4x128x256 .f32) : runB.sl.r_129 (F := Ideal) B hB X xs0 = t_129 (inB B hB X xs0) := by
  unfold runB.sl.r_129 t_129
  rw [b_0 B hB X xs0, b_20 B hB X xs0, b_52 B hB X xs0, b_54 B hB X xs0]
  try rfl

theorem b_130 (B : Bufs) (hB : B.Whole) (X : Ins Ideal) (xs0 : Vec Ideal S4x128x256 .f32) : runB.sl.r_130 (F := Ideal) B hB X xs0 = t_130 (inB B hB X xs0) := by
  unfold runB.sl.r_130 t_130
  rw [b_0 B hB X xs0, b_20 B hB X xs0, b_49 B hB X xs0, b_52 B hB X xs0, b_54 B hB X xs0]
  try rfl

theorem b_131 (B : Bufs) (hB : B.Whole) (X : Ins Ideal) (xs0 : Vec Ideal S4x128x256 .f32) : runB.sl.r_131 (F := Ideal) B hB X xs0 = t_131 (inB B hB X xs0) := by
  unfold runB.sl.r_131 t_131
  rw [b_20 B hB X xs0, b_58 B hB X xs0, b_60 B hB X xs0, b_62 B hB X xs0, b_64 B hB X xs0, b_67 B hB X xs0, b_69 B hB X xs0, b_129 B hB X xs0]
  try rfl

theorem b_132 (B : Bufs) (hB : B.Whole) (X : Ins Ideal) (xs0 : Vec Ideal S4x128x256 .f32) : runB.sl.r_132 (F := Ideal) B hB X xs0 = t_132 (inB B hB X xs0) := by
  unfold runB.sl.r_132 t_132
  rw [b_20 B hB X xs0, b_49 B hB X xs0, b_57 B hB X xs0, b_58 B hB X xs0, b_59 B hB X xs0, b_60 B hB X xs0, b_61 B hB X xs0, b_62 B hB X xs0, b_63 B hB X xs0, b_64 B hB X xs0, b_65 B hB X xs0, b_67 B hB X xs0, b_68 B hB X xs0, b_127 B hB X xs0, b_128 B hB X xs0, b_129 B hB X xs0, b_130 B hB X xs0]
  try rfl

theorem b_133 (B : Bufs) (hB : B.Whole) (X : Ins Ideal) (xs0 : Vec Ideal S4x128x256 .f32) : runB.sl.r_133 (F := Ideal) B hB X xs0 = t_133 (inB B hB X xs0) := by
  unfold runB.sl.r_133 t_133
  rw [b_20 B hB X xs0, b_49 B hB X xs0, b_57 B hB X xs0, b_58 B hB X xs0, b_59 B hB X xs0, b_60 B hB X xs0, b_61 B hB X xs0, b_62 B hB X xs0, b_63 B hB X xs0, b_64 B hB X xs0, b_65 B hB X xs0, b_67 B hB X xs0, b_68 B hB X xs0, b_127 B hB X xs0, b_128 B hB X xs0, b_129 B hB X xs0, b_130 B hB X xs0]
  try rfl

theorem b_134 (B : Bufs) (hB : B.Whole) (X : Ins Ideal) (xs0 : Vec Ideal S4x128x256 .f32) : runB.sl.r_134 (F := Ideal) B hB X xs0 = t_134 (inB B hB X xs0) := by
  unfold runB.sl.r_134 t_134
  rw [b_126 B hB X xs0, b_132 B hB X xs0, b_133 B hB X xs0]
  try rfl

theorem b_135 (B : Bufs) (hB : B.Whole) (X : Ins Ideal) (xs0 : Vec Ideal S4x128x256 .f32) : runB.sl.r_135 (F := Ideal) B hB X xs0 = t_135 (inB B hB X xs0) := by
  unfold runB.sl.r_135 t_135
  rw [b_1 B hB X xs0, b_49 B hB X xs0, b_70 B hB X xs0]
  try rfl

theorem b_136 (B : Bufs) (hB : B.Whole) (X : Ins Ideal) (xs0 : Vec Ideal S4x128x256 .f32) : runB.sl.r_136 (F := Ideal) B hB X xs0 = t_136 (inB B hB X xs0) := by
  unfold runB.sl.r_136 t_136
  rw [b_1 B hB X xs0, b_20 B hB X xs0, b_49 B hB X xs0, b_71 B hB X xs0, b_72 B hB X xs0]
  try rfl

theorem b_137 (B : Bufs) (hB : B.Whole) (X : Ins Ideal) (xs0 : Vec Ideal S4x128x256 .f32) : runB.sl.r_137 (F := Ideal) B hB X xs0 = t_137 (inB B hB X xs0) := by
  unfold runB.sl.r_137 t_137
  rw [b_1 B hB X xs0, b_20 B hB X xs0, b_49 B hB X xs0, b_71 B hB X xs0, b_73 B hB X xs0, b_74 B hB X xs0]
  try rfl

theorem b_138 (B : Bufs) (hB : B.Whole) (X : Ins Ideal) (xs0 : Vec Ideal S4x128x256 .f32) : runB.sl.r_138 (F := Ideal) B hB X xs0 = t_138 (inB B hB X xs0) := by
  unfold runB.sl.r_138 t_138
  rw [b_1 B hB X xs0, b_20 B hB X xs0, b_49 B hB X xs0, b_71 B hB X xs0, b_73 B hB X xs0, b_75 B hB X xs0, b_78 B hB X xs0]
  try rfl

theorem b_139 (B : Bufs) (hB : B.Whole) (X : Ins Ideal) (xs0 : Vec Ideal S4x128x256 .f32) : runB.sl.r_139 (F := Ideal) B hB X xs0 = t_139 (inB B hB X xs0) := by
  unfold runB.sl.r_139 t_139
  rw [b_1 B hB X xs0, b_20 B hB X xs0, b_49 B hB X xs0, b_71 B hB X xs0, b_73 B hB X xs0, b_75 B hB X xs0, b_79 B hB X xs0, b_80 B hB X xs0]
  try rfl

theorem b_140 (B : Bufs) (hB : B.Whole) (X : Ins Ideal) (xs0 : Vec Ideal S4x128x256 .f32) : runB.sl.r_140 (F := Ideal) B hB X xs0 = t_140 (inB B hB X xs0) := by
  unfold runB.sl.r_140 t_140
  rw [b_1 B hB X xs0, b_20 B hB X xs0, b_71 B hB X xs0, b_73 B hB X xs0, b_75 B hB X xs0, b_79 B hB X xs0, b_81 B hB X xs0]
  try rfl

theorem b_141 (B : Bufs) (hB : B.Whole) (X : Ins Ideal) (xs0 : Vec Ideal S4x128x256 .f32) : runB.sl.r_141 (F := Ideal) B hB X = t_141 (inB B hB X xs0) := by
  unfold runB.sl.r_141 t_141
  rw [b_49 B hB X xs0]
  try rfl

theorem b_142 (B : Bufs) (hB : B.Whole) (X : Ins Ideal) (xs0 : Vec Ideal S4x128x256 .f32) : runB.sl.r_142 (F := Ideal) B hB X xs0 = t_142 (inB B hB X xs0) := by
  unfold runB.sl.r_142 t_142
  rw [b_1 B hB X xs0, b_20 B hB X xs0, b_71 B hB X xs0, b_73 B hB X xs0, b_75 B hB X xs0, b_79 B hB X xs0, b_81 B hB X xs0]
  try rfl

theorem b_143 (B : Bufs) (hB : B.Whole) (X : Ins Ideal) (xs0 : Vec Ideal S4x128x256 .f32) : runB.sl.r_143 (F := Ideal) B hB X xs0 = t_143 (inB B hB X xs0) := by
  unfold runB.sl.r_143 t_143
  rw [b_20 B hB X xs0, b_83 B hB X xs0, b_85 B hB X xs0, b_87 B hB X xs0, b_140 B hB X xs0]
  try rfl

theorem b_144 (B : Bufs) (hB : B.Whole) (X : Ins Ideal) (xs0 : Vec Ideal S4x128x256 .f32) : runB.sl.r_144 (F := Ideal) B hB X xs0 = t_144 (inB B hB X xs0) := by
  unfold runB.sl.r_144 t_144
  rw [b_20 B hB X xs0, b_49 B hB X xs0, b_82 B hB X xs0, b_83 B hB X xs0, b_84 B hB X xs0, b_85 B hB X xs0, b_86 B hB X xs0, b_126 B hB X xs0, b_135 B hB X xs0, b_136 B hB X xs0, b_137 B hB X xs0, b_138 B hB X xs0, b_139 B hB X xs0, b_140 B hB X xs0, b_141 B hB X xs0, b_142 B hB X xs0]
  try rfl

theorem b_145 (B : Bufs) (hB : B.Whole) (X : Ins Ideal) (xs0 : Vec Ideal S4x128x256 .f32) : runB.sl.r_145 (F := Ideal) B hB X xs0 = t_145 (inB B hB X xs0) := by
  unfold runB.sl.r_145 t_145
  rw [b_2 B hB X xs0, b_49 B hB X xs0, b_88 B hB X xs0]
  try rfl

theorem b_146 (B : Bufs) (hB : B.Whole) (X : Ins Ideal) (xs0 : Vec Ideal S4x128x256 .f32) : runB.sl.r_146 (F := Ideal) B hB X xs0 = t_146 (inB B hB X xs0) := by
  unfold runB.sl.r_146 t_146
  rw [b_2 B hB X xs0, b_20 B hB X xs0, b_89 B hB X xs0]
  try rfl

theorem b_147 (B : Bufs) (hB : B.Whole) (X : Ins Ideal) (xs0 : Vec Ideal S4x128x256 .f32) : runB.sl.r_147 (F := Ideal) B hB X xs0 = t_147 (inB B hB X xs0) := by
  unfold runB.sl.r_147 t_147
  rw [b_2 B hB X xs0, b_20 B hB X xs0, b_49 B hB X xs0, b_89 B hB X xs0]
  try rfl

theorem b_148 (B : Bufs) (hB : B.Whole) (X : Ins Ideal) (xs0 : Vec Ideal S4x128x256 .f32) : runB.sl.r_148 (F := Ideal) B hB X xs0 = t_148 (inB B hB X xs0) := by
  unfold runB.sl.r_148 t_148
  rw [b_90 B hB X xs0, b_147 B hB X xs0]
  try rfl

theorem b_149 (B : Bufs) (hB : B.Whole) (X : Ins Ideal) (xs0 : Vec Ideal S4x128x256 .f32) : runB.sl.r_149 (F := Ideal) B hB X xs0 = t_149 (inB B hB X xs0) := by
  unfold runB.sl.r_149 t_149
  rw [b_20 B hB X xs0, b_49 B hB X xs0, b_91 B hB X xs0, b_92 B hB X xs0, b_146 B hB X xs0]
  try rfl

theorem b_150 (B : Bufs) (hB : B.Whole) (X : Ins Ideal) (xs0 : Vec Ideal S4x128x256 .f32) : runB.sl.r_150 (F := Ideal) B hB X xs0 = t_150 (inB B hB X xs0) := by
  unfold runB.sl.r_150 t_150
  rw [b_20 B hB X xs0, b_49 B hB X xs0, b_91 B hB X xs0, b_93 B hB X xs0, b_94 B hB X xs0, b_146 B hB X xs0]
  try rfl

theorem b_151 (B : Bufs) (hB : B.Whole) (X : Ins Ideal) (xs0 : Vec Ideal S4x128x256 .f32) : runB.sl.r_151 (F := Ideal) B hB X xs0 = t_151 (inB B hB X xs0) := by
  unfold runB.sl.r_151 t_151
  rw [b_20 B hB X xs0, b_49 B hB X xs0, b_91 B hB X xs0, b_93 B hB X xs0, b_95 B hB X xs0, b_98 B hB X xs0, b_146 B hB X xs0]
  try rfl

theorem b_152 (B : Bufs) (hB : B.Whole) (X : Ins Ideal) (xs0 : Vec Ideal S4x128x256 .f32) : runB.sl.r_152 (F := Ideal) B hB X xs0 = t_152 (inB B hB X xs0) := by
  unfold runB.sl.r_152 t_152
  rw [b_20 B hB X xs0, b_49 B hB X xs0, b_91 B hB X xs0, b_93 B hB X xs0, b_95 B hB X xs0, b_99 B hB X xs0, b_100 B hB X xs0, b_146 B hB X xs0]
  try rfl

theorem b_153 (B : Bufs) (hB : B.Whole) (X : Ins Ideal) (xs0 : Vec Ideal S4x128x256 .f32) : runB.sl.r_153 (F := Ideal) B hB X xs0 = t_153 (inB B hB X xs0) := by
  unfold runB.sl.r_153 t_153
  rw [b_20 B hB X xs0, b_49 B hB X xs0, b_91 B hB X xs0, b_93 B hB X xs0, b_95 B hB X xs0, b_99 B hB X xs0, b_101 B hB X xs0, b_102 B hB X xs0, b_146 B hB X xs0]
  try rfl

theorem b_154 (B : Bufs) (hB : B.Whole) (X : Ins Ideal) (xs0 : Vec Ideal S4x128x256 .f32) : runB.sl.r_154 (F := Ideal) B hB X xs0 = t_154 (inB B hB X xs0) := by
  unfold runB.sl.r_154 t_154
  rw [b_20 B hB X xs0, b_49 B hB X xs0, b_91 B hB X xs0, b_93 B hB X xs0, b_95 B hB X xs0, b_99 B hB X xs0, b_101 B hB X xs0, b_103 B hB X xs0, b_104 B hB X xs0, b_146 B hB X xs0]
  try rfl

theorem b_155 (B : Bufs) (hB : B.Whole) (X : Ins Ideal) (xs0 : Vec Ideal S4x128x256 .f32) : runB.sl.r_155 (F := Ideal) B hB X xs0 = t_155 (inB B hB X xs0) := by
  unfold runB.sl.r_155 t_155
  rw [b_20 B hB X xs0, b_91 B hB X xs0, b_93 B hB X xs0, b_95 B hB X xs0, b_99 B hB X xs0, b_101 B hB X xs0, b_103 B hB X xs0, b_105 B hB X xs0, b_146 B hB X xs0]
  try rfl

theorem b_156 (B : Bufs) (hB : B.Whole) (X : Ins Ideal) (xs0 : Vec Ideal S4x128x256 .f32) : runB.sl.r_156 (F := Ideal) B hB X xs0 = t_156 (inB B hB X xs0) := by
  unfold runB.sl.r_156 t_156
  rw [b_126 B hB X xs0, b_145 B hB X xs0, b_148 B hB X xs0, b_149 B hB X xs0, b_150 B hB X xs0, b_151 B hB X xs0, b_152 B hB X xs0, b_153 B hB X xs0, b_154 B hB X xs0]
  try rfl

theorem b_157 (B : Bufs) (hB : B.Whole) (X : Ins Ideal) (xs0 : Vec Ideal S4x128x256 .f32) : runB.sl.r_157 (F := Ideal) B hB X xs0 = t_157 (inB B hB X xs0) := by
  unfold runB.sl.r_157 t_157
  rw [b_3 B hB X xs0, b_49 B hB X xs0, b_106 B hB X xs0]
  try rfl

theorem b_158 (B : Bufs) (hB : B.Whole) (X : Ins Ideal) (xs0 : Vec Ideal S4x128x256 .f32) : runB.sl.r_158 (F := Ideal) B hB X xs0 = t_158 (inB B hB X xs0) := by
  unfold runB.sl.r_158 t_158
  rw [b_3 B hB X xs0, b_20 B hB X xs0, b_49 B hB X xs0, b_107 B hB X xs0, b_110 B hB X xs0]
  try rfl

theorem b_159 (B : Bufs) (hB : B.Whole) (X : Ins Ideal) (xs0 : Vec Ideal S4x128x256 .f32) : runB.sl.r_159 (F := Ideal) B hB X xs0 = t_159 (inB B hB X xs0) := by
  unfold runB.sl.r_159 t_159
  rw [b_3 B hB X xs0, b_20 B hB X xs0, b_49 B hB X xs0, b_107 B hB X xs0, b_111 B hB X xs0, b_112 B hB X xs0]
  try rfl

theorem b_160 (B : Bufs) (hB : B.Whole) (X : Ins Ideal) (xs0 : Vec Ideal S4x128x256 .f32) : runB.sl.r_160 (F := Ideal) B hB X xs0 = t_160 (inB B hB X xs0) := by
  unfold runB.sl.r_160 t_160
  rw [b_3 B hB X xs0, b_20 B hB X xs0, b_49 B hB X xs0, b_107 B hB X xs0, b_111 B hB X xs0, b_113 B hB X xs0, b_114 B hB X xs0]
  try rfl

theorem b_161 (B : Bufs) (hB : B.Whole) (X : Ins Ideal) (xs0 : Vec Ideal S4x128x256 .f32) : runB.sl.r_161 (F := Ideal) B hB X xs0 = t_161 (inB B hB X xs0) := by
  unfold runB.sl.r_161 t_161
  rw [b_3 B hB X xs0, b_20 B hB X xs0, b_107 B hB X xs0, b_111 B hB X xs0, b_113 B hB X xs0, b_115 B hB X xs0]
  try rfl

theorem b_162 (B : Bufs) (hB : B.Whole) (X : Ins Ideal) (xs0 : Vec Ideal S4x128x256 .f32) : runB.sl.r_162 (F := Ideal) B hB X = t_162 (inB B hB X xs0) := by
  unfold runB.sl.r_162 t_162
  rw [b_49 B hB X xs0]
  try rfl

theorem b_163 (B : Bufs) (hB : B.Whole) (X : Ins Ideal) (xs0 : Vec Ideal S4x128x256 .f32) : runB.sl.r_163 (F := Ideal) B hB X xs0 = t_163 (inB B hB X xs0) := by
  unfold runB.sl.r_163 t_163
  rw [b_20 B hB X xs0, b_117 B hB X xs0, b_121 B hB X xs0, b_123 B hB X xs0, b_125 B hB X xs0, b_161 B hB X xs0]
  try rfl

theorem b_164 (B : Bufs) (hB : B.Whole) (X : Ins Ideal) (xs0 : Vec Ideal S4x128x256 .f32) : runB.sl.r_164 (F := Ideal) B hB X xs0 = t_164 (inB B hB X xs0) := by
  unfold runB.sl.r_164 t_164
  rw [b_20 B hB X xs0, b_49 B hB X xs0, b_116 B hB X xs0, b_117 B hB X xs0, b_118 B hB X xs0, b_121 B hB X xs0, b_122 B hB X xs0, b_123 B hB X xs0, b_124 B hB X xs0, b_126 B hB X xs0, b_134 B hB X xs0, b_144 B hB X xs0, b_156 B hB X xs0, b_157 B hB X xs0, b_158 B hB X xs0, b_159 B hB X xs0, b_160 B hB X xs0, b_161 B hB X xs0, b_162 B hB X xs0]
  try rfl

end Cert.KernelIdeal.Tile

end
-- ==== Proof.MixSpec.lean ====
module

public import proofs.«01_k».proof.Proof.Scalars

/-! The mixer as plain functions of a token's row, of a chunk of 64 rows and of a block of 128 rows. -/

@[expose] public section

noncomputable section

namespace Cert.MixSpec

open Idealize.ShloMosaic Cert.Scalars

/-- The word an array holds, as an extended real. -/
local notation "w32" => Ideal.ofBits FTy.f32

/-- The mixer's parameters, as functions of their indices. -/
structure Par where
  n1 : Fin 1024 → EReal
  w : Fin 1024 → Fin 7184 → EReal
  b : Fin 7184 → EReal
  lnw : Fin 1024 → EReal
  lnb : Fin 1024 → EReal
  sw : Fin 8 → Fin 128 → Fin 128 → EReal
  sb : Fin 8 → Fin 128 → EReal
  gk2 : Fin 16 → Fin 512 → EReal
  bgk : Fin 512 → EReal
  gnw : Fin 256 → EReal
  wa : Fin 1024 → Fin 1024 → EReal
  wb : Fin 1024 → Fin 1024 → EReal
  wo : Fin 1024 → Fin 1024 → EReal

variable (p : Par)

/-- The root-mean-square norm of a token's row, scaled by the first norm's weight. -/
def xn (x : Fin 1024 → EReal) (k : Fin 1024) : EReal :=
  x k * Ideal.rsqrt (Ideal.div (∑ j, x j * x j) (w32 0x44800000#32) + w32 0x358637BD#32) * p.n1 k

/-- One feature of the projected row. -/
def pr (x : Fin 1024 → EReal) (e : Fin 7184) : EReal := ∑ k, xn p x k * p.w k e + p.b e

/-- The row's decay gates before the log-sigmoid. -/
def zz (x : Fin 1024 → EReal) (e : Fin 512) : EReal :=
  ∑ i : Fin 16, pr p x ⟨5120 + i, by omega⟩ * p.gk2 i e + p.bgk e

/-- The logarithm of the sigmoid, a sixteenth of it, as the reference spells it. -/
def lsig (z : EReal) : EReal :=
  Ideal.div (-(max (-z) 0 + Ideal.log1p (Ideal.exp (-(max (-z) (-(-z))))))) (w32 0x41800000#32)

/-- The row's log decays. -/
def gk (x : Fin 1024 → EReal) (e : Fin 512) : EReal := lsig (zz p x e)

/-- GELU by its hyperbolic tangent, as the reference spells it. -/
def gelu (x : EReal) : EReal :=
  x * (w32 0x3F000000#32 * (1 + Ideal.tanh (w32 0x3F4C422A#32 * (x + w32 0x3D372713#32 * (x * x * x)))))

/-- The sigmoid. -/
def sigm (x : EReal) : EReal := Ideal.div 1 (1 + Ideal.exp (-x))

section Chunk

variable (X : Fin 64 → Fin 1024 → EReal) (S : Fin 4 → Fin 128 → Fin 256 → EReal)

/-- The running log decay inside a chunk. -/
def bc (t : Fin 64) (e : Fin 512) : EReal := ∑ s : Fin 64, if s ≤ t then gk p (X s) e else 0

/-- Query rows under their decay, -/
def qd (h : Fin 4) (t : Fin 64) (d : Fin 128) : EReal :=
  pr p (X t) ⟨2048 + (128 * h + d), by omega⟩ * w32 0x3DB504F3#32 * Ideal.exp (bc p X t ⟨128 * h + d, by omega⟩)

/-- key rows under the inverse decay, -/
def kd (h : Fin 4) (t : Fin 64) (d : Fin 128) : EReal :=
  pr p (X t) ⟨2560 + (128 * h + d), by omega⟩ * Ideal.exp (-bc p X t ⟨128 * h + d, by omega⟩)

/-- key rows under the decay that remains to the chunk's end, -/
def ke (h : Fin 4) (t : Fin 64) (d : Fin 128) : EReal :=
  pr p (X t) ⟨2560 + (128 * h + d), by omega⟩
    * Ideal.exp (bc p X 63 ⟨128 * h + d, by omega⟩ - bc p X t ⟨128 * h + d, by omega⟩)

/-- value rows. -/
def vv (h : Fin 4) (t : Fin 64) (v : Fin 256) : EReal := pr p (X t) ⟨3072 + (256 * h + v), by omega⟩

/-- A chunk's state: the last one decayed, plus the chunk's keys times its values. -/
def stp (h : Fin 4) (d : Fin 128) (v : Fin 256) : EReal :=
  Ideal.exp (bc p X 63 ⟨128 * h + d, by omega⟩) * S h d v + ∑ s : Fin 64, ke p X h s d * vv p X h s v

/-- A chunk's causal scores. -/
def sc (h : Fin 4) (t s : Fin 64) : EReal := if s ≤ t then ∑ d, qd p X h t d * kd p X h s d else 0

/-- A chunk's attention rows, from the state before it. -/
def oo (h : Fin 4) (t : Fin 64) (v : Fin 256) : EReal :=
  ∑ s, sc p X h t s * vv p X h s v + ∑ d, qd p X h t d * S h d v

end Chunk

/-- A head's row through its norm. -/
def hn (o : Fin 256 → EReal) (v : Fin 256) : EReal :=
  o v * Ideal.rsqrt (Ideal.div (∑ j, o j * o j) (w32 0x43800000#32) + w32 0x358637BD#32) * p.gnw v

/-- The attention branch's row, its gate under the SiLU spelled `sil`. -/
def yb (sil : EReal → EReal) (X : Fin 64 → Fin 1024 → EReal) (S : Fin 4 → Fin 128 → Fin 256 → EReal)
    (t : Fin 64) (e : Fin 1024) : EReal :=
  hn p (oo p X S ⟨(e : ℕ) / 256, by omega⟩ t) ⟨(e : ℕ) % 256, by omega⟩ * sil (pr p (X t) ⟨4096 + e, by omega⟩)

/-- The spatial unit's gated row before its norm, -/
def gv (x : Fin 1024 → EReal) (e : Fin 1024) : EReal := gelu (pr p x ⟨1024 + e, by omega⟩)

/-- the row's mean, -/
def mu (x : Fin 1024 → EReal) : EReal := Ideal.div (∑ j, gv p x j) (w32 0x44800000#32)

/-- and the row through the layer norm. -/
def vln (x : Fin 1024 → EReal) (e : Fin 1024) : EReal :=
  (gv p x e - mu p x)
    * Ideal.rsqrt (Ideal.div (∑ j, (gv p x j - mu p x) * (gv p x j - mu p x)) (w32 0x44800000#32) + w32 0x358637BD#32)
    * p.lnw e + p.lnb e

/-- The spatial unit's row: the causal mix of the block's normed rows, gated. -/
def ya (X : Fin 128 → Fin 1024 → EReal) (t : Fin 128) (e : Fin 1024) : EReal :=
  gelu (pr p (X t) ⟨e, by omega⟩)
    * (∑ s : Fin 128, (if s ≤ t then p.sw ⟨(e : ℕ) / 128, by omega⟩ t s else 0) * vln p (X s) e
      + p.sb ⟨(e : ℕ) / 128, by omega⟩ t)

/-- The mixer's row, of the token's row and its two branches. -/
def hrow (x a b : Fin 1024 → EReal) (d : Fin 1024) : EReal :=
  x d + ∑ e : Fin 1024, (sigm (pr p x ⟨5136 + e, by omega⟩) * (∑ f : Fin 1024, a f * p.wa f e)
    + sigm (pr p x ⟨6160 + e, by omega⟩) * (∑ f : Fin 1024, b f * p.wb f e)) * p.wo e d

/-- The state before chunk `n` of a sequence of rows. -/
def st (x : ℕ → Fin 1024 → EReal) : ℕ → Fin 4 → Fin 128 → Fin 256 → EReal
  | 0 => fun _ _ _ => 0
  | n + 1 => stp p (fun t => x (64 * n + t)) (st x n)

/-- The mixer's result at a token of a sequence of rows. -/
def out (sil : EReal → EReal) (x : ℕ → Fin 1024 → EReal) (s : ℕ) (d : Fin 1024) : EReal :=
  hrow p (x s) (ya p (fun t => x (128 * (s / 128) + t)) ⟨s % 128, by omega⟩)
    (yb p sil (fun t => x (64 * (s / 64) + t)) (st p x (s / 64)) ⟨s % 64, by omega⟩) d

end Cert.MixSpec

end
-- ==== Proof.MixScalars.lean ====
module

public import proofs.«01_k».proof.Proof.MixSpec
public import Idealize.ShloMosaic.Lib.Pointwise

/-! Facts about single extended reals that the mixer needs: powers of two against exponentials, GELU, the decay gate. -/

@[expose] public section

noncomputable section

namespace Cert.Scalars

open Idealize.ShloMosaic Cert.MixSpec

/-- One over the logarithm of two. -/
def L : ℝ := (Real.log 2)⁻¹

theorem L_pos : 0 < L := inv_pos.mpr (Real.log_pos (by norm_num))

/-- A power of two whose exponent is scaled by `L` is an exponential. -/
theorem exp2_L (y : EReal) : Ideal.exp2 ((L : EReal) * y) = Ideal.exp y := by
  induction y with
  | bot => rw [EReal.coe_mul_bot_of_pos L_pos]; rfl
  | top => rw [EReal.coe_mul_top_of_pos L_pos]; rfl
  | coe r =>
    rw [← EReal.coe_mul, Ideal.exp2_coe, Ideal.exp_coe]
    congr 1
    show (2 : ℝ) ^ (L * r) = _
    rw [Real.rpow_def_of_pos (by norm_num)]
    congr 1
    have : Real.log 2 ≠ 0 := (Real.log_pos (by norm_num)).ne'
    unfold L; field_simp

theorem neg_L (y : EReal) : ((-L : ℝ) : EReal) * y = (L : EReal) * (-y) := by
  rw [EReal.coe_neg, neg_mul, ← mul_neg]

/-- Scaling by a positive real distributes over a sum. -/
theorem L_add (x y : EReal) : (L : EReal) * (x + y) = (L : EReal) * x + (L : EReal) * y := by
  have hp := L_pos
  induction x <;> induction y <;>
    simp [EReal.coe_mul_bot_of_pos hp, EReal.coe_mul_top_of_pos hp, ← EReal.coe_mul, ← EReal.coe_add, mul_add]

theorem L_sub (x y : EReal) : (L : EReal) * x - (L : EReal) * y = (L : EReal) * (x - y) := by
  rw [sub_eq_add_neg, sub_eq_add_neg, L_add, mul_neg]

theorem L_sum {ι : Type*} (s : Finset ι) (f : ι → EReal) : ∑ i ∈ s, (L : EReal) * f i = (L : EReal) * ∑ i ∈ s, f i := by
  classical
  induction s using Finset.induction_on with
  | empty => simp
  | insert a s ha ih => rw [Finset.sum_insert ha, Finset.sum_insert ha, ih, L_add]

/-- A number that is not plus infinity is what a split into itself and the remainder adds up to. -/
theorem split_self {x : EReal} (h : x ≠ ⊤) : x + (x - x) = x := by
  induction x with
  | bot => rfl
  | top => exact absurd rfl h
  | coe r => rw [← EReal.coe_sub, ← EReal.coe_add]; simp

theorem w_16 : Ideal.ofBits FTy.f32 0x41800000#32 = ((16 : ℝ) : EReal) := by
  simp [Ideal.ofBits, Ideal.ieee]
  rw [← EReal.coe_mul]; congr 1; norm_num

theorem w_16th : Ideal.ofBits FTy.f32 0x3D800000#32 = ((1 / 16 : ℝ) : EReal) := by
  simp [Ideal.ofBits, Ideal.ieee]
  rw [← EReal.coe_mul]; congr 1; norm_num

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

/-- The log-sigmoid's sixteenth at a real number. -/
theorem lsig_coe (r : ℝ) : lsig (r : EReal) = ((-(max (-r) 0 + Real.log (1 + Real.exp (-|r|))) / 16 : ℝ) : EReal) := by
  have e1 : max (-(r : EReal)) (-(-(r : EReal))) = ((|r| : ℝ) : EReal) := by
    rw [neg_neg, ← EReal.coe_neg, ← coe_max, max_comm]; rfl
  have e2 : max (-(r : EReal)) 0 = ((max (-r) 0 : ℝ) : EReal) := by
    rw [← EReal.coe_neg, ← EReal.coe_zero, ← coe_max]
  have hp : ¬ (1 + Real.exp (-|r|) ≤ 0) := not_le.mpr (by positivity)
  rw [lsig, e1, e2, ← EReal.coe_neg, Ideal.exp_coe, Ideal.log1p, ← EReal.coe_one, ← EReal.coe_add, Ideal.log_coe, if_neg hp,
    ← EReal.coe_add, ← EReal.coe_neg, w_16, Ideal.div_coe (by norm_num), ← EReal.coe_mul]
  congr 1; ring

theorem lsig_bot : lsig ⊥ = ⊥ := by
  have : Ideal.log 1 = 0 := by
    rw [← EReal.coe_one, Ideal.log_coe, if_neg (by norm_num)]; simp
  simp [lsig, w_16, Ideal.div_coe, Ideal.log1p, this, EReal.bot_mul_coe_of_pos]

theorem lsig_top : lsig ⊤ = 0 := by
  have : Ideal.log 1 = 0 := by
    rw [← EReal.coe_one, Ideal.log_coe, if_neg (by norm_num)]; simp
  simp [lsig, w_16, Ideal.div_coe, Ideal.log1p, this]

theorem lsig_ne_top (z : EReal) : (L : EReal) * lsig z ≠ ⊤ := by
  induction z with
  | bot => rw [lsig_bot, EReal.coe_mul_bot_of_pos L_pos]; exact bot_ne_top
  | top => rw [lsig_top, mul_zero]; exact EReal.zero_ne_top
  | coe r => rw [lsig_coe, ← EReal.coe_mul]; exact EReal.coe_ne_top _

/-- The decay gate as the kernel spells it, in base two, is the log-sigmoid's sixteenth scaled by `L`. -/
theorem gate2 (z : EReal) :
    (min z 0 * (L : EReal) - Ideal.log (1 + Ideal.exp2 (max z (-z) * ((-L : ℝ) : EReal))) * (L : EReal))
      * Ideal.ofBits FTy.f32 0x3D800000#32 = (L : EReal) * lsig z := by
  rw [mul_comm (max z (-z)), neg_L, exp2_L, w_16th]
  have l1 : Ideal.log 1 = 0 := by
    rw [← EReal.coe_one, Ideal.log_coe, if_neg (by norm_num)]; simp
  induction z with
  | bot => simp [lsig_bot, l1, EReal.coe_mul_bot_of_pos L_pos, EReal.bot_mul_coe_of_pos L_pos, EReal.bot_mul_coe_of_pos]
  | top => simp [lsig_top, l1]
  | coe r =>
    have e1 : max (r : EReal) (-(r : EReal)) = ((|r| : ℝ) : EReal) := by
      rw [← EReal.coe_neg, ← coe_max]; rfl
    have e2 : min (r : EReal) 0 = ((min r 0 : ℝ) : EReal) := by
      rw [← EReal.coe_zero, ← coe_min]
    have hp : ¬ (1 + Real.exp (-|r|) ≤ 0) := not_le.mpr (by positivity)
    rw [e1, e2, ← EReal.coe_neg, Ideal.exp_coe, ← EReal.coe_one, ← EReal.coe_add, Ideal.log_coe, if_neg hp, lsig_coe,
      ← EReal.coe_mul, ← EReal.coe_mul, ← EReal.coe_sub, ← EReal.coe_mul, ← EReal.coe_mul]
    congr 1
    have : min r 0 = -max (-r) 0 := by rw [← neg_zero, max_neg_neg, neg_neg, neg_zero]
    rw [this]; ring

/-- The sigmoid by a power of two. -/
theorem sigm2 (x : EReal) : Ideal.div 1 (1 + Ideal.exp2 (x * ((-L : ℝ) : EReal))) = sigm x := by
  rw [mul_comm, neg_L, exp2_L, sigm]

theorem w_c0 : Ideal.ofBits FTy.f32 0x3F4C422A#32 = ((13386282 / 16777216 : ℝ) : EReal) := by
  simp [Ideal.ofBits, Ideal.ieee]
  rw [← EReal.coe_mul]; congr 1; norm_num

theorem w_ca : Ideal.ofBits FTy.f32 0x3D372713#32 = ((12003091 / 268435456 : ℝ) : EReal) := by
  simp [Ideal.ofBits, Ideal.ieee]
  rw [← EReal.coe_mul]; congr 1; norm_num

/-- GELU as the kernel spells it. -/
theorem gelu2 (x : EReal) :
    x * (Ideal.ofBits FTy.f32 0x3F000000#32 + Ideal.ofBits FTy.f32 0x3F000000#32
      * Ideal.tanh (x * (Ideal.ofBits FTy.f32 0x3F4C422A#32
        + ((80338380498831 / 2251799813685248 : ℝ) : EReal) * (x * x)))) = gelu x := by
  rw [gelu, w_half, w_c0, w_ca]
  induction x with
  | bot =>
    have h : ((1 / 2 : ℝ) : EReal) + ((1 / 2 : ℝ) : EReal) * (-1) = 0 := by
      rw [← EReal.coe_one, ← EReal.coe_neg, ← EReal.coe_mul, ← EReal.coe_add]; norm_num
    have h' : (1 : EReal) + (-1) = 0 := by
      rw [← EReal.coe_one, ← EReal.coe_neg, ← EReal.coe_add]; norm_num
    rw [show (⊥ : EReal) * ⊥ = ⊤ from rfl, EReal.coe_mul_top_of_pos (by norm_num), EReal.coe_add_top,
      show (⊥ : EReal) * ⊤ = ⊥ from rfl, show (⊤ : EReal) * ⊥ = ⊥ from rfl, EReal.coe_mul_bot_of_pos (by norm_num),
      EReal.bot_add, EReal.coe_mul_bot_of_pos (by norm_num), Ideal.tanh_bot, h, h', mul_zero, mul_zero, mul_zero]
  | top =>
    have h : ((1 / 2 : ℝ) : EReal) + ((1 / 2 : ℝ) : EReal) * 1 = 1 := by
      rw [← EReal.coe_one, ← EReal.coe_mul, ← EReal.coe_add]; norm_num
    have h' : ((1 / 2 : ℝ) : EReal) * (1 + 1) = 1 := by
      rw [← EReal.coe_one, ← EReal.coe_add, ← EReal.coe_mul]; norm_num
    rw [show (⊤ : EReal) * ⊤ = ⊤ from rfl, EReal.coe_mul_top_of_pos (by norm_num), EReal.coe_add_top,
      show (⊤ : EReal) * ⊤ = ⊤ from rfl, EReal.coe_mul_top_of_pos (by norm_num),
      EReal.top_add_top, EReal.coe_mul_top_of_pos (by norm_num), Ideal.tanh_top, h, h']
  | coe r =>
    simp only [← EReal.coe_one, ← EReal.coe_mul, ← EReal.coe_add, Ideal.tanh_coe]
    congr 1
    have e : r * (13386282 / 16777216 + 80338380498831 / 2251799813685248 * (r * r))
        = 13386282 / 16777216 * (r + 12003091 / 268435456 * (r * r * r)) := by ring
    rw [e]; ring

end Cert.Scalars

end
-- ==== Proof.MixStage.lean ====
module

public import proofs.«01_k».proof.Proof.MixTile
public import proofs.«01_k».proof.Proof.MixScalars
public import Idealize.ShloMosaic.Lib.Pointwise

/-! What one tile loads, and its projections, as functions of the tokens' rows. -/

@[expose] public section

set_option maxRecDepth 16384

noncomputable section

namespace Cert.KernelIdeal.Tile

open Cert.KernelIdeal Cert.KernelIdeal.Gen Idealize.ShloMosaic Idealize.ShloMosaic.TcCoe Idealize.SL.Sem Cert.Scalars Cert.MixSpec

/-- The loads of a tile are the parameters, the rows `x` and the states `S`. -/
structure IsIn (I : In) (p : Par) (x : Fin 512 → Fin 1024 → EReal) (S : Fin 4 → Fin 128 → Fin 256 → EReal) : Prop where
  x : ∀ (r : Fin 512) (k : Fin 1024), I.x (ix3 0 r k) = x r k
  n1 : ∀ k : Fin 1024, I.n1w (ix2 0 k) = p.n1 k
  uv : ∀ (k : Fin 1024) (e : Fin 2048), I.wuv (ix2 k e) = p.w k ⟨e, by omega⟩
  buv : ∀ e : Fin 2048, I.buv (ix2 0 e) = p.b ⟨e, by omega⟩
  qk : ∀ (k : Fin 1024) (e : Fin 1024), I.wqkl (ix2 k ⟨e, by omega⟩) = p.w k ⟨2048 + e, by omega⟩
  lr : ∀ (k : Fin 1024) (e : Fin 16), I.wqkl (ix2 k ⟨1024 + e, by omega⟩) = p.w k ⟨5120 + e, by omega⟩
  bqk : ∀ e : Fin 1024, I.bqkl (ix2 0 ⟨e, by omega⟩) = p.b ⟨2048 + e, by omega⟩
  blr : ∀ e : Fin 16, I.bqkl (ix2 0 ⟨1024 + e, by omega⟩) = p.b ⟨5120 + e, by omega⟩
  gk2 : ∀ (i : Fin 16) (e : Fin 512), I.wgk2 (ix2 ⟨i, by omega⟩ e) = p.gk2 i e
  gk2z : ∀ (i : Fin 112) (e : Fin 512), I.wgk2 (ix2 ⟨16 + i, by omega⟩ e) = 0
  bgk : ∀ e : Fin 512, I.bgk (ix2 0 e) = p.bgk e
  vr : ∀ (k : Fin 1024) (e : Fin 2048), I.wvr (ix2 k e) = p.w k ⟨3072 + e, by omega⟩
  bvr : ∀ e : Fin 2048, I.bvr (ix2 0 e) = p.b ⟨3072 + e, by omega⟩
  gt : ∀ (k : Fin 1024) (e : Fin 2048), I.wgt (ix2 k e) = p.w k ⟨5136 + e, by omega⟩
  bgt : ∀ e : Fin 2048, I.bgt (ix2 0 e) = p.b ⟨5136 + e, by omega⟩
  lnw : ∀ e : Fin 1024, I.lnw (ix2 0 e) = p.lnw e
  lnb : ∀ e : Fin 1024, I.lnb (ix2 0 e) = p.lnb e
  sw0 : ∀ t s : Fin 128, I.sw0 (ix3 0 t s) = p.sw 0 t s
  sb0 : ∀ t e : Fin 128, I.sb0 (ix2 t e) = p.sb 0 t
  sw1 : ∀ t s : Fin 128, I.sw1 (ix3 0 t s) = p.sw 1 t s
  sb1 : ∀ t e : Fin 128, I.sb1 (ix2 t e) = p.sb 1 t
  sw2 : ∀ t s : Fin 128, I.sw2 (ix3 0 t s) = p.sw 2 t s
  sb2 : ∀ t e : Fin 128, I.sb2 (ix2 t e) = p.sb 2 t
  sw3 : ∀ t s : Fin 128, I.sw3 (ix3 0 t s) = p.sw 3 t s
  sb3 : ∀ t e : Fin 128, I.sb3 (ix2 t e) = p.sb 3 t
  sw4 : ∀ t s : Fin 128, I.sw4 (ix3 0 t s) = p.sw 4 t s
  sb4 : ∀ t e : Fin 128, I.sb4 (ix2 t e) = p.sb 4 t
  sw5 : ∀ t s : Fin 128, I.sw5 (ix3 0 t s) = p.sw 5 t s
  sb5 : ∀ t e : Fin 128, I.sb5 (ix2 t e) = p.sb 5 t
  sw6 : ∀ t s : Fin 128, I.sw6 (ix3 0 t s) = p.sw 6 t s
  sb6 : ∀ t e : Fin 128, I.sb6 (ix2 t e) = p.sb 6 t
  sw7 : ∀ t s : Fin 128, I.sw7 (ix3 0 t s) = p.sw 7 t s
  sb7 : ∀ t e : Fin 128, I.sb7 (ix2 t e) = p.sb 7 t
  gnw : ∀ v : Fin 256, I.gnw (ix2 0 v) = p.gnw v
  wa : ∀ k e : Fin 1024, I.wa (ix2 k e) = p.wa k e
  wb : ∀ k e : Fin 1024, I.wb (ix2 k e) = p.wb k e
  wo : ∀ k e : Fin 1024, I.wo (ix2 k e) = p.wo k e
  s0 : ∀ (d : Fin 128) (v : Fin 256), I.st0 (ix3 0 d v) = S 0 d v
  s1 : ∀ (d : Fin 128) (v : Fin 256), I.st1 (ix3 0 d v) = S 1 d v
  s2 : ∀ (d : Fin 128) (v : Fin 256), I.st2 (ix3 0 d v) = S 2 d v
  s3 : ∀ (d : Fin 128) (v : Fin 256), I.st3 (ix3 0 d v) = S 3 d v

variable {I : In} {p : Par} {x : Fin 512 → Fin 1024 → EReal} {S : Fin 4 → Fin 128 → Fin 256 → EReal} (H : IsIn I p x S)

include H

/-- The tile's rows, -/
theorem x_at (r : Fin 512) (k : Fin 1024) : t_4 I (ix2 r k) = x r k := by
  pointwise [t_4, k0_pay13, H.x]

/-- and the rows through the norm. -/
theorem xn_at (r : Fin 512) (k : Fin 1024) : t_5 I (ix2 r k) = xn p (x r) k := by
  pointwise [t_5, k0_pay14, xn, x_at H, H.n1]

theorem xn_at' (r : Fin 512) (k : Fin 1024) : k0_pay14 (F := Ideal) (t_4 I) I.n1w (ix2 r k) = xn p (x r) k := xn_at H r k

theorem uv_at (r : Fin 512) (e : Fin 2048) : t_9 I (ix2 r e) + I.buv (ix2 0 e) = pr p (x r) ⟨e, by omega⟩ := by
  pointwise [t_9, k0_pay18, pr, xn_at' H, H.uv, H.buv]

theorem q_at (r : Fin 512) (e : Fin 1024) : t_6 I (ix2 r ⟨e, by omega⟩) + t_7 I (ix2 0 ⟨e, by omega⟩) = pr p (x r) ⟨2048 + e, by omega⟩ := by
  pointwise [t_6, t_7, k0_pay15, k0_pay16, pr, xn_at' H, H.qk, H.bqk]

theorem lr_at (r : Fin 512) (e : Fin 16) : t_6 I (ix2 r ⟨1024 + e, by omega⟩) + t_7 I (ix2 0 ⟨1024 + e, by omega⟩) = pr p (x r) ⟨5120 + e, by omega⟩ := by
  pointwise [t_6, t_7, k0_pay15, k0_pay16, pr, xn_at' H, H.lr, H.blr]

theorem vr_at (r : Fin 512) (e : Fin 2048) : t_10 I (ix2 r e) + I.bvr (ix2 0 e) = pr p (x r) ⟨3072 + e, by omega⟩ := by
  pointwise [t_10, k0_pay19, pr, xn_at' H, H.vr, H.bvr]

theorem gt_at (r : Fin 512) (e : Fin 2048) : t_11 I (ix2 r e) + I.bgt (ix2 0 e) = pr p (x r) ⟨5136 + e, by omega⟩ := by
  pointwise [t_11, k0_pay20, pr, xn_at H, H.gt, H.bgt]

/-- The decay gates before the log-sigmoid. -/
theorem zz_at (r : Fin 512) (e : Fin 512) : t_8 I (ix2 r e) = zz p (x r) e := by
  have h6 : ∀ (i : Fin 128), k0_pay15 (F := Ideal) (t_4 I) I.n1w I.wqkl (ix2 r ⟨1024 + i, by omega⟩) = t_6 I (ix2 r ⟨1024 + i, by omega⟩) := fun _ => rfl
  have h7 : ∀ (i : Fin 128), I.bqkl (ix2 0 ⟨1024 + i, by omega⟩) = t_7 I (ix2 0 ⟨1024 + i, by omega⟩) := by
    intro i; pointwise [t_7, k0_pay16]
  pointwise [t_8, k0_pay17, k0_pay16, h6, h7, H.bgk, zz]
  refine congrArg (· + p.bgk e) ?_
  rw [Fin.sum_univ_add (a := 16) (b := 112) (f := fun i : Fin (16 + 112) => (t_6 I (ix2 r ⟨1024 + i, by omega⟩) + t_7 I (ix2 0 ⟨1024 + i, by omega⟩)) * I.wgk2 (ix2 i e))]
  rw [Finset.sum_eq_zero (s := Finset.univ) (f := fun i : Fin 112 => _) fun i _ => ?_, add_zero]
  · exact Finset.sum_congr rfl fun i _ => Ideal.mul_congr (lr_at H r i) (H.gk2 i e)
  · exact (Ideal.mul_congr rfl (H.gk2z i e)).trans (mul_zero _)

/-- The base-two log decays before their sum. -/
theorem g2_at (r : Fin 512) (e : Fin 512) : t_12 I (ix2 r e) = (L : EReal) * gk p (x r) e := by
  pointwise [t_12, k0_pay21, zz_at H]
  exact gate2 _

omit H in
/-- The mask's word at a row and a column of a square of 128. -/
def mword (i j : ℕ) : BitVec 1 :=
  (IntOp.andi
            (IntOp.cmpi CmpIPredicate.eq
              (Scalar.select
                (IntOp.andi
                  (IntOp.cmpi CmpIPredicate.ne
                    (IntOp.subi (BitVec.setWidth 32 (IntOp.cmpi CmpIPredicate.sgt (BitVec.ofNat 32 i) 0#32))
                      (BitVec.setWidth 32 (IntOp.cmpi CmpIPredicate.slt (BitVec.ofNat 32 i) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 i) 64#32) 0#32))
                (IntOp.subi (IntOp.divsi ArithUnit.vector (BitVec.ofNat 32 i) 64#32) 1#32)
                (IntOp.divsi ArithUnit.vector (BitVec.ofNat 32 i) 64#32))
              (Scalar.select
                (IntOp.andi
                  (IntOp.cmpi CmpIPredicate.ne
                    (IntOp.subi (BitVec.setWidth 32 (IntOp.cmpi CmpIPredicate.sgt (BitVec.ofNat 32 j) 0#32))
                      (BitVec.setWidth 32 (IntOp.cmpi CmpIPredicate.slt (BitVec.ofNat 32 j) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 j) 64#32) 0#32))
                (IntOp.subi (IntOp.divsi ArithUnit.vector (BitVec.ofNat 32 j) 64#32) 1#32)
                (IntOp.divsi ArithUnit.vector (BitVec.ofNat 32 j) 64#32)))
            (IntOp.cmpi CmpIPredicate.sle (BitVec.ofNat 32 j) (BitVec.ofNat 32 i)))

omit H in
/-- It is one exactly at the columns up to the row that lie in the row's half. -/
theorem mword_eq : ∀ i j : Fin 128, mword i j = if (j : ℕ) / 64 = (i : ℕ) / 64 ∧ j ≤ i then 1#1 else 0#1 := by
  decide +kernel

omit H in
/-- The mask as a number. -/
theorem mask_num (i j : Fin 128) : (FloatOps.sitofp (F := Ideal) FTy.f32 (BitVec.setWidth 32 (mword i j)) : EReal)
    = if (j : ℕ) / 64 = (i : ℕ) / 64 ∧ j ≤ i then 1 else 0 := by
  rw [mword_eq]
  split_ifs
  · show (((BitVec.setWidth 32 1#1).toInt : ℝ) : EReal) = 1
    simp
  · show (((BitVec.setWidth 32 0#1).toInt : ℝ) : EReal) = 0
    simp

omit H in
theorem mask_lo (i : Fin 128) (j : Fin 128) : k0_pay23 (F := Ideal) rowIx colIx k0_pay22 (ix2 i ⟨j, by omega⟩) = if (j : ℕ) / 64 = (i : ℕ) / 64 ∧ j ≤ i then 1 else 0 := by
  refine Eq.trans ?_ (mask_num i j)
  pointwise [k0_pay23, k0_pay22, rowIx, colIx, mword]
  try rfl

omit H in
theorem mask_hi (i : Fin 128) (j : Fin 128) : k0_pay23 (F := Ideal) rowIx colIx k0_pay22 (ix2 i ⟨128 + j, by omega⟩) = if (j : ℕ) / 64 = (i : ℕ) / 64 ∧ j ≤ i then 1 else 0 := by
  refine Eq.trans ?_ (mask_num i j)
  pointwise [k0_pay23, k0_pay22, rowIx, colIx, mword]
  try rfl

omit H in
/-- The masked sum over a square of 128, of a number and of its remainder after itself, is the running sum in the row's half. -/
theorem mask_sum (g : Fin 128 → EReal) (hg : ∀ k, g k ≠ ⊤) (a : Fin 2) (t : Fin 64) (i : Fin 128) (hi : (i : ℕ) = 64 * a + t) :
    ∑ k : Fin 128, (if (k : ℕ) / 64 = (i : ℕ) / 64 ∧ k ≤ i then (1 : EReal) else 0) * g k
      + ∑ k : Fin 128, (if (k : ℕ) / 64 = (i : ℕ) / 64 ∧ k ≤ i then (1 : EReal) else 0) * (g k - g k)
      = ∑ s : Fin 64, if s ≤ t then g ⟨64 * a + s, by omega⟩ else 0 := by
  rw [← Finset.sum_add_distrib]
  have h1 : ∀ k : Fin 128, (if (k : ℕ) / 64 = (i : ℕ) / 64 ∧ k ≤ i then (1 : EReal) else 0) * g k
      + (if (k : ℕ) / 64 = (i : ℕ) / 64 ∧ k ≤ i then (1 : EReal) else 0) * (g k - g k)
      = if (k : ℕ) / 64 = (i : ℕ) / 64 ∧ k ≤ i then g k else 0 := by
    intro k
    split_ifs
    · rw [one_mul, one_mul, split_self (hg k)]
    · rw [zero_mul, zero_mul, add_zero]
  rw [Finset.sum_congr rfl fun k _ => h1 k]
  refine (Fin.sum_univ_tiles 2 64 rfl (fun k : Fin 128 => if (k : ℕ) / 64 = (i : ℕ) / 64 ∧ k ≤ i then g k else 0)).trans ?_
  rw [Finset.sum_eq_single a]
  · refine Finset.sum_congr rfl fun s _ => ?_
    have e : (⟨(a : ℕ) * 64 + s, by omega⟩ : Fin 128) = ⟨64 * a + s, by omega⟩ := Fin.ext (by show (a : ℕ) * 64 + s = 64 * a + s; omega)
    have c : ((((a : ℕ) * 64 + s) / 64 = (i : ℕ) / 64) ∧ (⟨(a : ℕ) * 64 + s, by omega⟩ : Fin 128) ≤ i) ↔ s ≤ t := by
      rw [Fin.le_def, Fin.le_def]
      show _ ∧ (a : ℕ) * 64 + s ≤ i ↔ _
      have := s.isLt; have := t.isLt
      omega
    show (if (((a : ℕ) * 64 + s) / 64 = (i : ℕ) / 64) ∧ (⟨(a : ℕ) * 64 + s, by omega⟩ : Fin 128) ≤ i then g ⟨(a : ℕ) * 64 + s, by omega⟩ else 0) = _
    exact if_congr c (congrArg g e) rfl
  · intro b _ hb
    refine Finset.sum_eq_zero fun s _ => ?_
    show (if (((b : ℕ) * 64 + s) / 64 = (i : ℕ) / 64) ∧ (⟨(b : ℕ) * 64 + s, by omega⟩ : Fin 128) ≤ i then g ⟨(b : ℕ) * 64 + s, by omega⟩ else 0) = _
    rw [if_neg]
    rintro ⟨h, _⟩
    apply hb
    have := s.isLt; have := t.isLt
    exact Fin.ext (by omega)
  · intro h; exact absurd (Finset.mem_univ _) h

/-- The 64 rows of a tile's chunk. -/
def chunk (x : Fin 512 → Fin 1024 → EReal) (c : Fin 8) (t : Fin 64) : Fin 1024 → EReal := x ⟨64 * c + t, by omega⟩

omit H in
theorem bc_L (X : Fin 64 → Fin 1024 → EReal) (t : Fin 64) (e : Fin 512) :
    ∑ s : Fin 64, (if s ≤ t then (L : EReal) * gk p (X s) e else 0) = (L : EReal) * bc p X t e := by
  rw [bc, ← L_sum]
  refine Finset.sum_congr rfl fun s _ => ?_
  split_ifs
  · rfl
  · rw [mul_zero]

/-! The running sums, by groups of 128 rows. -/

theorem t13_at (a : Fin 2) (t : Fin 64) (e : Fin 512) : t_13 I (ix2 ⟨64 * a + t, by omega⟩ e) = (L : EReal) * bc p (chunk x ⟨0 + a, by omega⟩) t e := by
  pointwise [t_13, k0_pay26, k0_pay24, k0_pay25, mask_lo, mask_hi, g2_at H]
  refine (mask_sum (fun k => (L : EReal) * gk p (x ⟨k, by omega⟩) e) (fun k => lsig_ne_top _) a t ⟨64 * a + t, by omega⟩ rfl).trans ?_
  rw [← bc_L]
  refine Finset.sum_congr rfl fun s _ => ?_
  have e1 : x ⟨64 * a + s, by omega⟩ = chunk x ⟨a, by omega⟩ s :=
    congrArg x (Fin.ext (by show 64 * (a : ℕ) + s = 64 * a + s; rfl))
  rw [← e1]

theorem t14_at (a : Fin 2) (t : Fin 64) (e : Fin 512) : t_14 I (ix2 ⟨64 * a + t, by omega⟩ e) = (L : EReal) * bc p (chunk x ⟨2 + a, by omega⟩) t e := by
  pointwise [t_14, k0_pay27, k0_pay24, k0_pay25, mask_lo, mask_hi, g2_at H]
  refine (mask_sum (fun k => (L : EReal) * gk p (x ⟨128 + k, by omega⟩) e) (fun k => lsig_ne_top _) a t ⟨64 * a + t, by omega⟩ rfl).trans ?_
  rw [← bc_L]
  refine Finset.sum_congr rfl fun s _ => ?_
  have e1 : x ⟨128 + (64 * a + s), by omega⟩ = chunk x ⟨2 + a, by omega⟩ s :=
    congrArg x (Fin.ext (by show 128 + (64 * (a : ℕ) + s) = 64 * (2 + a) + s; omega))
  rw [← e1]

theorem t15_at (a : Fin 2) (t : Fin 64) (e : Fin 512) : t_15 I (ix2 ⟨64 * a + t, by omega⟩ e) = (L : EReal) * bc p (chunk x ⟨4 + a, by omega⟩) t e := by
  pointwise [t_15, k0_pay28, k0_pay24, k0_pay25, mask_lo, mask_hi, g2_at H]
  refine (mask_sum (fun k => (L : EReal) * gk p (x ⟨256 + k, by omega⟩) e) (fun k => lsig_ne_top _) a t ⟨64 * a + t, by omega⟩ rfl).trans ?_
  rw [← bc_L]
  refine Finset.sum_congr rfl fun s _ => ?_
  have e1 : x ⟨256 + (64 * a + s), by omega⟩ = chunk x ⟨4 + a, by omega⟩ s :=
    congrArg x (Fin.ext (by show 256 + (64 * (a : ℕ) + s) = 64 * (4 + a) + s; omega))
  rw [← e1]

/-- The last group's running sums, which the tile makes where it joins the four. -/
def b2last (I : In) : FVec Ideal S128x512 .f32 :=
  matmul dot_S128x256_S256x512_S128x512_1_0_0_1_n_n none (k0_pay23 rowIx colIx k0_pay22) (t_16 I) (constant S128x512 .f32 0x00000000#32)

theorem t16_at (a : Fin 2) (t : Fin 64) (e : Fin 512) : b2last I (ix2 ⟨64 * a + t, by omega⟩ e) = (L : EReal) * bc p (chunk x ⟨6 + a, by omega⟩) t e := by
  pointwise [b2last, t_16, k0_pay29, k0_pay24, k0_pay25, mask_lo, mask_hi, g2_at H]
  refine (mask_sum (fun k => (L : EReal) * gk p (x ⟨384 + k, by omega⟩) e) (fun k => lsig_ne_top _) a t ⟨64 * a + t, by omega⟩ rfl).trans ?_
  rw [← bc_L]
  refine Finset.sum_congr rfl fun s _ => ?_
  have e1 : x ⟨384 + (64 * a + s), by omega⟩ = chunk x ⟨6 + a, by omega⟩ s :=
    congrArg x (Fin.ext (by show 384 + (64 * (a : ℕ) + s) = 64 * (6 + a) + s; omega))
  rw [← e1]

/-- The tile's running log decays in base two. -/
def b2 (I : In) : FVec Ideal S512x512 .f32 := k0_pay30 (k0_pay23 rowIx colIx k0_pay22) (t_13 I) (t_14 I) (t_15 I) (t_16 I)

omit H in
theorem b2_row0 (r : Fin 512) (e : Fin 512) (h : 0 ≤ (r : ℕ)) (h' : (r : ℕ) < 128) : b2 I (ix2 r e) = t_13 I (ix2 ⟨r - 0, by omega⟩ e) := by
  pointwise [b2, k0_pay30]
  rw [dif_pos (by omega)]
  try rfl

omit H in
theorem b2_row1 (r : Fin 512) (e : Fin 512) (h : 128 ≤ (r : ℕ)) (h' : (r : ℕ) < 256) : b2 I (ix2 r e) = t_14 I (ix2 ⟨r - 128, by omega⟩ e) := by
  pointwise [b2, k0_pay30]
  rw [dif_neg (by omega)]
  rw [dif_pos (by omega)]
  try rfl

omit H in
theorem b2_row2 (r : Fin 512) (e : Fin 512) (h : 256 ≤ (r : ℕ)) (h' : (r : ℕ) < 384) : b2 I (ix2 r e) = t_15 I (ix2 ⟨r - 256, by omega⟩ e) := by
  pointwise [b2, k0_pay30]
  rw [dif_neg (by omega)]
  rw [dif_neg (by omega)]
  rw [dif_pos (by omega)]
  try rfl

omit H in
theorem b2_row3 (r : Fin 512) (e : Fin 512) (h : 384 ≤ (r : ℕ)) (h' : (r : ℕ) < 512) : b2 I (ix2 r e) = b2last I (ix2 ⟨r - 384, by omega⟩ e) := by
  pointwise [b2, k0_pay30, b2last]
  rw [dif_neg (by omega)]
  rw [dif_neg (by omega)]
  rw [dif_neg (by omega)]
  try rfl

theorem b2_at (c : Fin 8) (t : Fin 64) (e : Fin 512) : b2 I (ix2 ⟨64 * c + t, by omega⟩ e) = (L : EReal) * bc p (chunk x c) t e := by
  obtain ⟨j, a, rfl⟩ : ∃ (j : Fin 4) (a : Fin 2), c = ⟨2 * j + a, by omega⟩ := ⟨⟨c / 2, by omega⟩, ⟨c % 2, by omega⟩, Fin.ext (by show (c : ℕ) = 2 * (c / 2) + c % 2; omega)⟩
  have ht := t.isLt
  have ha := a.isLt
  have hix : ∀ (n m : ℕ) (h : n < 128) (h' : m < 128), n = m → (ix2 (⟨n, h⟩ : Fin 128) e : S128x512.Idx) = ix2 ⟨m, h'⟩ e := by
    intro n m h h' hnm; subst hnm; rfl
  fin_cases j
  · refine (b2_row0 _ e (by show 0 ≤ 64 * (2 * 0 + (a : ℕ)) + t; omega) (by show 64 * (2 * 0 + (a : ℕ)) + t < 128; omega)).trans ?_
    rw [hix _ (64 * a + t) _ (by omega) (by show 64 * (2 * 0 + (a : ℕ)) + t - 0 = 64 * a + t; omega)]
    exact t13_at H a t e
  · refine (b2_row1 _ e (by show 128 ≤ 64 * (2 * 1 + (a : ℕ)) + t; omega) (by show 64 * (2 * 1 + (a : ℕ)) + t < 256; omega)).trans ?_
    rw [hix _ (64 * a + t) _ (by omega) (by show 64 * (2 * 1 + (a : ℕ)) + t - 128 = 64 * a + t; omega)]
    exact t14_at H a t e
  · refine (b2_row2 _ e (by show 256 ≤ 64 * (2 * 2 + (a : ℕ)) + t; omega) (by show 64 * (2 * 2 + (a : ℕ)) + t < 384; omega)).trans ?_
    rw [hix _ (64 * a + t) _ (by omega) (by show 64 * (2 * 2 + (a : ℕ)) + t - 256 = 64 * a + t; omega)]
    exact t15_at H a t e
  · refine (b2_row3 _ e (by show 384 ≤ 64 * (2 * 3 + (a : ℕ)) + t; omega) (by show 64 * (2 * 3 + (a : ℕ)) + t < 512; omega)).trans ?_
    rw [hix _ (64 * a + t) _ (by omega) (by show 64 * (2 * 3 + (a : ℕ)) + t - 384 = 64 * a + t; omega)]
    exact t16_at H a t e

end Cert.KernelIdeal.Tile

end
-- ==== Proof.MixHost.lean ====
module

public import proofs.«01_k».proof.Proof.MixStage
public import proofs.«01_k».proof.Proof.MixFrame
public import Idealize.ShloMosaic.Lib.Pipeline.ValueKit

/-! What the call finds in its operands: the arguments, sliced, padded and cast. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem Cert.MixSpec

variable (m : (ℓ : Loc nD τ sig) → Buf (Elt Ideal) ℓ)

/-- A buffer's contents, as an array of the given shape. -/
abbrev rd (s : Shape) (φ : FTy) (X : FVec Ideal s φ) : FVec Ideal s φ := X

/-- The mixer's parameters, out of the arguments. -/
def par (c : Dev nD) : Par where
  n1 k := rd S1x1024 .f32 (m ((c : Thread nD τ).loc main_arg1)) (ix2 0 k)
  w k e := rd S1x1024x7184 .f32 (m ((c : Thread nD τ).loc main_arg2)) (ix3 0 k e)
  b e := rd S1x7184 .f32 (m ((c : Thread nD τ).loc main_arg3)) (ix2 0 e)
  lnw e := rd S1x1024 .f32 (m ((c : Thread nD τ).loc main_arg4)) (ix2 0 e)
  lnb e := rd S1x1024 .f32 (m ((c : Thread nD τ).loc main_arg5)) (ix2 0 e)
  sw g t s := rd S1x8x128x128 .f32 (m ((c : Thread nD τ).loc main_arg6)) (ix4 0 g t s)
  sb g t := rd S1x8x128 .f32 (m ((c : Thread nD τ).loc main_arg7)) (ix3 0 g t)
  gk2 i e := rd S1x16x512 .f32 (m ((c : Thread nD τ).loc main_arg8)) (ix3 0 i e)
  bgk e := rd S1x512 .f32 (m ((c : Thread nD τ).loc main_arg9)) (ix2 0 e)
  gnw v := rd S1x256 .f32 (m ((c : Thread nD τ).loc main_arg10)) (ix2 0 v)
  wa k e := rd S1x1024x1024 .f32 (m ((c : Thread nD τ).loc main_arg11)) (ix3 0 k e)
  wb k e := rd S1x1024x1024 .f32 (m ((c : Thread nD τ).loc main_arg12)) (ix3 0 k e)
  wo k e := rd S1x1024x1024 .f32 (m ((c : Thread nD τ).loc main_arg13)) (ix3 0 k e)

/-- The first norm's weight. -/
theorem host_n1 (c : Dev nD) (k : Fin 1024) : rd S1x1024 .f32 (V m c main_v29) (ix2 0 k) = (par m c).n1 k := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- The columns of the spatial unit. -/
theorem host_uv (c : Dev nD) (k : Fin 1024) (e : Fin 2048) : rd S1024x2176 .bf16 (V m c main_v4) (ix2 k ⟨e, by omega⟩) = (par m c).w k ⟨e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- Their bias. -/
theorem host_buv (c : Dev nD) (e : Fin 2048) : rd S1x2048 .f32 (V m c main_v31) (ix2 0 e) = (par m c).b ⟨e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- The operations of a line, cut in two. -/
theorem after_cut (l : List (HloOp τ sig (Elt Ideal))) (n : ℕ) (W : Valuation τ sig (Elt Ideal)) : StableHlo.after l W = StableHlo.after (l.drop n) (StableHlo.after (l.take n) W) := by
  induction l generalizing n W with
  | nil => cases n <;> rfl
  | cons o l ih =>
    cases n with
    | zero => rfl
    | succ n => simpa only [List.drop_succ_cons, List.take_succ_cons, StableHlo.after_cons] using ih n (o.result W)

set_option maxHeartbeats 4000000 in
/-- The query and key columns, -/
theorem host_qk (c : Dev nD) (k : Fin 1024) (e : Fin 1024) : rd S1024x1152 .bf16 (V m c main_v9) (ix2 k ⟨e, by omega⟩) = (par m c).w k ⟨2048 + e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  rw [after_cut _ 11]
  generalize hW : StableHlo.after (List.take 11 _) _ = W
  simp only [List.drop_succ_cons, List.drop_zero]
  simp only [List.take_succ_cons, List.take_zero] at hW
  entry_read
  change truncf .bf16 (concatenate S1024x1152 1 [⟨S1024x1024, rd S1024x1024 .f32 (W (Proc.devRef .tc main_v5))⟩, ⟨S1024x16, rd S1024x16 .f32 (W (Proc.devRef .tc main_v6))⟩, ⟨S1024x112, rd S1024x112 .f32 (W (Proc.devRef .tc main_v7))⟩] concatenates_S1024x1024_S1024x16_S1024x112_S1024x1152_d1) bitsLt_bf16_f32 _ = _
  pointwise [par]
  rw [← hW]
  simp only [rd]
  entry_read
  try simp -implicitDefEqProofs only [StableHlo.TRef.toBuf, StableHlo.TRef.ofBuf, cast_cast, cast_eq]
  pointwise [par, rd]

set_option maxHeartbeats 4000000 in
/-- and the low-rank columns after them. -/
theorem host_lr (c : Dev nD) (k : Fin 1024) (e : Fin 16) : rd S1024x1152 .bf16 (V m c main_v9) (ix2 k ⟨1024 + e, by omega⟩) = (par m c).w k ⟨5120 + e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  rw [after_cut _ 11]
  generalize hW : StableHlo.after (List.take 11 _) _ = W
  simp only [List.drop_succ_cons, List.drop_zero]
  simp only [List.take_succ_cons, List.take_zero] at hW
  entry_read
  change truncf .bf16 (concatenate S1024x1152 1 [⟨S1024x1024, rd S1024x1024 .f32 (W (Proc.devRef .tc main_v5))⟩, ⟨S1024x16, rd S1024x16 .f32 (W (Proc.devRef .tc main_v6))⟩, ⟨S1024x112, rd S1024x112 .f32 (W (Proc.devRef .tc main_v7))⟩] concatenates_S1024x1024_S1024x16_S1024x112_S1024x1152_d1) bitsLt_bf16_f32 _ = _
  pointwise [par]
  rw [← hW]
  simp only [rd]
  entry_read
  try simp -implicitDefEqProofs only [StableHlo.TRef.toBuf, StableHlo.TRef.ofBuf, cast_cast, cast_eq]
  pointwise [par, rd]

set_option maxHeartbeats 4000000 in
/-- The query and key bias, -/
theorem host_bqk (c : Dev nD) (e : Fin 1024) : rd S1x1152 .f32 (V m c main_v32) (ix2 0 ⟨e, by omega⟩) = (par m c).b ⟨2048 + e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  rw [after_cut _ 27]
  generalize hW : StableHlo.after (List.take 27 _) _ = W
  simp only [List.drop_succ_cons, List.drop_zero]
  simp only [List.take_succ_cons, List.take_zero] at hW
  entry_read
  change shapeCast S1x1152 (concatenate S1152 0 [⟨S1024, rd S1024 .f32 (W (Proc.devRef .tc main_v16))⟩, ⟨S16, rd S16 .f32 (W (Proc.devRef .tc main_v17))⟩, ⟨S112, rd S112 .f32 (W (Proc.devRef .tc main_v18))⟩] concatenates_S1024_S16_S112_S1152_d0) shapeCasts_S1152_S1x1152 _ = _
  pointwise [par]
  rw [← hW]
  simp only [rd]
  entry_read
  try simp -implicitDefEqProofs only [StableHlo.TRef.toBuf, StableHlo.TRef.ofBuf, cast_cast, cast_eq]
  pointwise [par, rd]

set_option maxHeartbeats 4000000 in
/-- and the low-rank bias after it. -/
theorem host_blr (c : Dev nD) (e : Fin 16) : rd S1x1152 .f32 (V m c main_v32) (ix2 0 ⟨1024 + e, by omega⟩) = (par m c).b ⟨5120 + e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  rw [after_cut _ 27]
  generalize hW : StableHlo.after (List.take 27 _) _ = W
  simp only [List.drop_succ_cons, List.drop_zero]
  simp only [List.take_succ_cons, List.take_zero] at hW
  entry_read
  change shapeCast S1x1152 (concatenate S1152 0 [⟨S1024, rd S1024 .f32 (W (Proc.devRef .tc main_v16))⟩, ⟨S16, rd S16 .f32 (W (Proc.devRef .tc main_v17))⟩, ⟨S112, rd S112 .f32 (W (Proc.devRef .tc main_v18))⟩] concatenates_S1024_S16_S112_S1152_d0) shapeCasts_S1152_S1x1152 _ = _
  pointwise [par]
  rw [← hW]
  simp only [rd]
  entry_read
  try simp -implicitDefEqProofs only [StableHlo.TRef.toBuf, StableHlo.TRef.ofBuf, cast_cast, cast_eq]
  pointwise [par, rd]

/-- The decay weight, -/
theorem host_gk2 (c : Dev nD) (i : Fin 16) (e : Fin 512) : rd S128x512 .bf16 (V m c main_v27) (ix2 ⟨i, by omega⟩ e) = (par m c).gk2 i e := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- padded with rows of zeros. -/
theorem host_gk2z (c : Dev nD) (i : Fin 112) (e : Fin 512) : rd S128x512 .bf16 (V m c main_v27) (ix2 ⟨16 + i, by omega⟩ e) = 0 := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]
  change (((0#32 : BitVec 32).toInt : ℝ) : EReal) = 0
  simp

/-- The decay bias. -/
theorem host_bgk (c : Dev nD) (e : Fin 512) : rd S1x512 .f32 (V m c main_v43) (ix2 0 e) = (par m c).bgk e := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- The value and gate columns. -/
theorem host_vr (c : Dev nD) (k : Fin 1024) (e : Fin 2048) : rd S1024x2176 .bf16 (V m c main_v12) (ix2 k ⟨e, by omega⟩) = (par m c).w k ⟨3072 + e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- Their bias. -/
theorem host_bvr (c : Dev nD) (e : Fin 2048) : rd S1x2048 .f32 (V m c main_v34) (ix2 0 e) = (par m c).b ⟨3072 + e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- The columns of the branches' gates. -/
theorem host_gt (c : Dev nD) (k : Fin 1024) (e : Fin 2048) : rd S1024x2176 .bf16 (V m c main_v15) (ix2 k ⟨e, by omega⟩) = (par m c).w k ⟨5136 + e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- Their bias. -/
theorem host_bgt (c : Dev nD) (e : Fin 2048) : rd S1x2048 .f32 (V m c main_v36) (ix2 0 e) = (par m c).b ⟨5136 + e, by omega⟩ := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- The layer norm's weight, -/
theorem host_lnw (c : Dev nD) (e : Fin 1024) : rd S1x1024 .f32 (V m c main_v38) (ix2 0 e) = (par m c).lnw e := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- and its bias. -/
theorem host_lnb (c : Dev nD) (e : Fin 1024) : rd S1x1024 .f32 (V m c main_v40) (ix2 0 e) = (par m c).lnb e := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- The spatial weights. -/
theorem host_sw (c : Dev nD) (g : Fin 8) (t s : Fin 128) : rd S8x128x128 .f32 (V m c main_v41) (ix3 g t s) = (par m c).sw g t s := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- The spatial bias, one value to a group of columns. -/
theorem host_sb (c : Dev nD) (t : Fin 128) (e : Fin 1024) : rd S128x1024 .f32 (V m c main_v24) (ix2 t e) = (par m c).sb ⟨(e : ℕ) / 128, by omega⟩ t := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- The head norm's weight. -/
theorem host_gnw (c : Dev nD) (v : Fin 256) : rd S1x256 .f32 (V m c main_v45) (ix2 0 v) = (par m c).gnw v := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- An output projection. -/
theorem host_wa (c : Dev nD) (k e : Fin 1024) : rd S1024x1152 .bf16 (V m c main_v48) (ix2 k ⟨e, by omega⟩) = (par m c).wa k e := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- An output projection. -/
theorem host_wb (c : Dev nD) (k e : Fin 1024) : rd S1024x1152 .bf16 (V m c main_v51) (ix2 k ⟨e, by omega⟩) = (par m c).wb k e := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- An output projection. -/
theorem host_wo (c : Dev nD) (k e : Fin 1024) : rd S1024x1152 .bf16 (V m c main_v54) (ix2 k ⟨e, by omega⟩) = (par m c).wo k e := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise [par, rd]

/-- A feed-forward weight. -/
theorem host_fg (c : Dev nD) (k : Fin 1024) (e : Fin 2816) : rd S1024x2816 .f32 (V m c main_v55) (ix2 k e)
    = rd S1x1024x2816 .f32 (m ((c : Thread nD τ).loc main_arg14)) (ix3 0 k e) := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise

/-- A feed-forward weight. -/
theorem host_fu (c : Dev nD) (k : Fin 1024) (e : Fin 2816) : rd S1024x2816 .f32 (V m c main_v56) (ix2 k e)
    = rd S1x1024x2816 .f32 (m ((c : Thread nD τ).loc main_arg15)) (ix3 0 k e) := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise

/-- A feed-forward weight. -/
theorem host_fd (c : Dev nD) (k : Fin 2816) (e : Fin 1024) : rd S2816x1024 .f32 (V m c main_v57) (ix2 k e)
    = rd S1x2816x1024 .f32 (m ((c : Thread nD τ).loc main_arg16)) (ix3 0 k e) := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  try simp -implicitDefEqProofs only [StableHlo.TRef.toBuf, StableHlo.TRef.ofBuf, cast_cast, cast_eq]
  pointwise

end Cert.KernelIdeal.Tile

end
-- ==== Proof.MixDecay.lean ====
module

public import proofs.«01_k».proof.Proof.MixStage

/-! The decayed queries and keys of one tile, and the decay of each chunk. -/

@[expose] public section

set_option maxRecDepth 16384

noncomputable section

namespace Cert.KernelIdeal.Tile

open Cert.KernelIdeal Cert.KernelIdeal.Gen Idealize.ShloMosaic Idealize.ShloMosaic.TcCoe Idealize.SL.Sem Cert.Scalars Cert.MixSpec

variable {I : In} {p : Par} {x : Fin 512 → Fin 1024 → EReal} {S : Fin 4 → Fin 128 → Fin 256 → EReal} (H : IsIn I p x S)

/-- The tile's key features with their bias. -/
def kb (I : In) : FVec Ideal S512x512 .f32 := k0_pay39 (t_6 I) (t_7 I)

include H

/-- A row of the running log decays, as the tile spells them. -/
theorem b2_raw (c : Fin 8) (t : Fin 64) (e : Fin 512) :
    k0_pay30 (F := Ideal) (k0_pay23 rowIx colIx k0_pay22) (t_13 I) (t_14 I) (t_15 I) (t_16 I) (ix2 ⟨64 * c + t, by omega⟩ e) = (L : EReal) * bc p (chunk x c) t e :=
  b2_at H c t e

theorem qb_at (r : Fin 512) (e : Fin 512) : t_6 I (ix2 r ⟨e, by omega⟩) + t_7 I (ix2 0 ⟨e, by omega⟩) = pr p (x r) ⟨2048 + e, by omega⟩ :=
  q_at H r ⟨e, by omega⟩

theorem kb_at (r : Fin 512) (e : Fin 512) : kb I (ix2 r e) = pr p (x r) ⟨2560 + e, by omega⟩ := by
  have h := q_at H r ⟨512 + e, by omega⟩
  pointwise [kb, k0_pay39]
  refine h.trans (congrArg (pr p (x r)) (Fin.ext ?_))
  show 2048 + (512 + (e : ℕ)) = 2560 + e
  omega

theorem kb_raw (r : Fin 512) (e : Fin 512) : k0_pay39 (F := Ideal) (t_6 I) (t_7 I) (ix2 r e) = pr p (x r) ⟨2560 + e, by omega⟩ := kb_at H r e

/-- The query rows under their decay, -/
theorem q_dec (c : Fin 8) (t : Fin 64) (e : Fin 512) : t_17 I (ix2 ⟨64 * c + t, by omega⟩ e)
    = pr p (chunk x c t) ⟨2048 + e, by omega⟩ * Ideal.ofBits FTy.f32 0x3DB504F3#32 * Ideal.exp (bc p (chunk x c) t e) := by
  pointwise [t_17, k0_pay40, b2_raw H]
  refine Ideal.mul_congr (Ideal.mul_congr (qb_at H _ e) rfl) (exp2_L _)

/-- key rows under the inverse decay, -/
theorem k_dec (c : Fin 8) (t : Fin 64) (e : Fin 512) : t_18 I (ix2 ⟨64 * c + t, by omega⟩ e)
    = pr p (chunk x c t) ⟨2560 + e, by omega⟩ * Ideal.exp (-bc p (chunk x c) t e) := by
  pointwise [t_18, k0_pay41, b2_raw H, kb_raw H]
  refine Ideal.mul_congr rfl ?_
  rw [← exp2_L, mul_neg]
  exact congrArg Ideal.exp2 (zero_sub _)

omit H in
theorem two_rows (r r' : Fin 512) (e : Fin 512) (h : r = r') : kb I (ix2 r e) = kb I (ix2 r' e) := by rw [h]

omit H in
theorem k_end_row0 (r : Fin 512) (e : Fin 512) (h : 0 ≤ (r : ℕ)) (h' : (r : ℕ) < 64) :
    t_19 I (ix2 r e) = kb I (ix2 r e) * Ideal.exp2 (b2 I (ix2 ⟨63, by omega⟩ e) - b2 I (ix2 r e)) := by
  have hk : ∀ (r : Fin 512), k0_pay39 (F := Ideal) (t_6 I) (t_7 I) (ix2 r e) = kb I (ix2 r e) := fun _ => rfl
  have hb : ∀ (r : Fin 512), k0_pay30 (F := Ideal) (k0_pay23 rowIx colIx k0_pay22) (t_13 I) (t_14 I) (t_15 I) (t_16 I) (ix2 r e) = b2 I (ix2 r e) := fun _ => rfl
  pointwise [t_19, k0_pay42, k0_pay31, k0_pay32, k0_pay33, k0_pay34, k0_pay35, k0_pay36, k0_pay37, k0_pay38, hk, hb]
  rw [dif_pos (by omega)]
  rfl

omit H in
theorem k_end_row1 (r : Fin 512) (e : Fin 512) (h : 64 ≤ (r : ℕ)) (h' : (r : ℕ) < 128) :
    t_19 I (ix2 r e) = kb I (ix2 r e) * Ideal.exp2 (b2 I (ix2 ⟨127, by omega⟩ e) - b2 I (ix2 r e)) := by
  have hk : ∀ (r : Fin 512), k0_pay39 (F := Ideal) (t_6 I) (t_7 I) (ix2 r e) = kb I (ix2 r e) := fun _ => rfl
  have hb : ∀ (r : Fin 512), k0_pay30 (F := Ideal) (k0_pay23 rowIx colIx k0_pay22) (t_13 I) (t_14 I) (t_15 I) (t_16 I) (ix2 r e) = b2 I (ix2 r e) := fun _ => rfl
  pointwise [t_19, k0_pay42, k0_pay31, k0_pay32, k0_pay33, k0_pay34, k0_pay35, k0_pay36, k0_pay37, k0_pay38, hk, hb]
  rw [dif_neg (by omega)]
  rw [dif_pos (by omega)]
  rfl

omit H in
theorem k_end_row2 (r : Fin 512) (e : Fin 512) (h : 128 ≤ (r : ℕ)) (h' : (r : ℕ) < 192) :
    t_19 I (ix2 r e) = kb I (ix2 r e) * Ideal.exp2 (b2 I (ix2 ⟨191, by omega⟩ e) - b2 I (ix2 r e)) := by
  have hk : ∀ (r : Fin 512), k0_pay39 (F := Ideal) (t_6 I) (t_7 I) (ix2 r e) = kb I (ix2 r e) := fun _ => rfl
  have hb : ∀ (r : Fin 512), k0_pay30 (F := Ideal) (k0_pay23 rowIx colIx k0_pay22) (t_13 I) (t_14 I) (t_15 I) (t_16 I) (ix2 r e) = b2 I (ix2 r e) := fun _ => rfl
  pointwise [t_19, k0_pay42, k0_pay31, k0_pay32, k0_pay33, k0_pay34, k0_pay35, k0_pay36, k0_pay37, k0_pay38, hk, hb]
  rw [dif_neg (by omega)]
  rw [dif_neg (by omega)]
  rw [dif_pos (by omega)]
  rfl

omit H in
theorem k_end_row3 (r : Fin 512) (e : Fin 512) (h : 192 ≤ (r : ℕ)) (h' : (r : ℕ) < 256) :
    t_19 I (ix2 r e) = kb I (ix2 r e) * Ideal.exp2 (b2 I (ix2 ⟨255, by omega⟩ e) - b2 I (ix2 r e)) := by
  have hk : ∀ (r : Fin 512), k0_pay39 (F := Ideal) (t_6 I) (t_7 I) (ix2 r e) = kb I (ix2 r e) := fun _ => rfl
  have hb : ∀ (r : Fin 512), k0_pay30 (F := Ideal) (k0_pay23 rowIx colIx k0_pay22) (t_13 I) (t_14 I) (t_15 I) (t_16 I) (ix2 r e) = b2 I (ix2 r e) := fun _ => rfl
  pointwise [t_19, k0_pay42, k0_pay31, k0_pay32, k0_pay33, k0_pay34, k0_pay35, k0_pay36, k0_pay37, k0_pay38, hk, hb]
  rw [dif_neg (by omega)]
  rw [dif_neg (by omega)]
  rw [dif_neg (by omega)]
  rw [dif_pos (by omega)]
  rfl

omit H in
theorem k_end_row4 (r : Fin 512) (e : Fin 512) (h : 256 ≤ (r : ℕ)) (h' : (r : ℕ) < 320) :
    t_19 I (ix2 r e) = kb I (ix2 r e) * Ideal.exp2 (b2 I (ix2 ⟨319, by omega⟩ e) - b2 I (ix2 r e)) := by
  have hk : ∀ (r : Fin 512), k0_pay39 (F := Ideal) (t_6 I) (t_7 I) (ix2 r e) = kb I (ix2 r e) := fun _ => rfl
  have hb : ∀ (r : Fin 512), k0_pay30 (F := Ideal) (k0_pay23 rowIx colIx k0_pay22) (t_13 I) (t_14 I) (t_15 I) (t_16 I) (ix2 r e) = b2 I (ix2 r e) := fun _ => rfl
  pointwise [t_19, k0_pay42, k0_pay31, k0_pay32, k0_pay33, k0_pay34, k0_pay35, k0_pay36, k0_pay37, k0_pay38, hk, hb]
  rw [dif_neg (by omega)]
  rw [dif_neg (by omega)]
  rw [dif_neg (by omega)]
  rw [dif_neg (by omega)]
  rw [dif_pos (by omega)]
  rfl

omit H in
theorem k_end_row5 (r : Fin 512) (e : Fin 512) (h : 320 ≤ (r : ℕ)) (h' : (r : ℕ) < 384) :
    t_19 I (ix2 r e) = kb I (ix2 r e) * Ideal.exp2 (b2 I (ix2 ⟨383, by omega⟩ e) - b2 I (ix2 r e)) := by
  have hk : ∀ (r : Fin 512), k0_pay39 (F := Ideal) (t_6 I) (t_7 I) (ix2 r e) = kb I (ix2 r e) := fun _ => rfl
  have hb : ∀ (r : Fin 512), k0_pay30 (F := Ideal) (k0_pay23 rowIx colIx k0_pay22) (t_13 I) (t_14 I) (t_15 I) (t_16 I) (ix2 r e) = b2 I (ix2 r e) := fun _ => rfl
  pointwise [t_19, k0_pay42, k0_pay31, k0_pay32, k0_pay33, k0_pay34, k0_pay35, k0_pay36, k0_pay37, k0_pay38, hk, hb]
  rw [dif_neg (by omega)]
  rw [dif_neg (by omega)]
  rw [dif_neg (by omega)]
  rw [dif_neg (by omega)]
  rw [dif_neg (by omega)]
  rw [dif_pos (by omega)]
  rfl

omit H in
theorem k_end_row6 (r : Fin 512) (e : Fin 512) (h : 384 ≤ (r : ℕ)) (h' : (r : ℕ) < 448) :
    t_19 I (ix2 r e) = kb I (ix2 r e) * Ideal.exp2 (b2 I (ix2 ⟨447, by omega⟩ e) - b2 I (ix2 r e)) := by
  have hk : ∀ (r : Fin 512), k0_pay39 (F := Ideal) (t_6 I) (t_7 I) (ix2 r e) = kb I (ix2 r e) := fun _ => rfl
  have hb : ∀ (r : Fin 512), k0_pay30 (F := Ideal) (k0_pay23 rowIx colIx k0_pay22) (t_13 I) (t_14 I) (t_15 I) (t_16 I) (ix2 r e) = b2 I (ix2 r e) := fun _ => rfl
  pointwise [t_19, k0_pay42, k0_pay31, k0_pay32, k0_pay33, k0_pay34, k0_pay35, k0_pay36, k0_pay37, k0_pay38, hk, hb]
  rw [dif_neg (by omega)]
  rw [dif_neg (by omega)]
  rw [dif_neg (by omega)]
  rw [dif_neg (by omega)]
  rw [dif_neg (by omega)]
  rw [dif_neg (by omega)]
  rw [dif_pos (by omega)]
  rfl

omit H in
theorem k_end_row7 (r : Fin 512) (e : Fin 512) (h : 448 ≤ (r : ℕ)) (h' : (r : ℕ) < 512) :
    t_19 I (ix2 r e) = kb I (ix2 r e) * Ideal.exp2 (b2 I (ix2 ⟨511, by omega⟩ e) - b2 I (ix2 r e)) := by
  have hk : ∀ (r : Fin 512), k0_pay39 (F := Ideal) (t_6 I) (t_7 I) (ix2 r e) = kb I (ix2 r e) := fun _ => rfl
  have hb : ∀ (r : Fin 512), k0_pay30 (F := Ideal) (k0_pay23 rowIx colIx k0_pay22) (t_13 I) (t_14 I) (t_15 I) (t_16 I) (ix2 r e) = b2 I (ix2 r e) := fun _ => rfl
  pointwise [t_19, k0_pay42, k0_pay31, k0_pay32, k0_pay33, k0_pay34, k0_pay35, k0_pay36, k0_pay37, k0_pay38, hk, hb]
  rw [dif_neg (by omega)]
  rw [dif_neg (by omega)]
  rw [dif_neg (by omega)]
  rw [dif_neg (by omega)]
  rw [dif_neg (by omega)]
  rw [dif_neg (by omega)]
  rw [dif_neg (by omega)]
  rfl

/-- key rows under what decay remains to the chunk's end, -/
theorem k_end (c : Fin 8) (t : Fin 64) (e : Fin 512) : t_19 I (ix2 ⟨64 * c + t, by omega⟩ e)
    = pr p (chunk x c t) ⟨2560 + e, by omega⟩ * Ideal.exp (bc p (chunk x c) 63 e - bc p (chunk x c) t e) := by
  have key : t_19 I (ix2 ⟨64 * c + t, by omega⟩ e) = kb I (ix2 ⟨64 * c + t, by omega⟩ e)
      * Ideal.exp2 (b2 I (ix2 ⟨64 * c + (63 : Fin 64), by show 64 * (c : ℕ) + 63 < 512; omega⟩ e) - b2 I (ix2 ⟨64 * c + t, by omega⟩ e)) := by
    have ht := t.isLt
    fin_cases c
    · exact k_end_row0 _ e (by show 0 ≤ 64 * 0 + (t : ℕ); omega) (by show 64 * 0 + (t : ℕ) < 64; omega)
    · exact k_end_row1 _ e (by show 64 ≤ 64 * 1 + (t : ℕ); omega) (by show 64 * 1 + (t : ℕ) < 128; omega)
    · exact k_end_row2 _ e (by show 128 ≤ 64 * 2 + (t : ℕ); omega) (by show 64 * 2 + (t : ℕ) < 192; omega)
    · exact k_end_row3 _ e (by show 192 ≤ 64 * 3 + (t : ℕ); omega) (by show 64 * 3 + (t : ℕ) < 256; omega)
    · exact k_end_row4 _ e (by show 256 ≤ 64 * 4 + (t : ℕ); omega) (by show 64 * 4 + (t : ℕ) < 320; omega)
    · exact k_end_row5 _ e (by show 320 ≤ 64 * 5 + (t : ℕ); omega) (by show 64 * 5 + (t : ℕ) < 384; omega)
    · exact k_end_row6 _ e (by show 384 ≤ 64 * 6 + (t : ℕ); omega) (by show 64 * 6 + (t : ℕ) < 448; omega)
    · exact k_end_row7 _ e (by show 448 ≤ 64 * 7 + (t : ℕ); omega) (by show 64 * 7 + (t : ℕ) < 512; omega)
  rw [key, kb_at H, b2_at H, b2_at H, L_sub, exp2_L]
  rfl

omit H in
theorem dec_col0 (e : Fin 512) : t_20 I (ix2 e 0) = Ideal.exp2 (b2 I (ix2 63 e)) := by
  have hb : ∀ (r : Fin 512), k0_pay30 (F := Ideal) (k0_pay23 rowIx colIx k0_pay22) (t_13 I) (t_14 I) (t_15 I) (t_16 I) (ix2 r e) = b2 I (ix2 r e) := fun _ => rfl
  pointwise [t_20, k0_pay43, k0_pay31, k0_pay32, k0_pay33, k0_pay34, k0_pay35, k0_pay36, k0_pay37, k0_pay38, hb]
  try rfl

omit H in
theorem dec_col1 (e : Fin 512) : t_20 I (ix2 e 1) = Ideal.exp2 (b2 I (ix2 127 e)) := by
  have hb : ∀ (r : Fin 512), k0_pay30 (F := Ideal) (k0_pay23 rowIx colIx k0_pay22) (t_13 I) (t_14 I) (t_15 I) (t_16 I) (ix2 r e) = b2 I (ix2 r e) := fun _ => rfl
  pointwise [t_20, k0_pay43, k0_pay31, k0_pay32, k0_pay33, k0_pay34, k0_pay35, k0_pay36, k0_pay37, k0_pay38, hb]
  try rfl

omit H in
theorem dec_col2 (e : Fin 512) : t_20 I (ix2 e 2) = Ideal.exp2 (b2 I (ix2 191 e)) := by
  have hb : ∀ (r : Fin 512), k0_pay30 (F := Ideal) (k0_pay23 rowIx colIx k0_pay22) (t_13 I) (t_14 I) (t_15 I) (t_16 I) (ix2 r e) = b2 I (ix2 r e) := fun _ => rfl
  pointwise [t_20, k0_pay43, k0_pay31, k0_pay32, k0_pay33, k0_pay34, k0_pay35, k0_pay36, k0_pay37, k0_pay38, hb]
  try rfl

omit H in
theorem dec_col3 (e : Fin 512) : t_20 I (ix2 e 3) = Ideal.exp2 (b2 I (ix2 255 e)) := by
  have hb : ∀ (r : Fin 512), k0_pay30 (F := Ideal) (k0_pay23 rowIx colIx k0_pay22) (t_13 I) (t_14 I) (t_15 I) (t_16 I) (ix2 r e) = b2 I (ix2 r e) := fun _ => rfl
  pointwise [t_20, k0_pay43, k0_pay31, k0_pay32, k0_pay33, k0_pay34, k0_pay35, k0_pay36, k0_pay37, k0_pay38, hb]
  try rfl

omit H in
theorem dec_col4 (e : Fin 512) : t_20 I (ix2 e 4) = Ideal.exp2 (b2 I (ix2 319 e)) := by
  have hb : ∀ (r : Fin 512), k0_pay30 (F := Ideal) (k0_pay23 rowIx colIx k0_pay22) (t_13 I) (t_14 I) (t_15 I) (t_16 I) (ix2 r e) = b2 I (ix2 r e) := fun _ => rfl
  pointwise [t_20, k0_pay43, k0_pay31, k0_pay32, k0_pay33, k0_pay34, k0_pay35, k0_pay36, k0_pay37, k0_pay38, hb]
  try rfl

omit H in
theorem dec_col5 (e : Fin 512) : t_20 I (ix2 e 5) = Ideal.exp2 (b2 I (ix2 383 e)) := by
  have hb : ∀ (r : Fin 512), k0_pay30 (F := Ideal) (k0_pay23 rowIx colIx k0_pay22) (t_13 I) (t_14 I) (t_15 I) (t_16 I) (ix2 r e) = b2 I (ix2 r e) := fun _ => rfl
  pointwise [t_20, k0_pay43, k0_pay31, k0_pay32, k0_pay33, k0_pay34, k0_pay35, k0_pay36, k0_pay37, k0_pay38, hb]
  try rfl

omit H in
theorem dec_col6 (e : Fin 512) : t_20 I (ix2 e 6) = Ideal.exp2 (b2 I (ix2 447 e)) := by
  have hb : ∀ (r : Fin 512), k0_pay30 (F := Ideal) (k0_pay23 rowIx colIx k0_pay22) (t_13 I) (t_14 I) (t_15 I) (t_16 I) (ix2 r e) = b2 I (ix2 r e) := fun _ => rfl
  pointwise [t_20, k0_pay43, k0_pay31, k0_pay32, k0_pay33, k0_pay34, k0_pay35, k0_pay36, k0_pay37, k0_pay38, hb]
  try rfl

omit H in
theorem dec_col7 (e : Fin 512) : t_20 I (ix2 e 7) = Ideal.exp2 (b2 I (ix2 511 e)) := by
  have hb : ∀ (r : Fin 512), k0_pay30 (F := Ideal) (k0_pay23 rowIx colIx k0_pay22) (t_13 I) (t_14 I) (t_15 I) (t_16 I) (ix2 r e) = b2 I (ix2 r e) := fun _ => rfl
  pointwise [t_20, k0_pay43, k0_pay31, k0_pay32, k0_pay33, k0_pay34, k0_pay35, k0_pay36, k0_pay37, k0_pay38, hb]
  try rfl

/-- and the chunks' decays. -/
theorem dec_at (c : Fin 8) (e : Fin 512) : t_20 I (ix2 e c) = Ideal.exp (bc p (chunk x c) 63 e) := by
  rw [← exp2_L, ← b2_at H c 63 e]
  fin_cases c
  · exact dec_col0 e
  · exact dec_col1 e
  · exact dec_col2 e
  · exact dec_col3 e
  · exact dec_col4 e
  · exact dec_col5 e
  · exact dec_col6 e
  · exact dec_col7 e

end Cert.KernelIdeal.Tile

end
-- ==== Proof.MixUnits.lean ====
module

public import proofs.«01_k».proof.Proof.MixDecay

/-! The scores and key-value products of the chunks of one tile, and one chunk's attention rows and state. -/

@[expose] public section

set_option maxRecDepth 16384

noncomputable section

namespace Cert.KernelIdeal.Tile

open Cert.KernelIdeal Cert.KernelIdeal.Gen Idealize.ShloMosaic Idealize.ShloMosaic.TcCoe Idealize.SL.Sem Cert.Scalars Cert.MixSpec

/-- The causal mask of a chunk, -/
theorem tri64 (t s : Fin 64) : k0_pay73 (ix2 t ⟨s, by omega⟩) = if s ≤ t then 1#1 else 0#1 := by
  have e : ∀ t s : Fin 64, IntOp.cmpi CmpIPredicate.sge (BitVec.ofNat 32 (t : ℕ)) (BitVec.ofNat 32 (s : ℕ)) = if s ≤ t then 1#1 else (0#1 : BitVec 1) := by decide +kernel
  pointwise [k0_pay73]
  exact e t s

/-- which hides the next chunk's columns. -/
theorem tri64_hi (t s : Fin 64) : k0_pay73 (ix2 t ⟨64 + s, by omega⟩) = 0#1 := by
  have e : ∀ t s : Fin 64, IntOp.cmpi CmpIPredicate.sge (BitVec.ofNat 32 (t : ℕ)) (BitVec.ofNat 32 (64 + (s : ℕ))) = 0#1 := by decide +kernel
  pointwise [k0_pay73]
  exact e t s

theorem sel_ite (c : Prop) [Decidable c] (a : EReal) : Scalar.select (if c then 1#1 else 0#1) a 0 = if c then a else 0 := by
  by_cases h : c
  · rw [if_pos h, if_pos h]; rfl
  · rw [if_neg h, if_neg h]; rfl

variable (p : Par) (X : Fin 64 → Fin 1024 → EReal) (h : Fin 4)

/-- A chunk's left operand: its causal scores, then its query rows. -/
structure IsL (Y : FVec Ideal S64x256 .bf16) : Prop where
  sc : ∀ t s : Fin 64, Y (ix2 t ⟨s, by omega⟩) = sc p X h t s
  qd : ∀ (t : Fin 64) (d : Fin 128), Y (ix2 t ⟨128 + d, by omega⟩) = qd p X h t d

/-- A chunk's keys times its values. -/
def IsKV (K : FVec Ideal S128x256 .f32) : Prop :=
  ∀ (d : Fin 128) (v : Fin 256), K (ix2 d v) = ∑ s : Fin 64, ke p X h s d * vv p X h s v

variable {p X h}

theorem isL_of {A : FVec Ideal S64x128 .bf16} {B : FVec Ideal S128x128 .bf16}
    (hA : ∀ (t : Fin 64) (d : Fin 128), A (ix2 t d) = qd p X h t d)
    (hB : ∀ (s : Fin 64) (d : Fin 128), B (ix2 ⟨s, by omega⟩ d) = kd p X h s d) :
    IsL p X h (k0_pay81 k0_pay73 A B) := by
  constructor
  · intro t s
    have ht : ((⟨s, by omega⟩ : Fin 256) : ℕ) < 128 := by show (s : ℕ) < 128; omega
    pointwise [k0_pay81, hA]
    rw [dif_pos (show (s : ℕ) < 128 by omega)]
    pointwise [hA, hB, tri64]
    refine (sel_ite _ _).trans ?_
    rfl
  · intro t d
    pointwise [k0_pay81, hA]

theorem isKV_of {A : FVec Ideal S64x128 .bf16} {V : FVec Ideal S64x256 .bf16}
    (hA : ∀ (t : Fin 64) (d : Fin 128), A (ix2 t d) = ke p X h t d)
    (hV : ∀ (t : Fin 64) (v : Fin 256), V (ix2 t v) = vv p X h t v) :
    IsKV p X h (matmul dot_S64x128_S64x256_S128x256_0_0_1_1_n_n none A V (constant S128x256 .f32 0x00000000#32)) := by
  intro d v
  pointwise [hA, hV]

/-- One chunk's attention rows, of its left operand, its values and the state before it, -/
def oUnit (Y : FVec Ideal S64x256 .bf16) (V : FVec Ideal S64x256 .bf16) (Z : FVec Ideal S128x256 .f32) : FVec Ideal S64x256 .f32 :=
  matmul dot_S64x256_S256x256_S64x256_1_0_0_1_n_n (φ₂ := .bf16) none Y
    (concatenate S256x256 0 [⟨S64x256, V⟩, ⟨S64x256, k0_pay74⟩, ⟨S128x256, truncf .bf16 Z bitsLt_bf16_f32⟩] concatenates_S64x256_S64x256_S128x256_S256x256_d0)
    (constant S64x256 .f32 0x00000000#32)

/-- and the state after it. -/
def sUnit (D : FVec Ideal S128x1 .f32) (Z K : FVec Ideal S128x256 .f32) : FVec Ideal S128x256 .f32 :=
  addf (mulf (broadcastTo S128x256 D broadcasts_S128x1_S128x256) Z) K

theorem lt64 (c : Fin 8) (t : Fin 64) : 64 * (c : ℕ) + t < 512 := by omega
theorem lt128 (h : Fin 4) (d : Fin 128) : 128 * (h : ℕ) + d < 512 := by omega
theorem lt256 (h : Fin 4) (v : Fin 256) : 256 * (h : ℕ) + v < 1024 := by omega

/-- A sum of 256 by its parts of 64, 64 and 128. -/
theorem sum256 (f : Fin 256 → EReal) : ∑ x, f x
    = ∑ s : Fin 64, f ⟨s, by omega⟩ + (∑ s : Fin 64, f ⟨64 + s, by omega⟩ + ∑ d : Fin 128, f ⟨128 + d, by omega⟩) := by
  have h1 := Fin.sum_univ_add (a := 128) (b := 128) (f := fun i : Fin (128 + 128) => f i)
  have h2 := Fin.sum_univ_add (a := 64) (b := 64) (f := fun i : Fin (64 + 64) => f ⟨i, by omega⟩)
  refine h1.trans ?_
  rw [← add_assoc]
  exact Ideal.add_congr h2 rfl

/-- A chunk's rows as the spec has them. -/
theorem oUnit_at {Y V Z} {S : Fin 4 → Fin 128 → Fin 256 → EReal} (hY : IsL p X h Y)
    (hV : ∀ (t : Fin 64) (v : Fin 256), V (ix2 t v) = vv p X h t v) (hZ : ∀ (d : Fin 128) (v : Fin 256), Z (ix2 d v) = S h d v)
    (t : Fin 64) (v : Fin 256) : oUnit Y V Z (ix2 t v) = oo p X S h t v := by
  have h1 := hY.sc
  have h2 := hY.qd
  pointwise [oUnit, k0_pay74, hV, hZ, oo]
  rw [sum256]
  refine Ideal.add_congr (Finset.sum_congr rfl fun s _ => ?_) ?_
  · rw [dif_pos (show (s : ℕ) < 64 by omega)]
    exact Ideal.mul_congr (h1 t s) rfl
  · rw [Finset.sum_eq_zero fun s _ => ?_, zero_add]
    · refine Finset.sum_congr rfl fun d _ => ?_
      rw [dif_neg (show ¬ (128 + (d : ℕ) < 64) by omega), dif_neg (show ¬ (128 + (d : ℕ) - 64 < 64) by omega)]
      exact Ideal.mul_congr (h2 t d) (congrArg (fun d => S h d v) (Fin.ext (by show 128 + (d : ℕ) - 64 - 64 = d; omega)))
    · rw [dif_neg (show ¬ (64 + (s : ℕ) < 64) by omega), dif_pos (show 64 + (s : ℕ) - 64 < 64 by omega), mul_zero]

/-- A chunk's next state as the spec has it. -/
theorem sUnit_at {D Z K} {S : Fin 4 → Fin 128 → Fin 256 → EReal} (hD : ∀ d : Fin 128, D (ix2 d 0) = Ideal.exp (bc p X 63 ⟨128 * h + d, by omega⟩))
    (hK : IsKV p X h K) (hZ : ∀ (d : Fin 128) (v : Fin 256), Z (ix2 d v) = S h d v)
    (d : Fin 128) (v : Fin 256) : sUnit D Z K (ix2 d v) = stp p X S h d v := by
  have h1 : ∀ (d : Fin 128) (v : Fin 256), K (ix2 d v) = _ := hK
  pointwise [sUnit, hD, hZ, h1, stp]

variable {I : In} {x : Fin 512 → Fin 1024 → EReal} {S : Fin 4 → Fin 128 → Fin 256 → EReal} (H : IsIn I p x S)

include H

/-- The tile's value rows. -/
theorem v_at (c : Fin 8) (t : Fin 64) (h : Fin 4) (v : Fin 256) : t_49 I (ix2 ⟨64 * c + t, by omega⟩ ⟨256 * h + v, by omega⟩) = vv p (chunk x c) h t v := by
  pointwise [t_49, k0_pay71, k0_pay70, vv]
  exact vr_at H ⟨64 * c + t, by omega⟩ ⟨256 * h + v, by omega⟩

theorem q_dec' (c : Fin 8) (t : Fin 64) (h : Fin 4) (d : Fin 128) (r : Fin 512) (e : Fin 512) (hr : (r : ℕ) = 64 * c + t) (he : (e : ℕ) = 128 * h + d) :
    t_17 I (ix2 r e) = qd p (chunk x c) h t d := by
  obtain rfl : r = ⟨64 * (c : ℕ) + t, lt64 c t⟩ := Fin.ext hr
  obtain rfl : e = ⟨128 * (h : ℕ) + d, lt128 h d⟩ := Fin.ext he
  exact q_dec H c t ⟨128 * h + d, by omega⟩

theorem k_dec' (c : Fin 8) (t : Fin 64) (h : Fin 4) (d : Fin 128) (r : Fin 512) (e : Fin 512) (hr : (r : ℕ) = 64 * c + t) (he : (e : ℕ) = 128 * h + d) :
    t_18 I (ix2 r e) = kd p (chunk x c) h t d := by
  obtain rfl : r = ⟨64 * (c : ℕ) + t, lt64 c t⟩ := Fin.ext hr
  obtain rfl : e = ⟨128 * (h : ℕ) + d, lt128 h d⟩ := Fin.ext he
  exact k_dec H c t ⟨128 * h + d, by omega⟩

theorem k_end' (c : Fin 8) (t : Fin 64) (h : Fin 4) (d : Fin 128) (r : Fin 512) (e : Fin 512) (hr : (r : ℕ) = 64 * c + t) (he : (e : ℕ) = 128 * h + d) :
    t_19 I (ix2 r e) = ke p (chunk x c) h t d := by
  obtain rfl : r = ⟨64 * (c : ℕ) + t, lt64 c t⟩ := Fin.ext hr
  obtain rfl : e = ⟨128 * (h : ℕ) + d, lt128 h d⟩ := Fin.ext he
  exact k_end H c t ⟨128 * h + d, by omega⟩

theorem v_at' (c : Fin 8) (t : Fin 64) (h : Fin 4) (v : Fin 256) (r : Fin 512) (e : Fin 1024) (hr : (r : ℕ) = 64 * c + t) (he : (e : ℕ) = 256 * h + v) :
    t_49 I (ix2 r e) = vv p (chunk x c) h t v := by
  obtain rfl : r = ⟨64 * (c : ℕ) + t, lt64 c t⟩ := Fin.ext hr
  obtain rfl : e = ⟨256 * (h : ℕ) + v, lt256 h v⟩ := Fin.ext he
  exact v_at H c t h v

theorem lhs_0_0 : IsL p (chunk x 0) 0 (t_51 I) := by
  have e : t_51 I = k0_pay81 k0_pay73 (extractStridedSlice S64x128 ![0, 0] (t_17 I) slices_S512x512_o0_0_S64x128)
      (extractStridedSlice S128x128 ![0, 0] (k0_pay72 (t_18 I)) slices_S576x512_o0_0_S128x128) := by
    unfold t_51
    generalize t_17 I = Q
    generalize t_18 I = K
    rfl
  rw [e]
  refine isL_of (fun t d => ?_) (fun t d => ?_)
  · pointwise
    exact q_dec' H 0 t 0 d _ _ (by dsimp only; omega) (by dsimp only; omega)
  · have ht : (64 : ℕ) * 0 + t < 512 := by omega
    pointwise [t_50, k0_pay72]
    try rw [dif_pos (by omega)]
    exact k_dec' H 0 t 0 d _ _ (by dsimp only; omega) (by dsimp only; omega)

theorem kv_0_0 : IsKV p (chunk x 0) 0 (t_52 I) := by
  have e : t_52 I = matmul dot_S64x128_S64x256_S128x256_0_0_1_1_n_n none (extractStridedSlice S64x128 ![0, 0] (t_19 I) slices_S512x512_o0_0_S64x128)
      (extractStridedSlice S64x256 ![0, 0] (t_49 I) slices_S512x1024_o0_0_S64x256) (constant S128x256 .f32 0x00000000#32) := by
    unfold t_52
    generalize t_19 I = Q
    unfold t_49
    rfl
  rw [e]
  refine isKV_of (fun t d => ?_) (fun t v => ?_)
  · pointwise
    exact k_end' H 0 t 0 d _ _ (by dsimp only; omega) (by dsimp only; omega)
  · pointwise
    exact v_at' H 0 t 0 v _ _ (by dsimp only; omega) (by dsimp only; omega)

theorem lhs_0_1 : IsL p (chunk x 1) 0 (t_53 I) := by
  have e : t_53 I = k0_pay81 k0_pay73 (extractStridedSlice S64x128 ![64, 0] (t_17 I) slices_S512x512_o64_0_S64x128)
      (extractStridedSlice S128x128 ![64, 0] (k0_pay72 (t_18 I)) slices_S576x512_o64_0_S128x128) := by
    unfold t_53
    generalize t_17 I = Q
    generalize t_18 I = K
    rfl
  rw [e]
  refine isL_of (fun t d => ?_) (fun t d => ?_)
  · pointwise
    exact q_dec' H 1 t 0 d _ _ (by dsimp only; omega) (by dsimp only; omega)
  · have ht : (64 : ℕ) * 1 + t < 512 := by omega
    pointwise [t_50, k0_pay72]
    try rw [dif_pos (by omega)]
    exact k_dec' H 1 t 0 d _ _ (by dsimp only; omega) (by dsimp only; omega)

theorem kv_0_1 : IsKV p (chunk x 1) 0 (t_54 I) := by
  have e : t_54 I = matmul dot_S64x128_S64x256_S128x256_0_0_1_1_n_n none (extractStridedSlice S64x128 ![64, 0] (t_19 I) slices_S512x512_o64_0_S64x128)
      (extractStridedSlice S64x256 ![64, 0] (t_49 I) slices_S512x1024_o64_0_S64x256) (constant S128x256 .f32 0x00000000#32) := by
    unfold t_54
    generalize t_19 I = Q
    unfold t_49
    rfl
  rw [e]
  refine isKV_of (fun t d => ?_) (fun t v => ?_)
  · pointwise
    exact k_end' H 1 t 0 d _ _ (by dsimp only; omega) (by dsimp only; omega)
  · pointwise
    exact v_at' H 1 t 0 v _ _ (by dsimp only; omega) (by dsimp only; omega)

theorem lhs_0_2 : IsL p (chunk x 2) 0 (t_57 I) := by
  have e : t_57 I = k0_pay81 k0_pay73 (extractStridedSlice S64x128 ![128, 0] (t_17 I) slices_S512x512_o128_0_S64x128)
      (extractStridedSlice S128x128 ![128, 0] (k0_pay72 (t_18 I)) slices_S576x512_o128_0_S128x128) := by
    unfold t_57 t_56 t_55
    generalize t_17 I = Q
    generalize t_18 I = K
    rfl
  rw [e]
  refine isL_of (fun t d => ?_) (fun t d => ?_)
  · pointwise
    exact q_dec' H 2 t 0 d _ _ (by dsimp only; omega) (by dsimp only; omega)
  · have ht : (64 : ℕ) * 2 + t < 512 := by omega
    pointwise [t_50, k0_pay72]
    try rw [dif_pos (by omega)]
    exact k_dec' H 2 t 0 d _ _ (by dsimp only; omega) (by dsimp only; omega)

theorem kv_0_2 : IsKV p (chunk x 2) 0 (t_58 I) := by
  have e : t_58 I = matmul dot_S64x128_S64x256_S128x256_0_0_1_1_n_n none (extractStridedSlice S64x128 ![128, 0] (t_19 I) slices_S512x512_o128_0_S64x128)
      (extractStridedSlice S64x256 ![128, 0] (t_49 I) slices_S512x1024_o128_0_S64x256) (constant S128x256 .f32 0x00000000#32) := by
    unfold t_58
    generalize t_19 I = Q
    generalize t_49 I = V
    rfl
  rw [e]
  refine isKV_of (fun t d => ?_) (fun t v => ?_)
  · pointwise
    exact k_end' H 2 t 0 d _ _ (by dsimp only; omega) (by dsimp only; omega)
  · pointwise
    exact v_at' H 2 t 0 v _ _ (by dsimp only; omega) (by dsimp only; omega)

theorem lhs_0_3 : IsL p (chunk x 3) 0 (t_59 I) := by
  have e : t_59 I = k0_pay81 k0_pay73 (extractStridedSlice S64x128 ![192, 0] (t_17 I) slices_S512x512_o192_0_S64x128)
      (extractStridedSlice S128x128 ![192, 0] (k0_pay72 (t_18 I)) slices_S576x512_o192_0_S128x128) := by
    unfold t_59 t_50
    generalize t_17 I = Q
    generalize t_18 I = K
    rfl
  rw [e]
  refine isL_of (fun t d => ?_) (fun t d => ?_)
  · pointwise
    exact q_dec' H 3 t 0 d _ _ (by dsimp only; omega) (by dsimp only; omega)
  · have ht : (64 : ℕ) * 3 + t < 512 := by omega
    pointwise [t_50, k0_pay72]
    try rw [dif_pos (by omega)]
    exact k_dec' H 3 t 0 d _ _ (by dsimp only; omega) (by dsimp only; omega)

theorem kv_0_3 : IsKV p (chunk x 3) 0 (t_60 I) := by
  have e : t_60 I = matmul dot_S64x128_S64x256_S128x256_0_0_1_1_n_n none (extractStridedSlice S64x128 ![192, 0] (t_19 I) slices_S512x512_o192_0_S64x128)
      (extractStridedSlice S64x256 ![192, 0] (t_49 I) slices_S512x1024_o192_0_S64x256) (constant S128x256 .f32 0x00000000#32) := by
    unfold t_60
    generalize t_19 I = Q
    generalize t_49 I = V
    rfl
  rw [e]
  refine isKV_of (fun t d => ?_) (fun t v => ?_)
  · pointwise
    exact k_end' H 3 t 0 d _ _ (by dsimp only; omega) (by dsimp only; omega)
  · pointwise
    exact v_at' H 3 t 0 v _ _ (by dsimp only; omega) (by dsimp only; omega)

theorem lhs_0_4 : IsL p (chunk x 4) 0 (t_61 I) := by
  have e : t_61 I = k0_pay81 k0_pay73 (extractStridedSlice S64x128 ![256, 0] (t_17 I) slices_S512x512_o256_0_S64x128)
      (extractStridedSlice S128x128 ![256, 0] (k0_pay72 (t_18 I)) slices_S576x512_o256_0_S128x128) := by
    unfold t_61 t_50
    generalize t_17 I = Q
    generalize t_18 I = K
    rfl
  rw [e]
  refine isL_of (fun t d => ?_) (fun t d => ?_)
  · pointwise
    exact q_dec' H 4 t 0 d _ _ (by dsimp only; omega) (by dsimp only; omega)
  · have ht : (64 : ℕ) * 4 + t < 512 := by omega
    pointwise [t_50, k0_pay72]
    try rw [dif_pos (by omega)]
    exact k_dec' H 4 t 0 d _ _ (by dsimp only; omega) (by dsimp only; omega)

theorem kv_0_4 : IsKV p (chunk x 4) 0 (t_62 I) := by
  have e : t_62 I = matmul dot_S64x128_S64x256_S128x256_0_0_1_1_n_n none (extractStridedSlice S64x128 ![256, 0] (t_19 I) slices_S512x512_o256_0_S64x128)
      (extractStridedSlice S64x256 ![256, 0] (t_49 I) slices_S512x1024_o256_0_S64x256) (constant S128x256 .f32 0x00000000#32) := by
    unfold t_62
    generalize t_19 I = Q
    generalize t_49 I = V
    rfl
  rw [e]
  refine isKV_of (fun t d => ?_) (fun t v => ?_)
  · pointwise
    exact k_end' H 4 t 0 d _ _ (by dsimp only; omega) (by dsimp only; omega)
  · pointwise
    exact v_at' H 4 t 0 v _ _ (by dsimp only; omega) (by dsimp only; omega)

theorem lhs_0_5 : IsL p (chunk x 5) 0 (t_63 I) := by
  have e : t_63 I = k0_pay81 k0_pay73 (extractStridedSlice S64x128 ![320, 0] (t_17 I) slices_S512x512_o320_0_S64x128)
      (extractStridedSlice S128x128 ![320, 0] (k0_pay72 (t_18 I)) slices_S576x512_o320_0_S128x128) := by
    unfold t_63 t_50
    generalize t_17 I = Q
    generalize t_18 I = K
    rfl
  rw [e]
  refine isL_of (fun t d => ?_) (fun t d => ?_)
  · pointwise
    exact q_dec' H 5 t 0 d _ _ (by dsimp only; omega) (by dsimp only; omega)
  · have ht : (64 : ℕ) * 5 + t < 512 := by omega
    pointwise [t_50, k0_pay72]
    try rw [dif_pos (by omega)]
    exact k_dec' H 5 t 0 d _ _ (by dsimp only; omega) (by dsimp only; omega)

theorem kv_0_5 : IsKV p (chunk x 5) 0 (t_64 I) := by
  have e : t_64 I = matmul dot_S64x128_S64x256_S128x256_0_0_1_1_n_n none (extractStridedSlice S64x128 ![320, 0] (t_19 I) slices_S512x512_o320_0_S64x128)
      (extractStridedSlice S64x256 ![320, 0] (t_49 I) slices_S512x1024_o320_0_S64x256) (constant S128x256 .f32 0x00000000#32) := by
    unfold t_64
    generalize t_19 I = Q
    generalize t_49 I = V
    rfl
  rw [e]
  refine isKV_of (fun t d => ?_) (fun t v => ?_)
  · pointwise
    exact k_end' H 5 t 0 d _ _ (by dsimp only; omega) (by dsimp only; omega)
  · pointwise
    exact v_at' H 5 t 0 v _ _ (by dsimp only; omega) (by dsimp only; omega)

theorem lhs_0_6 : IsL p (chunk x 6) 0 (t_65 I) := by
  have e : t_65 I = k0_pay81 k0_pay73 (extractStridedSlice S64x128 ![384, 0] (t_17 I) slices_S512x512_o384_0_S64x128)
      (extractStridedSlice S128x128 ![384, 0] (k0_pay72 (t_18 I)) slices_S576x512_o384_0_S128x128) := by
    unfold t_65 t_50
    generalize t_17 I = Q
    generalize t_18 I = K
    rfl
  rw [e]
  refine isL_of (fun t d => ?_) (fun t d => ?_)
  · pointwise
    exact q_dec' H 6 t 0 d _ _ (by dsimp only; omega) (by dsimp only; omega)
  · have ht : (64 : ℕ) * 6 + t < 512 := by omega
    pointwise [t_50, k0_pay72]
    try rw [dif_pos (by omega)]
    exact k_dec' H 6 t 0 d _ _ (by dsimp only; omega) (by dsimp only; omega)

theorem kv_0_6 : IsKV p (chunk x 6) 0 (t_67 I) := by
  have e : t_67 I = matmul dot_S64x128_S64x256_S128x256_0_0_1_1_n_n none (extractStridedSlice S64x128 ![384, 0] (t_19 I) slices_S512x512_o384_0_S64x128)
      (extractStridedSlice S64x256 ![384, 0] (t_49 I) slices_S512x1024_o384_0_S64x256) (constant S128x256 .f32 0x00000000#32) := by
    unfold t_67 t_66
    generalize t_19 I = Q
    generalize t_49 I = V
    rfl
  rw [e]
  refine isKV_of (fun t d => ?_) (fun t v => ?_)
  · pointwise
    exact k_end' H 6 t 0 d _ _ (by dsimp only; omega) (by dsimp only; omega)
  · pointwise
    exact v_at' H 6 t 0 v _ _ (by dsimp only; omega) (by dsimp only; omega)

theorem lhs_0_7 : IsL p (chunk x 7) 0 (t_68 I) := by
  have e : t_68 I = k0_pay81 k0_pay73 (extractStridedSlice S64x128 ![448, 0] (t_17 I) slices_S512x512_o448_0_S64x128)
      (extractStridedSlice S128x128 ![448, 0] (k0_pay72 (t_18 I)) slices_S576x512_o448_0_S128x128) := by
    unfold t_68 t_50
    generalize t_17 I = Q
    generalize t_18 I = K
    rfl
  rw [e]
  refine isL_of (fun t d => ?_) (fun t d => ?_)
  · pointwise
    exact q_dec' H 7 t 0 d _ _ (by dsimp only; omega) (by dsimp only; omega)
  · have ht : (64 : ℕ) * 7 + t < 512 := by omega
    pointwise [t_50, k0_pay72]
    try rw [dif_pos (by omega)]
    exact k_dec' H 7 t 0 d _ _ (by dsimp only; omega) (by dsimp only; omega)

theorem kv_0_7 : IsKV p (chunk x 7) 0 (t_69 I) := by
  have e : t_69 I = matmul dot_S64x128_S64x256_S128x256_0_0_1_1_n_n none (extractStridedSlice S64x128 ![448, 0] (t_19 I) slices_S512x512_o448_0_S64x128)
      (extractStridedSlice S64x256 ![448, 0] (t_49 I) slices_S512x1024_o448_0_S64x256) (constant S128x256 .f32 0x00000000#32) := by
    unfold t_69
    generalize t_19 I = Q
    generalize t_49 I = V
    rfl
  rw [e]
  refine isKV_of (fun t d => ?_) (fun t v => ?_)
  · pointwise
    exact k_end' H 7 t 0 d _ _ (by dsimp only; omega) (by dsimp only; omega)
  · pointwise
    exact v_at' H 7 t 0 v _ _ (by dsimp only; omega) (by dsimp only; omega)

theorem lhs_1_0 : IsL p (chunk x 0) 1 (t_70 I) := by
  have e : t_70 I = k0_pay81 k0_pay73 (extractStridedSlice S64x128 ![0, 128] (t_17 I) slices_S512x512_o0_128_S64x128)
      (extractStridedSlice S128x128 ![0, 128] (k0_pay72 (t_18 I)) slices_S576x512_o0_128_S128x128) := by
    unfold t_70 t_50
    generalize t_17 I = Q
    generalize t_18 I = K
    rfl
  rw [e]
  refine isL_of (fun t d => ?_) (fun t d => ?_)
  · pointwise
    exact q_dec' H 0 t 1 d _ _ (by dsimp only; omega) (by dsimp only; omega)
  · have ht : (64 : ℕ) * 0 + t < 512 := by omega
    pointwise [t_50, k0_pay72]
    try rw [dif_pos (by omega)]
    exact k_dec' H 0 t 1 d _ _ (by dsimp only; omega) (by dsimp only; omega)

theorem kv_1_0 : IsKV p (chunk x 0) 1 (t_71 I) := by
  have e : t_71 I = matmul dot_S64x128_S64x256_S128x256_0_0_1_1_n_n none (extractStridedSlice S64x128 ![0, 128] (t_19 I) slices_S512x512_o0_128_S64x128)
      (extractStridedSlice S64x256 ![0, 256] (t_49 I) slices_S512x1024_o0_256_S64x256) (constant S128x256 .f32 0x00000000#32) := by
    unfold t_71
    generalize t_19 I = Q
    generalize t_49 I = V
    rfl
  rw [e]
  refine isKV_of (fun t d => ?_) (fun t v => ?_)
  · pointwise
    exact k_end' H 0 t 1 d _ _ (by dsimp only; omega) (by dsimp only; omega)
  · pointwise
    exact v_at' H 0 t 1 v _ _ (by dsimp only; omega) (by dsimp only; omega)

theorem lhs_1_1 : IsL p (chunk x 1) 1 (t_72 I) := by
  have e : t_72 I = k0_pay81 k0_pay73 (extractStridedSlice S64x128 ![64, 128] (t_17 I) slices_S512x512_o64_128_S64x128)
      (extractStridedSlice S128x128 ![64, 128] (k0_pay72 (t_18 I)) slices_S576x512_o64_128_S128x128) := by
    unfold t_72 t_50
    generalize t_17 I = Q
    generalize t_18 I = K
    rfl
  rw [e]
  refine isL_of (fun t d => ?_) (fun t d => ?_)
  · pointwise
    exact q_dec' H 1 t 1 d _ _ (by dsimp only; omega) (by dsimp only; omega)
  · have ht : (64 : ℕ) * 1 + t < 512 := by omega
    pointwise [t_50, k0_pay72]
    try rw [dif_pos (by omega)]
    exact k_dec' H 1 t 1 d _ _ (by dsimp only; omega) (by dsimp only; omega)

theorem kv_1_1 : IsKV p (chunk x 1) 1 (t_73 I) := by
  have e : t_73 I = matmul dot_S64x128_S64x256_S128x256_0_0_1_1_n_n none (extractStridedSlice S64x128 ![64, 128] (t_19 I) slices_S512x512_o64_128_S64x128)
      (extractStridedSlice S64x256 ![64, 256] (t_49 I) slices_S512x1024_o64_256_S64x256) (constant S128x256 .f32 0x00000000#32) := by
    unfold t_73
    generalize t_19 I = Q
    generalize t_49 I = V
    rfl
  rw [e]
  refine isKV_of (fun t d => ?_) (fun t v => ?_)
  · pointwise
    exact k_end' H 1 t 1 d _ _ (by dsimp only; omega) (by dsimp only; omega)
  · pointwise
    exact v_at' H 1 t 1 v _ _ (by dsimp only; omega) (by dsimp only; omega)

theorem lhs_1_2 : IsL p (chunk x 2) 1 (t_74 I) := by
  have e : t_74 I = k0_pay81 k0_pay73 (extractStridedSlice S64x128 ![128, 128] (t_17 I) slices_S512x512_o128_128_S64x128)
      (extractStridedSlice S128x128 ![128, 128] (k0_pay72 (t_18 I)) slices_S576x512_o128_128_S128x128) := by
    unfold t_74 t_50
    generalize t_17 I = Q
    generalize t_18 I = K
    rfl
  rw [e]
  refine isL_of (fun t d => ?_) (fun t d => ?_)
  · pointwise
    exact q_dec' H 2 t 1 d _ _ (by dsimp only; omega) (by dsimp only; omega)
  · have ht : (64 : ℕ) * 2 + t < 512 := by omega
    pointwise [t_50, k0_pay72]
    try rw [dif_pos (by omega)]
    exact k_dec' H 2 t 1 d _ _ (by dsimp only; omega) (by dsimp only; omega)

theorem kv_1_2 : IsKV p (chunk x 2) 1 (t_75 I) := by
  have e : t_75 I = matmul dot_S64x128_S64x256_S128x256_0_0_1_1_n_n none (extractStridedSlice S64x128 ![128, 128] (t_19 I) slices_S512x512_o128_128_S64x128)
      (extractStridedSlice S64x256 ![128, 256] (t_49 I) slices_S512x1024_o128_256_S64x256) (constant S128x256 .f32 0x00000000#32) := by
    unfold t_75
    generalize t_19 I = Q
    generalize t_49 I = V
    rfl
  rw [e]
  refine isKV_of (fun t d => ?_) (fun t v => ?_)
  · pointwise
    exact k_end' H 2 t 1 d _ _ (by dsimp only; omega) (by dsimp only; omega)
  · pointwise
    exact v_at' H 2 t 1 v _ _ (by dsimp only; omega) (by dsimp only; omega)

theorem lhs_1_3 : IsL p (chunk x 3) 1 (t_78 I) := by
  have e : t_78 I = k0_pay81 k0_pay73 (extractStridedSlice S64x128 ![192, 128] (t_17 I) slices_S512x512_o192_128_S64x128)
      (extractStridedSlice S128x128 ![192, 128] (k0_pay72 (t_18 I)) slices_S576x512_o192_128_S128x128) := by
    unfold t_78 t_77 t_76 t_50
    generalize t_17 I = Q
    generalize t_18 I = K
    rfl
  rw [e]
  refine isL_of (fun t d => ?_) (fun t d => ?_)
  · pointwise
    exact q_dec' H 3 t 1 d _ _ (by dsimp only; omega) (by dsimp only; omega)
  · have ht : (64 : ℕ) * 3 + t < 512 := by omega
    pointwise [t_50, k0_pay72]
    try rw [dif_pos (by omega)]
    exact k_dec' H 3 t 1 d _ _ (by dsimp only; omega) (by dsimp only; omega)

theorem kv_1_3 : IsKV p (chunk x 3) 1 (t_79 I) := by
  have e : t_79 I = matmul dot_S64x128_S64x256_S128x256_0_0_1_1_n_n none (extractStridedSlice S64x128 ![192, 128] (t_19 I) slices_S512x512_o192_128_S64x128)
      (extractStridedSlice S64x256 ![192, 256] (t_49 I) slices_S512x1024_o192_256_S64x256) (constant S128x256 .f32 0x00000000#32) := by
    unfold t_79
    generalize t_19 I = Q
    generalize t_49 I = V
    rfl
  rw [e]
  refine isKV_of (fun t d => ?_) (fun t v => ?_)
  · pointwise
    exact k_end' H 3 t 1 d _ _ (by dsimp only; omega) (by dsimp only; omega)
  · pointwise
    exact v_at' H 3 t 1 v _ _ (by dsimp only; omega) (by dsimp only; omega)

theorem lhs_1_4 : IsL p (chunk x 4) 1 (t_80 I) := by
  have e : t_80 I = k0_pay81 k0_pay73 (extractStridedSlice S64x128 ![256, 128] (t_17 I) slices_S512x512_o256_128_S64x128)
      (extractStridedSlice S128x128 ![256, 128] (k0_pay72 (t_18 I)) slices_S576x512_o256_128_S128x128) := by
    unfold t_80 t_50
    generalize t_17 I = Q
    generalize t_18 I = K
    rfl
  rw [e]
  refine isL_of (fun t d => ?_) (fun t d => ?_)
  · pointwise
    exact q_dec' H 4 t 1 d _ _ (by dsimp only; omega) (by dsimp only; omega)
  · have ht : (64 : ℕ) * 4 + t < 512 := by omega
    pointwise [t_50, k0_pay72]
    try rw [dif_pos (by omega)]
    exact k_dec' H 4 t 1 d _ _ (by dsimp only; omega) (by dsimp only; omega)

theorem kv_1_4 : IsKV p (chunk x 4) 1 (t_81 I) := by
  have e : t_81 I = matmul dot_S64x128_S64x256_S128x256_0_0_1_1_n_n none (extractStridedSlice S64x128 ![256, 128] (t_19 I) slices_S512x512_o256_128_S64x128)
      (extractStridedSlice S64x256 ![256, 256] (t_49 I) slices_S512x1024_o256_256_S64x256) (constant S128x256 .f32 0x00000000#32) := by
    unfold t_81
    generalize t_19 I = Q
    generalize t_49 I = V
    rfl
  rw [e]
  refine isKV_of (fun t d => ?_) (fun t v => ?_)
  · pointwise
    exact k_end' H 4 t 1 d _ _ (by dsimp only; omega) (by dsimp only; omega)
  · pointwise
    exact v_at' H 4 t 1 v _ _ (by dsimp only; omega) (by dsimp only; omega)

theorem lhs_1_5 : IsL p (chunk x 5) 1 (t_82 I) := by
  have e : t_82 I = k0_pay81 k0_pay73 (extractStridedSlice S64x128 ![320, 128] (t_17 I) slices_S512x512_o320_128_S64x128)
      (extractStridedSlice S128x128 ![320, 128] (k0_pay72 (t_18 I)) slices_S576x512_o320_128_S128x128) := by
    unfold t_82 t_50
    generalize t_17 I = Q
    generalize t_18 I = K
    rfl
  rw [e]
  refine isL_of (fun t d => ?_) (fun t d => ?_)
  · pointwise
    exact q_dec' H 5 t 1 d _ _ (by dsimp only; omega) (by dsimp only; omega)
  · have ht : (64 : ℕ) * 5 + t < 512 := by omega
    pointwise [t_50, k0_pay72]
    try rw [dif_pos (by omega)]
    exact k_dec' H 5 t 1 d _ _ (by dsimp only; omega) (by dsimp only; omega)

theorem kv_1_5 : IsKV p (chunk x 5) 1 (t_83 I) := by
  have e : t_83 I = matmul dot_S64x128_S64x256_S128x256_0_0_1_1_n_n none (extractStridedSlice S64x128 ![320, 128] (t_19 I) slices_S512x512_o320_128_S64x128)
      (extractStridedSlice S64x256 ![320, 256] (t_49 I) slices_S512x1024_o320_256_S64x256) (constant S128x256 .f32 0x00000000#32) := by
    unfold t_83
    generalize t_19 I = Q
    generalize t_49 I = V
    rfl
  rw [e]
  refine isKV_of (fun t d => ?_) (fun t v => ?_)
  · pointwise
    exact k_end' H 5 t 1 d _ _ (by dsimp only; omega) (by dsimp only; omega)
  · pointwise
    exact v_at' H 5 t 1 v _ _ (by dsimp only; omega) (by dsimp only; omega)

theorem lhs_1_6 : IsL p (chunk x 6) 1 (t_84 I) := by
  have e : t_84 I = k0_pay81 k0_pay73 (extractStridedSlice S64x128 ![384, 128] (t_17 I) slices_S512x512_o384_128_S64x128)
      (extractStridedSlice S128x128 ![384, 128] (k0_pay72 (t_18 I)) slices_S576x512_o384_128_S128x128) := by
    unfold t_84 t_50
    generalize t_17 I = Q
    generalize t_18 I = K
    rfl
  rw [e]
  refine isL_of (fun t d => ?_) (fun t d => ?_)
  · pointwise
    exact q_dec' H 6 t 1 d _ _ (by dsimp only; omega) (by dsimp only; omega)
  · have ht : (64 : ℕ) * 6 + t < 512 := by omega
    pointwise [t_50, k0_pay72]
    try rw [dif_pos (by omega)]
    exact k_dec' H 6 t 1 d _ _ (by dsimp only; omega) (by dsimp only; omega)

theorem kv_1_6 : IsKV p (chunk x 6) 1 (t_85 I) := by
  have e : t_85 I = matmul dot_S64x128_S64x256_S128x256_0_0_1_1_n_n none (extractStridedSlice S64x128 ![384, 128] (t_19 I) slices_S512x512_o384_128_S64x128)
      (extractStridedSlice S64x256 ![384, 256] (t_49 I) slices_S512x1024_o384_256_S64x256) (constant S128x256 .f32 0x00000000#32) := by
    unfold t_85
    generalize t_19 I = Q
    generalize t_49 I = V
    rfl
  rw [e]
  refine isKV_of (fun t d => ?_) (fun t v => ?_)
  · pointwise
    exact k_end' H 6 t 1 d _ _ (by dsimp only; omega) (by dsimp only; omega)
  · pointwise
    exact v_at' H 6 t 1 v _ _ (by dsimp only; omega) (by dsimp only; omega)

theorem lhs_1_7 : IsL p (chunk x 7) 1 (t_86 I) := by
  have e : t_86 I = k0_pay81 k0_pay73 (extractStridedSlice S64x128 ![448, 128] (t_17 I) slices_S512x512_o448_128_S64x128)
      (extractStridedSlice S128x128 ![448, 128] (k0_pay72 (t_18 I)) slices_S576x512_o448_128_S128x128) := by
    unfold t_86 t_50
    generalize t_17 I = Q
    generalize t_18 I = K
    rfl
  rw [e]
  refine isL_of (fun t d => ?_) (fun t d => ?_)
  · pointwise
    exact q_dec' H 7 t 1 d _ _ (by dsimp only; omega) (by dsimp only; omega)
  · have ht : (64 : ℕ) * 7 + t < 512 := by omega
    pointwise [t_50, k0_pay72]
    try rw [dif_pos (by omega)]
    exact k_dec' H 7 t 1 d _ _ (by dsimp only; omega) (by dsimp only; omega)

theorem kv_1_7 : IsKV p (chunk x 7) 1 (t_87 I) := by
  have e : t_87 I = matmul dot_S64x128_S64x256_S128x256_0_0_1_1_n_n none (extractStridedSlice S64x128 ![448, 128] (t_19 I) slices_S512x512_o448_128_S64x128)
      (extractStridedSlice S64x256 ![448, 256] (t_49 I) slices_S512x1024_o448_256_S64x256) (constant S128x256 .f32 0x00000000#32) := by
    unfold t_87
    generalize t_19 I = Q
    generalize t_49 I = V
    rfl
  rw [e]
  refine isKV_of (fun t d => ?_) (fun t v => ?_)
  · pointwise
    exact k_end' H 7 t 1 d _ _ (by dsimp only; omega) (by dsimp only; omega)
  · pointwise
    exact v_at' H 7 t 1 v _ _ (by dsimp only; omega) (by dsimp only; omega)

theorem lhs_2_0 : IsL p (chunk x 0) 2 (t_88 I) := by
  have e : t_88 I = k0_pay81 k0_pay73 (extractStridedSlice S64x128 ![0, 256] (t_17 I) slices_S512x512_o0_256_S64x128)
      (extractStridedSlice S128x128 ![0, 256] (k0_pay72 (t_18 I)) slices_S576x512_o0_256_S128x128) := by
    unfold t_88 t_50
    generalize t_17 I = Q
    generalize t_18 I = K
    rfl
  rw [e]
  refine isL_of (fun t d => ?_) (fun t d => ?_)
  · pointwise
    exact q_dec' H 0 t 2 d _ _ (by dsimp only; omega) (by dsimp only; omega)
  · have ht : (64 : ℕ) * 0 + t < 512 := by omega
    pointwise [t_50, k0_pay72]
    try rw [dif_pos (by omega)]
    exact k_dec' H 0 t 2 d _ _ (by dsimp only; omega) (by dsimp only; omega)

theorem kv_2_0 : IsKV p (chunk x 0) 2 (t_89 I) := by
  have e : t_89 I = matmul dot_S64x128_S64x256_S128x256_0_0_1_1_n_n none (extractStridedSlice S64x128 ![0, 256] (t_19 I) slices_S512x512_o0_256_S64x128)
      (extractStridedSlice S64x256 ![0, 512] (t_49 I) slices_S512x1024_o0_512_S64x256) (constant S128x256 .f32 0x00000000#32) := by
    unfold t_89
    generalize t_19 I = Q
    generalize t_49 I = V
    rfl
  rw [e]
  refine isKV_of (fun t d => ?_) (fun t v => ?_)
  · pointwise
    exact k_end' H 0 t 2 d _ _ (by dsimp only; omega) (by dsimp only; omega)
  · pointwise
    exact v_at' H 0 t 2 v _ _ (by dsimp only; omega) (by dsimp only; omega)

theorem lhs_2_1 : IsL p (chunk x 1) 2 (t_90 I) := by
  have e : t_90 I = k0_pay81 k0_pay73 (extractStridedSlice S64x128 ![64, 256] (t_17 I) slices_S512x512_o64_256_S64x128)
      (extractStridedSlice S128x128 ![64, 256] (k0_pay72 (t_18 I)) slices_S576x512_o64_256_S128x128) := by
    unfold t_90 t_50
    generalize t_17 I = Q
    generalize t_18 I = K
    rfl
  rw [e]
  refine isL_of (fun t d => ?_) (fun t d => ?_)
  · pointwise
    exact q_dec' H 1 t 2 d _ _ (by dsimp only; omega) (by dsimp only; omega)
  · have ht : (64 : ℕ) * 1 + t < 512 := by omega
    pointwise [t_50, k0_pay72]
    try rw [dif_pos (by omega)]
    exact k_dec' H 1 t 2 d _ _ (by dsimp only; omega) (by dsimp only; omega)

theorem kv_2_1 : IsKV p (chunk x 1) 2 (t_91 I) := by
  have e : t_91 I = matmul dot_S64x128_S64x256_S128x256_0_0_1_1_n_n none (extractStridedSlice S64x128 ![64, 256] (t_19 I) slices_S512x512_o64_256_S64x128)
      (extractStridedSlice S64x256 ![64, 512] (t_49 I) slices_S512x1024_o64_512_S64x256) (constant S128x256 .f32 0x00000000#32) := by
    unfold t_91
    generalize t_19 I = Q
    generalize t_49 I = V
    rfl
  rw [e]
  refine isKV_of (fun t d => ?_) (fun t v => ?_)
  · pointwise
    exact k_end' H 1 t 2 d _ _ (by dsimp only; omega) (by dsimp only; omega)
  · pointwise
    exact v_at' H 1 t 2 v _ _ (by dsimp only; omega) (by dsimp only; omega)

theorem lhs_2_2 : IsL p (chunk x 2) 2 (t_92 I) := by
  have e : t_92 I = k0_pay81 k0_pay73 (extractStridedSlice S64x128 ![128, 256] (t_17 I) slices_S512x512_o128_256_S64x128)
      (extractStridedSlice S128x128 ![128, 256] (k0_pay72 (t_18 I)) slices_S576x512_o128_256_S128x128) := by
    unfold t_92 t_50
    generalize t_17 I = Q
    generalize t_18 I = K
    rfl
  rw [e]
  refine isL_of (fun t d => ?_) (fun t d => ?_)
  · pointwise
    exact q_dec' H 2 t 2 d _ _ (by dsimp only; omega) (by dsimp only; omega)
  · have ht : (64 : ℕ) * 2 + t < 512 := by omega
    pointwise [t_50, k0_pay72]
    try rw [dif_pos (by omega)]
    exact k_dec' H 2 t 2 d _ _ (by dsimp only; omega) (by dsimp only; omega)

theorem kv_2_2 : IsKV p (chunk x 2) 2 (t_93 I) := by
  have e : t_93 I = matmul dot_S64x128_S64x256_S128x256_0_0_1_1_n_n none (extractStridedSlice S64x128 ![128, 256] (t_19 I) slices_S512x512_o128_256_S64x128)
      (extractStridedSlice S64x256 ![128, 512] (t_49 I) slices_S512x1024_o128_512_S64x256) (constant S128x256 .f32 0x00000000#32) := by
    unfold t_93
    generalize t_19 I = Q
    generalize t_49 I = V
    rfl
  rw [e]
  refine isKV_of (fun t d => ?_) (fun t v => ?_)
  · pointwise
    exact k_end' H 2 t 2 d _ _ (by dsimp only; omega) (by dsimp only; omega)
  · pointwise
    exact v_at' H 2 t 2 v _ _ (by dsimp only; omega) (by dsimp only; omega)

theorem lhs_2_3 : IsL p (chunk x 3) 2 (t_94 I) := by
  have e : t_94 I = k0_pay81 k0_pay73 (extractStridedSlice S64x128 ![192, 256] (t_17 I) slices_S512x512_o192_256_S64x128)
      (extractStridedSlice S128x128 ![192, 256] (k0_pay72 (t_18 I)) slices_S576x512_o192_256_S128x128) := by
    unfold t_94 t_50
    generalize t_17 I = Q
    generalize t_18 I = K
    rfl
  rw [e]
  refine isL_of (fun t d => ?_) (fun t d => ?_)
  · pointwise
    exact q_dec' H 3 t 2 d _ _ (by dsimp only; omega) (by dsimp only; omega)
  · have ht : (64 : ℕ) * 3 + t < 512 := by omega
    pointwise [t_50, k0_pay72]
    try rw [dif_pos (by omega)]
    exact k_dec' H 3 t 2 d _ _ (by dsimp only; omega) (by dsimp only; omega)

theorem kv_2_3 : IsKV p (chunk x 3) 2 (t_95 I) := by
  have e : t_95 I = matmul dot_S64x128_S64x256_S128x256_0_0_1_1_n_n none (extractStridedSlice S64x128 ![192, 256] (t_19 I) slices_S512x512_o192_256_S64x128)
      (extractStridedSlice S64x256 ![192, 512] (t_49 I) slices_S512x1024_o192_512_S64x256) (constant S128x256 .f32 0x00000000#32) := by
    unfold t_95
    generalize t_19 I = Q
    generalize t_49 I = V
    rfl
  rw [e]
  refine isKV_of (fun t d => ?_) (fun t v => ?_)
  · pointwise
    exact k_end' H 3 t 2 d _ _ (by dsimp only; omega) (by dsimp only; omega)
  · pointwise
    exact v_at' H 3 t 2 v _ _ (by dsimp only; omega) (by dsimp only; omega)

theorem lhs_2_4 : IsL p (chunk x 4) 2 (t_98 I) := by
  have e : t_98 I = k0_pay81 k0_pay73 (extractStridedSlice S64x128 ![256, 256] (t_17 I) slices_S512x512_o256_256_S64x128)
      (extractStridedSlice S128x128 ![256, 256] (k0_pay72 (t_18 I)) slices_S576x512_o256_256_S128x128) := by
    unfold t_98 t_97 t_96 t_50
    generalize t_17 I = Q
    generalize t_18 I = K
    rfl
  rw [e]
  refine isL_of (fun t d => ?_) (fun t d => ?_)
  · pointwise
    exact q_dec' H 4 t 2 d _ _ (by dsimp only; omega) (by dsimp only; omega)
  · have ht : (64 : ℕ) * 4 + t < 512 := by omega
    pointwise [t_50, k0_pay72]
    try rw [dif_pos (by omega)]
    exact k_dec' H 4 t 2 d _ _ (by dsimp only; omega) (by dsimp only; omega)

theorem kv_2_4 : IsKV p (chunk x 4) 2 (t_99 I) := by
  have e : t_99 I = matmul dot_S64x128_S64x256_S128x256_0_0_1_1_n_n none (extractStridedSlice S64x128 ![256, 256] (t_19 I) slices_S512x512_o256_256_S64x128)
      (extractStridedSlice S64x256 ![256, 512] (t_49 I) slices_S512x1024_o256_512_S64x256) (constant S128x256 .f32 0x00000000#32) := by
    unfold t_99
    generalize t_19 I = Q
    generalize t_49 I = V
    rfl
  rw [e]
  refine isKV_of (fun t d => ?_) (fun t v => ?_)
  · pointwise
    exact k_end' H 4 t 2 d _ _ (by dsimp only; omega) (by dsimp only; omega)
  · pointwise
    exact v_at' H 4 t 2 v _ _ (by dsimp only; omega) (by dsimp only; omega)

theorem lhs_2_5 : IsL p (chunk x 5) 2 (t_100 I) := by
  have e : t_100 I = k0_pay81 k0_pay73 (extractStridedSlice S64x128 ![320, 256] (t_17 I) slices_S512x512_o320_256_S64x128)
      (extractStridedSlice S128x128 ![320, 256] (k0_pay72 (t_18 I)) slices_S576x512_o320_256_S128x128) := by
    unfold t_100 t_50
    generalize t_17 I = Q
    generalize t_18 I = K
    rfl
  rw [e]
  refine isL_of (fun t d => ?_) (fun t d => ?_)
  · pointwise
    exact q_dec' H 5 t 2 d _ _ (by dsimp only; omega) (by dsimp only; omega)
  · have ht : (64 : ℕ) * 5 + t < 512 := by omega
    pointwise [t_50, k0_pay72]
    try rw [dif_pos (by omega)]
    exact k_dec' H 5 t 2 d _ _ (by dsimp only; omega) (by dsimp only; omega)

theorem kv_2_5 : IsKV p (chunk x 5) 2 (t_101 I) := by
  have e : t_101 I = matmul dot_S64x128_S64x256_S128x256_0_0_1_1_n_n none (extractStridedSlice S64x128 ![320, 256] (t_19 I) slices_S512x512_o320_256_S64x128)
      (extractStridedSlice S64x256 ![320, 512] (t_49 I) slices_S512x1024_o320_512_S64x256) (constant S128x256 .f32 0x00000000#32) := by
    unfold t_101
    generalize t_19 I = Q
    generalize t_49 I = V
    rfl
  rw [e]
  refine isKV_of (fun t d => ?_) (fun t v => ?_)
  · pointwise
    exact k_end' H 5 t 2 d _ _ (by dsimp only; omega) (by dsimp only; omega)
  · pointwise
    exact v_at' H 5 t 2 v _ _ (by dsimp only; omega) (by dsimp only; omega)

theorem lhs_2_6 : IsL p (chunk x 6) 2 (t_102 I) := by
  have e : t_102 I = k0_pay81 k0_pay73 (extractStridedSlice S64x128 ![384, 256] (t_17 I) slices_S512x512_o384_256_S64x128)
      (extractStridedSlice S128x128 ![384, 256] (k0_pay72 (t_18 I)) slices_S576x512_o384_256_S128x128) := by
    unfold t_102 t_50
    generalize t_17 I = Q
    generalize t_18 I = K
    rfl
  rw [e]
  refine isL_of (fun t d => ?_) (fun t d => ?_)
  · pointwise
    exact q_dec' H 6 t 2 d _ _ (by dsimp only; omega) (by dsimp only; omega)
  · have ht : (64 : ℕ) * 6 + t < 512 := by omega
    pointwise [t_50, k0_pay72]
    try rw [dif_pos (by omega)]
    exact k_dec' H 6 t 2 d _ _ (by dsimp only; omega) (by dsimp only; omega)

theorem kv_2_6 : IsKV p (chunk x 6) 2 (t_103 I) := by
  have e : t_103 I = matmul dot_S64x128_S64x256_S128x256_0_0_1_1_n_n none (extractStridedSlice S64x128 ![384, 256] (t_19 I) slices_S512x512_o384_256_S64x128)
      (extractStridedSlice S64x256 ![384, 512] (t_49 I) slices_S512x1024_o384_512_S64x256) (constant S128x256 .f32 0x00000000#32) := by
    unfold t_103
    generalize t_19 I = Q
    generalize t_49 I = V
    rfl
  rw [e]
  refine isKV_of (fun t d => ?_) (fun t v => ?_)
  · pointwise
    exact k_end' H 6 t 2 d _ _ (by dsimp only; omega) (by dsimp only; omega)
  · pointwise
    exact v_at' H 6 t 2 v _ _ (by dsimp only; omega) (by dsimp only; omega)

theorem lhs_2_7 : IsL p (chunk x 7) 2 (t_104 I) := by
  have e : t_104 I = k0_pay81 k0_pay73 (extractStridedSlice S64x128 ![448, 256] (t_17 I) slices_S512x512_o448_256_S64x128)
      (extractStridedSlice S128x128 ![448, 256] (k0_pay72 (t_18 I)) slices_S576x512_o448_256_S128x128) := by
    unfold t_104 t_50
    generalize t_17 I = Q
    generalize t_18 I = K
    rfl
  rw [e]
  refine isL_of (fun t d => ?_) (fun t d => ?_)
  · pointwise
    exact q_dec' H 7 t 2 d _ _ (by dsimp only; omega) (by dsimp only; omega)
  · have ht : (64 : ℕ) * 7 + t < 512 := by omega
    pointwise [t_50, k0_pay72]
    try rw [dif_pos (by omega)]
    exact k_dec' H 7 t 2 d _ _ (by dsimp only; omega) (by dsimp only; omega)

theorem kv_2_7 : IsKV p (chunk x 7) 2 (t_105 I) := by
  have e : t_105 I = matmul dot_S64x128_S64x256_S128x256_0_0_1_1_n_n none (extractStridedSlice S64x128 ![448, 256] (t_19 I) slices_S512x512_o448_256_S64x128)
      (extractStridedSlice S64x256 ![448, 512] (t_49 I) slices_S512x1024_o448_512_S64x256) (constant S128x256 .f32 0x00000000#32) := by
    unfold t_105
    generalize t_19 I = Q
    generalize t_49 I = V
    rfl
  rw [e]
  refine isKV_of (fun t d => ?_) (fun t v => ?_)
  · pointwise
    exact k_end' H 7 t 2 d _ _ (by dsimp only; omega) (by dsimp only; omega)
  · pointwise
    exact v_at' H 7 t 2 v _ _ (by dsimp only; omega) (by dsimp only; omega)

theorem lhs_3_0 : IsL p (chunk x 0) 3 (t_106 I) := by
  have e : t_106 I = k0_pay81 k0_pay73 (extractStridedSlice S64x128 ![0, 384] (t_17 I) slices_S512x512_o0_384_S64x128)
      (extractStridedSlice S128x128 ![0, 384] (k0_pay72 (t_18 I)) slices_S576x512_o0_384_S128x128) := by
    unfold t_106 t_50
    generalize t_17 I = Q
    generalize t_18 I = K
    rfl
  rw [e]
  refine isL_of (fun t d => ?_) (fun t d => ?_)
  · pointwise
    exact q_dec' H 0 t 3 d _ _ (by dsimp only; omega) (by dsimp only; omega)
  · have ht : (64 : ℕ) * 0 + t < 512 := by omega
    pointwise [t_50, k0_pay72]
    try rw [dif_pos (by omega)]
    exact k_dec' H 0 t 3 d _ _ (by dsimp only; omega) (by dsimp only; omega)

theorem kv_3_0 : IsKV p (chunk x 0) 3 (t_107 I) := by
  have e : t_107 I = matmul dot_S64x128_S64x256_S128x256_0_0_1_1_n_n none (extractStridedSlice S64x128 ![0, 384] (t_19 I) slices_S512x512_o0_384_S64x128)
      (extractStridedSlice S64x256 ![0, 768] (t_49 I) slices_S512x1024_o0_768_S64x256) (constant S128x256 .f32 0x00000000#32) := by
    unfold t_107
    generalize t_19 I = Q
    generalize t_49 I = V
    rfl
  rw [e]
  refine isKV_of (fun t d => ?_) (fun t v => ?_)
  · pointwise
    exact k_end' H 0 t 3 d _ _ (by dsimp only; omega) (by dsimp only; omega)
  · pointwise
    exact v_at' H 0 t 3 v _ _ (by dsimp only; omega) (by dsimp only; omega)

theorem lhs_3_1 : IsL p (chunk x 1) 3 (t_110 I) := by
  have e : t_110 I = k0_pay81 k0_pay73 (extractStridedSlice S64x128 ![64, 384] (t_17 I) slices_S512x512_o64_384_S64x128)
      (extractStridedSlice S128x128 ![64, 384] (k0_pay72 (t_18 I)) slices_S576x512_o64_384_S128x128) := by
    unfold t_110 t_109 t_108 t_50
    generalize t_17 I = Q
    generalize t_18 I = K
    rfl
  rw [e]
  refine isL_of (fun t d => ?_) (fun t d => ?_)
  · pointwise
    exact q_dec' H 1 t 3 d _ _ (by dsimp only; omega) (by dsimp only; omega)
  · have ht : (64 : ℕ) * 1 + t < 512 := by omega
    pointwise [t_50, k0_pay72]
    try rw [dif_pos (by omega)]
    exact k_dec' H 1 t 3 d _ _ (by dsimp only; omega) (by dsimp only; omega)

theorem kv_3_1 : IsKV p (chunk x 1) 3 (t_111 I) := by
  have e : t_111 I = matmul dot_S64x128_S64x256_S128x256_0_0_1_1_n_n none (extractStridedSlice S64x128 ![64, 384] (t_19 I) slices_S512x512_o64_384_S64x128)
      (extractStridedSlice S64x256 ![64, 768] (t_49 I) slices_S512x1024_o64_768_S64x256) (constant S128x256 .f32 0x00000000#32) := by
    unfold t_111
    generalize t_19 I = Q
    generalize t_49 I = V
    rfl
  rw [e]
  refine isKV_of (fun t d => ?_) (fun t v => ?_)
  · pointwise
    exact k_end' H 1 t 3 d _ _ (by dsimp only; omega) (by dsimp only; omega)
  · pointwise
    exact v_at' H 1 t 3 v _ _ (by dsimp only; omega) (by dsimp only; omega)

theorem lhs_3_2 : IsL p (chunk x 2) 3 (t_112 I) := by
  have e : t_112 I = k0_pay81 k0_pay73 (extractStridedSlice S64x128 ![128, 384] (t_17 I) slices_S512x512_o128_384_S64x128)
      (extractStridedSlice S128x128 ![128, 384] (k0_pay72 (t_18 I)) slices_S576x512_o128_384_S128x128) := by
    unfold t_112 t_50
    generalize t_17 I = Q
    generalize t_18 I = K
    rfl
  rw [e]
  refine isL_of (fun t d => ?_) (fun t d => ?_)
  · pointwise
    exact q_dec' H 2 t 3 d _ _ (by dsimp only; omega) (by dsimp only; omega)
  · have ht : (64 : ℕ) * 2 + t < 512 := by omega
    pointwise [t_50, k0_pay72]
    try rw [dif_pos (by omega)]
    exact k_dec' H 2 t 3 d _ _ (by dsimp only; omega) (by dsimp only; omega)

theorem kv_3_2 : IsKV p (chunk x 2) 3 (t_113 I) := by
  have e : t_113 I = matmul dot_S64x128_S64x256_S128x256_0_0_1_1_n_n none (extractStridedSlice S64x128 ![128, 384] (t_19 I) slices_S512x512_o128_384_S64x128)
      (extractStridedSlice S64x256 ![128, 768] (t_49 I) slices_S512x1024_o128_768_S64x256) (constant S128x256 .f32 0x00000000#32) := by
    unfold t_113
    generalize t_19 I = Q
    generalize t_49 I = V
    rfl
  rw [e]
  refine isKV_of (fun t d => ?_) (fun t v => ?_)
  · pointwise
    exact k_end' H 2 t 3 d _ _ (by dsimp only; omega) (by dsimp only; omega)
  · pointwise
    exact v_at' H 2 t 3 v _ _ (by dsimp only; omega) (by dsimp only; omega)

theorem lhs_3_3 : IsL p (chunk x 3) 3 (t_114 I) := by
  have e : t_114 I = k0_pay81 k0_pay73 (extractStridedSlice S64x128 ![192, 384] (t_17 I) slices_S512x512_o192_384_S64x128)
      (extractStridedSlice S128x128 ![192, 384] (k0_pay72 (t_18 I)) slices_S576x512_o192_384_S128x128) := by
    unfold t_114 t_50
    generalize t_17 I = Q
    generalize t_18 I = K
    rfl
  rw [e]
  refine isL_of (fun t d => ?_) (fun t d => ?_)
  · pointwise
    exact q_dec' H 3 t 3 d _ _ (by dsimp only; omega) (by dsimp only; omega)
  · have ht : (64 : ℕ) * 3 + t < 512 := by omega
    pointwise [t_50, k0_pay72]
    try rw [dif_pos (by omega)]
    exact k_dec' H 3 t 3 d _ _ (by dsimp only; omega) (by dsimp only; omega)

theorem kv_3_3 : IsKV p (chunk x 3) 3 (t_115 I) := by
  have e : t_115 I = matmul dot_S64x128_S64x256_S128x256_0_0_1_1_n_n none (extractStridedSlice S64x128 ![192, 384] (t_19 I) slices_S512x512_o192_384_S64x128)
      (extractStridedSlice S64x256 ![192, 768] (t_49 I) slices_S512x1024_o192_768_S64x256) (constant S128x256 .f32 0x00000000#32) := by
    unfold t_115
    generalize t_19 I = Q
    generalize t_49 I = V
    rfl
  rw [e]
  refine isKV_of (fun t d => ?_) (fun t v => ?_)
  · pointwise
    exact k_end' H 3 t 3 d _ _ (by dsimp only; omega) (by dsimp only; omega)
  · pointwise
    exact v_at' H 3 t 3 v _ _ (by dsimp only; omega) (by dsimp only; omega)

theorem lhs_3_4 : IsL p (chunk x 4) 3 (t_116 I) := by
  have e : t_116 I = k0_pay81 k0_pay73 (extractStridedSlice S64x128 ![256, 384] (t_17 I) slices_S512x512_o256_384_S64x128)
      (extractStridedSlice S128x128 ![256, 384] (k0_pay72 (t_18 I)) slices_S576x512_o256_384_S128x128) := by
    unfold t_116 t_50
    generalize t_17 I = Q
    generalize t_18 I = K
    rfl
  rw [e]
  refine isL_of (fun t d => ?_) (fun t d => ?_)
  · pointwise
    exact q_dec' H 4 t 3 d _ _ (by dsimp only; omega) (by dsimp only; omega)
  · have ht : (64 : ℕ) * 4 + t < 512 := by omega
    pointwise [t_50, k0_pay72]
    try rw [dif_pos (by omega)]
    exact k_dec' H 4 t 3 d _ _ (by dsimp only; omega) (by dsimp only; omega)

theorem kv_3_4 : IsKV p (chunk x 4) 3 (t_117 I) := by
  have e : t_117 I = matmul dot_S64x128_S64x256_S128x256_0_0_1_1_n_n none (extractStridedSlice S64x128 ![256, 384] (t_19 I) slices_S512x512_o256_384_S64x128)
      (extractStridedSlice S64x256 ![256, 768] (t_49 I) slices_S512x1024_o256_768_S64x256) (constant S128x256 .f32 0x00000000#32) := by
    unfold t_117
    generalize t_19 I = Q
    generalize t_49 I = V
    rfl
  rw [e]
  refine isKV_of (fun t d => ?_) (fun t v => ?_)
  · pointwise
    exact k_end' H 4 t 3 d _ _ (by dsimp only; omega) (by dsimp only; omega)
  · pointwise
    exact v_at' H 4 t 3 v _ _ (by dsimp only; omega) (by dsimp only; omega)

theorem lhs_3_5 : IsL p (chunk x 5) 3 (t_118 I) := by
  have e : t_118 I = k0_pay81 k0_pay73 (extractStridedSlice S64x128 ![320, 384] (t_17 I) slices_S512x512_o320_384_S64x128)
      (extractStridedSlice S128x128 ![320, 384] (k0_pay72 (t_18 I)) slices_S576x512_o320_384_S128x128) := by
    unfold t_118 t_50
    generalize t_17 I = Q
    generalize t_18 I = K
    rfl
  rw [e]
  refine isL_of (fun t d => ?_) (fun t d => ?_)
  · pointwise
    exact q_dec' H 5 t 3 d _ _ (by dsimp only; omega) (by dsimp only; omega)
  · have ht : (64 : ℕ) * 5 + t < 512 := by omega
    pointwise [t_50, k0_pay72]
    try rw [dif_pos (by omega)]
    exact k_dec' H 5 t 3 d _ _ (by dsimp only; omega) (by dsimp only; omega)

theorem kv_3_5 : IsKV p (chunk x 5) 3 (t_121 I) := by
  have e : t_121 I = matmul dot_S64x128_S64x256_S128x256_0_0_1_1_n_n none (extractStridedSlice S64x128 ![320, 384] (t_19 I) slices_S512x512_o320_384_S64x128)
      (extractStridedSlice S64x256 ![320, 768] (t_49 I) slices_S512x1024_o320_768_S64x256) (constant S128x256 .f32 0x00000000#32) := by
    unfold t_121 t_120 t_119
    generalize t_19 I = Q
    generalize t_49 I = V
    rfl
  rw [e]
  refine isKV_of (fun t d => ?_) (fun t v => ?_)
  · pointwise
    exact k_end' H 5 t 3 d _ _ (by dsimp only; omega) (by dsimp only; omega)
  · pointwise
    exact v_at' H 5 t 3 v _ _ (by dsimp only; omega) (by dsimp only; omega)

theorem lhs_3_6 : IsL p (chunk x 6) 3 (t_122 I) := by
  have e : t_122 I = k0_pay81 k0_pay73 (extractStridedSlice S64x128 ![384, 384] (t_17 I) slices_S512x512_o384_384_S64x128)
      (extractStridedSlice S128x128 ![384, 384] (k0_pay72 (t_18 I)) slices_S576x512_o384_384_S128x128) := by
    unfold t_122 t_50
    generalize t_17 I = Q
    generalize t_18 I = K
    rfl
  rw [e]
  refine isL_of (fun t d => ?_) (fun t d => ?_)
  · pointwise
    exact q_dec' H 6 t 3 d _ _ (by dsimp only; omega) (by dsimp only; omega)
  · have ht : (64 : ℕ) * 6 + t < 512 := by omega
    pointwise [t_50, k0_pay72]
    try rw [dif_pos (by omega)]
    exact k_dec' H 6 t 3 d _ _ (by dsimp only; omega) (by dsimp only; omega)

theorem kv_3_6 : IsKV p (chunk x 6) 3 (t_123 I) := by
  have e : t_123 I = matmul dot_S64x128_S64x256_S128x256_0_0_1_1_n_n none (extractStridedSlice S64x128 ![384, 384] (t_19 I) slices_S512x512_o384_384_S64x128)
      (extractStridedSlice S64x256 ![384, 768] (t_49 I) slices_S512x1024_o384_768_S64x256) (constant S128x256 .f32 0x00000000#32) := by
    unfold t_123
    generalize t_19 I = Q
    generalize t_49 I = V
    rfl
  rw [e]
  refine isKV_of (fun t d => ?_) (fun t v => ?_)
  · pointwise
    exact k_end' H 6 t 3 d _ _ (by dsimp only; omega) (by dsimp only; omega)
  · pointwise
    exact v_at' H 6 t 3 v _ _ (by dsimp only; omega) (by dsimp only; omega)

theorem lhs_3_7 : IsL p (chunk x 7) 3 (t_124 I) := by
  have e : t_124 I = k0_pay81 k0_pay73 (extractStridedSlice S64x128 ![448, 384] (t_17 I) slices_S512x512_o448_384_S64x128)
      (extractStridedSlice S128x128 ![448, 384] (k0_pay72 (t_18 I)) slices_S576x512_o448_384_S128x128) := by
    unfold t_124 t_50
    generalize t_17 I = Q
    generalize t_18 I = K
    rfl
  rw [e]
  refine isL_of (fun t d => ?_) (fun t d => ?_)
  · pointwise
    exact q_dec' H 7 t 3 d _ _ (by dsimp only; omega) (by dsimp only; omega)
  · have ht : (64 : ℕ) * 7 + t < 512 := by omega
    pointwise [t_50, k0_pay72]
    try rw [dif_pos (by omega)]
    exact k_dec' H 7 t 3 d _ _ (by dsimp only; omega) (by dsimp only; omega)

theorem kv_3_7 : IsKV p (chunk x 7) 3 (t_125 I) := by
  have e : t_125 I = matmul dot_S64x128_S64x256_S128x256_0_0_1_1_n_n none (extractStridedSlice S64x128 ![448, 384] (t_19 I) slices_S512x512_o448_384_S64x128)
      (extractStridedSlice S64x256 ![448, 768] (t_49 I) slices_S512x1024_o448_768_S64x256) (constant S128x256 .f32 0x00000000#32) := by
    unfold t_125
    generalize t_19 I = Q
    generalize t_49 I = V
    rfl
  rw [e]
  refine isKV_of (fun t d => ?_) (fun t v => ?_)
  · pointwise
    exact k_end' H 7 t 3 d _ _ (by dsimp only; omega) (by dsimp only; omega)
  · pointwise
    exact v_at' H 7 t 3 v _ _ (by dsimp only; omega) (by dsimp only; omega)

end Cert.KernelIdeal.Tile

end
-- ==== Proof.MixHeads.lean ====
module

public import proofs.«01_k».proof.Proof.MixUnits

/-! The heads of one tile: the chunks in order, each head's norm and gate. -/

@[expose] public section

set_option maxRecDepth 16384

noncomputable section

namespace Cert.KernelIdeal.Tile

open Cert.KernelIdeal Cert.KernelIdeal.Gen Idealize.ShloMosaic Idealize.ShloMosaic.TcCoe Idealize.SL.Sem Cert.Scalars Cert.MixSpec

/-- The state before each chunk of a tile, from the state before the tile. -/
def cst (p : Par) (x : Fin 512 → Fin 1024 → EReal) (S : Fin 4 → Fin 128 → Fin 256 → EReal) : ℕ → Fin 4 → Fin 128 → Fin 256 → EReal
  | 0 => S
  | n + 1 => stp p (chunk x ⟨n % 8, by omega⟩) (cst p x S n)

/-- Head 0's states, chunk by chunk. -/
def z_0_0 (I : In) : FVec Ideal S128x256 .f32 := t_0 I
def z_0_1 (I : In) : FVec Ideal S128x256 .f32 := sUnit (extractStridedSlice S128x1 ![0, 0] (t_20 I) slices_S512x8_o0_0_S128x1) (z_0_0 I) (t_52 I)
def z_0_2 (I : In) : FVec Ideal S128x256 .f32 := sUnit (extractStridedSlice S128x1 ![0, 1] (t_20 I) slices_S512x8_o0_1_S128x1) (z_0_1 I) (t_54 I)
def z_0_3 (I : In) : FVec Ideal S128x256 .f32 := sUnit (extractStridedSlice S128x1 ![0, 2] (t_20 I) slices_S512x8_o0_2_S128x1) (z_0_2 I) (t_58 I)
def z_0_4 (I : In) : FVec Ideal S128x256 .f32 := sUnit (extractStridedSlice S128x1 ![0, 3] (t_20 I) slices_S512x8_o0_3_S128x1) (z_0_3 I) (t_60 I)
def z_0_5 (I : In) : FVec Ideal S128x256 .f32 := sUnit (extractStridedSlice S128x1 ![0, 4] (t_20 I) slices_S512x8_o0_4_S128x1) (z_0_4 I) (t_62 I)
def z_0_6 (I : In) : FVec Ideal S128x256 .f32 := sUnit (extractStridedSlice S128x1 ![0, 5] (t_20 I) slices_S512x8_o0_5_S128x1) (z_0_5 I) (t_64 I)
def z_0_7 (I : In) : FVec Ideal S128x256 .f32 := sUnit (extractStridedSlice S128x1 ![0, 6] (t_20 I) slices_S512x8_o0_6_S128x1) (z_0_6 I) (t_67 I)
def z_0_8 (I : In) : FVec Ideal S128x256 .f32 := sUnit (extractStridedSlice S128x1 ![0, 7] (t_20 I) slices_S512x8_o0_7_S128x1) (z_0_7 I) (t_69 I)
/-- Head 0's attention rows. -/
def o_0 (I : In) : FVec Ideal S512x256 .f32 := concatenate S512x256 0 [⟨S64x256, oUnit (t_51 I) (extractStridedSlice S64x256 ![0, 0] (t_49 I) slices_S512x1024_o0_0_S64x256) (z_0_0 I)⟩,
    ⟨S64x256, oUnit (t_53 I) (extractStridedSlice S64x256 ![64, 0] (t_49 I) slices_S512x1024_o64_0_S64x256) (z_0_1 I)⟩,
    ⟨S64x256, oUnit (t_57 I) (extractStridedSlice S64x256 ![128, 0] (t_49 I) slices_S512x1024_o128_0_S64x256) (z_0_2 I)⟩,
    ⟨S64x256, oUnit (t_59 I) (extractStridedSlice S64x256 ![192, 0] (t_49 I) slices_S512x1024_o192_0_S64x256) (z_0_3 I)⟩,
    ⟨S64x256, oUnit (t_61 I) (extractStridedSlice S64x256 ![256, 0] (t_49 I) slices_S512x1024_o256_0_S64x256) (z_0_4 I)⟩,
    ⟨S64x256, oUnit (t_63 I) (extractStridedSlice S64x256 ![320, 0] (t_49 I) slices_S512x1024_o320_0_S64x256) (z_0_5 I)⟩,
    ⟨S64x256, oUnit (t_65 I) (extractStridedSlice S64x256 ![384, 0] (t_49 I) slices_S512x1024_o384_0_S64x256) (z_0_6 I)⟩,
    ⟨S64x256, oUnit (t_68 I) (extractStridedSlice S64x256 ![448, 0] (t_49 I) slices_S512x1024_o448_0_S64x256) (z_0_7 I)⟩] concatenates_S64x256_S64x256_S64x256_S64x256_S64x256_S64x256_S64x256_S64x256_S512x256_d0

/-- Head 1's states, chunk by chunk. -/
def z_1_0 (I : In) : FVec Ideal S128x256 .f32 := t_1 I
def z_1_1 (I : In) : FVec Ideal S128x256 .f32 := sUnit (extractStridedSlice S128x1 ![128, 0] (t_20 I) slices_S512x8_o128_0_S128x1) (z_1_0 I) (t_71 I)
def z_1_2 (I : In) : FVec Ideal S128x256 .f32 := sUnit (extractStridedSlice S128x1 ![128, 1] (t_20 I) slices_S512x8_o128_1_S128x1) (z_1_1 I) (t_73 I)
def z_1_3 (I : In) : FVec Ideal S128x256 .f32 := sUnit (extractStridedSlice S128x1 ![128, 2] (t_20 I) slices_S512x8_o128_2_S128x1) (z_1_2 I) (t_75 I)
def z_1_4 (I : In) : FVec Ideal S128x256 .f32 := sUnit (extractStridedSlice S128x1 ![128, 3] (t_20 I) slices_S512x8_o128_3_S128x1) (z_1_3 I) (t_79 I)
def z_1_5 (I : In) : FVec Ideal S128x256 .f32 := sUnit (extractStridedSlice S128x1 ![128, 4] (t_20 I) slices_S512x8_o128_4_S128x1) (z_1_4 I) (t_81 I)
def z_1_6 (I : In) : FVec Ideal S128x256 .f32 := sUnit (extractStridedSlice S128x1 ![128, 5] (t_20 I) slices_S512x8_o128_5_S128x1) (z_1_5 I) (t_83 I)
def z_1_7 (I : In) : FVec Ideal S128x256 .f32 := sUnit (extractStridedSlice S128x1 ![128, 6] (t_20 I) slices_S512x8_o128_6_S128x1) (z_1_6 I) (t_85 I)
def z_1_8 (I : In) : FVec Ideal S128x256 .f32 := sUnit (extractStridedSlice S128x1 ![128, 7] (t_20 I) slices_S512x8_o128_7_S128x1) (z_1_7 I) (t_87 I)
/-- Head 1's attention rows. -/
def o_1 (I : In) : FVec Ideal S512x256 .f32 := concatenate S512x256 0 [⟨S64x256, oUnit (t_70 I) (extractStridedSlice S64x256 ![0, 256] (t_49 I) slices_S512x1024_o0_256_S64x256) (z_1_0 I)⟩,
    ⟨S64x256, oUnit (t_72 I) (extractStridedSlice S64x256 ![64, 256] (t_49 I) slices_S512x1024_o64_256_S64x256) (z_1_1 I)⟩,
    ⟨S64x256, oUnit (t_74 I) (extractStridedSlice S64x256 ![128, 256] (t_49 I) slices_S512x1024_o128_256_S64x256) (z_1_2 I)⟩,
    ⟨S64x256, oUnit (t_78 I) (extractStridedSlice S64x256 ![192, 256] (t_49 I) slices_S512x1024_o192_256_S64x256) (z_1_3 I)⟩,
    ⟨S64x256, oUnit (t_80 I) (extractStridedSlice S64x256 ![256, 256] (t_49 I) slices_S512x1024_o256_256_S64x256) (z_1_4 I)⟩,
    ⟨S64x256, oUnit (t_82 I) (extractStridedSlice S64x256 ![320, 256] (t_49 I) slices_S512x1024_o320_256_S64x256) (z_1_5 I)⟩,
    ⟨S64x256, oUnit (t_84 I) (extractStridedSlice S64x256 ![384, 256] (t_49 I) slices_S512x1024_o384_256_S64x256) (z_1_6 I)⟩,
    ⟨S64x256, oUnit (t_86 I) (extractStridedSlice S64x256 ![448, 256] (t_49 I) slices_S512x1024_o448_256_S64x256) (z_1_7 I)⟩] concatenates_S64x256_S64x256_S64x256_S64x256_S64x256_S64x256_S64x256_S64x256_S512x256_d0

/-- Head 2's states, chunk by chunk. -/
def z_2_0 (I : In) : FVec Ideal S128x256 .f32 := t_2 I
def z_2_1 (I : In) : FVec Ideal S128x256 .f32 := sUnit (extractStridedSlice S128x1 ![256, 0] (t_20 I) slices_S512x8_o256_0_S128x1) (z_2_0 I) (t_89 I)
def z_2_2 (I : In) : FVec Ideal S128x256 .f32 := sUnit (extractStridedSlice S128x1 ![256, 1] (t_20 I) slices_S512x8_o256_1_S128x1) (z_2_1 I) (t_91 I)
def z_2_3 (I : In) : FVec Ideal S128x256 .f32 := sUnit (extractStridedSlice S128x1 ![256, 2] (t_20 I) slices_S512x8_o256_2_S128x1) (z_2_2 I) (t_93 I)
def z_2_4 (I : In) : FVec Ideal S128x256 .f32 := sUnit (extractStridedSlice S128x1 ![256, 3] (t_20 I) slices_S512x8_o256_3_S128x1) (z_2_3 I) (t_95 I)
def z_2_5 (I : In) : FVec Ideal S128x256 .f32 := sUnit (extractStridedSlice S128x1 ![256, 4] (t_20 I) slices_S512x8_o256_4_S128x1) (z_2_4 I) (t_99 I)
def z_2_6 (I : In) : FVec Ideal S128x256 .f32 := sUnit (extractStridedSlice S128x1 ![256, 5] (t_20 I) slices_S512x8_o256_5_S128x1) (z_2_5 I) (t_101 I)
def z_2_7 (I : In) : FVec Ideal S128x256 .f32 := sUnit (extractStridedSlice S128x1 ![256, 6] (t_20 I) slices_S512x8_o256_6_S128x1) (z_2_6 I) (t_103 I)
def z_2_8 (I : In) : FVec Ideal S128x256 .f32 := sUnit (extractStridedSlice S128x1 ![256, 7] (t_20 I) slices_S512x8_o256_7_S128x1) (z_2_7 I) (t_105 I)
/-- Head 2's attention rows. -/
def o_2 (I : In) : FVec Ideal S512x256 .f32 := concatenate S512x256 0 [⟨S64x256, oUnit (t_88 I) (extractStridedSlice S64x256 ![0, 512] (t_49 I) slices_S512x1024_o0_512_S64x256) (z_2_0 I)⟩,
    ⟨S64x256, oUnit (t_90 I) (extractStridedSlice S64x256 ![64, 512] (t_49 I) slices_S512x1024_o64_512_S64x256) (z_2_1 I)⟩,
    ⟨S64x256, oUnit (t_92 I) (extractStridedSlice S64x256 ![128, 512] (t_49 I) slices_S512x1024_o128_512_S64x256) (z_2_2 I)⟩,
    ⟨S64x256, oUnit (t_94 I) (extractStridedSlice S64x256 ![192, 512] (t_49 I) slices_S512x1024_o192_512_S64x256) (z_2_3 I)⟩,
    ⟨S64x256, oUnit (t_98 I) (extractStridedSlice S64x256 ![256, 512] (t_49 I) slices_S512x1024_o256_512_S64x256) (z_2_4 I)⟩,
    ⟨S64x256, oUnit (t_100 I) (extractStridedSlice S64x256 ![320, 512] (t_49 I) slices_S512x1024_o320_512_S64x256) (z_2_5 I)⟩,
    ⟨S64x256, oUnit (t_102 I) (extractStridedSlice S64x256 ![384, 512] (t_49 I) slices_S512x1024_o384_512_S64x256) (z_2_6 I)⟩,
    ⟨S64x256, oUnit (t_104 I) (extractStridedSlice S64x256 ![448, 512] (t_49 I) slices_S512x1024_o448_512_S64x256) (z_2_7 I)⟩] concatenates_S64x256_S64x256_S64x256_S64x256_S64x256_S64x256_S64x256_S64x256_S512x256_d0

/-- Head 3's states, chunk by chunk. -/
def z_3_0 (I : In) : FVec Ideal S128x256 .f32 := t_3 I
def z_3_1 (I : In) : FVec Ideal S128x256 .f32 := sUnit (extractStridedSlice S128x1 ![384, 0] (t_20 I) slices_S512x8_o384_0_S128x1) (z_3_0 I) (t_107 I)
def z_3_2 (I : In) : FVec Ideal S128x256 .f32 := sUnit (extractStridedSlice S128x1 ![384, 1] (t_20 I) slices_S512x8_o384_1_S128x1) (z_3_1 I) (t_111 I)
def z_3_3 (I : In) : FVec Ideal S128x256 .f32 := sUnit (extractStridedSlice S128x1 ![384, 2] (t_20 I) slices_S512x8_o384_2_S128x1) (z_3_2 I) (t_113 I)
def z_3_4 (I : In) : FVec Ideal S128x256 .f32 := sUnit (extractStridedSlice S128x1 ![384, 3] (t_20 I) slices_S512x8_o384_3_S128x1) (z_3_3 I) (t_115 I)
def z_3_5 (I : In) : FVec Ideal S128x256 .f32 := sUnit (extractStridedSlice S128x1 ![384, 4] (t_20 I) slices_S512x8_o384_4_S128x1) (z_3_4 I) (t_117 I)
def z_3_6 (I : In) : FVec Ideal S128x256 .f32 := sUnit (extractStridedSlice S128x1 ![384, 5] (t_20 I) slices_S512x8_o384_5_S128x1) (z_3_5 I) (t_121 I)
def z_3_7 (I : In) : FVec Ideal S128x256 .f32 := sUnit (extractStridedSlice S128x1 ![384, 6] (t_20 I) slices_S512x8_o384_6_S128x1) (z_3_6 I) (t_123 I)
def z_3_8 (I : In) : FVec Ideal S128x256 .f32 := sUnit (extractStridedSlice S128x1 ![384, 7] (t_20 I) slices_S512x8_o384_7_S128x1) (z_3_7 I) (t_125 I)
/-- Head 3's attention rows. -/
def o_3 (I : In) : FVec Ideal S512x256 .f32 := concatenate S512x256 0 [⟨S64x256, oUnit (t_106 I) (extractStridedSlice S64x256 ![0, 768] (t_49 I) slices_S512x1024_o0_768_S64x256) (z_3_0 I)⟩,
    ⟨S64x256, oUnit (t_110 I) (extractStridedSlice S64x256 ![64, 768] (t_49 I) slices_S512x1024_o64_768_S64x256) (z_3_1 I)⟩,
    ⟨S64x256, oUnit (t_112 I) (extractStridedSlice S64x256 ![128, 768] (t_49 I) slices_S512x1024_o128_768_S64x256) (z_3_2 I)⟩,
    ⟨S64x256, oUnit (t_114 I) (extractStridedSlice S64x256 ![192, 768] (t_49 I) slices_S512x1024_o192_768_S64x256) (z_3_3 I)⟩,
    ⟨S64x256, oUnit (t_116 I) (extractStridedSlice S64x256 ![256, 768] (t_49 I) slices_S512x1024_o256_768_S64x256) (z_3_4 I)⟩,
    ⟨S64x256, oUnit (t_118 I) (extractStridedSlice S64x256 ![320, 768] (t_49 I) slices_S512x1024_o320_768_S64x256) (z_3_5 I)⟩,
    ⟨S64x256, oUnit (t_122 I) (extractStridedSlice S64x256 ![384, 768] (t_49 I) slices_S512x1024_o384_768_S64x256) (z_3_6 I)⟩,
    ⟨S64x256, oUnit (t_124 I) (extractStridedSlice S64x256 ![448, 768] (t_49 I) slices_S512x1024_o448_768_S64x256) (z_3_7 I)⟩] concatenates_S64x256_S64x256_S64x256_S64x256_S64x256_S64x256_S64x256_S64x256_S512x256_d0

/-- A head's rows through its norm, gated. -/
def headG (O G : FVec Ideal S512x256 .f32) (W : Vec Ideal S1x256 .f32) : FVec Ideal S512x256 .bf16 :=
  truncf .bf16 (mulf (mulf (mulf O (broadcastTo S512x256
    (rsqrt (addf (divf (shapeCast S512x1 (multiReduction .add [1] S512 (mulf O O) 0x00000000#32 reduces_S512x256_S512 (.inl rfl) rfl) shapeCasts_S512_S512x1)
      (broadcast S512x1 (Scalar.ofBits .f32 0x43800000#32))) k0_pay164)) broadcasts_S512x1_S512x256))
    (broadcastTo S512x256 (shapeCast S1x256 W shapeCasts_S1x256_S1x256) broadcasts_S1x256_S512x256)) G) bitsLt_bf16_f32

/-- Head 0's state after the tile. -/
theorem z_eq_0 (I : In) : t_131 I = z_0_8 I := by
  unfold t_131 t_129 z_0_8 z_0_7 z_0_6 z_0_5 z_0_4 z_0_3 z_0_2 z_0_1 z_0_0
  generalize t_20 I = Y20
  generalize t_0 I = Y0
  generalize t_52 I = Y52
  generalize t_54 I = Y54
  generalize t_58 I = Y58
  generalize t_60 I = Y60
  generalize t_62 I = Y62
  generalize t_64 I = Y64
  generalize t_67 I = Y67
  generalize t_69 I = Y69
  rfl

/-- Head 0's gated rows. -/
theorem y_eq_0 (I : In) : t_134 I = headG (o_0 I) (extractStridedSlice S512x256 ![0, 0] (t_126 I) slices_S512x1024_o0_0_S512x256) I.gnw := by
  unfold t_134 t_133 t_132 t_130 t_129 t_128 t_127 o_0 z_0_7 z_0_6 z_0_5 z_0_4 z_0_3 z_0_2 z_0_1 z_0_0
  generalize t_20 I = Y20
  generalize t_49 I = Y49
  generalize t_126 I = Y126
  generalize t_0 I = Y0
  generalize t_52 I = Y52
  generalize t_54 I = Y54
  generalize t_58 I = Y58
  generalize t_60 I = Y60
  generalize t_62 I = Y62
  generalize t_64 I = Y64
  generalize t_67 I = Y67
  generalize t_51 I = Y51
  generalize t_53 I = Y53
  generalize t_57 I = Y57
  generalize t_59 I = Y59
  generalize t_61 I = Y61
  generalize t_63 I = Y63
  generalize t_65 I = Y65
  generalize t_68 I = Y68
  rfl

/-- Head 1's state after the tile. -/
theorem z_eq_1 (I : In) : t_143 I = z_1_8 I := by
  unfold t_143 t_140 z_1_8 z_1_7 z_1_6 z_1_5 z_1_4 z_1_3 z_1_2 z_1_1 z_1_0
  generalize t_20 I = Y20
  generalize t_1 I = Y1
  generalize t_71 I = Y71
  generalize t_73 I = Y73
  generalize t_75 I = Y75
  generalize t_79 I = Y79
  generalize t_81 I = Y81
  generalize t_83 I = Y83
  generalize t_85 I = Y85
  generalize t_87 I = Y87
  rfl

/-- Head 1's gated rows. -/
theorem y_eq_1 (I : In) : t_144 I = headG (o_1 I) (extractStridedSlice S512x256 ![0, 256] (t_126 I) slices_S512x1024_o0_256_S512x256) I.gnw := by
  unfold t_144 t_142 t_141 t_140 t_139 t_138 t_137 t_136 t_135 o_1 z_1_7 z_1_6 z_1_5 z_1_4 z_1_3 z_1_2 z_1_1 z_1_0
  generalize t_20 I = Y20
  generalize t_49 I = Y49
  generalize t_126 I = Y126
  generalize t_1 I = Y1
  generalize t_71 I = Y71
  generalize t_73 I = Y73
  generalize t_75 I = Y75
  generalize t_79 I = Y79
  generalize t_81 I = Y81
  generalize t_83 I = Y83
  generalize t_85 I = Y85
  generalize t_70 I = Y70
  generalize t_72 I = Y72
  generalize t_74 I = Y74
  generalize t_78 I = Y78
  generalize t_80 I = Y80
  generalize t_82 I = Y82
  generalize t_84 I = Y84
  generalize t_86 I = Y86
  rfl

/-- Head 2's state after the tile. -/
theorem z_eq_2 (I : In) : t_155 I = z_2_8 I := by
  unfold t_155 t_146 z_2_8 z_2_7 z_2_6 z_2_5 z_2_4 z_2_3 z_2_2 z_2_1 z_2_0
  generalize t_20 I = Y20
  generalize t_2 I = Y2
  generalize t_89 I = Y89
  generalize t_91 I = Y91
  generalize t_93 I = Y93
  generalize t_95 I = Y95
  generalize t_99 I = Y99
  generalize t_101 I = Y101
  generalize t_103 I = Y103
  generalize t_105 I = Y105
  rfl

/-- Head 2's gated rows. -/
theorem y_eq_2 (I : In) : t_156 I = headG (o_2 I) (extractStridedSlice S512x256 ![0, 512] (t_126 I) slices_S512x1024_o0_512_S512x256) I.gnw := by
  unfold t_156 t_154 t_153 t_152 t_151 t_150 t_149 t_148 t_147 t_146 t_145 o_2 z_2_7 z_2_6 z_2_5 z_2_4 z_2_3 z_2_2 z_2_1 z_2_0
  generalize t_20 I = Y20
  generalize t_49 I = Y49
  generalize t_126 I = Y126
  generalize t_2 I = Y2
  generalize t_89 I = Y89
  generalize t_91 I = Y91
  generalize t_93 I = Y93
  generalize t_95 I = Y95
  generalize t_99 I = Y99
  generalize t_101 I = Y101
  generalize t_103 I = Y103
  generalize t_88 I = Y88
  generalize t_90 I = Y90
  generalize t_92 I = Y92
  generalize t_94 I = Y94
  generalize t_98 I = Y98
  generalize t_100 I = Y100
  generalize t_102 I = Y102
  generalize t_104 I = Y104
  rfl

/-- Head 3's state after the tile. -/
theorem z_eq_3 (I : In) : t_163 I = z_3_8 I := by
  unfold t_163 t_161 z_3_8 z_3_7 z_3_6 z_3_5 z_3_4 z_3_3 z_3_2 z_3_1 z_3_0
  generalize t_20 I = Y20
  generalize t_3 I = Y3
  generalize t_107 I = Y107
  generalize t_111 I = Y111
  generalize t_113 I = Y113
  generalize t_115 I = Y115
  generalize t_117 I = Y117
  generalize t_121 I = Y121
  generalize t_123 I = Y123
  generalize t_125 I = Y125
  rfl

/-- The four heads side by side. -/
theorem y_eq (I : In) : t_164 I = concatenate S512x1024 1 [⟨S512x256, t_134 I⟩, ⟨S512x256, t_144 I⟩, ⟨S512x256, t_156 I⟩,
    ⟨S512x256, headG (o_3 I) (extractStridedSlice S512x256 ![0, 768] (t_126 I) slices_S512x1024_o0_768_S512x256) I.gnw⟩] concatenates_S512x256_S512x256_S512x256_S512x256_S512x1024_d1 := by
  unfold t_164 t_162 t_161 t_160 t_159 t_158 t_157 o_3 z_3_7 z_3_6 z_3_5 z_3_4 z_3_3 z_3_2 z_3_1 z_3_0
  generalize t_134 I = Y134
  generalize t_144 I = Y144
  generalize t_156 I = Y156
  generalize t_20 I = Y20
  generalize t_49 I = Y49
  generalize t_126 I = Y126
  generalize t_3 I = Y3
  generalize t_107 I = Y107
  generalize t_111 I = Y111
  generalize t_113 I = Y113
  generalize t_115 I = Y115
  generalize t_117 I = Y117
  generalize t_121 I = Y121
  generalize t_123 I = Y123
  generalize t_106 I = Y106
  generalize t_110 I = Y110
  generalize t_112 I = Y112
  generalize t_114 I = Y114
  generalize t_116 I = Y116
  generalize t_118 I = Y118
  generalize t_122 I = Y122
  generalize t_124 I = Y124
  rfl

end Cert.KernelIdeal.Tile

end
-- ==== Proof.MixSguDefs.lean ====
module

public import proofs.«01_k».proof.Proof.MixStage

/-! The eight groups of the spatial unit side by side. -/

@[expose] public section

set_option maxRecDepth 16384

noncomputable section

namespace Cert.KernelIdeal.Tile

open Cert.KernelIdeal Cert.KernelIdeal.Gen Idealize.ShloMosaic Idealize.ShloMosaic.TcCoe Idealize.SL.Sem Cert.Scalars Cert.MixSpec

/-- The last group of the mix, which the tile makes where it joins the eight. -/
def gr7 (I : In) : FVec Ideal S512x128 .bf16 :=
  truncf .bf16 (mulf (extractStridedSlice S512x128 ![0, 896] (t_23 I) slices_S512x1024_o0_896_S512x128)
    (concatenate S512x128 0 [⟨S128x128, t_43 I⟩, ⟨S128x128, t_44 I⟩, ⟨S128x128, t_45 I⟩, ⟨S128x128, addf (t_46 I) (shapeCast S128x128 (I.sb7 : FVec Ideal S128x128 .f32) shapeCasts_S128x128_S128x128)⟩] concatenates_S128x128_S128x128_S128x128_S128x128_S512x128_d0)) bitsLt_bf16_f32

/-- The spatial unit's rows, its eight groups side by side. -/
def yaAll (I : In) : FVec Ideal S512x1024 .bf16 :=
  concatenate S512x1024 1 [⟨S512x128, t_26 I⟩, ⟨S512x128, t_27 I⟩, ⟨S512x128, t_29 I⟩, ⟨S512x128, t_35 I⟩, ⟨S512x128, t_36 I⟩, ⟨S512x128, t_38 I⟩, ⟨S512x128, t_42 I⟩, ⟨S512x128, gr7 I⟩] concatenates_S512x128_S512x128_S512x128_S512x128_S512x128_S512x128_S512x128_S512x128_S512x1024_d1

/-- The projection is of the eight groups. -/
theorem pa_eq (I : In) : t_47 I = matmul dot_S512x1024_S1024x1024_S512x1024_1_0_0_1_n_n (φ₂ := .bf16) none (yaAll I) (shapeCast S1024x1024 (I.wa : FVec Ideal S1024x1024 .bf16) shapeCasts_S1024x1024_S1024x1024) (constant S512x1024 .f32 0x00000000#32) := by
  unfold t_47 yaAll gr7
  generalize t_23 I = Y23
  generalize t_26 I = Y26
  generalize t_27 I = Y27
  generalize t_29 I = Y29
  generalize t_35 I = Y35
  generalize t_36 I = Y36
  generalize t_38 I = Y38
  generalize t_42 I = Y42
  generalize t_43 I = Y43
  generalize t_44 I = Y44
  generalize t_45 I = Y45
  generalize t_46 I = Y46
  rfl

end Cert.KernelIdeal.Tile

end
-- ==== Proof.MixSgu.lean ====
module

public import proofs.«01_k».proof.Proof.MixSguDefs

/-! The spatial gating unit of one tile. -/

@[expose] public section

set_option maxRecDepth 16384

noncomputable section

namespace Cert.KernelIdeal.Tile

open Cert.KernelIdeal Cert.KernelIdeal.Gen Idealize.ShloMosaic Idealize.ShloMosaic.TcCoe Idealize.SL.Sem Cert.Scalars Cert.MixSpec

/-- A block of 128 rows of the tile. -/
def blk (x : Fin 512 → Fin 1024 → EReal) (b : Fin 4) (t : Fin 128) : Fin 1024 → EReal := x ⟨128 * b + t, by omega⟩

/-- The causal mask of a block. -/
theorem tri (t s : Fin 128) : k0_pay49 (ix2 t s) = if s ≤ t then 1#1 else 0#1 := by
  have e : ∀ t s : Fin 128, IntOp.cmpi CmpIPredicate.sge (BitVec.ofNat 32 (t : ℕ)) (BitVec.ofNat 32 (s : ℕ)) = if s ≤ t then 1#1 else (0#1 : BitVec 1) := by decide +kernel
  pointwise [k0_pay49]
  exact e t s

theorem sel_mul (c : Prop) [Decidable c] (a v : EReal) : Scalar.select (if c then 1#1 else 0#1) (a * v) 0 = (if c then a else 0) * v := by
  by_cases h : c
  · rw [if_pos h, if_pos h]; rfl
  · rw [if_neg h, if_neg h, zero_mul]; rfl

/-- One group's part of a spatial unit's row. -/
theorem ya_split (p : Par) (X : Fin 128 → Fin 1024 → EReal) (t : Fin 128) (g : Fin 8) (e : Fin 128) :
    ya p X t ⟨128 * g + e, by omega⟩ = gelu (pr p (X t) ⟨128 * g + e, by omega⟩)
      * (∑ s : Fin 128, (if s ≤ t then p.sw g t s else 0) * vln p (X s) ⟨128 * g + e, by omega⟩ + p.sb g t) := by
  have hq : ∀ h, (⟨(128 * (g : ℕ) + e) / 128, h⟩ : Fin 8) = g := fun h => Fin.ext (by show (128 * (g : ℕ) + e) / 128 = g; omega)
  unfold ya
  simp only [hq]

variable {I : In} {p : Par} {x : Fin 512 → Fin 1024 → EReal} {S : Fin 4 → Fin 128 → Fin 256 → EReal} (H : IsIn I p x S)

include H

/-- The gating rows, -/
theorem gu_at (r : Fin 512) (e : Fin 1024) : t_23 I (ix2 r e) = gelu (pr p (x r) ⟨e, by omega⟩) := by
  have h := uv_at H r ⟨e, by omega⟩
  pointwise [t_23, t_21, t_22, k0_pay44, k0_pay45, k0_pay46, h]
  exact gelu2 _

theorem uv_hi (r : Fin 512) (e : Fin 1024) : t_9 I (ix2 r ⟨1024 + e, by omega⟩) + I.buv (ix2 0 ⟨1024 + e, by omega⟩) = pr p (x r) ⟨1024 + e, by omega⟩ :=
  uv_at H r ⟨1024 + e, by omega⟩

/-- and the gated rows through the layer norm. -/
theorem vln_at (r : Fin 512) (e : Fin 1024) : t_25 I (ix2 r e) = vln p (x r) e := by
  have g : ∀ z : EReal, z * (Ideal.ofBits FTy.f32 0x3F000000#32 + Ideal.ofBits FTy.f32 0x3F000000#32 * Ideal.tanh (z * (Ideal.ofBits FTy.f32 0x3F4C422A#32
      + Named.named (F := Ideal) κ "gelu_c1" 0x3D122279#32 * (z * z)))) = gelu z := gelu2
  pointwise [t_25, k0_pay48, t_24, t_21, k0_pay44, k0_pay47, uv_hi H, H.lnw, H.lnb, vln, mu, gv]
  simp only [g]

theorem vln_raw (r : Fin 512) (e : Fin 1024) : k0_pay48 (F := Ideal) (t_24 I) I.lnw I.lnb (ix2 r e) = vln p (x r) e := vln_at H r e

theorem ya_0_0 (i e : Fin 128) : t_26 I (ix2 ⟨i, by omega⟩ e) = gelu (pr p (x ⟨i, by omega⟩) ⟨0 + e, by omega⟩)
    * (∑ s : Fin 128, (if s ≤ i then p.sw 0 i s else 0) * vln p (x ⟨s, by omega⟩) ⟨e, by omega⟩ + p.sb 0 i) := by
  pointwise [t_26, k0_pay50, tri, gu_at H, vln_raw H, H.sw0, H.sb0]
  exact Ideal.mul_congr rfl (Ideal.add_congr (Finset.sum_congr rfl fun s _ => sel_mul _ _ _) rfl)

theorem ya_0_1 (i e : Fin 128) : t_26 I (ix2 ⟨128 + i, by omega⟩ e) = gelu (pr p (x ⟨128 + i, by omega⟩) ⟨0 + e, by omega⟩)
    * (∑ s : Fin 128, (if s ≤ i then p.sw 0 i s else 0) * vln p (x ⟨128 + s, by omega⟩) ⟨e, by omega⟩ + p.sb 0 i) := by
  pointwise [t_26, k0_pay50, tri, gu_at H, vln_raw H, H.sw0, H.sb0]
  exact Ideal.mul_congr rfl (Ideal.add_congr (Finset.sum_congr rfl fun s _ => sel_mul _ _ _) rfl)

theorem ya_0_2 (i e : Fin 128) : t_26 I (ix2 ⟨256 + i, by omega⟩ e) = gelu (pr p (x ⟨256 + i, by omega⟩) ⟨0 + e, by omega⟩)
    * (∑ s : Fin 128, (if s ≤ i then p.sw 0 i s else 0) * vln p (x ⟨256 + s, by omega⟩) ⟨e, by omega⟩ + p.sb 0 i) := by
  pointwise [t_26, k0_pay50, tri, gu_at H, vln_raw H, H.sw0, H.sb0]
  simp only [dif_neg (show ¬ (256 + (i : ℕ) < 128) by omega),
    dif_neg (show ¬ (256 + (i : ℕ) - 128 < 128) by omega),
    dif_pos i.isLt,
    show 256 + (i : ℕ) - 128 - 128 = i by omega,
    dif_neg (show ¬ (256 + (e : ℕ) < 128) by omega),
    dif_neg (show ¬ (256 + (e : ℕ) - 128 < 128) by omega),
    dif_pos e.isLt,
    show 256 + (e : ℕ) - 128 - 128 = e by omega]
  exact Ideal.mul_congr rfl (Ideal.add_congr (Finset.sum_congr rfl fun s _ => sel_mul _ _ _) rfl)

theorem ya_0_3 (i e : Fin 128) : t_26 I (ix2 ⟨384 + i, by omega⟩ e) = gelu (pr p (x ⟨384 + i, by omega⟩) ⟨0 + e, by omega⟩)
    * (∑ s : Fin 128, (if s ≤ i then p.sw 0 i s else 0) * vln p (x ⟨384 + s, by omega⟩) ⟨e, by omega⟩ + p.sb 0 i) := by
  pointwise [t_26, k0_pay50, tri, gu_at H, vln_raw H, H.sw0, H.sb0]
  simp only [dif_neg (show ¬ (384 + (i : ℕ) < 128) by omega),
    dif_neg (show ¬ (384 + (i : ℕ) - 128 < 128) by omega),
    dif_neg (show ¬ (384 + (i : ℕ) - 128 - 128 < 128) by omega),
    show 384 + (i : ℕ) - 128 - 128 - 128 = i by omega,
    dif_neg (show ¬ (384 + (e : ℕ) < 128) by omega),
    dif_neg (show ¬ (384 + (e : ℕ) - 128 < 128) by omega),
    dif_neg (show ¬ (384 + (e : ℕ) - 128 - 128 < 128) by omega),
    show 384 + (e : ℕ) - 128 - 128 - 128 = e by omega]
  exact Ideal.mul_congr rfl (Ideal.add_congr (Finset.sum_congr rfl fun s _ => sel_mul _ _ _) rfl)

theorem ya_1_0 (i e : Fin 128) : t_27 I (ix2 ⟨i, by omega⟩ e) = gelu (pr p (x ⟨i, by omega⟩) ⟨128 + e, by omega⟩)
    * (∑ s : Fin 128, (if s ≤ i then p.sw 1 i s else 0) * vln p (x ⟨s, by omega⟩) ⟨128 + e, by omega⟩ + p.sb 1 i) := by
  pointwise [t_27, k0_pay51, tri, gu_at H, vln_at H, H.sw1, H.sb1]
  exact Ideal.mul_congr rfl (Ideal.add_congr (Finset.sum_congr rfl fun s _ => sel_mul _ _ _) rfl)

theorem ya_1_1 (i e : Fin 128) : t_27 I (ix2 ⟨128 + i, by omega⟩ e) = gelu (pr p (x ⟨128 + i, by omega⟩) ⟨128 + e, by omega⟩)
    * (∑ s : Fin 128, (if s ≤ i then p.sw 1 i s else 0) * vln p (x ⟨128 + s, by omega⟩) ⟨128 + e, by omega⟩ + p.sb 1 i) := by
  pointwise [t_27, k0_pay51, tri, gu_at H, vln_at H, H.sw1, H.sb1]
  exact Ideal.mul_congr rfl (Ideal.add_congr (Finset.sum_congr rfl fun s _ => sel_mul _ _ _) rfl)

theorem ya_1_2 (i e : Fin 128) : t_27 I (ix2 ⟨256 + i, by omega⟩ e) = gelu (pr p (x ⟨256 + i, by omega⟩) ⟨128 + e, by omega⟩)
    * (∑ s : Fin 128, (if s ≤ i then p.sw 1 i s else 0) * vln p (x ⟨256 + s, by omega⟩) ⟨128 + e, by omega⟩ + p.sb 1 i) := by
  pointwise [t_27, k0_pay51, tri, gu_at H, vln_at H, H.sw1, H.sb1]
  simp only [dif_neg (show ¬ (256 + (i : ℕ) < 128) by omega),
    dif_neg (show ¬ (256 + (i : ℕ) - 128 < 128) by omega),
    dif_pos i.isLt,
    show 256 + (i : ℕ) - 128 - 128 = i by omega,
    dif_neg (show ¬ (256 + (e : ℕ) < 128) by omega),
    dif_neg (show ¬ (256 + (e : ℕ) - 128 < 128) by omega),
    dif_pos e.isLt,
    show 256 + (e : ℕ) - 128 - 128 = e by omega]
  exact Ideal.mul_congr rfl (Ideal.add_congr (Finset.sum_congr rfl fun s _ => sel_mul _ _ _) rfl)

theorem ya_1_3 (i e : Fin 128) : t_27 I (ix2 ⟨384 + i, by omega⟩ e) = gelu (pr p (x ⟨384 + i, by omega⟩) ⟨128 + e, by omega⟩)
    * (∑ s : Fin 128, (if s ≤ i then p.sw 1 i s else 0) * vln p (x ⟨384 + s, by omega⟩) ⟨128 + e, by omega⟩ + p.sb 1 i) := by
  pointwise [t_27, k0_pay51, tri, gu_at H, vln_at H, H.sw1, H.sb1]
  simp only [dif_neg (show ¬ (384 + (i : ℕ) < 128) by omega),
    dif_neg (show ¬ (384 + (i : ℕ) - 128 < 128) by omega),
    dif_neg (show ¬ (384 + (i : ℕ) - 128 - 128 < 128) by omega),
    show 384 + (i : ℕ) - 128 - 128 - 128 = i by omega,
    dif_neg (show ¬ (384 + (e : ℕ) < 128) by omega),
    dif_neg (show ¬ (384 + (e : ℕ) - 128 < 128) by omega),
    dif_neg (show ¬ (384 + (e : ℕ) - 128 - 128 < 128) by omega),
    show 384 + (e : ℕ) - 128 - 128 - 128 = e by omega]
  exact Ideal.mul_congr rfl (Ideal.add_congr (Finset.sum_congr rfl fun s _ => sel_mul _ _ _) rfl)

theorem ya_2_0 (i e : Fin 128) : t_29 I (ix2 ⟨i, by omega⟩ e) = gelu (pr p (x ⟨i, by omega⟩) ⟨256 + e, by omega⟩)
    * (∑ s : Fin 128, (if s ≤ i then p.sw 2 i s else 0) * vln p (x ⟨s, by omega⟩) ⟨256 + e, by omega⟩ + p.sb 2 i) := by
  pointwise [t_29, t_28, k0_pay52, k0_pay53, tri, gu_at H, vln_at H, H.sw2, H.sb2]
  exact Ideal.mul_congr rfl (Ideal.add_congr (Finset.sum_congr rfl fun s _ => sel_mul _ _ _) rfl)

theorem ya_2_1 (i e : Fin 128) : t_29 I (ix2 ⟨128 + i, by omega⟩ e) = gelu (pr p (x ⟨128 + i, by omega⟩) ⟨256 + e, by omega⟩)
    * (∑ s : Fin 128, (if s ≤ i then p.sw 2 i s else 0) * vln p (x ⟨128 + s, by omega⟩) ⟨256 + e, by omega⟩ + p.sb 2 i) := by
  pointwise [t_29, t_28, k0_pay52, k0_pay53, tri, gu_at H, vln_at H, H.sw2, H.sb2]
  exact Ideal.mul_congr rfl (Ideal.add_congr (Finset.sum_congr rfl fun s _ => sel_mul _ _ _) rfl)

theorem ya_2_2 (i e : Fin 128) : t_29 I (ix2 ⟨256 + i, by omega⟩ e) = gelu (pr p (x ⟨256 + i, by omega⟩) ⟨256 + e, by omega⟩)
    * (∑ s : Fin 128, (if s ≤ i then p.sw 2 i s else 0) * vln p (x ⟨256 + s, by omega⟩) ⟨256 + e, by omega⟩ + p.sb 2 i) := by
  pointwise [t_29, t_28, k0_pay52, k0_pay53, tri, gu_at H, vln_at H, H.sw2, H.sb2]
  simp only [dif_neg (show ¬ (256 + (i : ℕ) < 128) by omega),
    dif_neg (show ¬ (256 + (i : ℕ) - 128 < 128) by omega),
    dif_pos i.isLt,
    show 256 + (i : ℕ) - 128 - 128 = i by omega,
    dif_neg (show ¬ (256 + (e : ℕ) < 128) by omega),
    dif_neg (show ¬ (256 + (e : ℕ) - 128 < 128) by omega),
    dif_pos e.isLt,
    show 256 + (e : ℕ) - 128 - 128 = e by omega]
  exact Ideal.mul_congr rfl (Ideal.add_congr (Finset.sum_congr rfl fun s _ => sel_mul _ _ _) rfl)

theorem ya_2_3 (i e : Fin 128) : t_29 I (ix2 ⟨384 + i, by omega⟩ e) = gelu (pr p (x ⟨384 + i, by omega⟩) ⟨256 + e, by omega⟩)
    * (∑ s : Fin 128, (if s ≤ i then p.sw 2 i s else 0) * vln p (x ⟨384 + s, by omega⟩) ⟨256 + e, by omega⟩ + p.sb 2 i) := by
  pointwise [t_29, t_28, k0_pay52, k0_pay53, tri, gu_at H, vln_at H, H.sw2, H.sb2]
  simp only [dif_neg (show ¬ (384 + (i : ℕ) < 128) by omega),
    dif_neg (show ¬ (384 + (i : ℕ) - 128 < 128) by omega),
    dif_neg (show ¬ (384 + (i : ℕ) - 128 - 128 < 128) by omega),
    show 384 + (i : ℕ) - 128 - 128 - 128 = i by omega,
    dif_neg (show ¬ (384 + (e : ℕ) < 128) by omega),
    dif_neg (show ¬ (384 + (e : ℕ) - 128 < 128) by omega),
    dif_neg (show ¬ (384 + (e : ℕ) - 128 - 128 < 128) by omega),
    show 384 + (e : ℕ) - 128 - 128 - 128 = e by omega]
  exact Ideal.mul_congr rfl (Ideal.add_congr (Finset.sum_congr rfl fun s _ => sel_mul _ _ _) rfl)

theorem ya_3_0 (i e : Fin 128) : t_35 I (ix2 ⟨i, by omega⟩ e) = gelu (pr p (x ⟨i, by omega⟩) ⟨384 + e, by omega⟩)
    * (∑ s : Fin 128, (if s ≤ i then p.sw 3 i s else 0) * vln p (x ⟨s, by omega⟩) ⟨384 + e, by omega⟩ + p.sb 3 i) := by
  pointwise [t_30, t_31, t_32, t_33, t_34, t_35, k0_pay54, k0_pay55, k0_pay56, k0_pay57, k0_pay58, tri, gu_at H, vln_at H, H.sw3, H.sb3]
  exact Ideal.mul_congr rfl (Ideal.add_congr (Finset.sum_congr rfl fun s _ => sel_mul _ _ _) rfl)

theorem ya_3_1 (i e : Fin 128) : t_35 I (ix2 ⟨128 + i, by omega⟩ e) = gelu (pr p (x ⟨128 + i, by omega⟩) ⟨384 + e, by omega⟩)
    * (∑ s : Fin 128, (if s ≤ i then p.sw 3 i s else 0) * vln p (x ⟨128 + s, by omega⟩) ⟨384 + e, by omega⟩ + p.sb 3 i) := by
  pointwise [t_30, t_31, t_32, t_33, t_34, t_35, k0_pay54, k0_pay55, k0_pay56, k0_pay57, k0_pay58, tri, gu_at H, vln_at H, H.sw3, H.sb3]
  exact Ideal.mul_congr rfl (Ideal.add_congr (Finset.sum_congr rfl fun s _ => sel_mul _ _ _) rfl)

theorem ya_3_2 (i e : Fin 128) : t_35 I (ix2 ⟨256 + i, by omega⟩ e) = gelu (pr p (x ⟨256 + i, by omega⟩) ⟨384 + e, by omega⟩)
    * (∑ s : Fin 128, (if s ≤ i then p.sw 3 i s else 0) * vln p (x ⟨256 + s, by omega⟩) ⟨384 + e, by omega⟩ + p.sb 3 i) := by
  pointwise [t_30, t_31, t_32, t_33, t_34, t_35, k0_pay54, k0_pay55, k0_pay56, k0_pay57, k0_pay58, tri, gu_at H, vln_at H, H.sw3, H.sb3]
  simp only [dif_neg (show ¬ (256 + (i : ℕ) < 128) by omega),
    dif_neg (show ¬ (256 + (i : ℕ) - 128 < 128) by omega),
    dif_pos i.isLt,
    show 256 + (i : ℕ) - 128 - 128 = i by omega,
    dif_neg (show ¬ (256 + (e : ℕ) < 128) by omega),
    dif_neg (show ¬ (256 + (e : ℕ) - 128 < 128) by omega),
    dif_pos e.isLt,
    show 256 + (e : ℕ) - 128 - 128 = e by omega]
  exact Ideal.mul_congr rfl (Ideal.add_congr (Finset.sum_congr rfl fun s _ => sel_mul _ _ _) rfl)

theorem ya_3_3 (i e : Fin 128) : t_35 I (ix2 ⟨384 + i, by omega⟩ e) = gelu (pr p (x ⟨384 + i, by omega⟩) ⟨384 + e, by omega⟩)
    * (∑ s : Fin 128, (if s ≤ i then p.sw 3 i s else 0) * vln p (x ⟨384 + s, by omega⟩) ⟨384 + e, by omega⟩ + p.sb 3 i) := by
  pointwise [t_30, t_31, t_32, t_33, t_34, t_35, k0_pay54, k0_pay55, k0_pay56, k0_pay57, k0_pay58, tri, gu_at H, vln_at H, H.sw3, H.sb3]
  simp only [dif_neg (show ¬ (384 + (i : ℕ) < 128) by omega),
    dif_neg (show ¬ (384 + (i : ℕ) - 128 < 128) by omega),
    dif_neg (show ¬ (384 + (i : ℕ) - 128 - 128 < 128) by omega),
    show 384 + (i : ℕ) - 128 - 128 - 128 = i by omega,
    dif_neg (show ¬ (384 + (e : ℕ) < 128) by omega),
    dif_neg (show ¬ (384 + (e : ℕ) - 128 < 128) by omega),
    dif_neg (show ¬ (384 + (e : ℕ) - 128 - 128 < 128) by omega),
    show 384 + (e : ℕ) - 128 - 128 - 128 = e by omega]
  exact Ideal.mul_congr rfl (Ideal.add_congr (Finset.sum_congr rfl fun s _ => sel_mul _ _ _) rfl)

theorem ya_4_0 (i e : Fin 128) : t_36 I (ix2 ⟨i, by omega⟩ e) = gelu (pr p (x ⟨i, by omega⟩) ⟨512 + e, by omega⟩)
    * (∑ s : Fin 128, (if s ≤ i then p.sw 4 i s else 0) * vln p (x ⟨s, by omega⟩) ⟨512 + e, by omega⟩ + p.sb 4 i) := by
  pointwise [t_36, k0_pay59, tri, gu_at H, vln_at H, H.sw4, H.sb4]
  exact Ideal.mul_congr rfl (Ideal.add_congr (Finset.sum_congr rfl fun s _ => sel_mul _ _ _) rfl)

theorem ya_4_1 (i e : Fin 128) : t_36 I (ix2 ⟨128 + i, by omega⟩ e) = gelu (pr p (x ⟨128 + i, by omega⟩) ⟨512 + e, by omega⟩)
    * (∑ s : Fin 128, (if s ≤ i then p.sw 4 i s else 0) * vln p (x ⟨128 + s, by omega⟩) ⟨512 + e, by omega⟩ + p.sb 4 i) := by
  pointwise [t_36, k0_pay59, tri, gu_at H, vln_at H, H.sw4, H.sb4]
  exact Ideal.mul_congr rfl (Ideal.add_congr (Finset.sum_congr rfl fun s _ => sel_mul _ _ _) rfl)

theorem ya_4_2 (i e : Fin 128) : t_36 I (ix2 ⟨256 + i, by omega⟩ e) = gelu (pr p (x ⟨256 + i, by omega⟩) ⟨512 + e, by omega⟩)
    * (∑ s : Fin 128, (if s ≤ i then p.sw 4 i s else 0) * vln p (x ⟨256 + s, by omega⟩) ⟨512 + e, by omega⟩ + p.sb 4 i) := by
  pointwise [t_36, k0_pay59, tri, gu_at H, vln_at H, H.sw4, H.sb4]
  simp only [dif_neg (show ¬ (256 + (i : ℕ) < 128) by omega),
    dif_neg (show ¬ (256 + (i : ℕ) - 128 < 128) by omega),
    dif_pos i.isLt,
    show 256 + (i : ℕ) - 128 - 128 = i by omega,
    dif_neg (show ¬ (256 + (e : ℕ) < 128) by omega),
    dif_neg (show ¬ (256 + (e : ℕ) - 128 < 128) by omega),
    dif_pos e.isLt,
    show 256 + (e : ℕ) - 128 - 128 = e by omega]
  exact Ideal.mul_congr rfl (Ideal.add_congr (Finset.sum_congr rfl fun s _ => sel_mul _ _ _) rfl)

theorem ya_4_3 (i e : Fin 128) : t_36 I (ix2 ⟨384 + i, by omega⟩ e) = gelu (pr p (x ⟨384 + i, by omega⟩) ⟨512 + e, by omega⟩)
    * (∑ s : Fin 128, (if s ≤ i then p.sw 4 i s else 0) * vln p (x ⟨384 + s, by omega⟩) ⟨512 + e, by omega⟩ + p.sb 4 i) := by
  pointwise [t_36, k0_pay59, tri, gu_at H, vln_at H, H.sw4, H.sb4]
  simp only [dif_neg (show ¬ (384 + (i : ℕ) < 128) by omega),
    dif_neg (show ¬ (384 + (i : ℕ) - 128 < 128) by omega),
    dif_neg (show ¬ (384 + (i : ℕ) - 128 - 128 < 128) by omega),
    show 384 + (i : ℕ) - 128 - 128 - 128 = i by omega,
    dif_neg (show ¬ (384 + (e : ℕ) < 128) by omega),
    dif_neg (show ¬ (384 + (e : ℕ) - 128 < 128) by omega),
    dif_neg (show ¬ (384 + (e : ℕ) - 128 - 128 < 128) by omega),
    show 384 + (e : ℕ) - 128 - 128 - 128 = e by omega]
  exact Ideal.mul_congr rfl (Ideal.add_congr (Finset.sum_congr rfl fun s _ => sel_mul _ _ _) rfl)

theorem ya_5_0 (i e : Fin 128) : t_38 I (ix2 ⟨i, by omega⟩ e) = gelu (pr p (x ⟨i, by omega⟩) ⟨640 + e, by omega⟩)
    * (∑ s : Fin 128, (if s ≤ i then p.sw 5 i s else 0) * vln p (x ⟨s, by omega⟩) ⟨640 + e, by omega⟩ + p.sb 5 i) := by
  pointwise [t_38, t_37, k0_pay60, tri, gu_at H, vln_at H, H.sw5, H.sb5]
  exact Ideal.mul_congr rfl (Ideal.add_congr (Finset.sum_congr rfl fun s _ => sel_mul _ _ _) rfl)

theorem ya_5_1 (i e : Fin 128) : t_38 I (ix2 ⟨128 + i, by omega⟩ e) = gelu (pr p (x ⟨128 + i, by omega⟩) ⟨640 + e, by omega⟩)
    * (∑ s : Fin 128, (if s ≤ i then p.sw 5 i s else 0) * vln p (x ⟨128 + s, by omega⟩) ⟨640 + e, by omega⟩ + p.sb 5 i) := by
  pointwise [t_38, t_37, k0_pay60, tri, gu_at H, vln_at H, H.sw5, H.sb5]
  exact Ideal.mul_congr rfl (Ideal.add_congr (Finset.sum_congr rfl fun s _ => sel_mul _ _ _) rfl)

theorem ya_5_2 (i e : Fin 128) : t_38 I (ix2 ⟨256 + i, by omega⟩ e) = gelu (pr p (x ⟨256 + i, by omega⟩) ⟨640 + e, by omega⟩)
    * (∑ s : Fin 128, (if s ≤ i then p.sw 5 i s else 0) * vln p (x ⟨256 + s, by omega⟩) ⟨640 + e, by omega⟩ + p.sb 5 i) := by
  pointwise [t_38, t_37, k0_pay60, tri, gu_at H, vln_at H, H.sw5, H.sb5]
  simp only [dif_neg (show ¬ (256 + (i : ℕ) < 128) by omega),
    dif_neg (show ¬ (256 + (i : ℕ) - 128 < 128) by omega),
    dif_pos i.isLt,
    show 256 + (i : ℕ) - 128 - 128 = i by omega,
    dif_neg (show ¬ (256 + (e : ℕ) < 128) by omega),
    dif_neg (show ¬ (256 + (e : ℕ) - 128 < 128) by omega),
    dif_pos e.isLt,
    show 256 + (e : ℕ) - 128 - 128 = e by omega]
  exact Ideal.mul_congr rfl (Ideal.add_congr (Finset.sum_congr rfl fun s _ => sel_mul _ _ _) rfl)

theorem ya_5_3 (i e : Fin 128) : t_38 I (ix2 ⟨384 + i, by omega⟩ e) = gelu (pr p (x ⟨384 + i, by omega⟩) ⟨640 + e, by omega⟩)
    * (∑ s : Fin 128, (if s ≤ i then p.sw 5 i s else 0) * vln p (x ⟨384 + s, by omega⟩) ⟨640 + e, by omega⟩ + p.sb 5 i) := by
  pointwise [t_38, t_37, k0_pay60, tri, gu_at H, vln_at H, H.sw5, H.sb5]
  simp only [dif_neg (show ¬ (384 + (i : ℕ) < 128) by omega),
    dif_neg (show ¬ (384 + (i : ℕ) - 128 < 128) by omega),
    dif_neg (show ¬ (384 + (i : ℕ) - 128 - 128 < 128) by omega),
    show 384 + (i : ℕ) - 128 - 128 - 128 = i by omega,
    dif_neg (show ¬ (384 + (e : ℕ) < 128) by omega),
    dif_neg (show ¬ (384 + (e : ℕ) - 128 < 128) by omega),
    dif_neg (show ¬ (384 + (e : ℕ) - 128 - 128 < 128) by omega),
    show 384 + (e : ℕ) - 128 - 128 - 128 = e by omega]
  exact Ideal.mul_congr rfl (Ideal.add_congr (Finset.sum_congr rfl fun s _ => sel_mul _ _ _) rfl)

theorem ya_6_0 (i e : Fin 128) : t_42 I (ix2 ⟨i, by omega⟩ e) = gelu (pr p (x ⟨i, by omega⟩) ⟨768 + e, by omega⟩)
    * (∑ s : Fin 128, (if s ≤ i then p.sw 6 i s else 0) * vln p (x ⟨s, by omega⟩) ⟨768 + e, by omega⟩ + p.sb 6 i) := by
  pointwise [t_39, t_40, t_41, t_42, k0_pay61, k0_pay62, k0_pay63, tri, gu_at H, vln_at H, H.sw6, H.sb6]
  exact Ideal.mul_congr rfl (Ideal.add_congr (Finset.sum_congr rfl fun s _ => sel_mul _ _ _) rfl)

theorem ya_6_1 (i e : Fin 128) : t_42 I (ix2 ⟨128 + i, by omega⟩ e) = gelu (pr p (x ⟨128 + i, by omega⟩) ⟨768 + e, by omega⟩)
    * (∑ s : Fin 128, (if s ≤ i then p.sw 6 i s else 0) * vln p (x ⟨128 + s, by omega⟩) ⟨768 + e, by omega⟩ + p.sb 6 i) := by
  pointwise [t_39, t_40, t_41, t_42, k0_pay61, k0_pay62, k0_pay63, tri, gu_at H, vln_at H, H.sw6, H.sb6]
  exact Ideal.mul_congr rfl (Ideal.add_congr (Finset.sum_congr rfl fun s _ => sel_mul _ _ _) rfl)

theorem ya_6_2 (i e : Fin 128) : t_42 I (ix2 ⟨256 + i, by omega⟩ e) = gelu (pr p (x ⟨256 + i, by omega⟩) ⟨768 + e, by omega⟩)
    * (∑ s : Fin 128, (if s ≤ i then p.sw 6 i s else 0) * vln p (x ⟨256 + s, by omega⟩) ⟨768 + e, by omega⟩ + p.sb 6 i) := by
  pointwise [t_39, t_40, t_41, t_42, k0_pay61, k0_pay62, k0_pay63, tri, gu_at H, vln_at H, H.sw6, H.sb6]
  simp only [dif_neg (show ¬ (256 + (i : ℕ) < 128) by omega),
    dif_neg (show ¬ (256 + (i : ℕ) - 128 < 128) by omega),
    dif_pos i.isLt,
    show 256 + (i : ℕ) - 128 - 128 = i by omega,
    dif_neg (show ¬ (256 + (e : ℕ) < 128) by omega),
    dif_neg (show ¬ (256 + (e : ℕ) - 128 < 128) by omega),
    dif_pos e.isLt,
    show 256 + (e : ℕ) - 128 - 128 = e by omega]
  exact Ideal.mul_congr rfl (Ideal.add_congr (Finset.sum_congr rfl fun s _ => sel_mul _ _ _) rfl)

theorem ya_6_3 (i e : Fin 128) : t_42 I (ix2 ⟨384 + i, by omega⟩ e) = gelu (pr p (x ⟨384 + i, by omega⟩) ⟨768 + e, by omega⟩)
    * (∑ s : Fin 128, (if s ≤ i then p.sw 6 i s else 0) * vln p (x ⟨384 + s, by omega⟩) ⟨768 + e, by omega⟩ + p.sb 6 i) := by
  pointwise [t_39, t_40, t_41, t_42, k0_pay61, k0_pay62, k0_pay63, tri, gu_at H, vln_at H, H.sw6, H.sb6]
  simp only [dif_neg (show ¬ (384 + (i : ℕ) < 128) by omega),
    dif_neg (show ¬ (384 + (i : ℕ) - 128 < 128) by omega),
    dif_neg (show ¬ (384 + (i : ℕ) - 128 - 128 < 128) by omega),
    show 384 + (i : ℕ) - 128 - 128 - 128 = i by omega,
    dif_neg (show ¬ (384 + (e : ℕ) < 128) by omega),
    dif_neg (show ¬ (384 + (e : ℕ) - 128 < 128) by omega),
    dif_neg (show ¬ (384 + (e : ℕ) - 128 - 128 < 128) by omega),
    show 384 + (e : ℕ) - 128 - 128 - 128 = e by omega]
  exact Ideal.mul_congr rfl (Ideal.add_congr (Finset.sum_congr rfl fun s _ => sel_mul _ _ _) rfl)

theorem ya_7_0 (i e : Fin 128) : gr7 I (ix2 ⟨i, by omega⟩ e) = gelu (pr p (x ⟨i, by omega⟩) ⟨896 + e, by omega⟩)
    * (∑ s : Fin 128, (if s ≤ i then p.sw 7 i s else 0) * vln p (x ⟨s, by omega⟩) ⟨896 + e, by omega⟩ + p.sb 7 i) := by
  pointwise [gr7, t_43, t_44, t_45, t_46, k0_pay64, k0_pay65, k0_pay66, k0_pay67, k0_pay68, tri, gu_at H, vln_at H, H.sw7, H.sb7]
  exact Ideal.mul_congr rfl (Ideal.add_congr (Finset.sum_congr rfl fun s _ => sel_mul _ _ _) rfl)

theorem ya_7_1 (i e : Fin 128) : gr7 I (ix2 ⟨128 + i, by omega⟩ e) = gelu (pr p (x ⟨128 + i, by omega⟩) ⟨896 + e, by omega⟩)
    * (∑ s : Fin 128, (if s ≤ i then p.sw 7 i s else 0) * vln p (x ⟨128 + s, by omega⟩) ⟨896 + e, by omega⟩ + p.sb 7 i) := by
  pointwise [gr7, t_43, t_44, t_45, t_46, k0_pay64, k0_pay65, k0_pay66, k0_pay67, k0_pay68, tri, gu_at H, vln_at H, H.sw7, H.sb7]
  exact Ideal.mul_congr rfl (Ideal.add_congr (Finset.sum_congr rfl fun s _ => sel_mul _ _ _) rfl)

theorem ya_7_2 (i e : Fin 128) : gr7 I (ix2 ⟨256 + i, by omega⟩ e) = gelu (pr p (x ⟨256 + i, by omega⟩) ⟨896 + e, by omega⟩)
    * (∑ s : Fin 128, (if s ≤ i then p.sw 7 i s else 0) * vln p (x ⟨256 + s, by omega⟩) ⟨896 + e, by omega⟩ + p.sb 7 i) := by
  pointwise [gr7, t_43, t_44, t_45, t_46, k0_pay64, k0_pay65, k0_pay66, k0_pay67, k0_pay68, tri, gu_at H, vln_at H, H.sw7, H.sb7]
  simp only [dif_neg (show ¬ (256 + (i : ℕ) < 128) by omega),
    dif_neg (show ¬ (256 + (i : ℕ) - 128 < 128) by omega),
    dif_pos i.isLt,
    show 256 + (i : ℕ) - 128 - 128 = i by omega,
    dif_neg (show ¬ (256 + (e : ℕ) < 128) by omega),
    dif_neg (show ¬ (256 + (e : ℕ) - 128 < 128) by omega),
    dif_pos e.isLt,
    show 256 + (e : ℕ) - 128 - 128 = e by omega]
  exact Ideal.mul_congr rfl (Ideal.add_congr (Finset.sum_congr rfl fun s _ => sel_mul _ _ _) rfl)

theorem ya_7_3 (i e : Fin 128) : gr7 I (ix2 ⟨384 + i, by omega⟩ e) = gelu (pr p (x ⟨384 + i, by omega⟩) ⟨896 + e, by omega⟩)
    * (∑ s : Fin 128, (if s ≤ i then p.sw 7 i s else 0) * vln p (x ⟨384 + s, by omega⟩) ⟨896 + e, by omega⟩ + p.sb 7 i) := by
  pointwise [gr7, t_43, t_44, t_45, t_46, k0_pay64, k0_pay65, k0_pay66, k0_pay67, k0_pay68, tri, gu_at H, vln_at H, H.sw7, H.sb7]
  simp only [dif_neg (show ¬ (384 + (i : ℕ) < 128) by omega),
    dif_neg (show ¬ (384 + (i : ℕ) - 128 < 128) by omega),
    dif_neg (show ¬ (384 + (i : ℕ) - 128 - 128 < 128) by omega),
    show 384 + (i : ℕ) - 128 - 128 - 128 = i by omega,
    dif_neg (show ¬ (384 + (e : ℕ) < 128) by omega),
    dif_neg (show ¬ (384 + (e : ℕ) - 128 < 128) by omega),
    dif_neg (show ¬ (384 + (e : ℕ) - 128 - 128 < 128) by omega),
    show 384 + (e : ℕ) - 128 - 128 - 128 = e by omega]
  exact Ideal.mul_congr rfl (Ideal.add_congr (Finset.sum_congr rfl fun s _ => sel_mul _ _ _) rfl)

/-! The groups at any row of the tile. -/

theorem ya_row0 (r : Fin 512) (e : Fin 128) : t_26 I (ix2 r e) = ya p (blk x ⟨r / 128, by omega⟩) ⟨r % 128, by omega⟩ ⟨128 * (0 : Fin 8) + e, by omega⟩ := by
  obtain ⟨b, i, rfl⟩ : ∃ (b : Fin 4) (i : Fin 128), r = ⟨128 * b + i, by omega⟩ :=
    ⟨⟨r / 128, by omega⟩, ⟨r % 128, by omega⟩, Fin.ext (by show (r : ℕ) = 128 * (r / 128) + r % 128; omega)⟩
  have h1 : ∀ h, (⟨(128 * (b : ℕ) + i) / 128, h⟩ : Fin 4) = b := fun h => Fin.ext (by show (128 * (b : ℕ) + i) / 128 = b; omega)
  have h2 : ∀ h, (⟨(128 * (b : ℕ) + i) % 128, h⟩ : Fin 128) = i := fun h => Fin.ext (by show (128 * (b : ℕ) + i) % 128 = i; omega)
  simp only [h1, h2]
  rw [ya_split]
  fin_cases b
  · simpa [blk] using ya_0_0 H i e
  · simpa [blk] using ya_0_1 H i e
  · simpa [blk] using ya_0_2 H i e
  · simpa [blk] using ya_0_3 H i e

theorem ya_row1 (r : Fin 512) (e : Fin 128) : t_27 I (ix2 r e) = ya p (blk x ⟨r / 128, by omega⟩) ⟨r % 128, by omega⟩ ⟨128 * (1 : Fin 8) + e, by omega⟩ := by
  obtain ⟨b, i, rfl⟩ : ∃ (b : Fin 4) (i : Fin 128), r = ⟨128 * b + i, by omega⟩ :=
    ⟨⟨r / 128, by omega⟩, ⟨r % 128, by omega⟩, Fin.ext (by show (r : ℕ) = 128 * (r / 128) + r % 128; omega)⟩
  have h1 : ∀ h, (⟨(128 * (b : ℕ) + i) / 128, h⟩ : Fin 4) = b := fun h => Fin.ext (by show (128 * (b : ℕ) + i) / 128 = b; omega)
  have h2 : ∀ h, (⟨(128 * (b : ℕ) + i) % 128, h⟩ : Fin 128) = i := fun h => Fin.ext (by show (128 * (b : ℕ) + i) % 128 = i; omega)
  simp only [h1, h2]
  rw [ya_split]
  fin_cases b
  · simpa [blk] using ya_1_0 H i e
  · simpa [blk] using ya_1_1 H i e
  · simpa [blk] using ya_1_2 H i e
  · simpa [blk] using ya_1_3 H i e

theorem ya_row2 (r : Fin 512) (e : Fin 128) : t_29 I (ix2 r e) = ya p (blk x ⟨r / 128, by omega⟩) ⟨r % 128, by omega⟩ ⟨128 * (2 : Fin 8) + e, by omega⟩ := by
  obtain ⟨b, i, rfl⟩ : ∃ (b : Fin 4) (i : Fin 128), r = ⟨128 * b + i, by omega⟩ :=
    ⟨⟨r / 128, by omega⟩, ⟨r % 128, by omega⟩, Fin.ext (by show (r : ℕ) = 128 * (r / 128) + r % 128; omega)⟩
  have h1 : ∀ h, (⟨(128 * (b : ℕ) + i) / 128, h⟩ : Fin 4) = b := fun h => Fin.ext (by show (128 * (b : ℕ) + i) / 128 = b; omega)
  have h2 : ∀ h, (⟨(128 * (b : ℕ) + i) % 128, h⟩ : Fin 128) = i := fun h => Fin.ext (by show (128 * (b : ℕ) + i) % 128 = i; omega)
  simp only [h1, h2]
  rw [ya_split]
  fin_cases b
  · simpa [blk] using ya_2_0 H i e
  · simpa [blk] using ya_2_1 H i e
  · simpa [blk] using ya_2_2 H i e
  · simpa [blk] using ya_2_3 H i e

theorem ya_row3 (r : Fin 512) (e : Fin 128) : t_35 I (ix2 r e) = ya p (blk x ⟨r / 128, by omega⟩) ⟨r % 128, by omega⟩ ⟨128 * (3 : Fin 8) + e, by omega⟩ := by
  obtain ⟨b, i, rfl⟩ : ∃ (b : Fin 4) (i : Fin 128), r = ⟨128 * b + i, by omega⟩ :=
    ⟨⟨r / 128, by omega⟩, ⟨r % 128, by omega⟩, Fin.ext (by show (r : ℕ) = 128 * (r / 128) + r % 128; omega)⟩
  have h1 : ∀ h, (⟨(128 * (b : ℕ) + i) / 128, h⟩ : Fin 4) = b := fun h => Fin.ext (by show (128 * (b : ℕ) + i) / 128 = b; omega)
  have h2 : ∀ h, (⟨(128 * (b : ℕ) + i) % 128, h⟩ : Fin 128) = i := fun h => Fin.ext (by show (128 * (b : ℕ) + i) % 128 = i; omega)
  simp only [h1, h2]
  rw [ya_split]
  fin_cases b
  · simpa [blk] using ya_3_0 H i e
  · simpa [blk] using ya_3_1 H i e
  · simpa [blk] using ya_3_2 H i e
  · simpa [blk] using ya_3_3 H i e

theorem ya_row4 (r : Fin 512) (e : Fin 128) : t_36 I (ix2 r e) = ya p (blk x ⟨r / 128, by omega⟩) ⟨r % 128, by omega⟩ ⟨128 * (4 : Fin 8) + e, by omega⟩ := by
  obtain ⟨b, i, rfl⟩ : ∃ (b : Fin 4) (i : Fin 128), r = ⟨128 * b + i, by omega⟩ :=
    ⟨⟨r / 128, by omega⟩, ⟨r % 128, by omega⟩, Fin.ext (by show (r : ℕ) = 128 * (r / 128) + r % 128; omega)⟩
  have h1 : ∀ h, (⟨(128 * (b : ℕ) + i) / 128, h⟩ : Fin 4) = b := fun h => Fin.ext (by show (128 * (b : ℕ) + i) / 128 = b; omega)
  have h2 : ∀ h, (⟨(128 * (b : ℕ) + i) % 128, h⟩ : Fin 128) = i := fun h => Fin.ext (by show (128 * (b : ℕ) + i) % 128 = i; omega)
  simp only [h1, h2]
  rw [ya_split]
  fin_cases b
  · simpa [blk] using ya_4_0 H i e
  · simpa [blk] using ya_4_1 H i e
  · simpa [blk] using ya_4_2 H i e
  · simpa [blk] using ya_4_3 H i e

theorem ya_row5 (r : Fin 512) (e : Fin 128) : t_38 I (ix2 r e) = ya p (blk x ⟨r / 128, by omega⟩) ⟨r % 128, by omega⟩ ⟨128 * (5 : Fin 8) + e, by omega⟩ := by
  obtain ⟨b, i, rfl⟩ : ∃ (b : Fin 4) (i : Fin 128), r = ⟨128 * b + i, by omega⟩ :=
    ⟨⟨r / 128, by omega⟩, ⟨r % 128, by omega⟩, Fin.ext (by show (r : ℕ) = 128 * (r / 128) + r % 128; omega)⟩
  have h1 : ∀ h, (⟨(128 * (b : ℕ) + i) / 128, h⟩ : Fin 4) = b := fun h => Fin.ext (by show (128 * (b : ℕ) + i) / 128 = b; omega)
  have h2 : ∀ h, (⟨(128 * (b : ℕ) + i) % 128, h⟩ : Fin 128) = i := fun h => Fin.ext (by show (128 * (b : ℕ) + i) % 128 = i; omega)
  simp only [h1, h2]
  rw [ya_split]
  fin_cases b
  · simpa [blk] using ya_5_0 H i e
  · simpa [blk] using ya_5_1 H i e
  · simpa [blk] using ya_5_2 H i e
  · simpa [blk] using ya_5_3 H i e

theorem ya_row6 (r : Fin 512) (e : Fin 128) : t_42 I (ix2 r e) = ya p (blk x ⟨r / 128, by omega⟩) ⟨r % 128, by omega⟩ ⟨128 * (6 : Fin 8) + e, by omega⟩ := by
  obtain ⟨b, i, rfl⟩ : ∃ (b : Fin 4) (i : Fin 128), r = ⟨128 * b + i, by omega⟩ :=
    ⟨⟨r / 128, by omega⟩, ⟨r % 128, by omega⟩, Fin.ext (by show (r : ℕ) = 128 * (r / 128) + r % 128; omega)⟩
  have h1 : ∀ h, (⟨(128 * (b : ℕ) + i) / 128, h⟩ : Fin 4) = b := fun h => Fin.ext (by show (128 * (b : ℕ) + i) / 128 = b; omega)
  have h2 : ∀ h, (⟨(128 * (b : ℕ) + i) % 128, h⟩ : Fin 128) = i := fun h => Fin.ext (by show (128 * (b : ℕ) + i) % 128 = i; omega)
  simp only [h1, h2]
  rw [ya_split]
  fin_cases b
  · simpa [blk] using ya_6_0 H i e
  · simpa [blk] using ya_6_1 H i e
  · simpa [blk] using ya_6_2 H i e
  · simpa [blk] using ya_6_3 H i e

theorem ya_row7 (r : Fin 512) (e : Fin 128) : gr7 I (ix2 r e) = ya p (blk x ⟨r / 128, by omega⟩) ⟨r % 128, by omega⟩ ⟨128 * (7 : Fin 8) + e, by omega⟩ := by
  obtain ⟨b, i, rfl⟩ : ∃ (b : Fin 4) (i : Fin 128), r = ⟨128 * b + i, by omega⟩ :=
    ⟨⟨r / 128, by omega⟩, ⟨r % 128, by omega⟩, Fin.ext (by show (r : ℕ) = 128 * (r / 128) + r % 128; omega)⟩
  have h1 : ∀ h, (⟨(128 * (b : ℕ) + i) / 128, h⟩ : Fin 4) = b := fun h => Fin.ext (by show (128 * (b : ℕ) + i) / 128 = b; omega)
  have h2 : ∀ h, (⟨(128 * (b : ℕ) + i) % 128, h⟩ : Fin 128) = i := fun h => Fin.ext (by show (128 * (b : ℕ) + i) % 128 = i; omega)
  simp only [h1, h2]
  rw [ya_split]
  fin_cases b
  · simpa [blk] using ya_7_0 H i e
  · simpa [blk] using ya_7_1 H i e
  · simpa [blk] using ya_7_2 H i e
  · simpa [blk] using ya_7_3 H i e

theorem yaAll_at (r : Fin 512) (f : Fin 1024) : yaAll I (ix2 r f) = ya p (blk x ⟨r / 128, by omega⟩) ⟨r % 128, by omega⟩ f := by
  pointwise [yaAll, ya_row0 H, ya_row1 H, ya_row2 H, ya_row3 H, ya_row4 H, ya_row5 H, ya_row6 H, ya_row7 H]
  split_ifs
  all_goals first
    | rfl
    | exact congrArg (ya p _ _) (Fin.ext (by dsimp only; omega))

/-- The spatial unit's rows through their projection. -/
theorem pa_at (r : Fin 512) (e : Fin 1024) : t_47 I (ix2 r e)
    = ∑ f : Fin 1024, ya p (blk x ⟨r / 128, by omega⟩) ⟨r % 128, by omega⟩ f * p.wa f e := by
  rw [pa_eq]
  pointwise [yaAll_at H, H.wa]

end Cert.KernelIdeal.Tile

end
-- ==== Proof.MixVals.lean ====
module

public import proofs.«01_k».proof.Proof.MixHeads
public import proofs.«01_k».proof.Proof.MixSgu

/-! The result and the states of one tile, as functions of its rows and of the states before it. -/

@[expose] public section

set_option maxRecDepth 16384

noncomputable section

namespace Cert.KernelIdeal.Tile

open Cert.KernelIdeal Cert.KernelIdeal.Gen Idealize.ShloMosaic Idealize.ShloMosaic.TcCoe Idealize.SL.Sem Cert.Scalars Cert.MixSpec

variable {I : In} {p : Par} {x : Fin 512 → Fin 1024 → EReal} {S : Fin 4 → Fin 128 → Fin 256 → EReal} (H : IsIn I p x S)

/-- A head's row through its norm, gated. -/
theorem headG_at {O G : FVec Ideal S512x256 .f32} {W : Vec Ideal S1x256 .f32} (hW : ∀ v : Fin 256, W (ix2 0 v) = p.gnw v)
    (r : Fin 512) (v : Fin 256) : headG O G W (ix2 r v) = hn p (fun j => O (ix2 r j)) v * G (ix2 r v) := by
  pointwise [headG, k0_pay164, hW, hn]

include H

theorem dec_at' (c : Fin 8) (e e' : Fin 512) (he : (e : ℕ) = e') : t_20 I (ix2 e c) = Ideal.exp (bc p (chunk x c) 63 e') := by
  obtain rfl : e = e' := Fin.ext he
  exact dec_at H c e

omit H in
/-- Four heads side by side. -/
theorem cat4 {Y0 Y1 Y2 Y3 : FVec Ideal S512x256 .bf16} (F : Fin 1024 → EReal) (r : Fin 512)
    (h0 : ∀ v : Fin 256, Y0 (ix2 r v) = F ⟨v, by omega⟩) (h1 : ∀ v : Fin 256, Y1 (ix2 r v) = F ⟨256 + v, by omega⟩)
    (h2 : ∀ v : Fin 256, Y2 (ix2 r v) = F ⟨512 + v, by omega⟩) (h3 : ∀ v : Fin 256, Y3 (ix2 r v) = F ⟨768 + v, by omega⟩) (f : Fin 1024) :
    (concatenate S512x1024 1 [⟨S512x256, Y0⟩, ⟨S512x256, Y1⟩, ⟨S512x256, Y2⟩, ⟨S512x256, Y3⟩] concatenates_S512x256_S512x256_S512x256_S512x256_S512x1024_d1 : FVec Ideal S512x1024 .bf16) (ix2 r f) = F f := by
  pointwise [h0, h1, h2, h3]
  split_ifs
  all_goals first
    | rfl
    | exact congrArg F (Fin.ext (by dsimp only; omega))

/-- The tile's gates under the SiLU. -/
theorem rg_at (r : Fin 512) (e : Fin 1024) : t_126 I (ix2 r e) = silK (pr p (x r) ⟨4096 + e, by omega⟩) := by
  have h : t_10 I (ix2 r ⟨1024 + e, by omega⟩) + I.bvr (ix2 0 ⟨1024 + e, by omega⟩) = pr p (x r) ⟨4096 + e, by omega⟩ :=
    (vr_at H r ⟨1024 + e, by omega⟩).trans (congrArg (pr p (x r)) (Fin.ext (by show 3072 + (1024 + (e : ℕ)) = 4096 + e; omega)))
  pointwise [t_126, k0_pay150, t_48, k0_pay70, h, silK]

theorem z_0_0_at (d : Fin 128) (v : Fin 256) : z_0_0 I (ix2 d v) = cst p x S 0 0 d v := by
  pointwise [z_0_0, t_0, k0_pay9, k0_pay12, H.s0, cst]

theorem z_0_1_at (d : Fin 128) (v : Fin 256) : z_0_1 I (ix2 d v) = cst p x S 1 0 d v :=
  sUnit_at (X := chunk x 0) (S := cst p x S 0) (fun d => by
    pointwise
    exact dec_at' H 0 _ _ (by dsimp only <;> omega)) (kv_0_0 H) (z_0_0_at H) d v

theorem z_0_2_at (d : Fin 128) (v : Fin 256) : z_0_2 I (ix2 d v) = cst p x S 2 0 d v :=
  sUnit_at (X := chunk x 1) (S := cst p x S 1) (fun d => by
    pointwise
    exact dec_at' H 1 _ _ (by dsimp only <;> omega)) (kv_0_1 H) (z_0_1_at H) d v

theorem z_0_3_at (d : Fin 128) (v : Fin 256) : z_0_3 I (ix2 d v) = cst p x S 3 0 d v :=
  sUnit_at (X := chunk x 2) (S := cst p x S 2) (fun d => by
    pointwise
    exact dec_at' H 2 _ _ (by dsimp only <;> omega)) (kv_0_2 H) (z_0_2_at H) d v

theorem z_0_4_at (d : Fin 128) (v : Fin 256) : z_0_4 I (ix2 d v) = cst p x S 4 0 d v :=
  sUnit_at (X := chunk x 3) (S := cst p x S 3) (fun d => by
    pointwise
    exact dec_at' H 3 _ _ (by dsimp only <;> omega)) (kv_0_3 H) (z_0_3_at H) d v

theorem z_0_5_at (d : Fin 128) (v : Fin 256) : z_0_5 I (ix2 d v) = cst p x S 5 0 d v :=
  sUnit_at (X := chunk x 4) (S := cst p x S 4) (fun d => by
    pointwise
    exact dec_at' H 4 _ _ (by dsimp only <;> omega)) (kv_0_4 H) (z_0_4_at H) d v

theorem z_0_6_at (d : Fin 128) (v : Fin 256) : z_0_6 I (ix2 d v) = cst p x S 6 0 d v :=
  sUnit_at (X := chunk x 5) (S := cst p x S 5) (fun d => by
    pointwise
    exact dec_at' H 5 _ _ (by dsimp only <;> omega)) (kv_0_5 H) (z_0_5_at H) d v

theorem z_0_7_at (d : Fin 128) (v : Fin 256) : z_0_7 I (ix2 d v) = cst p x S 7 0 d v :=
  sUnit_at (X := chunk x 6) (S := cst p x S 6) (fun d => by
    pointwise
    exact dec_at' H 6 _ _ (by dsimp only <;> omega)) (kv_0_6 H) (z_0_6_at H) d v

theorem z_0_8_at (d : Fin 128) (v : Fin 256) : z_0_8 I (ix2 d v) = cst p x S 8 0 d v :=
  sUnit_at (X := chunk x 7) (S := cst p x S 7) (fun d => by
    pointwise
    exact dec_at' H 7 _ _ (by dsimp only <;> omega)) (kv_0_7 H) (z_0_7_at H) d v

theorem o_0_0 (t : Fin 64) (v : Fin 256) (r : Fin 512) (hr : (r : ℕ) = 64 * 0 + t) : o_0 I (ix2 r v) = oo p (chunk x 0) (cst p x S 0) 0 t v := by
  have hu : ∀ (t : Fin 64) (v : Fin 256), oUnit (t_51 I) (extractStridedSlice S64x256 ![0, 0] (t_49 I) slices_S512x1024_o0_0_S64x256) (z_0_0 I) (ix2 t v)
      = oo p (chunk x 0) (cst p x S 0) 0 t v :=
    oUnit_at (lhs_0_0 H) (fun t v => by pointwise; exact v_at' H 0 t 0 v _ _ (by dsimp only; omega) (by dsimp only; omega)) (z_0_0_at H)
  rw [← hu t v]
  pointwise [o_0]
  rw [dif_pos (by omega)]
  exact congrArg (fun t => oUnit _ _ _ (ix2 t v)) (Fin.ext (by dsimp only; omega))

theorem o_0_1 (t : Fin 64) (v : Fin 256) (r : Fin 512) (hr : (r : ℕ) = 64 * 1 + t) : o_0 I (ix2 r v) = oo p (chunk x 1) (cst p x S 1) 0 t v := by
  have hu : ∀ (t : Fin 64) (v : Fin 256), oUnit (t_53 I) (extractStridedSlice S64x256 ![64, 0] (t_49 I) slices_S512x1024_o64_0_S64x256) (z_0_1 I) (ix2 t v)
      = oo p (chunk x 1) (cst p x S 1) 0 t v :=
    oUnit_at (lhs_0_1 H) (fun t v => by pointwise; exact v_at' H 1 t 0 v _ _ (by dsimp only; omega) (by dsimp only; omega)) (z_0_1_at H)
  rw [← hu t v]
  pointwise [o_0]
  rw [dif_neg (by omega)]
  rw [dif_pos (by omega)]
  exact congrArg (fun t => oUnit _ _ _ (ix2 t v)) (Fin.ext (by dsimp only; omega))

theorem o_0_2 (t : Fin 64) (v : Fin 256) (r : Fin 512) (hr : (r : ℕ) = 64 * 2 + t) : o_0 I (ix2 r v) = oo p (chunk x 2) (cst p x S 2) 0 t v := by
  have hu : ∀ (t : Fin 64) (v : Fin 256), oUnit (t_57 I) (extractStridedSlice S64x256 ![128, 0] (t_49 I) slices_S512x1024_o128_0_S64x256) (z_0_2 I) (ix2 t v)
      = oo p (chunk x 2) (cst p x S 2) 0 t v :=
    oUnit_at (lhs_0_2 H) (fun t v => by pointwise; exact v_at' H 2 t 0 v _ _ (by dsimp only; omega) (by dsimp only; omega)) (z_0_2_at H)
  rw [← hu t v]
  pointwise [o_0]
  rw [dif_neg (by omega)]
  rw [dif_neg (by omega)]
  rw [dif_pos (by omega)]
  exact congrArg (fun t => oUnit _ _ _ (ix2 t v)) (Fin.ext (by dsimp only; omega))

theorem o_0_3 (t : Fin 64) (v : Fin 256) (r : Fin 512) (hr : (r : ℕ) = 64 * 3 + t) : o_0 I (ix2 r v) = oo p (chunk x 3) (cst p x S 3) 0 t v := by
  have hu : ∀ (t : Fin 64) (v : Fin 256), oUnit (t_59 I) (extractStridedSlice S64x256 ![192, 0] (t_49 I) slices_S512x1024_o192_0_S64x256) (z_0_3 I) (ix2 t v)
      = oo p (chunk x 3) (cst p x S 3) 0 t v :=
    oUnit_at (lhs_0_3 H) (fun t v => by pointwise; exact v_at' H 3 t 0 v _ _ (by dsimp only; omega) (by dsimp only; omega)) (z_0_3_at H)
  rw [← hu t v]
  pointwise [o_0]
  rw [dif_neg (by omega)]
  rw [dif_neg (by omega)]
  rw [dif_neg (by omega)]
  rw [dif_pos (by omega)]
  exact congrArg (fun t => oUnit _ _ _ (ix2 t v)) (Fin.ext (by dsimp only; omega))

theorem o_0_4 (t : Fin 64) (v : Fin 256) (r : Fin 512) (hr : (r : ℕ) = 64 * 4 + t) : o_0 I (ix2 r v) = oo p (chunk x 4) (cst p x S 4) 0 t v := by
  have hu : ∀ (t : Fin 64) (v : Fin 256), oUnit (t_61 I) (extractStridedSlice S64x256 ![256, 0] (t_49 I) slices_S512x1024_o256_0_S64x256) (z_0_4 I) (ix2 t v)
      = oo p (chunk x 4) (cst p x S 4) 0 t v :=
    oUnit_at (lhs_0_4 H) (fun t v => by pointwise; exact v_at' H 4 t 0 v _ _ (by dsimp only; omega) (by dsimp only; omega)) (z_0_4_at H)
  rw [← hu t v]
  pointwise [o_0]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_0_5 (t : Fin 64) (v : Fin 256) (r : Fin 512) (hr : (r : ℕ) = 64 * 5 + t) : o_0 I (ix2 r v) = oo p (chunk x 5) (cst p x S 5) 0 t v := by
  have hu : ∀ (t : Fin 64) (v : Fin 256), oUnit (t_63 I) (extractStridedSlice S64x256 ![320, 0] (t_49 I) slices_S512x1024_o320_0_S64x256) (z_0_5 I) (ix2 t v)
      = oo p (chunk x 5) (cst p x S 5) 0 t v :=
    oUnit_at (lhs_0_5 H) (fun t v => by pointwise; exact v_at' H 5 t 0 v _ _ (by dsimp only; omega) (by dsimp only; omega)) (z_0_5_at H)
  rw [← hu t v]
  pointwise [o_0]
  rw [dif_neg (by omega)]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_0_6 (t : Fin 64) (v : Fin 256) (r : Fin 512) (hr : (r : ℕ) = 64 * 6 + t) : o_0 I (ix2 r v) = oo p (chunk x 6) (cst p x S 6) 0 t v := by
  have hu : ∀ (t : Fin 64) (v : Fin 256), oUnit (t_65 I) (extractStridedSlice S64x256 ![384, 0] (t_49 I) slices_S512x1024_o384_0_S64x256) (z_0_6 I) (ix2 t v)
      = oo p (chunk x 6) (cst p x S 6) 0 t v :=
    oUnit_at (lhs_0_6 H) (fun t v => by pointwise; exact v_at' H 6 t 0 v _ _ (by dsimp only; omega) (by dsimp only; omega)) (z_0_6_at H)
  rw [← hu t v]
  pointwise [o_0]
  rw [dif_neg (by omega)]
  rw [dif_neg (by omega)]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_0_7 (t : Fin 64) (v : Fin 256) (r : Fin 512) (hr : (r : ℕ) = 64 * 7 + t) : o_0 I (ix2 r v) = oo p (chunk x 7) (cst p x S 7) 0 t v := by
  have hu : ∀ (t : Fin 64) (v : Fin 256), oUnit (t_68 I) (extractStridedSlice S64x256 ![448, 0] (t_49 I) slices_S512x1024_o448_0_S64x256) (z_0_7 I) (ix2 t v)
      = oo p (chunk x 7) (cst p x S 7) 0 t v :=
    oUnit_at (lhs_0_7 H) (fun t v => by pointwise; exact v_at' H 7 t 0 v _ _ (by dsimp only; omega) (by dsimp only; omega)) (z_0_7_at H)
  rw [← hu t v]
  pointwise [o_0]
  rw [dif_neg (by omega)]
  rw [dif_neg (by omega)]
  rw [dif_neg (by omega)]
  rw [dif_neg (by omega)]
  rw [dif_neg (by omega)]
  rw [dif_neg (by omega)]
  rw [dif_neg (by omega)]
  exact congrArg (fun t => oUnit _ _ _ (ix2 t v)) (Fin.ext (by dsimp only; omega))

/-- Head 0's rows. -/
theorem o_0_at (r : Fin 512) (v : Fin 256) : o_0 I (ix2 r v)
    = oo p (chunk x ⟨r / 64, by omega⟩) (cst p x S (r / 64)) 0 ⟨r % 64, by omega⟩ v := by
  obtain ⟨c, t, rfl⟩ : ∃ (c : Fin 8) (t : Fin 64), r = ⟨64 * (c : ℕ) + t, lt64 c t⟩ :=
    ⟨⟨r / 64, by omega⟩, ⟨r % 64, by omega⟩, Fin.ext (by show (r : ℕ) = 64 * (r / 64) + r % 64; omega)⟩
  have h1 : (64 * (c : ℕ) + t) / 64 = c := by omega
  have h2 : ∀ h, (⟨(64 * (c : ℕ) + t) % 64, h⟩ : Fin 64) = t := fun h => Fin.ext (by show (64 * (c : ℕ) + t) % 64 = t; omega)
  simp only [h1, h2]
  fin_cases c
  · exact o_0_0 H t v _ rfl
  · exact o_0_1 H t v _ rfl
  · exact o_0_2 H t v _ rfl
  · exact o_0_3 H t v _ rfl
  · exact o_0_4 H t v _ rfl
  · exact o_0_5 H t v _ rfl
  · exact o_0_6 H t v _ rfl
  · exact o_0_7 H t v _ rfl

theorem z_1_0_at (d : Fin 128) (v : Fin 256) : z_1_0 I (ix2 d v) = cst p x S 0 1 d v := by
  pointwise [z_1_0, t_1, k0_pay10, k0_pay12, H.s1, cst]

theorem z_1_1_at (d : Fin 128) (v : Fin 256) : z_1_1 I (ix2 d v) = cst p x S 1 1 d v :=
  sUnit_at (X := chunk x 0) (S := cst p x S 0) (fun d => by
    pointwise
    exact dec_at' H 0 _ _ (by dsimp only <;> omega)) (kv_1_0 H) (z_1_0_at H) d v

theorem z_1_2_at (d : Fin 128) (v : Fin 256) : z_1_2 I (ix2 d v) = cst p x S 2 1 d v :=
  sUnit_at (X := chunk x 1) (S := cst p x S 1) (fun d => by
    pointwise
    exact dec_at' H 1 _ _ (by dsimp only <;> omega)) (kv_1_1 H) (z_1_1_at H) d v

theorem z_1_3_at (d : Fin 128) (v : Fin 256) : z_1_3 I (ix2 d v) = cst p x S 3 1 d v :=
  sUnit_at (X := chunk x 2) (S := cst p x S 2) (fun d => by
    pointwise
    exact dec_at' H 2 _ _ (by dsimp only <;> omega)) (kv_1_2 H) (z_1_2_at H) d v

theorem z_1_4_at (d : Fin 128) (v : Fin 256) : z_1_4 I (ix2 d v) = cst p x S 4 1 d v :=
  sUnit_at (X := chunk x 3) (S := cst p x S 3) (fun d => by
    pointwise
    exact dec_at' H 3 _ _ (by dsimp only <;> omega)) (kv_1_3 H) (z_1_3_at H) d v

theorem z_1_5_at (d : Fin 128) (v : Fin 256) : z_1_5 I (ix2 d v) = cst p x S 5 1 d v :=
  sUnit_at (X := chunk x 4) (S := cst p x S 4) (fun d => by
    pointwise
    exact dec_at' H 4 _ _ (by dsimp only <;> omega)) (kv_1_4 H) (z_1_4_at H) d v

theorem z_1_6_at (d : Fin 128) (v : Fin 256) : z_1_6 I (ix2 d v) = cst p x S 6 1 d v :=
  sUnit_at (X := chunk x 5) (S := cst p x S 5) (fun d => by
    pointwise
    exact dec_at' H 5 _ _ (by dsimp only <;> omega)) (kv_1_5 H) (z_1_5_at H) d v

theorem z_1_7_at (d : Fin 128) (v : Fin 256) : z_1_7 I (ix2 d v) = cst p x S 7 1 d v :=
  sUnit_at (X := chunk x 6) (S := cst p x S 6) (fun d => by
    pointwise
    exact dec_at' H 6 _ _ (by dsimp only <;> omega)) (kv_1_6 H) (z_1_6_at H) d v

theorem z_1_8_at (d : Fin 128) (v : Fin 256) : z_1_8 I (ix2 d v) = cst p x S 8 1 d v :=
  sUnit_at (X := chunk x 7) (S := cst p x S 7) (fun d => by
    pointwise
    exact dec_at' H 7 _ _ (by dsimp only <;> omega)) (kv_1_7 H) (z_1_7_at H) d v

theorem o_1_0 (t : Fin 64) (v : Fin 256) (r : Fin 512) (hr : (r : ℕ) = 64 * 0 + t) : o_1 I (ix2 r v) = oo p (chunk x 0) (cst p x S 0) 1 t v := by
  have hu : ∀ (t : Fin 64) (v : Fin 256), oUnit (t_70 I) (extractStridedSlice S64x256 ![0, 256] (t_49 I) slices_S512x1024_o0_256_S64x256) (z_1_0 I) (ix2 t v)
      = oo p (chunk x 0) (cst p x S 0) 1 t v :=
    oUnit_at (lhs_1_0 H) (fun t v => by pointwise; exact v_at' H 0 t 1 v _ _ (by dsimp only; omega) (by dsimp only; omega)) (z_1_0_at H)
  rw [← hu t v]
  pointwise [o_1]
  rw [dif_pos (by omega)]
  exact congrArg (fun t => oUnit _ _ _ (ix2 t v)) (Fin.ext (by dsimp only; omega))

theorem o_1_1 (t : Fin 64) (v : Fin 256) (r : Fin 512) (hr : (r : ℕ) = 64 * 1 + t) : o_1 I (ix2 r v) = oo p (chunk x 1) (cst p x S 1) 1 t v := by
  have hu : ∀ (t : Fin 64) (v : Fin 256), oUnit (t_72 I) (extractStridedSlice S64x256 ![64, 256] (t_49 I) slices_S512x1024_o64_256_S64x256) (z_1_1 I) (ix2 t v)
      = oo p (chunk x 1) (cst p x S 1) 1 t v :=
    oUnit_at (lhs_1_1 H) (fun t v => by pointwise; exact v_at' H 1 t 1 v _ _ (by dsimp only; omega) (by dsimp only; omega)) (z_1_1_at H)
  rw [← hu t v]
  pointwise [o_1]
  rw [dif_neg (by omega)]
  rw [dif_pos (by omega)]
  exact congrArg (fun t => oUnit _ _ _ (ix2 t v)) (Fin.ext (by dsimp only; omega))

theorem o_1_2 (t : Fin 64) (v : Fin 256) (r : Fin 512) (hr : (r : ℕ) = 64 * 2 + t) : o_1 I (ix2 r v) = oo p (chunk x 2) (cst p x S 2) 1 t v := by
  have hu : ∀ (t : Fin 64) (v : Fin 256), oUnit (t_74 I) (extractStridedSlice S64x256 ![128, 256] (t_49 I) slices_S512x1024_o128_256_S64x256) (z_1_2 I) (ix2 t v)
      = oo p (chunk x 2) (cst p x S 2) 1 t v :=
    oUnit_at (lhs_1_2 H) (fun t v => by pointwise; exact v_at' H 2 t 1 v _ _ (by dsimp only; omega) (by dsimp only; omega)) (z_1_2_at H)
  rw [← hu t v]
  pointwise [o_1]
  rw [dif_neg (by omega)]
  rw [dif_neg (by omega)]
  rw [dif_pos (by omega)]
  exact congrArg (fun t => oUnit _ _ _ (ix2 t v)) (Fin.ext (by dsimp only; omega))

theorem o_1_3 (t : Fin 64) (v : Fin 256) (r : Fin 512) (hr : (r : ℕ) = 64 * 3 + t) : o_1 I (ix2 r v) = oo p (chunk x 3) (cst p x S 3) 1 t v := by
  have hu : ∀ (t : Fin 64) (v : Fin 256), oUnit (t_78 I) (extractStridedSlice S64x256 ![192, 256] (t_49 I) slices_S512x1024_o192_256_S64x256) (z_1_3 I) (ix2 t v)
      = oo p (chunk x 3) (cst p x S 3) 1 t v :=
    oUnit_at (lhs_1_3 H) (fun t v => by pointwise; exact v_at' H 3 t 1 v _ _ (by dsimp only; omega) (by dsimp only; omega)) (z_1_3_at H)
  rw [← hu t v]
  pointwise [o_1]
  rw [dif_neg (by omega)]
  rw [dif_neg (by omega)]
  rw [dif_neg (by omega)]
  rw [dif_pos (by omega)]
  exact congrArg (fun t => oUnit _ _ _ (ix2 t v)) (Fin.ext (by dsimp only; omega))

theorem o_1_4 (t : Fin 64) (v : Fin 256) (r : Fin 512) (hr : (r : ℕ) = 64 * 4 + t) : o_1 I (ix2 r v) = oo p (chunk x 4) (cst p x S 4) 1 t v := by
  have hu : ∀ (t : Fin 64) (v : Fin 256), oUnit (t_80 I) (extractStridedSlice S64x256 ![256, 256] (t_49 I) slices_S512x1024_o256_256_S64x256) (z_1_4 I) (ix2 t v)
      = oo p (chunk x 4) (cst p x S 4) 1 t v :=
    oUnit_at (lhs_1_4 H) (fun t v => by pointwise; exact v_at' H 4 t 1 v _ _ (by dsimp only; omega) (by dsimp only; omega)) (z_1_4_at H)
  rw [← hu t v]
  pointwise [o_1]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_1_5 (t : Fin 64) (v : Fin 256) (r : Fin 512) (hr : (r : ℕ) = 64 * 5 + t) : o_1 I (ix2 r v) = oo p (chunk x 5) (cst p x S 5) 1 t v := by
  have hu : ∀ (t : Fin 64) (v : Fin 256), oUnit (t_82 I) (extractStridedSlice S64x256 ![320, 256] (t_49 I) slices_S512x1024_o320_256_S64x256) (z_1_5 I) (ix2 t v)
      = oo p (chunk x 5) (cst p x S 5) 1 t v :=
    oUnit_at (lhs_1_5 H) (fun t v => by pointwise; exact v_at' H 5 t 1 v _ _ (by dsimp only; omega) (by dsimp only; omega)) (z_1_5_at H)
  rw [← hu t v]
  pointwise [o_1]
  rw [dif_neg (by omega)]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_1_6 (t : Fin 64) (v : Fin 256) (r : Fin 512) (hr : (r : ℕ) = 64 * 6 + t) : o_1 I (ix2 r v) = oo p (chunk x 6) (cst p x S 6) 1 t v := by
  have hu : ∀ (t : Fin 64) (v : Fin 256), oUnit (t_84 I) (extractStridedSlice S64x256 ![384, 256] (t_49 I) slices_S512x1024_o384_256_S64x256) (z_1_6 I) (ix2 t v)
      = oo p (chunk x 6) (cst p x S 6) 1 t v :=
    oUnit_at (lhs_1_6 H) (fun t v => by pointwise; exact v_at' H 6 t 1 v _ _ (by dsimp only; omega) (by dsimp only; omega)) (z_1_6_at H)
  rw [← hu t v]
  pointwise [o_1]
  rw [dif_neg (by omega)]
  rw [dif_neg (by omega)]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_1_7 (t : Fin 64) (v : Fin 256) (r : Fin 512) (hr : (r : ℕ) = 64 * 7 + t) : o_1 I (ix2 r v) = oo p (chunk x 7) (cst p x S 7) 1 t v := by
  have hu : ∀ (t : Fin 64) (v : Fin 256), oUnit (t_86 I) (extractStridedSlice S64x256 ![448, 256] (t_49 I) slices_S512x1024_o448_256_S64x256) (z_1_7 I) (ix2 t v)
      = oo p (chunk x 7) (cst p x S 7) 1 t v :=
    oUnit_at (lhs_1_7 H) (fun t v => by pointwise; exact v_at' H 7 t 1 v _ _ (by dsimp only; omega) (by dsimp only; omega)) (z_1_7_at H)
  rw [← hu t v]
  pointwise [o_1]
  rw [dif_neg (by omega)]
  rw [dif_neg (by omega)]
  rw [dif_neg (by omega)]
  rw [dif_neg (by omega)]
  rw [dif_neg (by omega)]
  rw [dif_neg (by omega)]
  rw [dif_neg (by omega)]
  exact congrArg (fun t => oUnit _ _ _ (ix2 t v)) (Fin.ext (by dsimp only; omega))

/-- Head 1's rows. -/
theorem o_1_at (r : Fin 512) (v : Fin 256) : o_1 I (ix2 r v)
    = oo p (chunk x ⟨r / 64, by omega⟩) (cst p x S (r / 64)) 1 ⟨r % 64, by omega⟩ v := by
  obtain ⟨c, t, rfl⟩ : ∃ (c : Fin 8) (t : Fin 64), r = ⟨64 * (c : ℕ) + t, lt64 c t⟩ :=
    ⟨⟨r / 64, by omega⟩, ⟨r % 64, by omega⟩, Fin.ext (by show (r : ℕ) = 64 * (r / 64) + r % 64; omega)⟩
  have h1 : (64 * (c : ℕ) + t) / 64 = c := by omega
  have h2 : ∀ h, (⟨(64 * (c : ℕ) + t) % 64, h⟩ : Fin 64) = t := fun h => Fin.ext (by show (64 * (c : ℕ) + t) % 64 = t; omega)
  simp only [h1, h2]
  fin_cases c
  · exact o_1_0 H t v _ rfl
  · exact o_1_1 H t v _ rfl
  · exact o_1_2 H t v _ rfl
  · exact o_1_3 H t v _ rfl
  · exact o_1_4 H t v _ rfl
  · exact o_1_5 H t v _ rfl
  · exact o_1_6 H t v _ rfl
  · exact o_1_7 H t v _ rfl

theorem z_2_0_at (d : Fin 128) (v : Fin 256) : z_2_0 I (ix2 d v) = cst p x S 0 2 d v := by
  pointwise [z_2_0, t_2, k0_pay11, k0_pay12, H.s2, cst]

theorem z_2_1_at (d : Fin 128) (v : Fin 256) : z_2_1 I (ix2 d v) = cst p x S 1 2 d v :=
  sUnit_at (X := chunk x 0) (S := cst p x S 0) (fun d => by
    pointwise
    exact dec_at' H 0 _ _ (by dsimp only <;> omega)) (kv_2_0 H) (z_2_0_at H) d v

theorem z_2_2_at (d : Fin 128) (v : Fin 256) : z_2_2 I (ix2 d v) = cst p x S 2 2 d v :=
  sUnit_at (X := chunk x 1) (S := cst p x S 1) (fun d => by
    pointwise
    exact dec_at' H 1 _ _ (by dsimp only <;> omega)) (kv_2_1 H) (z_2_1_at H) d v

theorem z_2_3_at (d : Fin 128) (v : Fin 256) : z_2_3 I (ix2 d v) = cst p x S 3 2 d v :=
  sUnit_at (X := chunk x 2) (S := cst p x S 2) (fun d => by
    pointwise
    exact dec_at' H 2 _ _ (by dsimp only <;> omega)) (kv_2_2 H) (z_2_2_at H) d v

theorem z_2_4_at (d : Fin 128) (v : Fin 256) : z_2_4 I (ix2 d v) = cst p x S 4 2 d v :=
  sUnit_at (X := chunk x 3) (S := cst p x S 3) (fun d => by
    pointwise
    exact dec_at' H 3 _ _ (by dsimp only <;> omega)) (kv_2_3 H) (z_2_3_at H) d v

theorem z_2_5_at (d : Fin 128) (v : Fin 256) : z_2_5 I (ix2 d v) = cst p x S 5 2 d v :=
  sUnit_at (X := chunk x 4) (S := cst p x S 4) (fun d => by
    pointwise
    exact dec_at' H 4 _ _ (by dsimp only <;> omega)) (kv_2_4 H) (z_2_4_at H) d v

theorem z_2_6_at (d : Fin 128) (v : Fin 256) : z_2_6 I (ix2 d v) = cst p x S 6 2 d v :=
  sUnit_at (X := chunk x 5) (S := cst p x S 5) (fun d => by
    pointwise
    exact dec_at' H 5 _ _ (by dsimp only <;> omega)) (kv_2_5 H) (z_2_5_at H) d v

theorem z_2_7_at (d : Fin 128) (v : Fin 256) : z_2_7 I (ix2 d v) = cst p x S 7 2 d v :=
  sUnit_at (X := chunk x 6) (S := cst p x S 6) (fun d => by
    pointwise
    exact dec_at' H 6 _ _ (by dsimp only <;> omega)) (kv_2_6 H) (z_2_6_at H) d v

theorem z_2_8_at (d : Fin 128) (v : Fin 256) : z_2_8 I (ix2 d v) = cst p x S 8 2 d v :=
  sUnit_at (X := chunk x 7) (S := cst p x S 7) (fun d => by
    pointwise
    exact dec_at' H 7 _ _ (by dsimp only <;> omega)) (kv_2_7 H) (z_2_7_at H) d v

theorem o_2_0 (t : Fin 64) (v : Fin 256) (r : Fin 512) (hr : (r : ℕ) = 64 * 0 + t) : o_2 I (ix2 r v) = oo p (chunk x 0) (cst p x S 0) 2 t v := by
  have hu : ∀ (t : Fin 64) (v : Fin 256), oUnit (t_88 I) (extractStridedSlice S64x256 ![0, 512] (t_49 I) slices_S512x1024_o0_512_S64x256) (z_2_0 I) (ix2 t v)
      = oo p (chunk x 0) (cst p x S 0) 2 t v :=
    oUnit_at (lhs_2_0 H) (fun t v => by pointwise; exact v_at' H 0 t 2 v _ _ (by dsimp only; omega) (by dsimp only; omega)) (z_2_0_at H)
  rw [← hu t v]
  pointwise [o_2]
  rw [dif_pos (by omega)]
  exact congrArg (fun t => oUnit _ _ _ (ix2 t v)) (Fin.ext (by dsimp only; omega))

theorem o_2_1 (t : Fin 64) (v : Fin 256) (r : Fin 512) (hr : (r : ℕ) = 64 * 1 + t) : o_2 I (ix2 r v) = oo p (chunk x 1) (cst p x S 1) 2 t v := by
  have hu : ∀ (t : Fin 64) (v : Fin 256), oUnit (t_90 I) (extractStridedSlice S64x256 ![64, 512] (t_49 I) slices_S512x1024_o64_512_S64x256) (z_2_1 I) (ix2 t v)
      = oo p (chunk x 1) (cst p x S 1) 2 t v :=
    oUnit_at (lhs_2_1 H) (fun t v => by pointwise; exact v_at' H 1 t 2 v _ _ (by dsimp only; omega) (by dsimp only; omega)) (z_2_1_at H)
  rw [← hu t v]
  pointwise [o_2]
  rw [dif_neg (by omega)]
  rw [dif_pos (by omega)]
  exact congrArg (fun t => oUnit _ _ _ (ix2 t v)) (Fin.ext (by dsimp only; omega))

theorem o_2_2 (t : Fin 64) (v : Fin 256) (r : Fin 512) (hr : (r : ℕ) = 64 * 2 + t) : o_2 I (ix2 r v) = oo p (chunk x 2) (cst p x S 2) 2 t v := by
  have hu : ∀ (t : Fin 64) (v : Fin 256), oUnit (t_92 I) (extractStridedSlice S64x256 ![128, 512] (t_49 I) slices_S512x1024_o128_512_S64x256) (z_2_2 I) (ix2 t v)
      = oo p (chunk x 2) (cst p x S 2) 2 t v :=
    oUnit_at (lhs_2_2 H) (fun t v => by pointwise; exact v_at' H 2 t 2 v _ _ (by dsimp only; omega) (by dsimp only; omega)) (z_2_2_at H)
  rw [← hu t v]
  pointwise [o_2]
  rw [dif_neg (by omega)]
  rw [dif_neg (by omega)]
  rw [dif_pos (by omega)]
  exact congrArg (fun t => oUnit _ _ _ (ix2 t v)) (Fin.ext (by dsimp only; omega))

theorem o_2_3 (t : Fin 64) (v : Fin 256) (r : Fin 512) (hr : (r : ℕ) = 64 * 3 + t) : o_2 I (ix2 r v) = oo p (chunk x 3) (cst p x S 3) 2 t v := by
  have hu : ∀ (t : Fin 64) (v : Fin 256), oUnit (t_94 I) (extractStridedSlice S64x256 ![192, 512] (t_49 I) slices_S512x1024_o192_512_S64x256) (z_2_3 I) (ix2 t v)
      = oo p (chunk x 3) (cst p x S 3) 2 t v :=
    oUnit_at (lhs_2_3 H) (fun t v => by pointwise; exact v_at' H 3 t 2 v _ _ (by dsimp only; omega) (by dsimp only; omega)) (z_2_3_at H)
  rw [← hu t v]
  pointwise [o_2]
  rw [dif_neg (by omega)]
  rw [dif_neg (by omega)]
  rw [dif_neg (by omega)]
  rw [dif_pos (by omega)]
  exact congrArg (fun t => oUnit _ _ _ (ix2 t v)) (Fin.ext (by dsimp only; omega))

theorem o_2_4 (t : Fin 64) (v : Fin 256) (r : Fin 512) (hr : (r : ℕ) = 64 * 4 + t) : o_2 I (ix2 r v) = oo p (chunk x 4) (cst p x S 4) 2 t v := by
  have hu : ∀ (t : Fin 64) (v : Fin 256), oUnit (t_98 I) (extractStridedSlice S64x256 ![256, 512] (t_49 I) slices_S512x1024_o256_512_S64x256) (z_2_4 I) (ix2 t v)
      = oo p (chunk x 4) (cst p x S 4) 2 t v :=
    oUnit_at (lhs_2_4 H) (fun t v => by pointwise; exact v_at' H 4 t 2 v _ _ (by dsimp only; omega) (by dsimp only; omega)) (z_2_4_at H)
  rw [← hu t v]
  pointwise [o_2]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_2_5 (t : Fin 64) (v : Fin 256) (r : Fin 512) (hr : (r : ℕ) = 64 * 5 + t) : o_2 I (ix2 r v) = oo p (chunk x 5) (cst p x S 5) 2 t v := by
  have hu : ∀ (t : Fin 64) (v : Fin 256), oUnit (t_100 I) (extractStridedSlice S64x256 ![320, 512] (t_49 I) slices_S512x1024_o320_512_S64x256) (z_2_5 I) (ix2 t v)
      = oo p (chunk x 5) (cst p x S 5) 2 t v :=
    oUnit_at (lhs_2_5 H) (fun t v => by pointwise; exact v_at' H 5 t 2 v _ _ (by dsimp only; omega) (by dsimp only; omega)) (z_2_5_at H)
  rw [← hu t v]
  pointwise [o_2]
  rw [dif_neg (by omega)]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_2_6 (t : Fin 64) (v : Fin 256) (r : Fin 512) (hr : (r : ℕ) = 64 * 6 + t) : o_2 I (ix2 r v) = oo p (chunk x 6) (cst p x S 6) 2 t v := by
  have hu : ∀ (t : Fin 64) (v : Fin 256), oUnit (t_102 I) (extractStridedSlice S64x256 ![384, 512] (t_49 I) slices_S512x1024_o384_512_S64x256) (z_2_6 I) (ix2 t v)
      = oo p (chunk x 6) (cst p x S 6) 2 t v :=
    oUnit_at (lhs_2_6 H) (fun t v => by pointwise; exact v_at' H 6 t 2 v _ _ (by dsimp only; omega) (by dsimp only; omega)) (z_2_6_at H)
  rw [← hu t v]
  pointwise [o_2]
  rw [dif_neg (by omega)]
  rw [dif_neg (by omega)]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_2_7 (t : Fin 64) (v : Fin 256) (r : Fin 512) (hr : (r : ℕ) = 64 * 7 + t) : o_2 I (ix2 r v) = oo p (chunk x 7) (cst p x S 7) 2 t v := by
  have hu : ∀ (t : Fin 64) (v : Fin 256), oUnit (t_104 I) (extractStridedSlice S64x256 ![448, 512] (t_49 I) slices_S512x1024_o448_512_S64x256) (z_2_7 I) (ix2 t v)
      = oo p (chunk x 7) (cst p x S 7) 2 t v :=
    oUnit_at (lhs_2_7 H) (fun t v => by pointwise; exact v_at' H 7 t 2 v _ _ (by dsimp only; omega) (by dsimp only; omega)) (z_2_7_at H)
  rw [← hu t v]
  pointwise [o_2]
  rw [dif_neg (by omega)]
  rw [dif_neg (by omega)]
  rw [dif_neg (by omega)]
  rw [dif_neg (by omega)]
  rw [dif_neg (by omega)]
  rw [dif_neg (by omega)]
  rw [dif_neg (by omega)]
  exact congrArg (fun t => oUnit _ _ _ (ix2 t v)) (Fin.ext (by dsimp only; omega))

/-- Head 2's rows. -/
theorem o_2_at (r : Fin 512) (v : Fin 256) : o_2 I (ix2 r v)
    = oo p (chunk x ⟨r / 64, by omega⟩) (cst p x S (r / 64)) 2 ⟨r % 64, by omega⟩ v := by
  obtain ⟨c, t, rfl⟩ : ∃ (c : Fin 8) (t : Fin 64), r = ⟨64 * (c : ℕ) + t, lt64 c t⟩ :=
    ⟨⟨r / 64, by omega⟩, ⟨r % 64, by omega⟩, Fin.ext (by show (r : ℕ) = 64 * (r / 64) + r % 64; omega)⟩
  have h1 : (64 * (c : ℕ) + t) / 64 = c := by omega
  have h2 : ∀ h, (⟨(64 * (c : ℕ) + t) % 64, h⟩ : Fin 64) = t := fun h => Fin.ext (by show (64 * (c : ℕ) + t) % 64 = t; omega)
  simp only [h1, h2]
  fin_cases c
  · exact o_2_0 H t v _ rfl
  · exact o_2_1 H t v _ rfl
  · exact o_2_2 H t v _ rfl
  · exact o_2_3 H t v _ rfl
  · exact o_2_4 H t v _ rfl
  · exact o_2_5 H t v _ rfl
  · exact o_2_6 H t v _ rfl
  · exact o_2_7 H t v _ rfl

theorem z_3_0_at (d : Fin 128) (v : Fin 256) : z_3_0 I (ix2 d v) = cst p x S 0 3 d v := by
  pointwise [z_3_0, t_3, k0_pay12, k0_pay12, H.s3, cst]

theorem z_3_1_at (d : Fin 128) (v : Fin 256) : z_3_1 I (ix2 d v) = cst p x S 1 3 d v :=
  sUnit_at (X := chunk x 0) (S := cst p x S 0) (fun d => by
    pointwise
    exact dec_at' H 0 _ _ (by dsimp only <;> omega)) (kv_3_0 H) (z_3_0_at H) d v

theorem z_3_2_at (d : Fin 128) (v : Fin 256) : z_3_2 I (ix2 d v) = cst p x S 2 3 d v :=
  sUnit_at (X := chunk x 1) (S := cst p x S 1) (fun d => by
    pointwise
    exact dec_at' H 1 _ _ (by dsimp only <;> omega)) (kv_3_1 H) (z_3_1_at H) d v

theorem z_3_3_at (d : Fin 128) (v : Fin 256) : z_3_3 I (ix2 d v) = cst p x S 3 3 d v :=
  sUnit_at (X := chunk x 2) (S := cst p x S 2) (fun d => by
    pointwise
    exact dec_at' H 2 _ _ (by dsimp only <;> omega)) (kv_3_2 H) (z_3_2_at H) d v

theorem z_3_4_at (d : Fin 128) (v : Fin 256) : z_3_4 I (ix2 d v) = cst p x S 4 3 d v :=
  sUnit_at (X := chunk x 3) (S := cst p x S 3) (fun d => by
    pointwise
    exact dec_at' H 3 _ _ (by dsimp only <;> omega)) (kv_3_3 H) (z_3_3_at H) d v

theorem z_3_5_at (d : Fin 128) (v : Fin 256) : z_3_5 I (ix2 d v) = cst p x S 5 3 d v :=
  sUnit_at (X := chunk x 4) (S := cst p x S 4) (fun d => by
    pointwise
    exact dec_at' H 4 _ _ (by dsimp only <;> omega)) (kv_3_4 H) (z_3_4_at H) d v

theorem z_3_6_at (d : Fin 128) (v : Fin 256) : z_3_6 I (ix2 d v) = cst p x S 6 3 d v :=
  sUnit_at (X := chunk x 5) (S := cst p x S 5) (fun d => by
    pointwise
    exact dec_at' H 5 _ _ (by dsimp only <;> omega)) (kv_3_5 H) (z_3_5_at H) d v

theorem z_3_7_at (d : Fin 128) (v : Fin 256) : z_3_7 I (ix2 d v) = cst p x S 7 3 d v :=
  sUnit_at (X := chunk x 6) (S := cst p x S 6) (fun d => by
    pointwise
    exact dec_at' H 6 _ _ (by dsimp only <;> omega)) (kv_3_6 H) (z_3_6_at H) d v

theorem z_3_8_at (d : Fin 128) (v : Fin 256) : z_3_8 I (ix2 d v) = cst p x S 8 3 d v :=
  sUnit_at (X := chunk x 7) (S := cst p x S 7) (fun d => by
    pointwise
    exact dec_at' H 7 _ _ (by dsimp only <;> omega)) (kv_3_7 H) (z_3_7_at H) d v

theorem o_3_0 (t : Fin 64) (v : Fin 256) (r : Fin 512) (hr : (r : ℕ) = 64 * 0 + t) : o_3 I (ix2 r v) = oo p (chunk x 0) (cst p x S 0) 3 t v := by
  have hu : ∀ (t : Fin 64) (v : Fin 256), oUnit (t_106 I) (extractStridedSlice S64x256 ![0, 768] (t_49 I) slices_S512x1024_o0_768_S64x256) (z_3_0 I) (ix2 t v)
      = oo p (chunk x 0) (cst p x S 0) 3 t v :=
    oUnit_at (lhs_3_0 H) (fun t v => by pointwise; exact v_at' H 0 t 3 v _ _ (by dsimp only; omega) (by dsimp only; omega)) (z_3_0_at H)
  rw [← hu t v]
  pointwise [o_3]
  rw [dif_pos (by omega)]
  exact congrArg (fun t => oUnit _ _ _ (ix2 t v)) (Fin.ext (by dsimp only; omega))

theorem o_3_1 (t : Fin 64) (v : Fin 256) (r : Fin 512) (hr : (r : ℕ) = 64 * 1 + t) : o_3 I (ix2 r v) = oo p (chunk x 1) (cst p x S 1) 3 t v := by
  have hu : ∀ (t : Fin 64) (v : Fin 256), oUnit (t_110 I) (extractStridedSlice S64x256 ![64, 768] (t_49 I) slices_S512x1024_o64_768_S64x256) (z_3_1 I) (ix2 t v)
      = oo p (chunk x 1) (cst p x S 1) 3 t v :=
    oUnit_at (lhs_3_1 H) (fun t v => by pointwise; exact v_at' H 1 t 3 v _ _ (by dsimp only; omega) (by dsimp only; omega)) (z_3_1_at H)
  rw [← hu t v]
  pointwise [o_3]
  rw [dif_neg (by omega)]
  rw [dif_pos (by omega)]
  exact congrArg (fun t => oUnit _ _ _ (ix2 t v)) (Fin.ext (by dsimp only; omega))

theorem o_3_2 (t : Fin 64) (v : Fin 256) (r : Fin 512) (hr : (r : ℕ) = 64 * 2 + t) : o_3 I (ix2 r v) = oo p (chunk x 2) (cst p x S 2) 3 t v := by
  have hu : ∀ (t : Fin 64) (v : Fin 256), oUnit (t_112 I) (extractStridedSlice S64x256 ![128, 768] (t_49 I) slices_S512x1024_o128_768_S64x256) (z_3_2 I) (ix2 t v)
      = oo p (chunk x 2) (cst p x S 2) 3 t v :=
    oUnit_at (lhs_3_2 H) (fun t v => by pointwise; exact v_at' H 2 t 3 v _ _ (by dsimp only; omega) (by dsimp only; omega)) (z_3_2_at H)
  rw [← hu t v]
  pointwise [o_3]
  rw [dif_neg (by omega)]
  rw [dif_neg (by omega)]
  rw [dif_pos (by omega)]
  exact congrArg (fun t => oUnit _ _ _ (ix2 t v)) (Fin.ext (by dsimp only; omega))

theorem o_3_3 (t : Fin 64) (v : Fin 256) (r : Fin 512) (hr : (r : ℕ) = 64 * 3 + t) : o_3 I (ix2 r v) = oo p (chunk x 3) (cst p x S 3) 3 t v := by
  have hu : ∀ (t : Fin 64) (v : Fin 256), oUnit (t_114 I) (extractStridedSlice S64x256 ![192, 768] (t_49 I) slices_S512x1024_o192_768_S64x256) (z_3_3 I) (ix2 t v)
      = oo p (chunk x 3) (cst p x S 3) 3 t v :=
    oUnit_at (lhs_3_3 H) (fun t v => by pointwise; exact v_at' H 3 t 3 v _ _ (by dsimp only; omega) (by dsimp only; omega)) (z_3_3_at H)
  rw [← hu t v]
  pointwise [o_3]
  rw [dif_neg (by omega)]
  rw [dif_neg (by omega)]
  rw [dif_neg (by omega)]
  rw [dif_pos (by omega)]
  exact congrArg (fun t => oUnit _ _ _ (ix2 t v)) (Fin.ext (by dsimp only; omega))

theorem o_3_4 (t : Fin 64) (v : Fin 256) (r : Fin 512) (hr : (r : ℕ) = 64 * 4 + t) : o_3 I (ix2 r v) = oo p (chunk x 4) (cst p x S 4) 3 t v := by
  have hu : ∀ (t : Fin 64) (v : Fin 256), oUnit (t_116 I) (extractStridedSlice S64x256 ![256, 768] (t_49 I) slices_S512x1024_o256_768_S64x256) (z_3_4 I) (ix2 t v)
      = oo p (chunk x 4) (cst p x S 4) 3 t v :=
    oUnit_at (lhs_3_4 H) (fun t v => by pointwise; exact v_at' H 4 t 3 v _ _ (by dsimp only; omega) (by dsimp only; omega)) (z_3_4_at H)
  rw [← hu t v]
  pointwise [o_3]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_3_5 (t : Fin 64) (v : Fin 256) (r : Fin 512) (hr : (r : ℕ) = 64 * 5 + t) : o_3 I (ix2 r v) = oo p (chunk x 5) (cst p x S 5) 3 t v := by
  have hu : ∀ (t : Fin 64) (v : Fin 256), oUnit (t_118 I) (extractStridedSlice S64x256 ![320, 768] (t_49 I) slices_S512x1024_o320_768_S64x256) (z_3_5 I) (ix2 t v)
      = oo p (chunk x 5) (cst p x S 5) 3 t v :=
    oUnit_at (lhs_3_5 H) (fun t v => by pointwise; exact v_at' H 5 t 3 v _ _ (by dsimp only; omega) (by dsimp only; omega)) (z_3_5_at H)
  rw [← hu t v]
  pointwise [o_3]
  rw [dif_neg (by omega)]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_3_6 (t : Fin 64) (v : Fin 256) (r : Fin 512) (hr : (r : ℕ) = 64 * 6 + t) : o_3 I (ix2 r v) = oo p (chunk x 6) (cst p x S 6) 3 t v := by
  have hu : ∀ (t : Fin 64) (v : Fin 256), oUnit (t_122 I) (extractStridedSlice S64x256 ![384, 768] (t_49 I) slices_S512x1024_o384_768_S64x256) (z_3_6 I) (ix2 t v)
      = oo p (chunk x 6) (cst p x S 6) 3 t v :=
    oUnit_at (lhs_3_6 H) (fun t v => by pointwise; exact v_at' H 6 t 3 v _ _ (by dsimp only; omega) (by dsimp only; omega)) (z_3_6_at H)
  rw [← hu t v]
  pointwise [o_3]
  rw [dif_neg (by omega)]
  rw [dif_neg (by omega)]
  rw [dif_neg (by omega)]
  rw [dif_neg (by omega)]
  rw [dif_neg (by omega)]
  rw [dif_neg (by omega)]
  rw [dif_pos (by omega)]
  exact congrArg (fun t => oUnit _ _ _ (ix2 t v)) (Fin.ext (by dsimp only; omega))

theorem o_3_7 (t : Fin 64) (v : Fin 256) (r : Fin 512) (hr : (r : ℕ) = 64 * 7 + t) : o_3 I (ix2 r v) = oo p (chunk x 7) (cst p x S 7) 3 t v := by
  have hu : ∀ (t : Fin 64) (v : Fin 256), oUnit (t_124 I) (extractStridedSlice S64x256 ![448, 768] (t_49 I) slices_S512x1024_o448_768_S64x256) (z_3_7 I) (ix2 t v)
      = oo p (chunk x 7) (cst p x S 7) 3 t v :=
    oUnit_at (lhs_3_7 H) (fun t v => by pointwise; exact v_at' H 7 t 3 v _ _ (by dsimp only; omega) (by dsimp only; omega)) (z_3_7_at H)
  rw [← hu t v]
  pointwise [o_3]
  rw [dif_neg (by omega)]
  rw [dif_neg (by omega)]
  rw [dif_neg (by omega)]
  rw [dif_neg (by omega)]
  rw [dif_neg (by omega)]
  rw [dif_neg (by omega)]
  rw [dif_neg (by omega)]
  exact congrArg (fun t => oUnit _ _ _ (ix2 t v)) (Fin.ext (by dsimp only; omega))

/-- Head 3's rows. -/
theorem o_3_at (r : Fin 512) (v : Fin 256) : o_3 I (ix2 r v)
    = oo p (chunk x ⟨r / 64, by omega⟩) (cst p x S (r / 64)) 3 ⟨r % 64, by omega⟩ v := by
  obtain ⟨c, t, rfl⟩ : ∃ (c : Fin 8) (t : Fin 64), r = ⟨64 * (c : ℕ) + t, lt64 c t⟩ :=
    ⟨⟨r / 64, by omega⟩, ⟨r % 64, by omega⟩, Fin.ext (by show (r : ℕ) = 64 * (r / 64) + r % 64; omega)⟩
  have h1 : (64 * (c : ℕ) + t) / 64 = c := by omega
  have h2 : ∀ h, (⟨(64 * (c : ℕ) + t) % 64, h⟩ : Fin 64) = t := fun h => Fin.ext (by show (64 * (c : ℕ) + t) % 64 = t; omega)
  simp only [h1, h2]
  fin_cases c
  · exact o_3_0 H t v _ rfl
  · exact o_3_1 H t v _ rfl
  · exact o_3_2 H t v _ rfl
  · exact o_3_3 H t v _ rfl
  · exact o_3_4 H t v _ rfl
  · exact o_3_5 H t v _ rfl
  · exact o_3_6 H t v _ rfl
  · exact o_3_7 H t v _ rfl

/-- A row's chunk of the tile. -/
def rowChunk (x : Fin 512 → Fin 1024 → EReal) (r : Fin 512) : Fin 64 → Fin 1024 → EReal := chunk x ⟨r / 64, by omega⟩

/-- Head 0's gated rows. -/
theorem y_0_at (r : Fin 512) (v : Fin 256) : (t_134 I) (ix2 r v)
    = yb p silK (rowChunk x r) (cst p x S (r / 64)) ⟨r % 64, by omega⟩ ⟨v, by omega⟩ := by
  rw [y_eq_0]
  refine (headG_at H.gnw r v).trans ?_
  have e1 : ∀ h', (⟨(0 + (v : ℕ)) / 256, h'⟩ : Fin 4) = 0 := fun h' => Fin.ext (by show (0 + (v : ℕ)) / 256 = 0; omega)
  have e2 : ∀ h', (⟨(0 + (v : ℕ)) % 256, h'⟩ : Fin 256) = v := fun h' => Fin.ext (by show (0 + (v : ℕ)) % 256 = v; omega)
  have e3 : rowChunk x r ⟨r % 64, by omega⟩ = x r := congrArg x (Fin.ext (by show 64 * ((r : ℕ) / 64) + r % 64 = r; omega))
  have e4 : ∀ h', (⟨(v : ℕ) / 256, h'⟩ : Fin 4) = 0 := fun h' => Fin.ext (by show (v : ℕ) / 256 = 0; omega)
  have e5 : ∀ h', (⟨(v : ℕ) % 256, h'⟩ : Fin 256) = v := fun h' => Fin.ext (by show (v : ℕ) % 256 = v; omega)
  simp only [yb, e4, e5, e3]
  refine Ideal.mul_congr ?_ ?_
  · exact congrArg (fun o => hn p o v) (funext fun j => o_0_at H r j)
  · pointwise [rg_at H]

/-- Head 1's gated rows. -/
theorem y_1_at (r : Fin 512) (v : Fin 256) : (t_144 I) (ix2 r v)
    = yb p silK (rowChunk x r) (cst p x S (r / 64)) ⟨r % 64, by omega⟩ ⟨256 + v, by omega⟩ := by
  rw [y_eq_1]
  refine (headG_at H.gnw r v).trans ?_
  have e1 : ∀ h', (⟨(256 + (v : ℕ)) / 256, h'⟩ : Fin 4) = 1 := fun h' => Fin.ext (by show (256 + (v : ℕ)) / 256 = 1; omega)
  have e2 : ∀ h', (⟨(256 + (v : ℕ)) % 256, h'⟩ : Fin 256) = v := fun h' => Fin.ext (by show (256 + (v : ℕ)) % 256 = v; omega)
  have e3 : rowChunk x r ⟨r % 64, by omega⟩ = x r := congrArg x (Fin.ext (by show 64 * ((r : ℕ) / 64) + r % 64 = r; omega))
  simp only [yb, e1, e2, e3]

  refine Ideal.mul_congr ?_ ?_
  · exact congrArg (fun o => hn p o v) (funext fun j => o_1_at H r j)
  · pointwise [rg_at H]

/-- Head 2's gated rows. -/
theorem y_2_at (r : Fin 512) (v : Fin 256) : (t_156 I) (ix2 r v)
    = yb p silK (rowChunk x r) (cst p x S (r / 64)) ⟨r % 64, by omega⟩ ⟨512 + v, by omega⟩ := by
  rw [y_eq_2]
  refine (headG_at H.gnw r v).trans ?_
  have e1 : ∀ h', (⟨(512 + (v : ℕ)) / 256, h'⟩ : Fin 4) = 2 := fun h' => Fin.ext (by show (512 + (v : ℕ)) / 256 = 2; omega)
  have e2 : ∀ h', (⟨(512 + (v : ℕ)) % 256, h'⟩ : Fin 256) = v := fun h' => Fin.ext (by show (512 + (v : ℕ)) % 256 = v; omega)
  have e3 : rowChunk x r ⟨r % 64, by omega⟩ = x r := congrArg x (Fin.ext (by show 64 * ((r : ℕ) / 64) + r % 64 = r; omega))
  simp only [yb, e1, e2, e3]

  refine Ideal.mul_congr ?_ ?_
  · exact congrArg (fun o => hn p o v) (funext fun j => o_2_at H r j)
  · pointwise [rg_at H]

/-- Head 3's gated rows. -/
theorem y_3_at (r : Fin 512) (v : Fin 256) : (headG (o_3 I) (extractStridedSlice S512x256 ![0, 768] (t_126 I) slices_S512x1024_o0_768_S512x256) I.gnw) (ix2 r v)
    = yb p silK (rowChunk x r) (cst p x S (r / 64)) ⟨r % 64, by omega⟩ ⟨768 + v, by omega⟩ := by
  skip
  refine (headG_at H.gnw r v).trans ?_
  have e1 : ∀ h', (⟨(768 + (v : ℕ)) / 256, h'⟩ : Fin 4) = 3 := fun h' => Fin.ext (by show (768 + (v : ℕ)) / 256 = 3; omega)
  have e2 : ∀ h', (⟨(768 + (v : ℕ)) % 256, h'⟩ : Fin 256) = v := fun h' => Fin.ext (by show (768 + (v : ℕ)) % 256 = v; omega)
  have e3 : rowChunk x r ⟨r % 64, by omega⟩ = x r := congrArg x (Fin.ext (by show 64 * ((r : ℕ) / 64) + r % 64 = r; omega))
  simp only [yb, e1, e2, e3]

  refine Ideal.mul_congr ?_ ?_
  · exact congrArg (fun o => hn p o v) (funext fun j => o_3_at H r j)
  · pointwise [rg_at H]

/-- The attention branch's rows. -/
theorem y_at (r : Fin 512) (f : Fin 1024) : t_164 I (ix2 r f)
    = yb p silK (rowChunk x r) (cst p x S (r / 64)) ⟨r % 64, by omega⟩ f := by
  rw [y_eq]
  exact cat4 (fun f => yb p silK (rowChunk x r) (cst p x S (r / 64)) ⟨r % 64, by omega⟩ f) r (y_0_at H r) (y_1_at H r) (y_2_at H r) (y_3_at H r) f

theorem sg_a (r : Fin 512) (e : Fin 1024) : t_11 I (ix2 r ⟨e, by omega⟩) + I.bgt (ix2 0 ⟨e, by omega⟩) = pr p (x r) ⟨5136 + e, by omega⟩ :=
  gt_at H r ⟨e, by omega⟩

theorem sg_b (r : Fin 512) (e : Fin 1024) : t_11 I (ix2 r ⟨1024 + e, by omega⟩) + I.bgt (ix2 0 ⟨1024 + e, by omega⟩) = pr p (x r) ⟨6160 + e, by omega⟩ :=
  (gt_at H r ⟨1024 + e, by omega⟩).trans (congrArg (pr p (x r)) (Fin.ext (by show 5136 + (1024 + (e : ℕ)) = 6160 + e; omega)))

/-- The tile's result rows. -/
theorem tileH_at (r : Fin 512) (d : Fin 1024) : tileH I (ix3 0 r d)
    = hrow p (x r) (ya p (blk x ⟨r / 128, by omega⟩) ⟨r % 128, by omega⟩)
        (yb p silK (rowChunk x r) (cst p x S (r / 64)) ⟨r % 64, by omega⟩) d := by
  have ha := sg_a H
  have hb := sg_b H
  pointwise [tileH, k0_pay214, x_at H, pa_at H, y_at H, ha, hb, H.wb, H.wo, hrow]
  refine Ideal.add_congr rfl (Finset.sum_congr rfl fun e _ => Ideal.mul_congr ?_ rfl)
  exact Ideal.add_congr (Ideal.mul_congr (sigm2 _) rfl) (Ideal.mul_congr (sigm2 _) rfl)

/-! The states after the tile. -/

theorem z_0_at (d : Fin 128) (v : Fin 256) : t_131 I (ix2 d v) = cst p x S 8 0 d v := by
  rw [z_eq_0]
  exact z_0_8_at H d v

theorem z_1_at (d : Fin 128) (v : Fin 256) : t_143 I (ix2 d v) = cst p x S 8 1 d v := by
  rw [z_eq_1]
  exact z_1_8_at H d v

theorem z_2_at (d : Fin 128) (v : Fin 256) : t_155 I (ix2 d v) = cst p x S 8 2 d v := by
  rw [z_eq_2]
  exact z_2_8_at H d v

theorem z_3_at (d : Fin 128) (v : Fin 256) : t_163 I (ix2 d v) = cst p x S 8 3 d v := by
  rw [z_eq_3]
  exact z_3_8_at H d v

end Cert.KernelIdeal.Tile

end
-- ==== Proof.MixClear.lean ====
module

public import proofs.«01_k».proof.Proof.MixEqA
public import proofs.«01_k».proof.Proof.MixEqB
public import proofs.«01_k».proof.Proof.MixHost
public import proofs.«01_k».proof.Proof.MixVals
public import Idealize.ShloMosaic.Lib.WholeRead

/-! What a step loads, of the arguments. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem Cert.MixSpec

theorem off3 : (![0, 0, 0] : Fin 3 → ℕ) = fun _ => 0 := by funext a; fin_cases a <;> rfl

theorem off2 : (![0, 0] : Fin 2 → ℕ) = fun _ => 0 := by funext a; fin_cases a <;> rfl

theorem pay8_zero (y : S4x128x256.Idx) : k0_pay8 (F := Ideal) y = 0 := by
  idx_vars y
  pointwise [k0_pay8]

/-- A load of the cleared state. -/
theorem cleared (B : Bufs) (R : Rect S4x128x256) (w : R.shape.Idx) : B.b27.view.readCov (runA.sl.HS0_1 (F := Ideal)) R.toLoadRect w = 0 := by
  unfold runA.sl.HS0_1
  rw [View.readCov_eq_canon_ld _ _ _ (fun y => ⟨_, List.mem_singleton_self _, View.mem_set_unit_zero off3 inb_S4x128x256_S4x128x256_0_0_0 y⟩), View.canon_unit_zero off3]
  exact pay8_zero _

/-- A step's input blocks hold the parameters and the tile's rows. -/
structure InsAt (X : Ins Ideal) (p : Par) (x : Fin 512 → Fin 1024 → EReal) : Prop where
  x : ∀ (r : Fin 512) (k : Fin 1024), X.x0 (ix3 0 r k) = x r k
  n1 : ∀ (k : Fin 1024), X.x1 (ix2 0 k) = p.n1 k
  uv : ∀ (k : Fin 1024) (e : Fin 2048), X.x2 (ix2 k ⟨e, by omega⟩) = p.w k ⟨e, by omega⟩
  buv : ∀ (e : Fin 2048), X.x3 (ix2 0 e) = p.b ⟨e, by omega⟩
  qk : ∀ (k : Fin 1024) (e : Fin 1024), X.x4 (ix2 k ⟨e, by omega⟩) = p.w k ⟨2048 + e, by omega⟩
  lr : ∀ (k : Fin 1024) (e : Fin 16), X.x4 (ix2 k ⟨1024 + e, by omega⟩) = p.w k ⟨5120 + e, by omega⟩
  bqk : ∀ (e : Fin 1024), X.x5 (ix2 0 ⟨e, by omega⟩) = p.b ⟨2048 + e, by omega⟩
  blr : ∀ (e : Fin 16), X.x5 (ix2 0 ⟨1024 + e, by omega⟩) = p.b ⟨5120 + e, by omega⟩
  gk2 : ∀ (i : Fin 16) (e : Fin 512), X.x14 (ix2 ⟨i, by omega⟩ e) = p.gk2 i e
  gk2z : ∀ (i : Fin 112) (e : Fin 512), X.x14 (ix2 ⟨16 + i, by omega⟩ e) = 0
  bgk : ∀ (e : Fin 512), X.x15 (ix2 0 e) = p.bgk e
  vr : ∀ (k : Fin 1024) (e : Fin 2048), X.x6 (ix2 k ⟨e, by omega⟩) = p.w k ⟨3072 + e, by omega⟩
  bvr : ∀ (e : Fin 2048), X.x7 (ix2 0 e) = p.b ⟨3072 + e, by omega⟩
  gt : ∀ (k : Fin 1024) (e : Fin 2048), X.x8 (ix2 k ⟨e, by omega⟩) = p.w k ⟨5136 + e, by omega⟩
  bgt : ∀ (e : Fin 2048), X.x9 (ix2 0 e) = p.b ⟨5136 + e, by omega⟩
  lnw : ∀ (e : Fin 1024), X.x10 (ix2 0 e) = p.lnw e
  lnb : ∀ (e : Fin 1024), X.x11 (ix2 0 e) = p.lnb e
  sw : ∀ (g : Fin 8) (t s : Fin 128), X.x12 (ix3 g t s) = p.sw g t s
  sb : ∀ (t : Fin 128) (e : Fin 1024), X.x13 (ix2 t e) = p.sb ⟨(e : ℕ) / 128, by omega⟩ t
  gnw : ∀ (v : Fin 256), X.x16 (ix2 0 v) = p.gnw v
  wa : ∀ (k e : Fin 1024), X.x17 (ix2 k ⟨e, by omega⟩) = p.wa k e
  wb : ∀ (k e : Fin 1024), X.x18 (ix2 k ⟨e, by omega⟩) = p.wb k e
  wo : ∀ (k e : Fin 1024), X.x19 (ix2 k ⟨e, by omega⟩) = p.wo k e

end Cert.KernelIdeal.Tile

end
-- ==== Proof.MixStep.lean ====
module

public import proofs.«01_k».proof.Proof.MixClear
public import Idealize.ShloMosaic.Lib.Pipeline.CanonAppend

/-! What a step leaves, of the parameters, the tile's rows and the state before it. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem Cert.MixSpec Cert.Scalars

variable {p : Par} {x : Fin 512 → Fin 1024 → EReal} {S : Fin 4 → Fin 128 → Fin 256 → EReal}

/-- Four heads' states, as the buffer holds them. -/
def asState (G : Fin 4 → Fin 128 → Fin 256 → EReal) : Vec Ideal S4x128x256 .f32 := fun y => G (y 0) (y 1) (y 2)

/-- The four stores of the state, head by head. -/
def statePieces (z3 z2 z1 z0 : FVec Ideal S128x256 .f32) : List (View.Piece (Elt Ideal) S4x128x256 .f32) :=
  [⟨Rect.unit ![3, 0, 0] S1x128x256.size inb_S4x128x256_S1x128x256_3_0_0, k0_pay4 (F := Ideal) z3⟩, ⟨Rect.unit ![2, 0, 0] S1x128x256.size inb_S4x128x256_S1x128x256_2_0_0, k0_pay3 (F := Ideal) z2⟩,
    ⟨Rect.unit ![1, 0, 0] S1x128x256.size inb_S4x128x256_S1x128x256_1_0_0, k0_pay2 (F := Ideal) z1⟩, ⟨Rect.unit ![0, 0, 0] S1x128x256.size inb_S4x128x256_S1x128x256_0_0_0, k0_pay1 (F := Ideal) z0⟩]

/-- The state the stores leave, whatever was stored before. -/
theorem state_at {z3 z2 z1 z0 : FVec Ideal S128x256 .f32} {G : Fin 4 → Fin 128 → Fin 256 → EReal} (h3 : ∀ d v, z3 (ix2 d v) = G 3 d v) (h2 : ∀ d v, z2 (ix2 d v) = G 2 d v)
    (h1 : ∀ d v, z1 (ix2 d v) = G 1 d v) (h0 : ∀ d v, z0 (ix2 d v) = G 0 d v) (L : List (View.Piece (Elt Ideal) S4x128x256 .f32)) (g : Fin 4) (d : Fin 128) (v : Fin 256) :
    View.canon (statePieces z3 z2 z1 z0 ++ L) (ix3 g d v) = G g d v := by
  refine (View.canon_append_of_pieces (asState G) L (statePieces z3 z2 z1 z0) ?_ (ix3 g d v)
    (View.cover_of_tiledL (statePieces z3 z2 z1 z0) S1x128x256.size (by sl_kernel_rfl) _)).trans rfl
  intro q hq
  unfold statePieces at hq
  simp only [List.mem_cons, List.not_mem_nil, or_false] at hq
  rcases hq with rfl | rfl | rfl | rfl
  · intro w
    idx_vars w
    obtain rfl : w0 = 0 := Subsingleton.elim _ _
    have e : (Rect.unit (s := S4x128x256) ![3, 0, 0] S1x128x256.size inb_S4x128x256_S1x128x256_3_0_0).emb (ix3 0 w1 w2) = ix3 (3 : Fin 4) w1 w2 := by
      funext a
      refine Fin.ext ?_
      fin_cases a
      · rfl
      · change 0 + 1 * (w1 : ℕ) = w1; omega
      · change 0 + 1 * (w2 : ℕ) = w2; omega
    change _ = asState G ((Rect.unit (s := S4x128x256) ![3, 0, 0] S1x128x256.size inb_S4x128x256_S1x128x256_3_0_0).emb (ix3 0 w1 w2))
    rw [e]
    refine Eq.trans ?_ (h3 w1 w2)
    pointwise [k0_pay4]
  · intro w
    idx_vars w
    obtain rfl : w0 = 0 := Subsingleton.elim _ _
    have e : (Rect.unit (s := S4x128x256) ![2, 0, 0] S1x128x256.size inb_S4x128x256_S1x128x256_2_0_0).emb (ix3 0 w1 w2) = ix3 (2 : Fin 4) w1 w2 := by
      funext a
      refine Fin.ext ?_
      fin_cases a
      · rfl
      · change 0 + 1 * (w1 : ℕ) = w1; omega
      · change 0 + 1 * (w2 : ℕ) = w2; omega
    change _ = asState G ((Rect.unit (s := S4x128x256) ![2, 0, 0] S1x128x256.size inb_S4x128x256_S1x128x256_2_0_0).emb (ix3 0 w1 w2))
    rw [e]
    refine Eq.trans ?_ (h2 w1 w2)
    pointwise [k0_pay3]
  · intro w
    idx_vars w
    obtain rfl : w0 = 0 := Subsingleton.elim _ _
    have e : (Rect.unit (s := S4x128x256) ![1, 0, 0] S1x128x256.size inb_S4x128x256_S1x128x256_1_0_0).emb (ix3 0 w1 w2) = ix3 (1 : Fin 4) w1 w2 := by
      funext a
      refine Fin.ext ?_
      fin_cases a
      · rfl
      · change 0 + 1 * (w1 : ℕ) = w1; omega
      · change 0 + 1 * (w2 : ℕ) = w2; omega
    change _ = asState G ((Rect.unit (s := S4x128x256) ![1, 0, 0] S1x128x256.size inb_S4x128x256_S1x128x256_1_0_0).emb (ix3 0 w1 w2))
    rw [e]
    refine Eq.trans ?_ (h1 w1 w2)
    pointwise [k0_pay2]
  · intro w
    idx_vars w
    obtain rfl : w0 = 0 := Subsingleton.elim _ _
    have e : (Rect.unit (s := S4x128x256) ![0, 0, 0] S1x128x256.size inb_S4x128x256_S1x128x256_0_0_0).emb (ix3 0 w1 w2) = ix3 (0 : Fin 4) w1 w2 := by
      funext a
      refine Fin.ext ?_
      fin_cases a
      · rfl
      · change 0 + 1 * (w1 : ℕ) = w1; omega
      · change 0 + 1 * (w2 : ℕ) = w2; omega
    change _ = asState G ((Rect.unit (s := S4x128x256) ![0, 0, 0] S1x128x256.size inb_S4x128x256_S1x128x256_0_0_0).emb (ix3 0 w1 w2))
    rw [e]
    refine Eq.trans ?_ (h0 w1 w2)
    pointwise [k0_pay1]

/-- What a row's first step leaves in the state. -/
theorem stepA_st (c : Dev nD) (i : grid0.Coords) {B : Bufs} (hB : B.Whole) {X : Ins Ideal} (acc : Vec Ideal S4x128x256 .f32) (hc : cond0_0 i) (H : IsIn (inA B hB X) p x S)
    (g : Fin 4) (d : Fin 128) (v : Fin 256) : (stepOut c i B hB X acc).st (ix3 g d v) = cst p x S 8 g d v := by
  rw [stepOut_first c i B hB X acc hc]
  dsimp only
  exact state_at (z3 := runA.sl.r_163 B hB X) (z2 := runA.sl.r_155 B hB X) (z1 := runA.sl.r_143 B hB X) (z0 := runA.sl.r_131 B hB X)
    (fun d v => (congrFun (a_163 B hB X) (ix2 d v)).trans (z_3_at H d v)) (fun d v => (congrFun (a_155 B hB X) (ix2 d v)).trans (z_2_at H d v)) (fun d v => (congrFun (a_143 B hB X) (ix2 d v)).trans (z_1_at H d v))
    (fun d v => (congrFun (a_131 B hB X) (ix2 d v)).trans (z_0_at H d v)) runA.sl.HS0_1 g d v

/-- What a later step leaves in the state. -/
theorem stepB_st (c : Dev nD) (i : grid0.Coords) {B : Bufs} (hB : B.Whole) {X : Ins Ideal} (acc : Vec Ideal S4x128x256 .f32) (hc : ¬cond0_0 i) (H : IsIn (inB B hB X acc) p x S)
    (g : Fin 4) (d : Fin 128) (v : Fin 256) : (stepOut c i B hB X acc).st (ix3 g d v) = cst p x S 8 g d v := by
  rw [stepOut_later c i B hB X acc hc]
  dsimp only
  exact state_at (z3 := runB.sl.r_163 B hB X acc) (z2 := runB.sl.r_155 B hB X acc) (z1 := runB.sl.r_143 B hB X acc) (z0 := runB.sl.r_131 B hB X acc)
    (fun d v => (congrFun (b_163 B hB X acc) (ix2 d v)).trans (z_3_at H d v)) (fun d v => (congrFun (b_155 B hB X acc) (ix2 d v)).trans (z_2_at H d v)) (fun d v => (congrFun (b_143 B hB X acc) (ix2 d v)).trans (z_1_at H d v))
    (fun d v => (congrFun (b_131 B hB X acc) (ix2 d v)).trans (z_0_at H d v)) [] g d v

/-- A token's result, of the tile's rows and the state before it. -/
def rowOf (p : Par) (x : Fin 512 → Fin 1024 → EReal) (S : Fin 4 → Fin 128 → Fin 256 → EReal) (r : Fin 512) (d : Fin 1024) : EReal :=
  hrow p (x r) (ya p (blk x ⟨r / 128, by omega⟩) ⟨r % 128, by omega⟩) (yb p silK (rowChunk x r) (cst p x S (r / 64)) ⟨r % 64, by omega⟩) d

/-- What a row's first step leaves in the result. -/
theorem stepA_h (c : Dev nD) (i : grid0.Coords) {B : Bufs} (hB : B.Whole) {X : Ins Ideal} (acc : Vec Ideal S4x128x256 .f32) (hc : cond0_0 i) (H : IsIn (inA B hB X) p x S)
    (r : Fin 512) (d : Fin 1024) : (stepOut c i B hB X acc).o23 (ix3 0 r d) = rowOf p x S r d := by
  rw [stepOut_first c i B hB X acc hc]
  dsimp only
  refine Eq.trans (b := tileH (inA B hB X) (ix3 0 r d)) ?_ (tileH_at H r d)
  refine congrFun ?_ (ix3 0 r d)
  unfold tileH
  rw [← a_4 B hB X, ← a_11 B hB X, ← a_47 B hB X, ← a_164 B hB X]
  exact View.canon_unit_zero off3 _ _

/-- What a later step leaves in the result. -/
theorem stepB_h (c : Dev nD) (i : grid0.Coords) {B : Bufs} (hB : B.Whole) {X : Ins Ideal} (acc : Vec Ideal S4x128x256 .f32) (hc : ¬cond0_0 i) (H : IsIn (inB B hB X acc) p x S)
    (r : Fin 512) (d : Fin 1024) : (stepOut c i B hB X acc).o23 (ix3 0 r d) = rowOf p x S r d := by
  rw [stepOut_later c i B hB X acc hc]
  dsimp only
  refine Eq.trans (b := tileH (inB B hB X acc) (ix3 0 r d)) ?_ (tileH_at H r d)
  refine congrFun ?_ (ix3 0 r d)
  unfold tileH
  rw [← b_4 B hB X acc, ← b_11 B hB X acc, ← b_47 B hB X acc, ← b_164 B hB X acc]
  exact View.canon_unit_zero off3 _ _

end Cert.KernelIdeal.Tile

end
-- ==== Proof.MixIns.lean ====
module

public import proofs.«01_k».proof.Proof.MixClear

/-! What a step loads, of the arguments. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem Cert.MixSpec

set_option maxHeartbeats 8000000 in
/-- What a later step loads, of its blocks and the state before it. -/
theorem isIn_B {B : Bufs} (hB : B.Whole) {X : Ins Ideal} {p : Par} {x : Fin 512 → Fin 1024 → EReal} (h : InsAt X p x) {acc : Vec Ideal S4x128x256 .f32}
    {S : Fin 4 → Fin 128 → Fin 256 → EReal} (hS : ∀ (g : Fin 4) (d : Fin 128) (v : Fin 256), acc (ix3 g d v) = S g d v) : IsIn (inB B hB X acc) p x S where
  x r k := (hB.h0.readAt_unread X.x0 _ _).trans ((congrArg X.x0 (by funext a; fin_cases a <;> exact Fin.ext (by simp [Rect.unit]))).trans (h.x r k))
  n1 k := (hB.h1.readAt_unread X.x1 _ _).trans ((congrArg X.x1 (by funext a; fin_cases a <;> exact Fin.ext (by simp [Rect.unit]))).trans (h.n1 k))
  uv k e := (hB.h2.readAt_unread X.x2 _ _).trans ((congrArg X.x2 (by funext a; fin_cases a <;> exact Fin.ext (by simp [Rect.unit]))).trans (h.uv k e))
  buv e := (hB.h3.readAt_unread X.x3 _ _).trans ((congrArg X.x3 (by funext a; fin_cases a <;> exact Fin.ext (by simp [Rect.unit]))).trans (h.buv e))
  qk k e := (hB.h4.readAt_unread X.x4 _ _).trans ((congrArg X.x4 (by funext a; fin_cases a <;> exact Fin.ext (by simp [Rect.unit]))).trans (h.qk k e))
  lr k e := (hB.h4.readAt_unread X.x4 _ _).trans ((congrArg X.x4 (by funext a; fin_cases a <;> exact Fin.ext (by simp [Rect.unit]))).trans (h.lr k e))
  bqk e := (hB.h5.readAt_unread X.x5 _ _).trans ((congrArg X.x5 (by funext a; fin_cases a <;> exact Fin.ext (by simp [Rect.unit]))).trans (h.bqk e))
  blr e := (hB.h5.readAt_unread X.x5 _ _).trans ((congrArg X.x5 (by funext a; fin_cases a <;> exact Fin.ext (by simp [Rect.unit]))).trans (h.blr e))
  gk2 i e := (hB.h14.readAt_unread X.x14 _ _).trans ((congrArg X.x14 (by funext a; fin_cases a <;> exact Fin.ext (by simp [Rect.unit]))).trans (h.gk2 i e))
  gk2z i e := (hB.h14.readAt_unread X.x14 _ _).trans ((congrArg X.x14 (by funext a; fin_cases a <;> exact Fin.ext (by simp [Rect.unit]))).trans (h.gk2z i e))
  bgk e := (hB.h15.readAt_unread X.x15 _ _).trans ((congrArg X.x15 (by funext a; fin_cases a <;> exact Fin.ext (by simp [Rect.unit]))).trans (h.bgk e))
  vr k e := (hB.h6.readAt_unread X.x6 _ _).trans ((congrArg X.x6 (by funext a; fin_cases a <;> exact Fin.ext (by simp [Rect.unit]))).trans (h.vr k e))
  bvr e := (hB.h7.readAt_unread X.x7 _ _).trans ((congrArg X.x7 (by funext a; fin_cases a <;> exact Fin.ext (by simp [Rect.unit]))).trans (h.bvr e))
  gt k e := (hB.h8.readAt_unread X.x8 _ _).trans ((congrArg X.x8 (by funext a; fin_cases a <;> exact Fin.ext (by simp [Rect.unit]))).trans (h.gt k e))
  bgt e := (hB.h9.readAt_unread X.x9 _ _).trans ((congrArg X.x9 (by funext a; fin_cases a <;> exact Fin.ext (by simp [Rect.unit]))).trans (h.bgt e))
  lnw e := (hB.h10.readAt_unread X.x10 _ _).trans ((congrArg X.x10 (by funext a; fin_cases a <;> exact Fin.ext (by simp [Rect.unit]))).trans (h.lnw e))
  lnb e := (hB.h11.readAt_unread X.x11 _ _).trans ((congrArg X.x11 (by funext a; fin_cases a <;> exact Fin.ext (by simp [Rect.unit]))).trans (h.lnb e))
  sw0 t s := (hB.h12.readAt_unread X.x12 _ _).trans ((congrArg X.x12 (by funext a; fin_cases a <;> exact Fin.ext (by simp [Rect.unit]))).trans (h.sw 0 t s))
  sb0 t e := (hB.h13.readAt_unread X.x13 _ _).trans ((congrArg X.x13 (by funext a; fin_cases a <;> exact Fin.ext (by simp [Rect.unit]))).trans ((h.sb t ⟨0 + (e : ℕ), by omega⟩).trans (congrArg (fun z => p.sb z t) (Fin.ext (by have := e.isLt; change (0 + (e : ℕ)) / 128 = 0; omega)))))
  sw1 t s := (hB.h12.readAt_unread X.x12 _ _).trans ((congrArg X.x12 (by funext a; fin_cases a <;> exact Fin.ext (by simp [Rect.unit]))).trans (h.sw 1 t s))
  sb1 t e := (hB.h13.readAt_unread X.x13 _ _).trans ((congrArg X.x13 (by funext a; fin_cases a <;> exact Fin.ext (by simp [Rect.unit]))).trans ((h.sb t ⟨128 + (e : ℕ), by omega⟩).trans (congrArg (fun z => p.sb z t) (Fin.ext (by have := e.isLt; change (128 + (e : ℕ)) / 128 = 1; omega)))))
  sw2 t s := (hB.h12.readAt_unread X.x12 _ _).trans ((congrArg X.x12 (by funext a; fin_cases a <;> exact Fin.ext (by simp [Rect.unit]))).trans (h.sw 2 t s))
  sb2 t e := (hB.h13.readAt_unread X.x13 _ _).trans ((congrArg X.x13 (by funext a; fin_cases a <;> exact Fin.ext (by simp [Rect.unit]))).trans ((h.sb t ⟨256 + (e : ℕ), by omega⟩).trans (congrArg (fun z => p.sb z t) (Fin.ext (by have := e.isLt; change (256 + (e : ℕ)) / 128 = 2; omega)))))
  sw3 t s := (hB.h12.readAt_unread X.x12 _ _).trans ((congrArg X.x12 (by funext a; fin_cases a <;> exact Fin.ext (by simp [Rect.unit]))).trans (h.sw 3 t s))
  sb3 t e := (hB.h13.readAt_unread X.x13 _ _).trans ((congrArg X.x13 (by funext a; fin_cases a <;> exact Fin.ext (by simp [Rect.unit]))).trans ((h.sb t ⟨384 + (e : ℕ), by omega⟩).trans (congrArg (fun z => p.sb z t) (Fin.ext (by have := e.isLt; change (384 + (e : ℕ)) / 128 = 3; omega)))))
  sw4 t s := (hB.h12.readAt_unread X.x12 _ _).trans ((congrArg X.x12 (by funext a; fin_cases a <;> exact Fin.ext (by simp [Rect.unit]))).trans (h.sw 4 t s))
  sb4 t e := (hB.h13.readAt_unread X.x13 _ _).trans ((congrArg X.x13 (by funext a; fin_cases a <;> exact Fin.ext (by simp [Rect.unit]))).trans ((h.sb t ⟨512 + (e : ℕ), by omega⟩).trans (congrArg (fun z => p.sb z t) (Fin.ext (by have := e.isLt; change (512 + (e : ℕ)) / 128 = 4; omega)))))
  sw5 t s := (hB.h12.readAt_unread X.x12 _ _).trans ((congrArg X.x12 (by funext a; fin_cases a <;> exact Fin.ext (by simp [Rect.unit]))).trans (h.sw 5 t s))
  sb5 t e := (hB.h13.readAt_unread X.x13 _ _).trans ((congrArg X.x13 (by funext a; fin_cases a <;> exact Fin.ext (by simp [Rect.unit]))).trans ((h.sb t ⟨640 + (e : ℕ), by omega⟩).trans (congrArg (fun z => p.sb z t) (Fin.ext (by have := e.isLt; change (640 + (e : ℕ)) / 128 = 5; omega)))))
  sw6 t s := (hB.h12.readAt_unread X.x12 _ _).trans ((congrArg X.x12 (by funext a; fin_cases a <;> exact Fin.ext (by simp [Rect.unit]))).trans (h.sw 6 t s))
  sb6 t e := (hB.h13.readAt_unread X.x13 _ _).trans ((congrArg X.x13 (by funext a; fin_cases a <;> exact Fin.ext (by simp [Rect.unit]))).trans ((h.sb t ⟨768 + (e : ℕ), by omega⟩).trans (congrArg (fun z => p.sb z t) (Fin.ext (by have := e.isLt; change (768 + (e : ℕ)) / 128 = 6; omega)))))
  sw7 t s := (hB.h12.readAt_unread X.x12 _ _).trans ((congrArg X.x12 (by funext a; fin_cases a <;> exact Fin.ext (by simp [Rect.unit]))).trans (h.sw 7 t s))
  sb7 t e := (hB.h13.readAt_unread X.x13 _ _).trans ((congrArg X.x13 (by funext a; fin_cases a <;> exact Fin.ext (by simp [Rect.unit]))).trans ((h.sb t ⟨896 + (e : ℕ), by omega⟩).trans (congrArg (fun z => p.sb z t) (Fin.ext (by have := e.isLt; change (896 + (e : ℕ)) / 128 = 7; omega)))))
  gnw v := (hB.h16.readAt_unread X.x16 _ _).trans ((congrArg X.x16 (by funext a; fin_cases a <;> exact Fin.ext (by simp [Rect.unit]))).trans (h.gnw v))
  wa k e := (hB.h17.readAt_unread X.x17 _ _).trans ((congrArg X.x17 (by funext a; fin_cases a <;> exact Fin.ext (by simp [Rect.unit]))).trans (h.wa k e))
  wb k e := (hB.h18.readAt_unread X.x18 _ _).trans ((congrArg X.x18 (by funext a; fin_cases a <;> exact Fin.ext (by simp [Rect.unit]))).trans (h.wb k e))
  wo k e := (hB.h19.readAt_unread X.x19 _ _).trans ((congrArg X.x19 (by funext a; fin_cases a <;> exact Fin.ext (by simp [Rect.unit]))).trans (h.wo k e))
  s0 d v := (hB.h27.readAt_unread acc _ _).trans ((congrArg acc (by funext a; fin_cases a <;> exact Fin.ext (by simp [Rect.unit]))).trans (hS 0 d v))
  s1 d v := (hB.h27.readAt_unread acc _ _).trans ((congrArg acc (by funext a; fin_cases a <;> exact Fin.ext (by simp [Rect.unit]))).trans (hS 1 d v))
  s2 d v := (hB.h27.readAt_unread acc _ _).trans ((congrArg acc (by funext a; fin_cases a <;> exact Fin.ext (by simp [Rect.unit]))).trans (hS 2 d v))
  s3 d v := (hB.h27.readAt_unread acc _ _).trans ((congrArg acc (by funext a; fin_cases a <;> exact Fin.ext (by simp [Rect.unit]))).trans (hS 3 d v))

end Cert.KernelIdeal.Tile

end
-- ==== Proof.MixInsA.lean ====
module

public import proofs.«01_k».proof.Proof.MixClear

/-! What a row's first step loads, of the arguments. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem Cert.MixSpec

set_option maxHeartbeats 8000000 in
/-- What a row's first step loads, of its blocks: the state is zero. -/
theorem isIn_A {B : Bufs} (hB : B.Whole) {X : Ins Ideal} {p : Par} {x : Fin 512 → Fin 1024 → EReal} (h : InsAt X p x) : IsIn (inA B hB X) p x (fun _ _ _ => 0) where
  x r k := (hB.h0.readAt_unread X.x0 _ _).trans ((congrArg X.x0 (by funext a; fin_cases a <;> exact Fin.ext (by simp [Rect.unit]))).trans (h.x r k))
  n1 k := (hB.h1.readAt_unread X.x1 _ _).trans ((congrArg X.x1 (by funext a; fin_cases a <;> exact Fin.ext (by simp [Rect.unit]))).trans (h.n1 k))
  uv k e := (hB.h2.readAt_unread X.x2 _ _).trans ((congrArg X.x2 (by funext a; fin_cases a <;> exact Fin.ext (by simp [Rect.unit]))).trans (h.uv k e))
  buv e := (hB.h3.readAt_unread X.x3 _ _).trans ((congrArg X.x3 (by funext a; fin_cases a <;> exact Fin.ext (by simp [Rect.unit]))).trans (h.buv e))
  qk k e := (hB.h4.readAt_unread X.x4 _ _).trans ((congrArg X.x4 (by funext a; fin_cases a <;> exact Fin.ext (by simp [Rect.unit]))).trans (h.qk k e))
  lr k e := (hB.h4.readAt_unread X.x4 _ _).trans ((congrArg X.x4 (by funext a; fin_cases a <;> exact Fin.ext (by simp [Rect.unit]))).trans (h.lr k e))
  bqk e := (hB.h5.readAt_unread X.x5 _ _).trans ((congrArg X.x5 (by funext a; fin_cases a <;> exact Fin.ext (by simp [Rect.unit]))).trans (h.bqk e))
  blr e := (hB.h5.readAt_unread X.x5 _ _).trans ((congrArg X.x5 (by funext a; fin_cases a <;> exact Fin.ext (by simp [Rect.unit]))).trans (h.blr e))
  gk2 i e := (hB.h14.readAt_unread X.x14 _ _).trans ((congrArg X.x14 (by funext a; fin_cases a <;> exact Fin.ext (by simp [Rect.unit]))).trans (h.gk2 i e))
  gk2z i e := (hB.h14.readAt_unread X.x14 _ _).trans ((congrArg X.x14 (by funext a; fin_cases a <;> exact Fin.ext (by simp [Rect.unit]))).trans (h.gk2z i e))
  bgk e := (hB.h15.readAt_unread X.x15 _ _).trans ((congrArg X.x15 (by funext a; fin_cases a <;> exact Fin.ext (by simp [Rect.unit]))).trans (h.bgk e))
  vr k e := (hB.h6.readAt_unread X.x6 _ _).trans ((congrArg X.x6 (by funext a; fin_cases a <;> exact Fin.ext (by simp [Rect.unit]))).trans (h.vr k e))
  bvr e := (hB.h7.readAt_unread X.x7 _ _).trans ((congrArg X.x7 (by funext a; fin_cases a <;> exact Fin.ext (by simp [Rect.unit]))).trans (h.bvr e))
  gt k e := (hB.h8.readAt_unread X.x8 _ _).trans ((congrArg X.x8 (by funext a; fin_cases a <;> exact Fin.ext (by simp [Rect.unit]))).trans (h.gt k e))
  bgt e := (hB.h9.readAt_unread X.x9 _ _).trans ((congrArg X.x9 (by funext a; fin_cases a <;> exact Fin.ext (by simp [Rect.unit]))).trans (h.bgt e))
  lnw e := (hB.h10.readAt_unread X.x10 _ _).trans ((congrArg X.x10 (by funext a; fin_cases a <;> exact Fin.ext (by simp [Rect.unit]))).trans (h.lnw e))
  lnb e := (hB.h11.readAt_unread X.x11 _ _).trans ((congrArg X.x11 (by funext a; fin_cases a <;> exact Fin.ext (by simp [Rect.unit]))).trans (h.lnb e))
  sw0 t s := (hB.h12.readAt_unread X.x12 _ _).trans ((congrArg X.x12 (by funext a; fin_cases a <;> exact Fin.ext (by simp [Rect.unit]))).trans (h.sw 0 t s))
  sb0 t e := (hB.h13.readAt_unread X.x13 _ _).trans ((congrArg X.x13 (by funext a; fin_cases a <;> exact Fin.ext (by simp [Rect.unit]))).trans ((h.sb t ⟨0 + (e : ℕ), by omega⟩).trans (congrArg (fun z => p.sb z t) (Fin.ext (by have := e.isLt; change (0 + (e : ℕ)) / 128 = 0; omega)))))
  sw1 t s := (hB.h12.readAt_unread X.x12 _ _).trans ((congrArg X.x12 (by funext a; fin_cases a <;> exact Fin.ext (by simp [Rect.unit]))).trans (h.sw 1 t s))
  sb1 t e := (hB.h13.readAt_unread X.x13 _ _).trans ((congrArg X.x13 (by funext a; fin_cases a <;> exact Fin.ext (by simp [Rect.unit]))).trans ((h.sb t ⟨128 + (e : ℕ), by omega⟩).trans (congrArg (fun z => p.sb z t) (Fin.ext (by have := e.isLt; change (128 + (e : ℕ)) / 128 = 1; omega)))))
  sw2 t s := (hB.h12.readAt_unread X.x12 _ _).trans ((congrArg X.x12 (by funext a; fin_cases a <;> exact Fin.ext (by simp [Rect.unit]))).trans (h.sw 2 t s))
  sb2 t e := (hB.h13.readAt_unread X.x13 _ _).trans ((congrArg X.x13 (by funext a; fin_cases a <;> exact Fin.ext (by simp [Rect.unit]))).trans ((h.sb t ⟨256 + (e : ℕ), by omega⟩).trans (congrArg (fun z => p.sb z t) (Fin.ext (by have := e.isLt; change (256 + (e : ℕ)) / 128 = 2; omega)))))
  sw3 t s := (hB.h12.readAt_unread X.x12 _ _).trans ((congrArg X.x12 (by funext a; fin_cases a <;> exact Fin.ext (by simp [Rect.unit]))).trans (h.sw 3 t s))
  sb3 t e := (hB.h13.readAt_unread X.x13 _ _).trans ((congrArg X.x13 (by funext a; fin_cases a <;> exact Fin.ext (by simp [Rect.unit]))).trans ((h.sb t ⟨384 + (e : ℕ), by omega⟩).trans (congrArg (fun z => p.sb z t) (Fin.ext (by have := e.isLt; change (384 + (e : ℕ)) / 128 = 3; omega)))))
  sw4 t s := (hB.h12.readAt_unread X.x12 _ _).trans ((congrArg X.x12 (by funext a; fin_cases a <;> exact Fin.ext (by simp [Rect.unit]))).trans (h.sw 4 t s))
  sb4 t e := (hB.h13.readAt_unread X.x13 _ _).trans ((congrArg X.x13 (by funext a; fin_cases a <;> exact Fin.ext (by simp [Rect.unit]))).trans ((h.sb t ⟨512 + (e : ℕ), by omega⟩).trans (congrArg (fun z => p.sb z t) (Fin.ext (by have := e.isLt; change (512 + (e : ℕ)) / 128 = 4; omega)))))
  sw5 t s := (hB.h12.readAt_unread X.x12 _ _).trans ((congrArg X.x12 (by funext a; fin_cases a <;> exact Fin.ext (by simp [Rect.unit]))).trans (h.sw 5 t s))
  sb5 t e := (hB.h13.readAt_unread X.x13 _ _).trans ((congrArg X.x13 (by funext a; fin_cases a <;> exact Fin.ext (by simp [Rect.unit]))).trans ((h.sb t ⟨640 + (e : ℕ), by omega⟩).trans (congrArg (fun z => p.sb z t) (Fin.ext (by have := e.isLt; change (640 + (e : ℕ)) / 128 = 5; omega)))))
  sw6 t s := (hB.h12.readAt_unread X.x12 _ _).trans ((congrArg X.x12 (by funext a; fin_cases a <;> exact Fin.ext (by simp [Rect.unit]))).trans (h.sw 6 t s))
  sb6 t e := (hB.h13.readAt_unread X.x13 _ _).trans ((congrArg X.x13 (by funext a; fin_cases a <;> exact Fin.ext (by simp [Rect.unit]))).trans ((h.sb t ⟨768 + (e : ℕ), by omega⟩).trans (congrArg (fun z => p.sb z t) (Fin.ext (by have := e.isLt; change (768 + (e : ℕ)) / 128 = 6; omega)))))
  sw7 t s := (hB.h12.readAt_unread X.x12 _ _).trans ((congrArg X.x12 (by funext a; fin_cases a <;> exact Fin.ext (by simp [Rect.unit]))).trans (h.sw 7 t s))
  sb7 t e := (hB.h13.readAt_unread X.x13 _ _).trans ((congrArg X.x13 (by funext a; fin_cases a <;> exact Fin.ext (by simp [Rect.unit]))).trans ((h.sb t ⟨896 + (e : ℕ), by omega⟩).trans (congrArg (fun z => p.sb z t) (Fin.ext (by have := e.isLt; change (896 + (e : ℕ)) / 128 = 7; omega)))))
  gnw v := (hB.h16.readAt_unread X.x16 _ _).trans ((congrArg X.x16 (by funext a; fin_cases a <;> exact Fin.ext (by simp [Rect.unit]))).trans (h.gnw v))
  wa k e := (hB.h17.readAt_unread X.x17 _ _).trans ((congrArg X.x17 (by funext a; fin_cases a <;> exact Fin.ext (by simp [Rect.unit]))).trans (h.wa k e))
  wb k e := (hB.h18.readAt_unread X.x18 _ _).trans ((congrArg X.x18 (by funext a; fin_cases a <;> exact Fin.ext (by simp [Rect.unit]))).trans (h.wb k e))
  wo k e := (hB.h19.readAt_unread X.x19 _ _).trans ((congrArg X.x19 (by funext a; fin_cases a <;> exact Fin.ext (by simp [Rect.unit]))).trans (h.wo k e))
  s0 d v := by
    exact cleared B (Rect.unit (s := S4x128x256) ![0, 0, 0] S1x128x256.size inb_S4x128x256_S1x128x256_0_0_0) _
  s1 d v := by
    exact cleared B (Rect.unit (s := S4x128x256) ![1, 0, 0] S1x128x256.size inb_S4x128x256_S1x128x256_1_0_0) _
  s2 d v := by
    exact cleared B (Rect.unit (s := S4x128x256) ![2, 0, 0] S1x128x256.size inb_S4x128x256_S1x128x256_2_0_0) _
  s3 d v := by
    exact cleared B (Rect.unit (s := S4x128x256) ![3, 0, 0] S1x128x256.size inb_S4x128x256_S1x128x256_3_0_0) _

end Cert.KernelIdeal.Tile

end
-- ==== Proof.MixGridIn.lean ====
module

public import proofs.«01_k».proof.Proof.MixClear

/-! The blocks a step reads, of the arguments. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem Cert.MixSpec

variable (m : (ℓ : Loc nD τ sig) → Buf (Elt Ideal) ℓ) (c : Dev nD)

/-- Window 0's block follows batch and tile. -/
theorem idx_0 : ∀ t : Fin cfg0.N, win0_0.index t = ![t.val / 8, t.val % 8, 0] :=
  (by decide +kernel : ∀ t : Fin grid0.N, _)

/-- Window 1's block stays. -/
theorem idx_1 : ∀ t : Fin cfg0.N, win0_1.index t = ![0, 0] :=
  (by decide +kernel : ∀ t : Fin grid0.N, _)

/-- Window 2's block stays. -/
theorem idx_2 : ∀ t : Fin cfg0.N, win0_2.index t = ![0, 0] :=
  (by decide +kernel : ∀ t : Fin grid0.N, _)

/-- Window 3's block stays. -/
theorem idx_3 : ∀ t : Fin cfg0.N, win0_3.index t = ![0, 0] :=
  (by decide +kernel : ∀ t : Fin grid0.N, _)

/-- Window 4's block stays. -/
theorem idx_4 : ∀ t : Fin cfg0.N, win0_4.index t = ![0, 0] :=
  (by decide +kernel : ∀ t : Fin grid0.N, _)

/-- Window 5's block stays. -/
theorem idx_5 : ∀ t : Fin cfg0.N, win0_5.index t = ![0, 0] :=
  (by decide +kernel : ∀ t : Fin grid0.N, _)

/-- Window 6's block stays. -/
theorem idx_6 : ∀ t : Fin cfg0.N, win0_6.index t = ![0, 0] :=
  (by decide +kernel : ∀ t : Fin grid0.N, _)

/-- Window 7's block stays. -/
theorem idx_7 : ∀ t : Fin cfg0.N, win0_7.index t = ![0, 0] :=
  (by decide +kernel : ∀ t : Fin grid0.N, _)

/-- Window 8's block stays. -/
theorem idx_8 : ∀ t : Fin cfg0.N, win0_8.index t = ![0, 0] :=
  (by decide +kernel : ∀ t : Fin grid0.N, _)

/-- Window 9's block stays. -/
theorem idx_9 : ∀ t : Fin cfg0.N, win0_9.index t = ![0, 0] :=
  (by decide +kernel : ∀ t : Fin grid0.N, _)

/-- Window 10's block stays. -/
theorem idx_10 : ∀ t : Fin cfg0.N, win0_10.index t = ![0, 0] :=
  (by decide +kernel : ∀ t : Fin grid0.N, _)

/-- Window 11's block stays. -/
theorem idx_11 : ∀ t : Fin cfg0.N, win0_11.index t = ![0, 0] :=
  (by decide +kernel : ∀ t : Fin grid0.N, _)

/-- Window 12's block stays. -/
theorem idx_12 : ∀ t : Fin cfg0.N, win0_12.index t = ![0, 0, 0] :=
  (by decide +kernel : ∀ t : Fin grid0.N, _)

/-- Window 13's block stays. -/
theorem idx_13 : ∀ t : Fin cfg0.N, win0_13.index t = ![0, 0] :=
  (by decide +kernel : ∀ t : Fin grid0.N, _)

/-- Window 14's block stays. -/
theorem idx_14 : ∀ t : Fin cfg0.N, win0_14.index t = ![0, 0] :=
  (by decide +kernel : ∀ t : Fin grid0.N, _)

/-- Window 15's block stays. -/
theorem idx_15 : ∀ t : Fin cfg0.N, win0_15.index t = ![0, 0] :=
  (by decide +kernel : ∀ t : Fin grid0.N, _)

/-- Window 16's block stays. -/
theorem idx_16 : ∀ t : Fin cfg0.N, win0_16.index t = ![0, 0] :=
  (by decide +kernel : ∀ t : Fin grid0.N, _)

/-- Window 17's block stays. -/
theorem idx_17 : ∀ t : Fin cfg0.N, win0_17.index t = ![0, 0] :=
  (by decide +kernel : ∀ t : Fin grid0.N, _)

/-- Window 18's block stays. -/
theorem idx_18 : ∀ t : Fin cfg0.N, win0_18.index t = ![0, 0] :=
  (by decide +kernel : ∀ t : Fin grid0.N, _)

/-- Window 19's block stays. -/
theorem idx_19 : ∀ t : Fin cfg0.N, win0_19.index t = ![0, 0] :=
  (by decide +kernel : ∀ t : Fin grid0.N, _)

/-- Window 20's block follows the step. -/
theorem idx_20 : ∀ t : Fin cfg0.N, win0_20.index t = ![t.val, 0] :=
  (by decide +kernel : ∀ t : Fin grid0.N, _)

/-- Window 21's block follows the step. -/
theorem idx_21 : ∀ t : Fin cfg0.N, win0_21.index t = ![t.val, 0] :=
  (by decide +kernel : ∀ t : Fin grid0.N, _)

/-- Window 22's block follows every other step. -/
theorem idx_22 : ∀ t : Fin cfg0.N, win0_22.index t = ![t.val / 2, 0] :=
  (by decide +kernel : ∀ t : Fin grid0.N, _)

/-- Window 23's block follows batch and tile. -/
theorem idx_23 : ∀ t : Fin cfg0.N, win0_23.index t = ![t.val / 8, t.val % 8, 0] :=
  (by decide +kernel : ∀ t : Fin grid0.N, _)

/-- Window 24's block follows the step. -/
theorem idx_24 : ∀ t : Fin cfg0.N, win0_24.index t = ![t.val, 0] :=
  (by decide +kernel : ∀ t : Fin grid0.N, _)

/-- Window 25's block follows the step. -/
theorem idx_25 : ∀ t : Fin cfg0.N, win0_25.index t = ![t.val, 0] :=
  (by decide +kernel : ∀ t : Fin grid0.N, _)

/-- Window 26's block follows every other step. -/
theorem idx_26 : ∀ t : Fin cfg0.N, win0_26.index t = ![t.val / 2, 0] :=
  (by decide +kernel : ∀ t : Fin grid0.N, _)

/-- A batch's rows, numbered without an end. -/
def rows (b : Fin 4) (r : ℕ) : Fin 1024 → EReal := fun k => rd S4x4096x1024 .f32 (m ((c : Thread nD τ).loc main_arg0)) (ix3 b ⟨r % 4096, by omega⟩ k)

set_option maxHeartbeats 4000000 in
/-- The call's first operand is the first argument. -/
theorem host_x (b : Fin 4) (s : Fin 4096) (k : Fin 1024) : rd S4x4096x1024 .f32 (V m c main_arg0) (ix3 b s k) = rd S4x4096x1024 .f32 (m ((c : Thread nD τ).loc main_arg0)) (ix3 b s k) := by
  simp only [rd, V, hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.cons_append, List.nil_append, List.append_nil]
  entry_read
  rfl

theorem tlt (t : Fin cfg0.N) : (t : ℕ) < 32 := Nat.lt_of_lt_of_eq t.isLt N_0

set_option maxHeartbeats 4000000 in
/-- The token block holds its tile's rows. -/
theorem in_x (t : Fin cfg0.N) (r : Fin 512) (k : Fin 1024) : (ins m c t).x0 (ix3 0 r k) = rows m c ⟨(t : ℕ) / 8, by have := tlt t; omega⟩ (512 * ((t : ℕ) % 8) + r) k := by
    have ht := tlt t
    have hi : ((cfg0.win 0).blk t).view.emb (ix3 0 r k) = ix3 (⟨(t : ℕ) / 8, by omega⟩ : Fin 4) (⟨(512 * ((t : ℕ) % 8) + r) % 4096, by omega⟩ : Fin 4096) k := by
      blk_ext [idx_0 t]
    refine Eq.trans (b := V m c main_arg0 (((cfg0.win 0).blk t).view.emb (ix3 0 r k))) (by show iblk m c 0 t _ = _; blk_simp [iblk]) ?_
    rw [hi]
    exact host_x m c _ _ _
set_option maxHeartbeats 4000000 in
/-- Window 1's block, by the parameters. -/
theorem in_n1 (t : Fin cfg0.N) (k : Fin 1024) : (ins m c t).x1 (ix2 0 k) = rd S1x1024 .f32 (V m c main_v29) (ix2 0 k) := by
    have hi : ((cfg0.win 1).blk t).view.emb (ix2 0 k) = (ix2 0 k) := by
      blk_ext [idx_1 t]
    refine Eq.trans (b := V m c main_v29 (((cfg0.win 1).blk t).view.emb (ix2 0 k))) (by show iblk m c 1 t _ = _; blk_simp [iblk]) ?_
    rw [hi]
set_option maxHeartbeats 4000000 in
/-- Window 2's block, by the parameters. -/
theorem in_uv (t : Fin cfg0.N) (k : Fin 1024) (e : Fin 2048) : (ins m c t).x2 (ix2 k ⟨e, by omega⟩) = rd S1024x2176 .bf16 (V m c main_v4) (ix2 k ⟨e, by omega⟩) := by
    have hi : ((cfg0.win 2).blk t).view.emb (ix2 k ⟨e, by omega⟩) = (ix2 k ⟨e, by omega⟩) := by
      blk_ext [idx_2 t]
    refine Eq.trans (b := V m c main_v4 (((cfg0.win 2).blk t).view.emb (ix2 k ⟨e, by omega⟩))) (by show iblk m c 2 t _ = _; blk_simp [iblk]) ?_
    rw [hi]
set_option maxHeartbeats 4000000 in
/-- Window 3's block, by the parameters. -/
theorem in_buv (t : Fin cfg0.N) (e : Fin 2048) : (ins m c t).x3 (ix2 0 e) = rd S1x2048 .f32 (V m c main_v31) (ix2 0 e) := by
    have hi : ((cfg0.win 3).blk t).view.emb (ix2 0 e) = (ix2 0 e) := by
      blk_ext [idx_3 t]
    refine Eq.trans (b := V m c main_v31 (((cfg0.win 3).blk t).view.emb (ix2 0 e))) (by show iblk m c 3 t _ = _; blk_simp [iblk]) ?_
    rw [hi]
set_option maxHeartbeats 4000000 in
/-- Window 4's block, by the parameters. -/
theorem in_qk (t : Fin cfg0.N) (k : Fin 1024) (e : Fin 1024) : (ins m c t).x4 (ix2 k ⟨e, by omega⟩) = rd S1024x1152 .bf16 (V m c main_v9) (ix2 k ⟨e, by omega⟩) := by
    have hi : ((cfg0.win 4).blk t).view.emb (ix2 k ⟨e, by omega⟩) = (ix2 k ⟨e, by omega⟩) := by
      blk_ext [idx_4 t]
    refine Eq.trans (b := V m c main_v9 (((cfg0.win 4).blk t).view.emb (ix2 k ⟨e, by omega⟩))) (by show iblk m c 4 t _ = _; blk_simp [iblk]) ?_
    rw [hi]
set_option maxHeartbeats 4000000 in
/-- Window 4's block, by the parameters. -/
theorem in_lr (t : Fin cfg0.N) (k : Fin 1024) (e : Fin 16) : (ins m c t).x4 (ix2 k ⟨1024 + e, by omega⟩) = rd S1024x1152 .bf16 (V m c main_v9) (ix2 k ⟨1024 + e, by omega⟩) := by
    have hi : ((cfg0.win 4).blk t).view.emb (ix2 k ⟨1024 + e, by omega⟩) = (ix2 k ⟨1024 + e, by omega⟩) := by
      blk_ext [idx_4 t]
    refine Eq.trans (b := V m c main_v9 (((cfg0.win 4).blk t).view.emb (ix2 k ⟨1024 + e, by omega⟩))) (by show iblk m c 4 t _ = _; blk_simp [iblk]) ?_
    rw [hi]
set_option maxHeartbeats 4000000 in
/-- Window 5's block, by the parameters. -/
theorem in_bqk (t : Fin cfg0.N) (e : Fin 1024) : (ins m c t).x5 (ix2 0 ⟨e, by omega⟩) = rd S1x1152 .f32 (V m c main_v32) (ix2 0 ⟨e, by omega⟩) := by
    have hi : ((cfg0.win 5).blk t).view.emb (ix2 0 ⟨e, by omega⟩) = (ix2 0 ⟨e, by omega⟩) := by
      blk_ext [idx_5 t]
    refine Eq.trans (b := V m c main_v32 (((cfg0.win 5).blk t).view.emb (ix2 0 ⟨e, by omega⟩))) (by show iblk m c 5 t _ = _; blk_simp [iblk]) ?_
    rw [hi]
set_option maxHeartbeats 4000000 in
/-- Window 5's block, by the parameters. -/
theorem in_blr (t : Fin cfg0.N) (e : Fin 16) : (ins m c t).x5 (ix2 0 ⟨1024 + e, by omega⟩) = rd S1x1152 .f32 (V m c main_v32) (ix2 0 ⟨1024 + e, by omega⟩) := by
    have hi : ((cfg0.win 5).blk t).view.emb (ix2 0 ⟨1024 + e, by omega⟩) = (ix2 0 ⟨1024 + e, by omega⟩) := by
      blk_ext [idx_5 t]
    refine Eq.trans (b := V m c main_v32 (((cfg0.win 5).blk t).view.emb (ix2 0 ⟨1024 + e, by omega⟩))) (by show iblk m c 5 t _ = _; blk_simp [iblk]) ?_
    rw [hi]
set_option maxHeartbeats 4000000 in
/-- Window 14's block, by the parameters. -/
theorem in_gk2 (t : Fin cfg0.N) (i : Fin 16) (e : Fin 512) : (ins m c t).x14 (ix2 ⟨i, by omega⟩ e) = rd S128x512 .bf16 (V m c main_v27) (ix2 ⟨i, by omega⟩ e) := by
    have hi : ((cfg0.win 14).blk t).view.emb (ix2 ⟨i, by omega⟩ e) = (ix2 ⟨i, by omega⟩ e) := by
      blk_ext [idx_14 t]
    refine Eq.trans (b := V m c main_v27 (((cfg0.win 14).blk t).view.emb (ix2 ⟨i, by omega⟩ e))) (by show iblk m c 14 t _ = _; blk_simp [iblk]) ?_
    rw [hi]
set_option maxHeartbeats 4000000 in
/-- Window 14's block, by the parameters. -/
theorem in_gk2z (t : Fin cfg0.N) (i : Fin 112) (e : Fin 512) : (ins m c t).x14 (ix2 ⟨16 + i, by omega⟩ e) = rd S128x512 .bf16 (V m c main_v27) (ix2 ⟨16 + i, by omega⟩ e) := by
    have hi : ((cfg0.win 14).blk t).view.emb (ix2 ⟨16 + i, by omega⟩ e) = (ix2 ⟨16 + i, by omega⟩ e) := by
      blk_ext [idx_14 t]
    refine Eq.trans (b := V m c main_v27 (((cfg0.win 14).blk t).view.emb (ix2 ⟨16 + i, by omega⟩ e))) (by show iblk m c 14 t _ = _; blk_simp [iblk]) ?_
    rw [hi]
set_option maxHeartbeats 4000000 in
/-- Window 15's block, by the parameters. -/
theorem in_bgk (t : Fin cfg0.N) (e : Fin 512) : (ins m c t).x15 (ix2 0 e) = rd S1x512 .f32 (V m c main_v43) (ix2 0 e) := by
    have hi : ((cfg0.win 15).blk t).view.emb (ix2 0 e) = (ix2 0 e) := by
      blk_ext [idx_15 t]
    refine Eq.trans (b := V m c main_v43 (((cfg0.win 15).blk t).view.emb (ix2 0 e))) (by show iblk m c 15 t _ = _; blk_simp [iblk]) ?_
    rw [hi]
set_option maxHeartbeats 4000000 in
/-- Window 6's block, by the parameters. -/
theorem in_vr (t : Fin cfg0.N) (k : Fin 1024) (e : Fin 2048) : (ins m c t).x6 (ix2 k ⟨e, by omega⟩) = rd S1024x2176 .bf16 (V m c main_v12) (ix2 k ⟨e, by omega⟩) := by
    have hi : ((cfg0.win 6).blk t).view.emb (ix2 k ⟨e, by omega⟩) = (ix2 k ⟨e, by omega⟩) := by
      blk_ext [idx_6 t]
    refine Eq.trans (b := V m c main_v12 (((cfg0.win 6).blk t).view.emb (ix2 k ⟨e, by omega⟩))) (by show iblk m c 6 t _ = _; blk_simp [iblk]) ?_
    rw [hi]
set_option maxHeartbeats 4000000 in
/-- Window 7's block, by the parameters. -/
theorem in_bvr (t : Fin cfg0.N) (e : Fin 2048) : (ins m c t).x7 (ix2 0 e) = rd S1x2048 .f32 (V m c main_v34) (ix2 0 e) := by
    have hi : ((cfg0.win 7).blk t).view.emb (ix2 0 e) = (ix2 0 e) := by
      blk_ext [idx_7 t]
    refine Eq.trans (b := V m c main_v34 (((cfg0.win 7).blk t).view.emb (ix2 0 e))) (by show iblk m c 7 t _ = _; blk_simp [iblk]) ?_
    rw [hi]
set_option maxHeartbeats 4000000 in
/-- Window 8's block, by the parameters. -/
theorem in_gt (t : Fin cfg0.N) (k : Fin 1024) (e : Fin 2048) : (ins m c t).x8 (ix2 k ⟨e, by omega⟩) = rd S1024x2176 .bf16 (V m c main_v15) (ix2 k ⟨e, by omega⟩) := by
    have hi : ((cfg0.win 8).blk t).view.emb (ix2 k ⟨e, by omega⟩) = (ix2 k ⟨e, by omega⟩) := by
      blk_ext [idx_8 t]
    refine Eq.trans (b := V m c main_v15 (((cfg0.win 8).blk t).view.emb (ix2 k ⟨e, by omega⟩))) (by show iblk m c 8 t _ = _; blk_simp [iblk]) ?_
    rw [hi]
set_option maxHeartbeats 4000000 in
/-- Window 9's block, by the parameters. -/
theorem in_bgt (t : Fin cfg0.N) (e : Fin 2048) : (ins m c t).x9 (ix2 0 e) = rd S1x2048 .f32 (V m c main_v36) (ix2 0 e) := by
    have hi : ((cfg0.win 9).blk t).view.emb (ix2 0 e) = (ix2 0 e) := by
      blk_ext [idx_9 t]
    refine Eq.trans (b := V m c main_v36 (((cfg0.win 9).blk t).view.emb (ix2 0 e))) (by show iblk m c 9 t _ = _; blk_simp [iblk]) ?_
    rw [hi]
set_option maxHeartbeats 4000000 in
/-- Window 10's block, by the parameters. -/
theorem in_lnw (t : Fin cfg0.N) (e : Fin 1024) : (ins m c t).x10 (ix2 0 e) = rd S1x1024 .f32 (V m c main_v38) (ix2 0 e) := by
    have hi : ((cfg0.win 10).blk t).view.emb (ix2 0 e) = (ix2 0 e) := by
      blk_ext [idx_10 t]
    refine Eq.trans (b := V m c main_v38 (((cfg0.win 10).blk t).view.emb (ix2 0 e))) (by show iblk m c 10 t _ = _; blk_simp [iblk]) ?_
    rw [hi]
set_option maxHeartbeats 4000000 in
/-- Window 11's block, by the parameters. -/
theorem in_lnb (t : Fin cfg0.N) (e : Fin 1024) : (ins m c t).x11 (ix2 0 e) = rd S1x1024 .f32 (V m c main_v40) (ix2 0 e) := by
    have hi : ((cfg0.win 11).blk t).view.emb (ix2 0 e) = (ix2 0 e) := by
      blk_ext [idx_11 t]
    refine Eq.trans (b := V m c main_v40 (((cfg0.win 11).blk t).view.emb (ix2 0 e))) (by show iblk m c 11 t _ = _; blk_simp [iblk]) ?_
    rw [hi]
set_option maxHeartbeats 4000000 in
/-- Window 12's block, by the parameters. -/
theorem in_sw (t : Fin cfg0.N) (g : Fin 8) (u s : Fin 128) : (ins m c t).x12 (ix3 g u s) = rd S8x128x128 .f32 (V m c main_v41) (ix3 g u s) := by
    have hi : ((cfg0.win 12).blk t).view.emb (ix3 g u s) = (ix3 g u s) := by
      blk_ext [idx_12 t]
    refine Eq.trans (b := V m c main_v41 (((cfg0.win 12).blk t).view.emb (ix3 g u s))) (by show iblk m c 12 t _ = _; blk_simp [iblk]) ?_
    rw [hi]
set_option maxHeartbeats 4000000 in
/-- Window 13's block, by the parameters. -/
theorem in_sb (t : Fin cfg0.N) (u : Fin 128) (e : Fin 1024) : (ins m c t).x13 (ix2 u e) = rd S128x1024 .f32 (V m c main_v24) (ix2 u e) := by
    have hi : ((cfg0.win 13).blk t).view.emb (ix2 u e) = (ix2 u e) := by
      blk_ext [idx_13 t]
    refine Eq.trans (b := V m c main_v24 (((cfg0.win 13).blk t).view.emb (ix2 u e))) (by show iblk m c 13 t _ = _; blk_simp [iblk]) ?_
    rw [hi]
set_option maxHeartbeats 4000000 in
/-- Window 16's block, by the parameters. -/
theorem in_gnw (t : Fin cfg0.N) (v : Fin 256) : (ins m c t).x16 (ix2 0 v) = rd S1x256 .f32 (V m c main_v45) (ix2 0 v) := by
    have hi : ((cfg0.win 16).blk t).view.emb (ix2 0 v) = (ix2 0 v) := by
      blk_ext [idx_16 t]
    refine Eq.trans (b := V m c main_v45 (((cfg0.win 16).blk t).view.emb (ix2 0 v))) (by show iblk m c 16 t _ = _; blk_simp [iblk]) ?_
    rw [hi]
set_option maxHeartbeats 4000000 in
/-- Window 17's block, by the parameters. -/
theorem in_wa (t : Fin cfg0.N) (k e : Fin 1024) : (ins m c t).x17 (ix2 k ⟨e, by omega⟩) = rd S1024x1152 .bf16 (V m c main_v48) (ix2 k ⟨e, by omega⟩) := by
    have hi : ((cfg0.win 17).blk t).view.emb (ix2 k ⟨e, by omega⟩) = (ix2 k ⟨e, by omega⟩) := by
      blk_ext [idx_17 t]
    refine Eq.trans (b := V m c main_v48 (((cfg0.win 17).blk t).view.emb (ix2 k ⟨e, by omega⟩))) (by show iblk m c 17 t _ = _; blk_simp [iblk]) ?_
    rw [hi]
set_option maxHeartbeats 4000000 in
/-- Window 18's block, by the parameters. -/
theorem in_wb (t : Fin cfg0.N) (k e : Fin 1024) : (ins m c t).x18 (ix2 k ⟨e, by omega⟩) = rd S1024x1152 .bf16 (V m c main_v51) (ix2 k ⟨e, by omega⟩) := by
    have hi : ((cfg0.win 18).blk t).view.emb (ix2 k ⟨e, by omega⟩) = (ix2 k ⟨e, by omega⟩) := by
      blk_ext [idx_18 t]
    refine Eq.trans (b := V m c main_v51 (((cfg0.win 18).blk t).view.emb (ix2 k ⟨e, by omega⟩))) (by show iblk m c 18 t _ = _; blk_simp [iblk]) ?_
    rw [hi]
set_option maxHeartbeats 4000000 in
/-- Window 19's block, by the parameters. -/
theorem in_wo (t : Fin cfg0.N) (k e : Fin 1024) : (ins m c t).x19 (ix2 k ⟨e, by omega⟩) = rd S1024x1152 .bf16 (V m c main_v54) (ix2 k ⟨e, by omega⟩) := by
    have hi : ((cfg0.win 19).blk t).view.emb (ix2 k ⟨e, by omega⟩) = (ix2 k ⟨e, by omega⟩) := by
      blk_ext [idx_19 t]
    refine Eq.trans (b := V m c main_v54 (((cfg0.win 19).blk t).view.emb (ix2 k ⟨e, by omega⟩))) (by show iblk m c 19 t _ = _; blk_simp [iblk]) ?_
    rw [hi]

/-- The input blocks of a step hold the parameters and its tile's rows. -/
theorem ins_at (t : Fin cfg0.N) : InsAt (ins m c t) (par m c) (fun r => rows m c ⟨(t : ℕ) / 8, by have := tlt t; omega⟩ (512 * ((t : ℕ) % 8) + r)) where
  x r k := in_x m c t r k
  n1 k := (in_n1 m c t k).trans (host_n1 m c k)
  uv k e := (in_uv m c t k e).trans (host_uv m c k e)
  buv e := (in_buv m c t e).trans (host_buv m c e)
  qk k e := (in_qk m c t k e).trans (host_qk m c k e)
  lr k e := (in_lr m c t k e).trans (host_lr m c k e)
  bqk e := (in_bqk m c t e).trans (host_bqk m c e)
  blr e := (in_blr m c t e).trans (host_blr m c e)
  gk2 i e := (in_gk2 m c t i e).trans (host_gk2 m c i e)
  gk2z i e := (in_gk2z m c t i e).trans (host_gk2z m c i e)
  bgk e := (in_bgk m c t e).trans (host_bgk m c e)
  vr k e := (in_vr m c t k e).trans (host_vr m c k e)
  bvr e := (in_bvr m c t e).trans (host_bvr m c e)
  gt k e := (in_gt m c t k e).trans (host_gt m c k e)
  bgt e := (in_bgt m c t e).trans (host_bgt m c e)
  lnw e := (in_lnw m c t e).trans (host_lnw m c e)
  lnb e := (in_lnb m c t e).trans (host_lnb m c e)
  sw g u s := (in_sw m c t g u s).trans (host_sw m c g u s)
  sb u e := (in_sb m c t u e).trans (host_sb m c u e)
  gnw v := (in_gnw m c t v).trans (host_gnw m c v)
  wa k e := (in_wa m c t k e).trans (host_wa m c k e)
  wb k e := (in_wb m c t k e).trans (host_wb m c k e)
  wo k e := (in_wo m c t k e).trans (host_wo m c k e)

end Cert.KernelIdeal.Tile

end
-- ==== Proof.MixGrid.lean ====
module

public import proofs.«01_k».proof.Proof.MixStep
public import proofs.«01_k».proof.Proof.MixIns
public import proofs.«01_k».proof.Proof.MixInsA
public import proofs.«01_k».proof.Proof.MixGridIn

/-! The call's arrays at its end: the state a step starts from, the tokens' rows, and the cast weights. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem Cert.MixSpec Cert.Scalars

/-- A tile's rows among its batch's. -/
def tileRows (X : ℕ → Fin 1024 → EReal) (j : ℕ) (r : Fin 512) : Fin 1024 → EReal := X (512 * j + r)

/-- A tile's chunks continue the sequence's states. -/
theorem cst_eq (p : Par) (X : ℕ → Fin 1024 → EReal) (j : ℕ) : ∀ n, n ≤ 8 → cst p (tileRows X j) (st p X (8 * j)) n = st p X (8 * j + n)
  | 0, _ => rfl
  | n + 1, h => by
    change stp p (chunk (tileRows X j) ⟨n % 8, by omega⟩) (cst p (tileRows X j) (st p X (8 * j)) n) = stp p (fun t => X (64 * (8 * j + n) + t)) (st p X (8 * j + n))
    rw [cst_eq p X j n (by omega)]
    refine congrArg (fun c => stp p c (st p X (8 * j + n))) ?_
    funext t
    change X (512 * j + (64 * (n % 8) + (t : ℕ))) = X (64 * (8 * j + n) + t)
    congr 1
    omega

/-- The attention rows' congruence in the numbers they are found by. -/
theorem yb_congr (p : Par) (X : ℕ → Fin 1024 → EReal) (j : ℕ) (r : Fin 512) {n : ℕ} (hn : n = 8 * j + r / 64) (t : Fin 64) (ht : (t : ℕ) = r % 64) :
    yb p silK (rowChunk (tileRows X j) r) (cst p (tileRows X j) (st p X (8 * j)) ((r : ℕ) / 64)) ⟨(r : ℕ) % 64, by omega⟩ = yb p silK (fun u => X (64 * n + u)) (st p X n) t := by
  subst hn
  rw [cst_eq p X j _ (by omega)]
  have e1 : rowChunk (tileRows X j) r = fun u : Fin 64 => X (64 * (8 * j + (r : ℕ) / 64) + u) := by
    funext u
    change X (512 * j + (64 * ((r : ℕ) / 64) + (u : ℕ))) = X (64 * (8 * j + (r : ℕ) / 64) + u)
    congr 1
    omega
  have e2 : (⟨(r : ℕ) % 64, by omega⟩ : Fin 64) = t := Fin.ext ht.symm
  rw [e1, e2]

/-- The spatial unit's rows' congruence in the numbers they are found by. -/
theorem ya_congr (p : Par) (X : ℕ → Fin 1024 → EReal) (j : ℕ) (r : Fin 512) {n : ℕ} (hn : n = 4 * j + r / 128) (t : Fin 128) (ht : (t : ℕ) = r % 128) :
    ya p (blk (tileRows X j) ⟨(r : ℕ) / 128, by omega⟩) ⟨(r : ℕ) % 128, by omega⟩ = ya p (fun u => X (128 * n + u)) t := by
  subst hn
  have e1 : blk (tileRows X j) ⟨(r : ℕ) / 128, by omega⟩ = fun u : Fin 128 => X (128 * (4 * j + (r : ℕ) / 128) + u) := by
    funext u
    change X (512 * j + (128 * ((r : ℕ) / 128) + (u : ℕ))) = X (128 * (4 * j + (r : ℕ) / 128) + u)
    congr 1
    omega
  have e2 : (⟨(r : ℕ) % 128, by omega⟩ : Fin 128) = t := Fin.ext ht.symm
  rw [e1, e2]

/-- A tile's token, by its number in the batch. -/
theorem rowOf_eq (p : Par) (X : ℕ → Fin 1024 → EReal) (j : ℕ) (r : Fin 512) (d : Fin 1024) :
    rowOf p (tileRows X j) (st p X (8 * j)) r d = out p silK X (512 * j + r) d := by
  unfold rowOf out
  rw [yb_congr p X j r (n := (512 * j + (r : ℕ)) / 64) (by omega) ⟨(512 * j + (r : ℕ)) % 64, by omega⟩ (by change (512 * j + (r : ℕ)) % 64 = (r : ℕ) % 64; omega),
    ya_congr p X j r (n := (512 * j + (r : ℕ)) / 128) (by omega) ⟨(512 * j + (r : ℕ)) % 128, by omega⟩ (by change (512 * j + (r : ℕ)) % 128 = (r : ℕ) % 128; omega)]
  rfl

variable (m : (ℓ : Loc nD τ sig) → Buf (Elt Ideal) ℓ) (c : Dev nD)

/-- The input blocks at batch `b`, tile `j`. -/
theorem ins_tile (t : Fin cfg0.N) (b : Fin 4) (j : ℕ) (hb : (b : ℕ) = t / 8) (hj : j = (t : ℕ) % 8) : InsAt (ins m c t) (par m c) (tileRows (rows m c b) j) := by
  subst hj
  have e : b = ⟨(t : ℕ) / 8, by have := tlt t; omega⟩ := Fin.ext hb
  rw [e]
  exact ins_at m c t

/-- The state before a step. -/
def SAt (b : Fin 4) (j : ℕ) : Fin 4 → Fin 128 → Fin 256 → EReal := st (par m c) (rows m c b) (8 * j)

/-- A step's state and rows, from the state before it where it is not the batch's first. -/
theorem step_at (t : Fin cfg0.N) (b : Fin 4) (j : ℕ) (hb : (b : ℕ) = t / 8) (hj : j = (t : ℕ) % 8) (acc : Vec Ideal S4x128x256 .f32)
    (ha : (t : ℕ) % 8 ≠ 0 → ∀ g d v, acc (ix3 g d v) = SAt m c b j g d v) :
    (∀ g d v, (outOf m c t acc).st (ix3 g d v) = SAt m c b (j + 1) g d v)
    ∧ ∀ r d, (outOf m c t acc).o23 (ix3 0 r d) = out (par m c) silK (rows m c b) (512 * j + r) d := by
  have hI := ins_tile m c t b j hb hj
  by_cases h0 : (t : ℕ) % 8 = 0
  · have hc : cond0_0 (grid0.coords t) := (hcond0_0 t).2 h0
    have H := isIn_A (bufs_whole t) hI
    have hS : (fun _ _ _ => 0 : Fin 4 → Fin 128 → Fin 256 → EReal) = st (par m c) (rows m c b) (8 * j) := by
      have : j = 0 := by omega
      subst this
      rfl
    rw [hS] at H
    refine ⟨fun g d v => ?_, fun r d => ?_⟩
    · refine (stepA_st c _ (bufs_whole t) acc hc H g d v).trans ?_
      rw [cst_eq _ _ _ _ (by omega)]
      rfl
    · exact (stepA_h c _ (bufs_whole t) acc hc H r d).trans (rowOf_eq _ _ _ _ _)
  · have hc : ¬cond0_0 (grid0.coords t) := fun h => h0 ((hcond0_0 t).1 h)
    have H := isIn_B (acc := acc) (bufs_whole t) hI (ha h0)
    refine ⟨fun g d v => ?_, fun r d => ?_⟩
    · refine (stepB_st c _ (bufs_whole t) acc hc H g d v).trans ?_
      unfold SAt
      rw [cst_eq _ _ _ _ (by omega)]
      rfl
    · exact (stepB_h c _ (bufs_whole t) acc hc H r d).trans (rowOf_eq _ _ _ _ _)

/-- The state before every step that is not a batch's first. -/
theorem acc_at : ∀ (n : ℕ) (hn : n ≤ cfg0.N) (b : Fin 4) (j : ℕ), (b : ℕ) = n / 8 → j = n % 8 → n % 8 ≠ 0 →
    ∀ g d v, accAt m c n hn (ix3 g d v) = SAt m c b j g d v
  | 0, _, _, _, _, _, h => absurd rfl h
  | n + 1, hn, b, j, hb, hj, h => by
    intro g d v
    have hs := (step_at m c ⟨n, hn⟩ b (n % 8) (by change (b : ℕ) = n / 8; omega) rfl (accAt m c n (Nat.le_of_lt hn))
      (fun h' => acc_at n (Nat.le_of_lt hn) b (n % 8) (by omega) rfl h')).1 g d v
    refine hs.trans ?_
    have : j = n % 8 + 1 := by omega
    rw [this]

/-- A step's rows. -/
theorem out_at (t : Fin cfg0.N) (b : Fin 4) (j : ℕ) (hb : (b : ℕ) = t / 8) (hj : j = (t : ℕ) % 8) (r : Fin 512) (d : Fin 1024) :
    (outAt m c t).o23 (ix3 0 r d) = out (par m c) silK (rows m c b) (512 * j + r) d :=
  (step_at m c t b j hb hj _ (fun h => acc_at m c t.val _ b j hb hj h)).2 r d

set_option maxHeartbeats 4000000 in
/-- A step's block of the cast gate weight is its block of the weight. -/
theorem step_fg (i : grid0.Coords) {B : Bufs} (hB : B.Whole) {X : Ins Ideal} (acc : Vec Ideal S4x128x256 .f32) (r : Fin 32) (e : Fin 2816) :
    (stepOut c i B hB X acc).o24 (ix2 r e) = X.x20 (ix2 r e) := by
  by_cases hc : cond0_0 i
  · rw [stepOut_first c i B hB X acc hc]
    dsimp only
    refine Eq.trans (b := k0_pay5 (F := Ideal) (View.readAt (Elt Ideal) B.b20.view (Rect.unit (s := S32x2816) ![0, 0] S32x2816.size inb_S32x2816_S32x2816_0_0).toLoadRect (hB.h20.unread X.x20)) (ix2 r e)) (congrFun (View.canon_unit_zero off2 _ _) (ix2 r e)) ?_
    pointwise [k0_pay5]
    exact (hB.h20.readAt_unread X.x20 _ _).trans (congrArg X.x20 (by funext a; fin_cases a <;> exact Fin.ext (by simp [Rect.unit])))
  · rw [stepOut_later c i B hB X acc hc]
    dsimp only
    refine Eq.trans (b := k0_pay5 (F := Ideal) (View.readAt (Elt Ideal) B.b20.view (Rect.unit (s := S32x2816) ![0, 0] S32x2816.size inb_S32x2816_S32x2816_0_0).toLoadRect (hB.h20.unread X.x20)) (ix2 r e)) (congrFun (View.canon_unit_zero off2 _ _) (ix2 r e)) ?_
    pointwise [k0_pay5]
    exact (hB.h20.readAt_unread X.x20 _ _).trans (congrArg X.x20 (by funext a; fin_cases a <;> exact Fin.ext (by simp [Rect.unit])))

set_option maxHeartbeats 4000000 in
/-- A step's block of the cast up weight is its block of the weight. -/
theorem step_fu (i : grid0.Coords) {B : Bufs} (hB : B.Whole) {X : Ins Ideal} (acc : Vec Ideal S4x128x256 .f32) (r : Fin 32) (e : Fin 2816) :
    (stepOut c i B hB X acc).o25 (ix2 r e) = X.x21 (ix2 r e) := by
  by_cases hc : cond0_0 i
  · rw [stepOut_first c i B hB X acc hc]
    dsimp only
    refine Eq.trans (b := k0_pay6 (F := Ideal) (View.readAt (Elt Ideal) B.b21.view (Rect.unit (s := S32x2816) ![0, 0] S32x2816.size inb_S32x2816_S32x2816_0_0).toLoadRect (hB.h21.unread X.x21)) (ix2 r e)) (congrFun (View.canon_unit_zero off2 _ _) (ix2 r e)) ?_
    pointwise [k0_pay6]
    exact (hB.h21.readAt_unread X.x21 _ _).trans (congrArg X.x21 (by funext a; fin_cases a <;> exact Fin.ext (by simp [Rect.unit])))
  · rw [stepOut_later c i B hB X acc hc]
    dsimp only
    refine Eq.trans (b := k0_pay6 (F := Ideal) (View.readAt (Elt Ideal) B.b21.view (Rect.unit (s := S32x2816) ![0, 0] S32x2816.size inb_S32x2816_S32x2816_0_0).toLoadRect (hB.h21.unread X.x21)) (ix2 r e)) (congrFun (View.canon_unit_zero off2 _ _) (ix2 r e)) ?_
    pointwise [k0_pay6]
    exact (hB.h21.readAt_unread X.x21 _ _).trans (congrArg X.x21 (by funext a; fin_cases a <;> exact Fin.ext (by simp [Rect.unit])))

set_option maxHeartbeats 4000000 in
/-- A step's block of the cast down weight is its block of the weight. -/
theorem step_fd (i : grid0.Coords) {B : Bufs} (hB : B.Whole) {X : Ins Ideal} (acc : Vec Ideal S4x128x256 .f32) (r : Fin 176) (e : Fin 1024) :
    (stepOut c i B hB X acc).o26 (ix2 r e) = X.x22 (ix2 r e) := by
  by_cases hc : cond0_0 i
  · rw [stepOut_first c i B hB X acc hc]
    dsimp only
    refine Eq.trans (b := k0_pay7 (F := Ideal) (View.readAt (Elt Ideal) B.b22.view (Rect.unit (s := S176x1024) ![0, 0] S176x1024.size inb_S176x1024_S176x1024_0_0).toLoadRect (hB.h22.unread X.x22)) (ix2 r e)) (congrFun (View.canon_unit_zero off2 _ _) (ix2 r e)) ?_
    pointwise [k0_pay7]
    exact (hB.h22.readAt_unread X.x22 _ _).trans (congrArg X.x22 (by funext a; fin_cases a <;> exact Fin.ext (by simp [Rect.unit])))
  · rw [stepOut_later c i B hB X acc hc]
    dsimp only
    refine Eq.trans (b := k0_pay7 (F := Ideal) (View.readAt (Elt Ideal) B.b22.view (Rect.unit (s := S176x1024) ![0, 0] S176x1024.size inb_S176x1024_S176x1024_0_0).toLoadRect (hB.h22.unread X.x22)) (ix2 r e)) (congrFun (View.canon_unit_zero off2 _ _) (ix2 r e)) ?_
    pointwise [k0_pay7]
    exact (hB.h22.readAt_unread X.x22 _ _).trans (congrArg X.x22 (by funext a; fin_cases a <;> exact Fin.ext (by simp [Rect.unit])))

set_option maxHeartbeats 4000000 in
/-- The result of window 24, at every index. -/
theorem final24 : (dats m 0 c).arrAt 24 (cfgs 0).N = fun y : S1024x2816.Idx => rd S1x1024x2816 .f32 (m ((c : Thread nD τ).loc main_arg14)) (ix3 0 (y 0) (y 1)) := by
  refine (dats m 0 c).arrAt_eq_of_covers 24 _ (by decide +kernel) fun t _ y => ?_
  blk_simp
  rw [after0_24]
  obtain ⟨r, e, rfl⟩ : ∃ (r : Fin 32) (e : Fin 2816), y = ix2 r e := ⟨y 0, y 1, eq_ix2 y⟩
  have ht := tlt t
  refine (step_fg c _ (bufs_whole t) _ r e).trans ?_
  have hi : ((cfg0.win 24).blk t).view.emb (ix2 r e) = ix2 (⟨32 * ((t : ℕ)) + r, by omega⟩ : Fin 1024) e := by
    blk_ext [idx_24 t]
  have hj : ((cfg0.win 20).blk t).view.emb (ix2 r e) = ix2 (⟨32 * ((t : ℕ)) + r, by omega⟩ : Fin 1024) e := by
    blk_ext [idx_20 t]
  refine Eq.trans (b := V m c main_v55 (((cfg0.win 20).blk t).view.emb (ix2 r e))) (by show iblk m c 20 t _ = _; blk_simp [iblk]) ?_
  rw [hj, hi]
  exact host_fg m c _ _

set_option maxHeartbeats 4000000 in
/-- The result of window 25, at every index. -/
theorem final25 : (dats m 0 c).arrAt 25 (cfgs 0).N = fun y : S1024x2816.Idx => rd S1x1024x2816 .f32 (m ((c : Thread nD τ).loc main_arg15)) (ix3 0 (y 0) (y 1)) := by
  refine (dats m 0 c).arrAt_eq_of_covers 25 _ (by decide +kernel) fun t _ y => ?_
  blk_simp
  rw [after0_25]
  obtain ⟨r, e, rfl⟩ : ∃ (r : Fin 32) (e : Fin 2816), y = ix2 r e := ⟨y 0, y 1, eq_ix2 y⟩
  have ht := tlt t
  refine (step_fu c _ (bufs_whole t) _ r e).trans ?_
  have hi : ((cfg0.win 25).blk t).view.emb (ix2 r e) = ix2 (⟨32 * ((t : ℕ)) + r, by omega⟩ : Fin 1024) e := by
    blk_ext [idx_25 t]
  have hj : ((cfg0.win 21).blk t).view.emb (ix2 r e) = ix2 (⟨32 * ((t : ℕ)) + r, by omega⟩ : Fin 1024) e := by
    blk_ext [idx_21 t]
  refine Eq.trans (b := V m c main_v56 (((cfg0.win 21).blk t).view.emb (ix2 r e))) (by show iblk m c 21 t _ = _; blk_simp [iblk]) ?_
  rw [hj, hi]
  exact host_fu m c _ _

set_option maxHeartbeats 4000000 in
/-- The result of window 26, at every index. -/
theorem final26 : (dats m 0 c).arrAt 26 (cfgs 0).N = fun y : S2816x1024.Idx => rd S1x2816x1024 .f32 (m ((c : Thread nD τ).loc main_arg16)) (ix3 0 (y 0) (y 1)) := by
  refine (dats m 0 c).arrAt_eq_of_covers 26 _ (by decide +kernel) fun t _ y => ?_
  blk_simp
  rw [after0_26]
  obtain ⟨r, e, rfl⟩ : ∃ (r : Fin 176) (e : Fin 1024), y = ix2 r e := ⟨y 0, y 1, eq_ix2 y⟩
  have ht := tlt t
  refine (step_fd c _ (bufs_whole t) _ r e).trans ?_
  have hi : ((cfg0.win 26).blk t).view.emb (ix2 r e) = ix2 (⟨176 * (((t : ℕ) / 2)) + r, by omega⟩ : Fin 2816) e := by
    blk_ext [idx_26 t]
  have hj : ((cfg0.win 22).blk t).view.emb (ix2 r e) = ix2 (⟨176 * (((t : ℕ) / 2)) + r, by omega⟩ : Fin 2816) e := by
    blk_ext [idx_22 t]
  refine Eq.trans (b := V m c main_v57 (((cfg0.win 22).blk t).view.emb (ix2 r e))) (by show iblk m c 22 t _ = _; blk_simp [iblk]) ?_
  rw [hj, hi]
  exact host_fd m c _ _

end Cert.KernelIdeal.Tile

end
-- ==== Proof.MixFinal.lean ====
module

public import proofs.«01_k».proof.Proof.MixGrid

/-! The call's first result at its end. -/

@[expose] public section

set_option maxRecDepth 16384

noncomputable section

namespace Cert.KernelIdeal.Tile

open Cert.KernelIdeal Cert.KernelIdeal.Mix Cert.KernelIdeal.Gen Idealize.ShloMosaic Idealize.ShloMosaic.TcCoe Idealize.SL.Sem Cert.MixSpec Cert.Scalars

variable (m : (ℓ : Loc nD τ sig) → Buf (Elt Ideal) ℓ) (c : Dev nD)

set_option maxHeartbeats 4000000 in
/-- The first result, at every index. -/
theorem final23 : (dats m 0 c).arrAt 23 (cfgs 0).N = fun y : S4x4096x1024.Idx => out (par m c) silK (rows m c (y 0)) ((y 1 : Fin 4096) : ℕ) (y 2) := by
  refine (dats m 0 c).arrAt_eq_of_covers 23 _ (by decide +kernel) fun t _ y => ?_
  blk_simp
  rw [after0_23]
  obtain ⟨r, d, rfl⟩ : ∃ (r : Fin 512) (d : Fin 1024), y = ix3 0 r d := ⟨y 1, y 2, by
    refine (eq_ix3 y).trans ?_
    have h0 : y 0 = (0 : Fin 1) := @Subsingleton.elim (Fin 1) inferInstance _ _
    rw [h0]⟩
  have ht := tlt t
  refine (out_at m c t ⟨(t : ℕ) / 8, by omega⟩ ((t : ℕ) % 8) rfl rfl r d).trans ?_
  have hi : ((cfg0.win 23).blk t).view.emb (ix3 0 r d) = ix3 (⟨(t : ℕ) / 8, by omega⟩ : Fin 4) (⟨512 * ((t : ℕ) % 8) + r, by omega⟩ : Fin 4096) d := by
    blk_ext [idx_23 t]
  have e : 512 * ((t : ℕ) % 8) + (r : ℕ) = win0_23.index t 1 * 512 + (r : ℕ) := by
    rw [congrFun (idx_23 t) 1]
    change 512 * ((t : ℕ) % 8) + (r : ℕ) = ((t : ℕ) % 8) * 512 + (r : ℕ)
    omega
  rw [hi]
  change _ = out (par m c) silK (rows m c ⟨(t : ℕ) / 8, by omega⟩) (win0_23.index t 1 * 512 + (r : ℕ)) d
  rw [← e]

end Cert.KernelIdeal.Tile

end
-- ==== Proof.RefStage.lean ====
module

public import proofs.«01_k».proof.Proof.Gen.ReferenceIdeal.Run
public import proofs.«01_k».proof.Proof.MixScalars
public import proofs.«01_k».proof.Proof.MixSpec

/-! The stages of the reference, as named functions of arrays. -/

@[expose] public section

set_option maxRecDepth 16384

noncomputable section

namespace Cert.ReferenceIdeal.Stage

open Cert.ReferenceIdeal Cert.ReferenceIdeal.Gen Cert.ReferenceIdeal.Value Idealize.ShloMosaic Idealize.ShloMosaic.TcCoe Idealize.SL.Sem Idealize.ShloMosaic.StableHlo

/-- The projection of the normed rows. -/
def projT (a0 : FVec Ideal S4x4096x1024 .f32) (a1 : FVec Ideal S1x1024 .f32) (a2 : FVec Ideal S1x1024x7184 .f32) (a3 : FVec Ideal S1x7184 .f32) : FVec Ideal S4x4096x7184 .f32 :=
  addf (Host.dotGeneral dot_S4x4096x1024_S1024x7184_S4x4096x7184_2_0_01_1_n_n none (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ a1 shapeCasts_S1x1024_S1024)))) (shapeCast _ a2 shapeCasts_S1x1024x7184_S1024x7184)) (broadcastInDim S4x4096x7184 ![0, 1, 2] bcast_S1x1x7184_S4x4096x7184_0_1_2 (broadcastInDim S1x1x7184 ![2] bcast_S7184_S1x1x7184_2 (shapeCast _ a3 shapeCasts_S1x7184_S7184)))

/-- The log decays of single tokens. -/
def gkT (P : FVec Ideal S4x4096x7184 .f32) (a8 : FVec Ideal S1x16x512 .f32) (a9 : FVec Ideal S1x512 .f32) : FVec Ideal S4x4096x512 .f32 :=
  Host.divf (Host.negf (select (cmpf .une (subf (Host.negf (addf (Host.dotGeneral dot_S4x4096x16_S16x512_S4x4096x512_2_0_01_1_n_n none (extractStridedSlice S4x4096x16 ![0, 0, 5120] P slices_S4x4096x7184_S4x4096x16_0_0_5120) (shapeCast _ a8 shapeCasts_S1x16x512_S16x512)) (broadcastInDim S4x4096x512 ![0, 1, 2] bcast_S1x1x512_S4x4096x512_0_1_2 (broadcastInDim S1x1x512 ![2] bcast_S512_S1x1x512_2 (shapeCast _ a9 shapeCasts_S1x512_S512))))) (broadcastInDim S4x4096x512 ![] bcast_S_S4x4096x512 (constant S_ .f32 0x00000000#32))) (subf (Host.negf (addf (Host.dotGeneral dot_S4x4096x16_S16x512_S4x4096x512_2_0_01_1_n_n none (extractStridedSlice S4x4096x16 ![0, 0, 5120] P slices_S4x4096x7184_S4x4096x16_0_0_5120) (shapeCast _ a8 shapeCasts_S1x16x512_S16x512)) (broadcastInDim S4x4096x512 ![0, 1, 2] bcast_S1x1x512_S4x4096x512_0_1_2 (broadcastInDim S1x1x512 ![2] bcast_S512_S1x1x512_2 (shapeCast _ a9 shapeCasts_S1x512_S512))))) (broadcastInDim S4x4096x512 ![] bcast_S_S4x4096x512 (constant S_ .f32 0x00000000#32)))) (addf (Host.negf (addf (Host.dotGeneral dot_S4x4096x16_S16x512_S4x4096x512_2_0_01_1_n_n none (extractStridedSlice S4x4096x16 ![0, 0, 5120] P slices_S4x4096x7184_S4x4096x16_0_0_5120) (shapeCast _ a8 shapeCasts_S1x16x512_S16x512)) (broadcastInDim S4x4096x512 ![0, 1, 2] bcast_S1x1x512_S4x4096x512_0_1_2 (broadcastInDim S1x1x512 ![2] bcast_S512_S1x1x512_2 (shapeCast _ a9 shapeCasts_S1x512_S512))))) (broadcastInDim S4x4096x512 ![] bcast_S_S4x4096x512 (constant S_ .f32 0x00000000#32))) (addf (maximumf (Host.negf (addf (Host.dotGeneral dot_S4x4096x16_S16x512_S4x4096x512_2_0_01_1_n_n none (extractStridedSlice S4x4096x16 ![0, 0, 5120] P slices_S4x4096x7184_S4x4096x16_0_0_5120) (shapeCast _ a8 shapeCasts_S1x16x512_S16x512)) (broadcastInDim S4x4096x512 ![0, 1, 2] bcast_S1x1x512_S4x4096x512_0_1_2 (broadcastInDim S1x1x512 ![2] bcast_S512_S1x1x512_2 (shapeCast _ a9 shapeCasts_S1x512_S512))))) (broadcastInDim S4x4096x512 ![] bcast_S_S4x4096x512 (constant S_ .f32 0x00000000#32))) (Host.log1p (Host.exp (Host.negf (Host.absf (subf (Host.negf (addf (Host.dotGeneral dot_S4x4096x16_S16x512_S4x4096x512_2_0_01_1_n_n none (extractStridedSlice S4x4096x16 ![0, 0, 5120] P slices_S4x4096x7184_S4x4096x16_0_0_5120) (shapeCast _ a8 shapeCasts_S1x16x512_S16x512)) (broadcastInDim S4x4096x512 ![0, 1, 2] bcast_S1x1x512_S4x4096x512_0_1_2 (broadcastInDim S1x1x512 ![2] bcast_S512_S1x1x512_2 (shapeCast _ a9 shapeCasts_S1x512_S512))))) (broadcastInDim S4x4096x512 ![] bcast_S_S4x4096x512 (constant S_ .f32 0x00000000#32)))))))))) (broadcastInDim S4x4096x512 ![] bcast_S_S4x4096x512 (constant S_ .f32 0x41800000#32))

/-- The log decays summed inside each chunk. -/
def cumT (g : FVec Ideal S4x4096x512 .f32) : FVec Ideal S4x4x64x64x128 .f32 :=
  Host.reduceWindowAdd ![1, 1, 1, 64, 1] ![1, 1, 1, 1, 1] ![0, 0, 0, 63, 0] ![0, 0, 0, 0, 0] (transpose S4x4x64x64x128 [0, 3, 1, 2, 4] (shapeCast _ g shapeCasts_S4x4096x512_S4x64x64x4x128) transposes_S4x64x64x4x128_S4x4x64x64x128_0_3_1_2_4) (broadcastInDim S_ ![] bcast_S_S_ (constant S_ .f32 0x00000000#32)) reduceWindows_S4x4x64x64x128_S4x4x64x64x128_w1s1p0_0_w1s1p0_0_w1s1p0_0_w64s1p63_0_w1s1p0_0 h_S_

/-- Queries under their decay. -/
def qdT (P : FVec Ideal S4x4096x7184 .f32) (L : FVec Ideal S4x4x64x64x128 .f32) : FVec Ideal S4x4x64x64x128 .f32 :=
  mulf (mulf (transpose S4x4x64x64x128 [0, 3, 1, 2, 4] (shapeCast _ (extractStridedSlice S4x4096x512 ![0, 0, 2048] P slices_S4x4096x7184_S4x4096x512_0_0_2048) shapeCasts_S4x4096x512_S4x64x64x4x128) transposes_S4x64x64x4x128_S4x4x64x64x128_0_3_1_2_4) (broadcastInDim S4x4x64x64x128 ![] bcast_S_S4x4x64x64x128 (constant S_ .f32 0x3DB504F3#32))) (Host.exp L)

/-- Keys under the inverse decay. -/
def kdT (P : FVec Ideal S4x4096x7184 .f32) (L : FVec Ideal S4x4x64x64x128 .f32) : FVec Ideal S4x4x64x64x128 .f32 :=
  mulf (transpose S4x4x64x64x128 [0, 3, 1, 2, 4] (shapeCast _ (extractStridedSlice S4x4096x512 ![0, 0, 2560] P slices_S4x4096x7184_S4x4096x512_0_0_2560) shapeCasts_S4x4096x512_S4x64x64x4x128) transposes_S4x64x64x4x128_S4x4x64x64x128_0_3_1_2_4) (Host.exp (Host.negf L))

/-- Values, head by head. -/
def vvT (P : FVec Ideal S4x4096x7184 .f32) : FVec Ideal S4x4x64x64x256 .f32 :=
  transpose S4x4x64x64x256 [0, 3, 1, 2, 4] (shapeCast _ (extractStridedSlice S4x4096x1024 ![0, 0, 3072] P slices_S4x4096x7184_S4x4096x1024_0_0_3072) shapeCasts_S4x4096x1024_S4x64x64x4x256) transposes_S4x64x64x4x256_S4x4x64x64x256_0_3_1_2_4

/-- Causal scores. -/
def scT (qd : FVec Ideal S4x4x64x64x128 .f32) (kd : FVec Ideal S4x4x64x64x128 .f32) : FVec Ideal S4x4x64x64x64 .f32 :=
  select (broadcastInDim S4x4x64x64x64 ![3, 4] bcast_S64x64_S4x4x64x64x64_3_4 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S4x4x64x64x128_S4x4x64x64x128_S4x4x64x64x64_4_4_3_3_012_012 none qd kd) (broadcastInDim S4x4x64x64x64 ![] bcast_S_S4x4x64x64x64 (id (constant S_ .f32 0x00000000#32)))

/-- The attention rows. -/
def ooT (sc : FVec Ideal S4x4x64x64x64 .f32) (vv : FVec Ideal S4x4x64x64x256 .f32) (qd : FVec Ideal S4x4x64x64x128 .f32) (st : FVec Ideal S64x4x4x128x256 .f32) : FVec Ideal S4x4x64x64x256 .f32 :=
  addf (Host.dotGeneral dot_S4x4x64x64x64_S4x4x64x64x256_S4x4x64x64x256_4_3_3_4_012_012 none sc vv) (Host.dotGeneral dot_S4x4x64x64x128_S4x4x64x128x256_S4x4x64x64x256_4_3_3_4_012_012 none qd (transpose S4x4x64x128x256 [1, 2, 0, 3, 4] st transposes_S64x4x4x128x256_S4x4x64x128x256_1_2_0_3_4))

/-- The attention rows through their norm, heads side by side. -/
def hnT (o : FVec Ideal S4x4x64x64x256 .f32) (a10 : FVec Ideal S1x256 .f32) : FVec Ideal S4x4096x1024 .f32 :=
  shapeCast _ (transpose S4x64x64x4x256 [0, 2, 3, 1, 4] (mulf (mulf o (broadcastInDim S4x4x64x64x256 ![0, 1, 2, 3, 4] bcast_S4x4x64x64x1_S4x4x64x64x256_0_1_2_3_4 (Host.rsqrt (addf (Host.divf (broadcastInDim S4x4x64x64x1 ![0, 1, 2, 3] bcast_S4x4x64x64_S4x4x64x64x1_0_1_2_3 (Host.reduceAdd (mulf o o) (constant S_ .f32 0x00000000#32) reducesTo_S4x4x64x64x256_S4x4x64x64_d4 h_S_)) (broadcastInDim S4x4x64x64x1 ![] bcast_S_S4x4x64x64x1 (constant S_ .f32 0x43800000#32))) (broadcastInDim S4x4x64x64x1 ![] bcast_S_S4x4x64x64x1 (constant S_ .f32 0x358637BD#32)))))) (broadcastInDim S4x4x64x64x256 ![0, 1, 2, 3, 4] bcast_S1x1x1x1x256_S4x4x64x64x256_0_1_2_3_4 (broadcastInDim S1x1x1x1x256 ![4] bcast_S256_S1x1x1x1x256_4 (shapeCast _ a10 shapeCasts_S1x256_S256)))) transposes_S4x4x64x64x256_S4x64x64x4x256_0_2_3_1_4) shapeCasts_S4x64x64x4x256_S4x4096x1024

/-- The gated attention branch. -/
def ybT (P : FVec Ideal S4x4096x7184 .f32) (hn : FVec Ideal S4x4096x1024 .f32) : FVec Ideal S4x4096x1024 .f32 :=
  mulf hn (mulf (extractStridedSlice S4x4096x1024 ![0, 0, 4096] P slices_S4x4096x7184_S4x4096x1024_0_0_4096) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 4096] P slices_S4x4096x7184_S4x4096x1024_0_0_4096))))))

/-- The spatial unit's gate. -/
def guT (P : FVec Ideal S4x4096x7184 .f32) : FVec Ideal S4x4096x1024 .f32 :=
  mulf (extractStridedSlice S4x4096x1024 ![0, 0, 0] P slices_S4x4096x7184_S4x4096x1024_0_0_0) (mulf (broadcastInDim S4x4096x1024 ![] bcast_S_S4x4096x1024 (constant S_ .f32 0x3F000000#32)) (addf (broadcastInDim S4x4096x1024 ![] bcast_S_S4x4096x1024 (constant S_ .f32 0x3F800000#32)) (Host.tanh (mulf (broadcastInDim S4x4096x1024 ![] bcast_S_S4x4096x1024 (constant S_ .f32 0x3F4C422A#32)) (addf (extractStridedSlice S4x4096x1024 ![0, 0, 0] P slices_S4x4096x7184_S4x4096x1024_0_0_0) (mulf (broadcastInDim S4x4096x1024 ![] bcast_S_S4x4096x1024 (constant S_ .f32 0x3D372713#32)) (mulf (mulf (extractStridedSlice S4x4096x1024 ![0, 0, 0] P slices_S4x4096x7184_S4x4096x1024_0_0_0) (extractStridedSlice S4x4096x1024 ![0, 0, 0] P slices_S4x4096x7184_S4x4096x1024_0_0_0)) (extractStridedSlice S4x4096x1024 ![0, 0, 0] P slices_S4x4096x7184_S4x4096x1024_0_0_0))))))))

/-- The spatial unit's values. -/
def gvT (P : FVec Ideal S4x4096x7184 .f32) : FVec Ideal S4x4096x1024 .f32 :=
  mulf (extractStridedSlice S4x4096x1024 ![0, 0, 1024] P slices_S4x4096x7184_S4x4096x1024_0_0_1024) (mulf (broadcastInDim S4x4096x1024 ![] bcast_S_S4x4096x1024 (constant S_ .f32 0x3F000000#32)) (addf (broadcastInDim S4x4096x1024 ![] bcast_S_S4x4096x1024 (constant S_ .f32 0x3F800000#32)) (Host.tanh (mulf (broadcastInDim S4x4096x1024 ![] bcast_S_S4x4096x1024 (constant S_ .f32 0x3F4C422A#32)) (addf (extractStridedSlice S4x4096x1024 ![0, 0, 1024] P slices_S4x4096x7184_S4x4096x1024_0_0_1024) (mulf (broadcastInDim S4x4096x1024 ![] bcast_S_S4x4096x1024 (constant S_ .f32 0x3D372713#32)) (mulf (mulf (extractStridedSlice S4x4096x1024 ![0, 0, 1024] P slices_S4x4096x7184_S4x4096x1024_0_0_1024) (extractStridedSlice S4x4096x1024 ![0, 0, 1024] P slices_S4x4096x7184_S4x4096x1024_0_0_1024)) (extractStridedSlice S4x4096x1024 ![0, 0, 1024] P slices_S4x4096x7184_S4x4096x1024_0_0_1024))))))))

/-- The layer norm. -/
def lnT (gv : FVec Ideal S4x4096x1024 .f32) (a4 : FVec Ideal S1x1024 .f32) (a5 : FVec Ideal S1x1024 .f32) : FVec Ideal S4x4096x1024 .f32 :=
  addf (mulf (mulf (subf gv (broadcastInDim S4x4096x1024 ![0, 1, 2] bcast_S4x4096x1_S4x4096x1024_0_1_2 (Host.divf (broadcastInDim S4x4096x1 ![0, 1] bcast_S4x4096_S4x4096x1_0_1 (Host.reduceAdd gv (constant S_ .f32 0x00000000#32) reducesTo_S4x4096x1024_S4x4096_d2 h_S_)) (broadcastInDim S4x4096x1 ![] bcast_S_S4x4096x1 (constant S_ .f32 0x44800000#32))))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf gv (broadcastInDim S4x4096x1024 ![0, 1, 2] bcast_S4x4096x1_S4x4096x1024_0_1_2 (Host.divf (broadcastInDim S4x4096x1 ![0, 1] bcast_S4x4096_S4x4096x1_0_1 (Host.reduceAdd gv (constant S_ .f32 0x00000000#32) reducesTo_S4x4096x1024_S4x4096_d2 h_S_)) (broadcastInDim S4x4096x1 ![] bcast_S_S4x4096x1 (constant S_ .f32 0x44800000#32))))) (subf gv (broadcastInDim S4x4096x1024 ![0, 1, 2] bcast_S4x4096x1_S4x4096x1024_0_1_2 (Host.divf (broadcastInDim S4x4096x1 ![0, 1] bcast_S4x4096_S4x4096x1_0_1 (Host.reduceAdd gv (constant S_ .f32 0x00000000#32) reducesTo_S4x4096x1024_S4x4096_d2 h_S_)) (broadcastInDim S4x4096x1 ![] bcast_S_S4x4096x1 (constant S_ .f32 0x44800000#32)))))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ a4 shapeCasts_S1x1024_S1024)))) (broadcastInDim S4x4096x1024 ![0, 1, 2] bcast_S1x1x1024_S4x4096x1024_0_1_2 (broadcastInDim S1x1x1024 ![2] bcast_S1024_S1x1x1024_2 (shapeCast _ a5 shapeCasts_S1x1024_S1024)))

/-- The spatial branch. -/
def yaT (gu : FVec Ideal S4x4096x1024 .f32) (ln : FVec Ideal S4x4096x1024 .f32) (a6 : FVec Ideal S1x8x128x128 .f32) (a7 : FVec Ideal S1x8x128 .f32) : FVec Ideal S4x4096x1024 .f32 :=
  mulf gu (shapeCast _ (addf (transpose S4x32x128x8x128 [1, 2, 4, 0, 3] (Host.dotGeneral dot_S4x32x128x8x128_S8x128x128_S8x4x32x128x128_2_2_014_1_3_0 none (shapeCast _ ln shapeCasts_S4x4096x1024_S4x32x128x8x128) (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast _ a6 shapeCasts_S1x8x128x128_S8x128x128) (broadcastInDim S8x128x128 ![] bcast_S_S8x128x128 (constant S_ .f32 0x00000000#32)))) transposes_S8x4x32x128x128_S4x32x128x8x128_1_2_4_0_3) (broadcastInDim S4x32x128x8x128 ![0, 1, 2, 3, 4] bcast_S1x1x128x8x1_S4x32x128x8x128_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] (shapeCast _ a7 shapeCasts_S1x8x128_S8x128) transposes_S8x128_S128x8_1_0))))) shapeCasts_S4x32x128x8x128_S4x4096x1024)

/-- The mixer's result, of the branches. -/
def hT (a0 : FVec Ideal S4x4096x1024 .f32) (P : FVec Ideal S4x4096x7184 .f32) (ya : FVec Ideal S4x4096x1024 .f32) (yb : FVec Ideal S4x4096x1024 .f32) (a11 : FVec Ideal S1x1024x1024 .f32) (a12 : FVec Ideal S1x1024x1024 .f32) (a13 : FVec Ideal S1x1024x1024 .f32) : FVec Ideal S4x4096x1024 .f32 :=
  addf a0 (Host.dotGeneral dot_S4x4096x1024_S1024x1024_S4x4096x1024_2_0_01_1_n_n none (addf (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 5136] P slices_S4x4096x7184_S4x4096x1024_0_0_5136))))) (Host.dotGeneral dot_S4x4096x1024_S1024x1024_S4x4096x1024_2_0_01_1_n_n none ya (shapeCast _ a11 shapeCasts_S1x1024x1024_S1024x1024))) (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 6160] P slices_S4x4096x7184_S4x4096x1024_0_0_6160))))) (Host.dotGeneral dot_S4x4096x1024_S1024x1024_S4x4096x1024_2_0_01_1_n_n none yb (shapeCast _ a12 shapeCasts_S1x1024x1024_S1024x1024)))) (shapeCast _ a13 shapeCasts_S1x1024x1024_S1024x1024))

/-- The decays of whole chunks, chunk by chunk. -/
def decT (L : FVec Ideal S4x4x64x64x128 .f32) : FVec Ideal S64x4x4x128 .f32 :=
  transpose S64x4x4x128 [2, 0, 1, 3] (Host.exp (shapeCast S4x4x64x128 (extractStridedSlice S4x4x64x1x128 ![0, 0, 0, 63, 0] L slices_S4x4x64x64x128_S4x4x64x1x128_0_0_0_63_0) shapeCasts_S4x4x64x1x128_S4x4x64x128)) transposes_S4x4x64x128_S64x4x4x128_2_0_1_3

/-- The chunks' own states, chunk by chunk. -/
def kvT (P : FVec Ideal S4x4096x7184 .f32) (L : FVec Ideal S4x4x64x64x128 .f32) : FVec Ideal S64x4x4x128x256 .f32 :=
  transpose S64x4x4x128x256 [2, 0, 1, 3, 4] (Host.dotGeneral dot_S4x4x64x64x128_S4x4x64x64x256_S4x4x64x128x256_3_3_4_4_012_012 none
    (mulf (transpose S4x4x64x64x128 [0, 3, 1, 2, 4] (shapeCast S4x64x64x4x128 (extractStridedSlice S4x4096x512 ![0, 0, 2560] P slices_S4x4096x7184_S4x4096x512_0_0_2560) shapeCasts_S4x4096x512_S4x64x64x4x128) transposes_S4x64x64x4x128_S4x4x64x64x128_0_3_1_2_4)
      (Host.exp (subf (broadcastInDim S4x4x64x64x128 ![0, 1, 2, 3, 4] bcast_S4x4x64x1x128_S4x4x64x64x128_0_1_2_3_4 (extractStridedSlice S4x4x64x1x128 ![0, 0, 0, 63, 0] L slices_S4x4x64x64x128_S4x4x64x1x128_0_0_0_63_0)) L)))
    (vvT P)) transposes_S4x4x64x128x256_S64x4x4x128x256_2_0_1_3_4

/-- The result, of the projection, the log decays and the states. -/
def refT (a0 : FVec Ideal S4x4096x1024 .f32) (P : FVec Ideal S4x4096x7184 .f32) (L : FVec Ideal S4x4x64x64x128 .f32) (st : FVec Ideal S64x4x4x128x256 .f32)
    (a4 a5 : FVec Ideal S1x1024 .f32) (a6 : FVec Ideal S1x8x128x128 .f32) (a7 : FVec Ideal S1x8x128 .f32) (a10 : FVec Ideal S1x256 .f32)
    (a11 a12 a13 : FVec Ideal S1x1024x1024 .f32) : FVec Ideal S4x4096x1024 .f32 :=
  hT a0 P (yaT (guT P) (lnT (gvT P) a4 a5) a6 a7) (ybT P (hnT (ooT (scT (qdT P L) (kdT P L)) (vvT P) (qdT P L) st) a10)) a11 a12 a13

/-- The projection, of an entry's contents. -/
def pOf (V0 : Valuation τ sig (Elt Ideal)) : FVec Ideal S4x4096x7184 .f32 :=
  projT (V0 (Proc.devRef .tc main_arg0)) (V0 (Proc.devRef .tc main_arg1)) (V0 (Proc.devRef .tc main_arg2)) (V0 (Proc.devRef .tc main_arg3))

/-- The log decays, of an entry's contents. -/
def lOf (V0 : Valuation τ sig (Elt Ideal)) : FVec Ideal S4x4x64x64x128 .f32 :=
  cumT (gkT (pOf V0) (V0 (Proc.devRef .tc main_arg8)) (V0 (Proc.devRef .tc main_arg9)))

/-- The operations after the loop, as the stages. -/
theorem out_eq (V0 : Valuation τ sig (Elt Ideal)) : out_main_v256 (F := Ideal) V0 =
    refT (V0 (Proc.devRef .tc main_arg0)) (pOf V0) (lOf V0) (V0 (Proc.devRef .tc main_v71_4))
      (V0 (Proc.devRef .tc main_arg4)) (V0 (Proc.devRef .tc main_arg5)) (V0 (Proc.devRef .tc main_arg6)) (V0 (Proc.devRef .tc main_arg7))
      (V0 (Proc.devRef .tc main_arg10)) (V0 (Proc.devRef .tc main_arg11)) (V0 (Proc.devRef .tc main_arg12)) (V0 (Proc.devRef .tc main_arg13)) := by
  unfold out_main_v256 refT lOf pOf
  unfold hT ybT yaT hnT ooT scT lnT qdT kdT vvT guT gvT
  unfold cumT gkT projT
  rfl

variable (m : (ℓ : Loc nD τ sig) → Buf (Elt Ideal) ℓ)

set_option maxHeartbeats 4000000 in
/-- The chunks' decays, as the loop finds them. -/
theorem entry_dec (c : Dev nD) : entryContents preI m c (Proc.devRef .tc main_v71_0)
    = decT (cumT (gkT (projT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8)) (m ((c.tc : Thread nD τ).loc main_arg9)))) := by
  simp only [entryContents, afterL_cons, afterL_nil]
  after_reads_simp
  rfl

set_option maxHeartbeats 4000000 in
/-- The chunks' own states, as the loop finds them. -/
theorem entry_kv (c : Dev nD) : entryContents preI m c (Proc.devRef .tc main_v71_1)
    = kvT (projT (m ((c.tc : Thread nD τ).loc main_arg0)) (m ((c.tc : Thread nD τ).loc main_arg1)) (m ((c.tc : Thread nD τ).loc main_arg2)) (m ((c.tc : Thread nD τ).loc main_arg3)))
      (cumT (gkT (projT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8)) (m ((c.tc : Thread nD τ).loc main_arg9)))) := by
  simp only [entryContents, afterL_cons, afterL_nil]
  after_reads_simp
  rfl

/-- The carried state starts at zero. -/
theorem entry_st (c : Dev nD) : entryContents preI m c (Proc.devRef .tc main_v71_3)
    = (broadcastInDim S4x4x128x256 ![] bcast_S_S4x4x128x256 (constant (F := Ideal) S_ .f32 0x00000000#32)) := by
  simp only [entryContents, afterL_cons, afterL_nil]
  after_reads_simp
  try rfl

end Cert.ReferenceIdeal.Stage

end
-- ==== Proof.RefRead.lean ====
module

public import proofs.«01_k».proof.Proof.RefStage

/-! The stages of the reference, read at an index. -/

@[expose] public section

set_option maxRecDepth 16384

noncomputable section

namespace Cert.ReferenceIdeal.Stage

open Cert.ReferenceIdeal Cert.ReferenceIdeal.Gen Idealize.ShloMosaic Idealize.ShloMosaic.TcCoe Cert.MixSpec Cert.Scalars

variable {p : Par} {x : Fin 4 → Fin 4096 → Fin 1024 → EReal}
variable {a0 : FVec Ideal S4x4096x1024 .f32} {a1 a4 a5 : FVec Ideal S1x1024 .f32} {a2 : FVec Ideal S1x1024x7184 .f32} {a3 : FVec Ideal S1x7184 .f32}
  {a6 : FVec Ideal S1x8x128x128 .f32} {a7 : FVec Ideal S1x8x128 .f32} {a8 : FVec Ideal S1x16x512 .f32} {a9 : FVec Ideal S1x512 .f32}
  {a10 : FVec Ideal S1x256 .f32} {a11 a12 a13 : FVec Ideal S1x1024x1024 .f32} {P : FVec Ideal S4x4096x7184 .f32} {g : FVec Ideal S4x4096x512 .f32}
  {L qq kk : FVec Ideal S4x4x64x64x128 .f32} {W : FVec Ideal S4x4x64x64x256 .f32} {C : FVec Ideal S4x4x64x64x64 .f32}
  {T : FVec Ideal S64x4x4x128x256 .f32} {gu gw l ya yb : FVec Ideal S4x4096x1024 .f32}

/-- The rows of a chunk. -/
def chk (x : Fin 4 → Fin 4096 → Fin 1024 → EReal) (b : Fin 4) (n : Fin 64) (t : Fin 64) : Fin 1024 → EReal := x b ⟨64 * n + t, by omega⟩

/-- The causal mask's test, on the indices themselves. -/
theorem mask_iff : ∀ t s : Fin 128, IntOp.cmpi CmpIPredicate.sge (IntOp.addi (BitVec.ofNat 32 (t : ℕ)) 0#32) (BitVec.ofNat 32 (s : ℕ))
    = if s ≤ t then 1#1 else 0#1 := by decide +kernel

/-- A causal selection, on the indices themselves. -/
theorem mask_sel (t s : ℕ) (ht : t < 128) (hs : s < 128) (A B : EReal) :
    Scalar.select (Scalar.select (IntOp.cmpi CmpIPredicate.sge (IntOp.addi (BitVec.ofNat 32 t) 0#32) (BitVec.ofNat 32 s)) 1#1 0#1) A B
      = if s ≤ t then A else B := by
  rw [mask_iff ⟨t, ht⟩ ⟨s, hs⟩]
  by_cases h : s ≤ t
  · rw [if_pos h, if_pos (show (⟨s, hs⟩ : Fin 128) ≤ ⟨t, ht⟩ from h)]; rfl
  · rw [if_neg h, if_neg (show ¬ (⟨s, hs⟩ : Fin 128) ≤ ⟨t, ht⟩ from h)]; rfl

theorem proj_at (h0 : ∀ b s k, a0 (ix3 b s k) = x b s k) (h1 : ∀ k : Fin 1024, a1 (ix2 0 k) = p.n1 k)
    (h2 : ∀ (k : Fin 1024) (e : Fin 7184), a2 (ix3 0 k e) = p.w k e) (h3 : ∀ e : Fin 7184, a3 (ix2 0 e) = p.b e)
    (b : Fin 4) (s : Fin 4096) (e : Fin 7184) : projT a0 a1 a2 a3 (ix3 b s e) = pr p (x b s) e := by
  pointwise [projT, pr, xn, h0, h1, h2, h3]

section Stages

variable (HP : ∀ (b : Fin 4) (s : Fin 4096) (e : Fin 7184), P (ix3 b s e) = pr p (x b s) e)

include HP

theorem gk_at (h8 : ∀ (i : Fin 16) (e : Fin 512), a8 (ix3 0 i e) = p.gk2 i e) (h9 : ∀ e : Fin 512, a9 (ix2 0 e) = p.bgk e)
    (b : Fin 4) (s : Fin 4096) (e : Fin 512) : gkT P a8 a9 (ix3 b s e) = gk p (x b s) e := by
  pointwise [gkT, gk, lsig, zz, HP, h8, h9]
  simp only [ne_eq, not_true_eq_false, if_false]
  rfl

theorem vv_at (b h : Fin 4) (n t : Fin 64) (v : Fin 256) : vvT P (ix5 b h n t v) = vv p (chk x b n) h t v := by
  pointwise [vvT, vv, HP, chk]
  simp only [Nat.mul_comm (n : ℕ) 64, Nat.mul_comm (h : ℕ) 256]

theorem gu_at (b : Fin 4) (s : Fin 4096) (e : Fin 1024) : guT P (ix3 b s e) = gelu (pr p (x b s) ⟨e, by omega⟩) := by
  pointwise [guT, gelu, HP]

theorem gv_at (b : Fin 4) (s : Fin 4096) (e : Fin 1024) : gvT P (ix3 b s e) = gv p (x b s) e := by
  pointwise [gvT, gv, gelu, HP]

theorem yb_at (b : Fin 4) (s : Fin 4096) (e : Fin 1024) : ybT P yb (ix3 b s e) = yb (ix3 b s e) * silR (pr p (x b s) ⟨4096 + e, by omega⟩) := by
  pointwise [ybT, silR, HP]

theorem h_at (h0 : ∀ b s k, a0 (ix3 b s k) = x b s k) (h11 : ∀ k e : Fin 1024, a11 (ix3 0 k e) = p.wa k e) (h12 : ∀ k e : Fin 1024, a12 (ix3 0 k e) = p.wb k e)
    (h13 : ∀ k e : Fin 1024, a13 (ix3 0 k e) = p.wo k e) (b : Fin 4) (s : Fin 4096) (d : Fin 1024) :
    hT a0 P ya yb a11 a12 a13 (ix3 b s d) = hrow p (x b s) (fun e => ya (ix3 b s e)) (fun e => yb (ix3 b s e)) d := by
  pointwise [hT, hrow, sigm, HP, h0, h11, h12, h13]

theorem qd_at (HL : ∀ (b h : Fin 4) (n t : Fin 64) (d : Fin 128), L (ix5 b h n t d) = bc p (chk x b n) t ⟨128 * h + d, by omega⟩)
    (b h : Fin 4) (n t : Fin 64) (d : Fin 128) : qdT P L (ix5 b h n t d) = qd p (chk x b n) h t d := by
  pointwise [qdT, qd, HP, HL, chk]
  simp only [Nat.mul_comm (n : ℕ) 64, Nat.mul_comm (h : ℕ) 128]

theorem kd_at (HL : ∀ (b h : Fin 4) (n t : Fin 64) (d : Fin 128), L (ix5 b h n t d) = bc p (chk x b n) t ⟨128 * h + d, by omega⟩)
    (b h : Fin 4) (n t : Fin 64) (d : Fin 128) : kdT P L (ix5 b h n t d) = kd p (chk x b n) h t d := by
  pointwise [kdT, kd, HP, HL, chk]
  simp only [Nat.mul_comm (n : ℕ) 64, Nat.mul_comm (h : ℕ) 128]

theorem kv_at (HL : ∀ (b h : Fin 4) (n t : Fin 64) (d : Fin 128), L (ix5 b h n t d) = bc p (chk x b n) t ⟨128 * h + d, by omega⟩)
    (n : Fin 64) (b h : Fin 4) (d : Fin 128) (v : Fin 256) :
    kvT P L (ix5 n b h d v) = ∑ s : Fin 64, ke p (chk x b n) h s d * vv p (chk x b n) h s v := by
  pointwise [kvT, ke, HP, HL, chk, vv_at HP]
  simp only [Nat.mul_comm (n : ℕ) 64, Nat.mul_comm (h : ℕ) 128]

end Stages

theorem dec_at (HL : ∀ (b h : Fin 4) (n t : Fin 64) (d : Fin 128), L (ix5 b h n t d) = bc p (chk x b n) t ⟨128 * h + d, by omega⟩)
    (n : Fin 64) (b h : Fin 4) (d : Fin 128) : decT L (ix4 n b h d) = Ideal.exp (bc p (chk x b n) 63 ⟨128 * h + d, by omega⟩) := by
  pointwise [decT, HL]

theorem sc_at (b h : Fin 4) (n t s : Fin 64) : scT qq kk (ix5 b h n t s)
    = if s ≤ t then ∑ d : Fin 128, qq (ix5 b h n t d) * kk (ix5 b h n s d) else 0 := by
  pointwise [scT]
  rw [mask_sel _ _ (by omega) (by omega)]
  refine if_congr Iff.rfl rfl ?_
  simp only [id_eq]
  pointwise

theorem oo_at (b h : Fin 4) (n t : Fin 64) (v : Fin 256) : ooT C W qq T (ix5 b h n t v)
    = ∑ s : Fin 64, C (ix5 b h n t s) * W (ix5 b h n s v) + ∑ d : Fin 128, qq (ix5 b h n t d) * T (ix5 n b h d v) := by
  pointwise [ooT]

theorem hn_at (h10 : ∀ v : Fin 256, a10 (ix2 0 v) = p.gnw v) (b : Fin 4) (s : Fin 4096) (e : Fin 1024) : hnT W a10 (ix3 b s e)
    = hn p (fun v => W (ix5 b ⟨(e : ℕ) / 256, by omega⟩ ⟨(s : ℕ) / 64, by omega⟩ ⟨(s : ℕ) % 64, by omega⟩ v)) ⟨(e : ℕ) % 256, by omega⟩ := by
  pointwise [hnT, hn, h10]

theorem ln_at (HG : ∀ (b : Fin 4) (s : Fin 4096) (e : Fin 1024), gw (ix3 b s e) = gv p (x b s) e) (h4 : ∀ k : Fin 1024, a4 (ix2 0 k) = p.lnw k)
    (h5 : ∀ k : Fin 1024, a5 (ix2 0 k) = p.lnb k) (b : Fin 4) (s : Fin 4096) (e : Fin 1024) : lnT gw a4 a5 (ix3 b s e) = vln p (x b s) e := by
  pointwise [lnT, vln, mu, HG, h4, h5]

theorem ya_at (h6 : ∀ (g : Fin 8) (t s : Fin 128), a6 (ix4 0 g t s) = p.sw g t s) (h7 : ∀ (g : Fin 8) (t : Fin 128), a7 (ix3 0 g t) = p.sb g t)
    (b : Fin 4) (s : Fin 4096) (e : Fin 1024) : yaT gu l a6 a7 (ix3 b s e)
    = gu (ix3 b s e) * (∑ t : Fin 128, (if t ≤ (⟨(s : ℕ) % 128, by omega⟩ : Fin 128) then p.sw ⟨(e : ℕ) / 128, by omega⟩ ⟨(s : ℕ) % 128, by omega⟩ t else 0)
        * l (ix3 b ⟨128 * ((s : ℕ) / 128) + t, by omega⟩ e) + p.sb ⟨(e : ℕ) / 128, by omega⟩ ⟨(s : ℕ) % 128, by omega⟩) := by
  pointwise [yaT, h6, h7]
  refine congrArg (fun z => gu (ix3 b s e) * (z + _)) (Finset.sum_congr rfl fun t _ => ?_)
  rw [mask_sel _ _ (by omega) (by omega)]
  simp only [Nat.mul_comm _ 128]
  by_cases h : (t : ℕ) ≤ (s : ℕ) % 128
  · rw [if_pos h, if_pos (show t ≤ (⟨(s : ℕ) % 128, by omega⟩ : Fin 128) from h)]; exact mul_comm (G := EReal) _ _
  · rw [if_neg h, if_neg (show ¬ t ≤ (⟨(s : ℕ) % 128, by omega⟩ : Fin 128) from h), zero_mul]

end Cert.ReferenceIdeal.Stage

end
-- ==== Proof.RefCum.lean ====
module

public import proofs.«01_k».proof.Proof.RefRead

/-! The running sums of the log decays inside a chunk. -/

@[expose] public section

set_option maxRecDepth 16384

noncomputable section

namespace Cert.ReferenceIdeal.Stage

open Cert.ReferenceIdeal Cert.ReferenceIdeal.Gen Idealize.ShloMosaic Idealize.ShloMosaic.TcCoe Cert.MixSpec Cert.Scalars

/-- A fold that adds is a sum. -/
theorem foldl_add {α : Type} (f : α → EReal) : ∀ (l : List α) (v : EReal), l.foldl (fun r k => r + f k) v = v + (l.map f).sum
  | [], v => by simp
  | a :: l, v => by rw [List.foldl_cons, foldl_add f l, List.map_cons, List.sum_cons, add_assoc]

/-- A window of 64 rows ending at row `t`, its rows before the first left out, is the rows up to `t`. -/
theorem sum_window (t : Fin 64) (f : Fin 64 → EReal) :
    (∑ w : Fin 64, if h : 63 ≤ (t : ℕ) + w then f ⟨(t : ℕ) + w - 63, by omega⟩ else 0) = ∑ s : Fin 64, if s ≤ t then f s else 0 := by
  have e : ∀ w : Fin 64, (if h : 63 ≤ (t : ℕ) + w then f ⟨(t : ℕ) + w - 63, by omega⟩ else 0)
      = if 63 ≤ (t : ℕ) + w then f ⟨(t : ℕ) + w - 63, by omega⟩ else 0 := fun w => by split <;> rfl
  simp only [e]
  rw [← Finset.sum_filter, ← Finset.sum_filter]
  refine Finset.sum_nbij' (fun w => ⟨(t : ℕ) + w - 63, by omega⟩) (fun s => ⟨min 63 (63 + (s : ℕ) - t), by omega⟩) ?_ ?_ ?_ ?_ ?_
  · intro w hw
    simp only [Finset.mem_filter, Finset.mem_univ, true_and] at hw ⊢
    exact Fin.le_def.mpr (by dsimp only; omega)
  · intro s hs
    simp only [Finset.mem_filter, Finset.mem_univ, true_and, Fin.le_def] at hs ⊢
    omega
  · intro w hw
    simp only [Finset.mem_filter, Finset.mem_univ, true_and] at hw
    exact Fin.ext (by dsimp only; omega)
  · intro s hs
    simp only [Finset.mem_filter, Finset.mem_univ, true_and, Fin.le_def] at hs
    exact Fin.ext (by dsimp only; omega)
  · intro w _
    rfl

/-- The window's indices, by their one long axis. -/
def winEquiv : (⟨5, ![1, 1, 1, 64, 1]⟩ : Shape).Idx ≃ Fin 64 where
  toFun i := i 3
  invFun w := ix5 0 0 0 w 0
  left_inv i := by
    idx_vars i
    obtain rfl : i0 = 0 := Subsingleton.elim _ _
    obtain rfl : i1 = 0 := Subsingleton.elim _ _
    obtain rfl : i2 = 0 := Subsingleton.elim _ _
    obtain rfl : i4 = 0 := Subsingleton.elim _ _
    rfl
  right_inv w := rfl

/-- The windowed sum along the tokens of a chunk. -/
theorem window_at (x : FVec Ideal S4x4x64x64x128 .f32) (z : FVec Ideal S_ .f32) (hz : z (Shape.Idx.first h_S_) = 0)
    (b h : Fin 4) (n t : Fin 64) (d : Fin 128) :
    (Host.reduceWindowAdd ![1, 1, 1, 64, 1] ![1, 1, 1, 1, 1] ![0, 0, 0, 63, 0] ![0, 0, 0, 0, 0] x z reduceWindows_S4x4x64x64x128_S4x4x64x64x128_w1s1p0_0_w1s1p0_0_w1s1p0_0_w64s1p63_0_w1s1p0_0 h_S_
      : FVec Ideal S4x4x64x64x128 .f32) (ix5 b h n t d) = ∑ s : Fin 64, if s ≤ t then x (ix5 b h n s d) else 0 := by
  unfold Host.reduceWindowAdd
  rw [hz]
  change Host.reduceWindow (s := S4x4x64x64x128) (t := S4x4x64x64x128) (u := S_) (fun a b : EReal => a + b) ![1, 1, 1, 64, 1] ![1, 1, 1, 1, 1] ![0, 0, 0, 63, 0] ![0, 0, 0, 0, 0] x (fun _ => (0 : EReal)) reduceWindows_S4x4x64x64x128_S4x4x64x64x128_w1s1p0_0_w1s1p0_0_w1s1p0_0_w64s1p63_0_w1s1p0_0 h_S_ (ix5 b h n t d) = _
  unfold Host.reduceWindow
  dsimp only
  rw [foldl_add, zero_add, ← Fin.sum_univ_def, ← Equiv.sum_comp (Shape.rowMajor (⟨5, ![1, 1, 1, 64, 1]⟩ : Shape))]
  simp only [Equiv.symm_apply_apply]
  rw [← sum_window t (fun s => x (ix5 b h n s d)), ← Equiv.sum_comp winEquiv]
  refine Finset.sum_congr rfl fun i _ => ?_
  idx_vars i
  obtain rfl : i0 = 0 := Subsingleton.elim _ _
  obtain rfl : i1 = 0 := Subsingleton.elim _ _
  obtain rfl : i2 = 0 := Subsingleton.elim _ _
  obtain rfl : i4 = 0 := Subsingleton.elim _ _
  generalize i3 = w
  change _ = if h : 63 ≤ (t : ℕ) + w then _ else _
  by_cases hw : 63 ≤ (t : ℕ) + w
  · rw [dif_pos hw, dif_pos (by
      intro a
      fin_cases a
      · exact ⟨Nat.zero_le _, by change (b : ℕ) * 1 + 0 - 0 < 4; omega⟩
      · exact ⟨Nat.zero_le _, by change (h : ℕ) * 1 + 0 - 0 < 4; omega⟩
      · exact ⟨Nat.zero_le _, by change (n : ℕ) * 1 + 0 - 0 < 64; omega⟩
      · exact ⟨by change 63 ≤ (t : ℕ) * 1 + w; omega, by change (t : ℕ) * 1 + w - 63 < 64; omega⟩
      · exact ⟨Nat.zero_le _, by change (d : ℕ) * 1 + 0 - 0 < 128; omega⟩)]
    refine congrArg x (funext fun a => Fin.ext ?_)
    fin_cases a
    · change (b : ℕ) * 1 + 0 - 0 = b; omega
    · change (h : ℕ) * 1 + 0 - 0 = h; omega
    · change (n : ℕ) * 1 + 0 - 0 = n; omega
    · change (t : ℕ) * 1 + w - 63 = t + w - 63; omega
    · change (d : ℕ) * 1 + 0 - 0 = d; omega
  · rw [dif_neg hw, dif_neg (fun hin => hw (by
      have := (hin 3).1
      change 63 ≤ (t : ℕ) * 1 + w at this
      omega))]

/-- The log decays summed inside a chunk, at an index. -/
theorem cum_at {p : Par} {x : Fin 4 → Fin 4096 → Fin 1024 → EReal} {g : FVec Ideal S4x4096x512 .f32}
    (hg : ∀ (b : Fin 4) (s : Fin 4096) (e : Fin 512), g (ix3 b s e) = gk p (x b s) e)
    (b h : Fin 4) (n t : Fin 64) (d : Fin 128) : cumT g (ix5 b h n t d) = bc p (chk x b n) t ⟨128 * h + d, by omega⟩ := by
  unfold cumT
  rw [window_at _ _ (by pointwise [])]
  unfold bc
  refine Finset.sum_congr rfl fun s _ => ?_
  have e : (transpose S4x4x64x64x128 [0, 3, 1, 2, 4] (shapeCast _ g shapeCasts_S4x4096x512_S4x64x64x4x128) transposes_S4x64x64x4x128_S4x4x64x64x128_0_3_1_2_4) (ix5 b h n s d)
      = gk p (chk x b n s) ⟨128 * h + d, by omega⟩ := by
    pointwise [hg, chk]
    simp only [Nat.mul_comm (n : ℕ) 64, Nat.mul_comm (h : ℕ) 128]
  rw [e]

end Cert.ReferenceIdeal.Stage

end
-- ==== Proof.RefLoop.lean ====
module

public import proofs.«01_k».proof.Proof.RefRead
public import Idealize.ShloMosaic.Lib.DynamicIndex
public import Idealize.ShloMosaic.Lib.Pipeline.Value

/-! The reference's loop over the chunks: the state carried, and the states written down. -/

@[expose] public section

set_option maxRecDepth 16384

noncomputable section

namespace Cert.ReferenceIdeal.Stage

open Cert.ReferenceIdeal Cert.ReferenceIdeal.Gen Cert.ReferenceIdeal.Value Idealize.ShloMosaic Idealize.ShloMosaic.TcCoe Idealize.SL.Sem Idealize.ShloMosaic.StableHlo Cert.MixSpec Cert.Scalars

/-- The rows of a batch, numbered without an end. -/
def rowsN (x : Fin 4 → Fin 4096 → Fin 1024 → EReal) (b : Fin 4) (r : ℕ) : Fin 1024 → EReal := x b ⟨r % 4096, by omega⟩

theorem toInt_small : ∀ k : Fin 64, (BitVec.ofNat 32 (k : ℕ)).toInt = ((k : ℕ) : ℤ) := by decide

theorem fits4 (k : Fin 64) : S64x4x4x128.Slices ![(k : ℕ), 0, 0, 0] S1x4x4x128 := ⟨rfl, fun a => by
  have := k.isLt
  fin_cases a
  · change (k : ℕ) + 1 ≤ 64; omega
  all_goals exact Nat.le_refl _⟩

theorem fits5 (k : Fin 64) : S64x4x4x128x256.Slices ![(k : ℕ), 0, 0, 0, 0] S1x4x4x128x256 := ⟨rfl, fun a => by
  have := k.isLt
  fin_cases a
  · change (k : ℕ) + 1 ≤ 64; omega
  all_goals exact Nat.le_refl _⟩

theorem start4 (k : Fin 64) : ∀ a : Fin 4, ((![fun _ => BitVec.ofNat 32 (k : ℕ), constantI S_ 32 0#32, constantI S_ 32 0#32, constantI S_ 32 0#32] : Fin 4 → IVec S_ 32) a
    (Shape.Idx.first h_S_)).toInt = (((![(k : ℕ), 0, 0, 0] : Fin 4 → ℕ) a : ℕ) : ℤ) := by
  intro a
  fin_cases a
  · exact toInt_small k
  all_goals rfl

theorem start5 (k : Fin 64) : ∀ a : Fin 5, ((![fun _ => BitVec.ofNat 32 (k : ℕ), constantI S_ 32 0#32, constantI S_ 32 0#32, constantI S_ 32 0#32, constantI S_ 32 0#32] : Fin 5 → IVec S_ 32) a
    (Shape.Idx.first h_S_)).toInt = (((![(k : ℕ), 0, 0, 0, 0] : Fin 5 → ℕ) a : ℕ) : ℤ) := by
  intro a
  fin_cases a
  · exact toInt_small k
  all_goals rfl

/-- One trip's state. -/
theorem step_st_at (V0 : Valuation τ sig (Elt Ideal)) (k : Fin 64) (hk : V0 (Proc.devRef .tc main_v71_2) = fun _ => BitVec.ofNat 32 (k : ℕ))
    (D : FVec Ideal S64x4x4x128 .f32) (hD : V0 (Proc.devRef .tc main_v71_0) = D) (K : FVec Ideal S64x4x4x128x256 .f32) (hK : V0 (Proc.devRef .tc main_v71_1) = K)
    (S : FVec Ideal S4x4x128x256 .f32) (hS : V0 (Proc.devRef .tc main_v71_3) = S) (b h : Fin 4) (d : Fin 128) (v : Fin 256) :
    (step_main_v71_3 V0 : FVec Ideal S4x4x128x256 .f32) (ix4 b h d v) = D (ix4 k b h d) * S (ix4 b h d v) + K (ix5 k b h d v) := by
  unfold step_main_v71_3
  rw [hk, hD, hK, hS]
  simp only [id_eq]
  rw [Host.dynamicSlice_eq_extractStridedSlice S1x4x4x128 D _ ![(k : ℕ), 0, 0, 0] _ (fits4 k) ?_,
    Host.dynamicSlice_eq_extractStridedSlice S1x4x4x128x256 K _ ![(k : ℕ), 0, 0, 0, 0] _ (fits5 k) ?_]
  rotate_left
  · exact start5 k
  · exact start4 k
  pointwise []

/-- One trip's record of the states. -/
theorem step_rec_at (V0 : Valuation τ sig (Elt Ideal)) (k : Fin 64) (hk : V0 (Proc.devRef .tc main_v71_2) = fun _ => BitVec.ofNat 32 (k : ℕ))
    (T : FVec Ideal S64x4x4x128x256 .f32) (hT : V0 (Proc.devRef .tc main_v71_4) = T)
    (S : FVec Ideal S4x4x128x256 .f32) (hS : V0 (Proc.devRef .tc main_v71_3) = S) (n : Fin 64) (b h : Fin 4) (d : Fin 128) (v : Fin 256) :
    (step_main_v71_4 V0 : FVec Ideal S64x4x4x128x256 .f32) (ix5 n b h d v) = if n = k then S (ix4 b h d v) else T (ix5 n b h d v) := by
  unfold step_main_v71_4
  rw [hk, hT, hS]
  simp only [id_eq]
  rw [Host.dynamicUpdateSlice_eq_updateSlice T _ _ updateFits_S64x4x4x128x256_S1x4x4x128x256 ![(k : ℕ), 0, 0, 0, 0] (fun a => by
    have h1 := (fits5 k).2 a
    have h2 := start5 k a
    refine (congrArg (fun z : ℤ => (min (max z 0) _).toNat) h2).trans ?_
    omega) (fits5 k)]
  unfold updateSlice
  by_cases e : n = k
  · subst e
    rw [if_pos rfl, dif_pos (by
      intro a
      fin_cases a
      · exact ⟨le_refl _, Nat.lt_succ_self _⟩
      · exact ⟨Nat.zero_le _, by change (b : ℕ) < 0 + 4; omega⟩
      · exact ⟨Nat.zero_le _, by change (h : ℕ) < 0 + 4; omega⟩
      · exact ⟨Nat.zero_le _, by change (d : ℕ) < 0 + 128; omega⟩
      · exact ⟨Nat.zero_le _, by change (v : ℕ) < 0 + 256; omega⟩)]
    refine Eq.trans (congrArg _ (show _ = ix5 (0 : Fin 1) b h d v from funext fun a => Fin.ext ?_)) ?_
    · fin_cases a
      · change (n : ℕ) - n = 0; omega
      · change (b : ℕ) - 0 = b; omega
      · change (h : ℕ) - 0 = h; omega
      · change (d : ℕ) - 0 = d; omega
      · change (v : ℕ) - 0 = v; omega
    · pointwise []
  · rw [if_neg e, dif_neg (fun hin => e (by
      have h1 := (hin 0).1
      have h2 := (hin 0).2
      change (k : ℕ) ≤ n at h1
      change (n : ℕ) < k + 1 at h2
      exact Fin.ext (by omega)))]

variable (m : (ℓ : Loc nD τ sig) → Buf (Elt Ideal) ℓ) (c : Dev nD)

/-- The contents before a trip. -/
def U (k : ℕ) : Valuation τ sig (Elt Ideal) := STEP^[k] (entryContents preI m c)

theorem U_succ (k : ℕ) : U m c (k + 1) = STEP (U m c k) := Function.iterate_succ_apply' _ _ _

theorem U_dec : ∀ k, U m c k (Proc.devRef .tc main_v71_0) = entryContents preI m c (Proc.devRef .tc main_v71_0)
  | 0 => rfl
  | k + 1 => by rw [U_succ, STEP_main_v71_0, U_dec k]

theorem U_kv : ∀ k, U m c k (Proc.devRef .tc main_v71_1) = entryContents preI m c (Proc.devRef .tc main_v71_1)
  | 0 => rfl
  | k + 1 => by rw [U_succ, STEP_main_v71_1, U_kv k]

theorem U_ctr : ∀ k, U m c k (Proc.devRef .tc main_v71_2) = fun _ => BitVec.ofNat 32 k
  | 0 => ctr_entry m c
  | k + 1 => by
    rw [U_succ, STEP_main_v71_2]
    unfold step_main_v71_2
    rw [U_ctr k]
    funext i
    change BitVec.ofNat 32 k + 1#32 = BitVec.ofNat 32 (k + 1)
    simp [BitVec.ofNat_add]

variable {p : Par} {x : Fin 4 → Fin 4096 → Fin 1024 → EReal}

/-- The state before trip `k`. -/
theorem U_st (D : FVec Ideal S64x4x4x128 .f32) (hD : entryContents preI m c (Proc.devRef .tc main_v71_0) = D)
    (K : FVec Ideal S64x4x4x128x256 .f32) (hK : entryContents preI m c (Proc.devRef .tc main_v71_1) = K)
    (eD : ∀ (n : Fin 64) (b h : Fin 4) (d : Fin 128), D (ix4 n b h d) = Ideal.exp (bc p (chk x b n) 63 ⟨128 * h + d, by omega⟩))
    (eK : ∀ (n : Fin 64) (b h : Fin 4) (d : Fin 128) (v : Fin 256), K (ix5 n b h d v) = ∑ s : Fin 64, ke p (chk x b n) h s d * vv p (chk x b n) h s v) :
    ∀ k, k ≤ 64 → ∀ (b h : Fin 4) (d : Fin 128) (v : Fin 256),
      (U m c k (Proc.devRef .tc main_v71_3) : FVec Ideal S4x4x128x256 .f32) (ix4 b h d v) = st p (rowsN x b) k h d v
  | 0, _, b, h, d, v => by
    rw [show U m c 0 = entryContents preI m c from rfl, entry_st]
    pointwise [st]
  | k + 1, hk, b, h, d, v => by
    rw [U_succ, STEP_main_v71_3]
    rw [step_st_at (U m c k) ⟨k, by omega⟩ (U_ctr m c k) D ((U_dec m c k).trans hD) K ((U_kv m c k).trans hK) _ rfl b h d v]
    rw [U_st D hD K hK eD eK k (by omega) b h d v, eD, eK]
    have e : chk x b ⟨k, by omega⟩ = fun t : Fin 64 => rowsN x b (64 * k + t) := funext fun t => by
      unfold chk rowsN
      exact congrArg (x b) (Fin.ext (by dsimp only; omega))
    rw [e]
    rfl

/-- The states written down before trip `k`. -/
theorem U_rec (hS : ∀ k, k ≤ 64 → ∀ (b h : Fin 4) (d : Fin 128) (v : Fin 256),
      (U m c k (Proc.devRef .tc main_v71_3) : FVec Ideal S4x4x128x256 .f32) (ix4 b h d v) = st p (rowsN x b) k h d v) :
    ∀ k, k ≤ 64 → ∀ (n : Fin 64), (n : ℕ) < k → ∀ (b h : Fin 4) (d : Fin 128) (v : Fin 256),
      (U m c k (Proc.devRef .tc main_v71_4) : FVec Ideal S64x4x4x128x256 .f32) (ix5 n b h d v) = st p (rowsN x b) n h d v
  | 0, _, n, hn, _, _, _, _ => absurd hn (Nat.not_lt_zero _)
  | k + 1, hk, n, hn, b, h, d, v => by
    rw [U_succ, STEP_main_v71_4]
    rw [step_rec_at (U m c k) ⟨k, by omega⟩ (U_ctr m c k) _ rfl _ rfl n b h d v]
    by_cases e : n = ⟨k, by omega⟩
    · rw [if_pos e, hS k (by omega), show (n : ℕ) = k from congrArg Fin.val e]
    · rw [if_neg e]
      exact U_rec hS k (by omega) n (by
        have : (n : ℕ) ≠ k := fun h' => e (Fin.ext h')
        omega) b h d v

end Cert.ReferenceIdeal.Stage

end
-- ==== Proof.RefValue.lean ====
module

public import proofs.«01_k».proof.Proof.RefCum
public import proofs.«01_k».proof.Proof.RefLoop

/-! The reference's first result, token by token. -/

@[expose] public section

set_option maxRecDepth 16384

noncomputable section

namespace Cert.ReferenceIdeal.Stage

open Cert.ReferenceIdeal Cert.ReferenceIdeal.Gen Cert.ReferenceIdeal.Value Idealize.ShloMosaic Idealize.ShloMosaic.TcCoe Idealize.SL.Sem Idealize.ShloMosaic.StableHlo Cert.MixSpec Cert.Scalars

variable (m : (ℓ : Loc nD τ sig) → Buf (Elt Ideal) ℓ) (c : Dev nD)

/-- A buffer's contents, as an array of the given shape. -/
abbrev rd (s : Shape) (φ : FTy) (X : FVec Ideal s φ) : FVec Ideal s φ := X

/-- The tokens, of the arguments. -/
def xR (b : Fin 4) (s : Fin 4096) (k : Fin 1024) : EReal := rd S4x4096x1024 .f32 (m ((c.tc : Thread nD τ).loc main_arg0)) (ix3 b s k)

/-- The mixer's parameters, of the arguments. -/
def parR : Par where
  n1 k := rd S1x1024 .f32 (m ((c.tc : Thread nD τ).loc main_arg1)) (ix2 0 k)
  w k e := rd S1x1024x7184 .f32 (m ((c.tc : Thread nD τ).loc main_arg2)) (ix3 0 k e)
  b e := rd S1x7184 .f32 (m ((c.tc : Thread nD τ).loc main_arg3)) (ix2 0 e)
  lnw e := rd S1x1024 .f32 (m ((c.tc : Thread nD τ).loc main_arg4)) (ix2 0 e)
  lnb e := rd S1x1024 .f32 (m ((c.tc : Thread nD τ).loc main_arg5)) (ix2 0 e)
  sw g t s := rd S1x8x128x128 .f32 (m ((c.tc : Thread nD τ).loc main_arg6)) (ix4 0 g t s)
  sb g t := rd S1x8x128 .f32 (m ((c.tc : Thread nD τ).loc main_arg7)) (ix3 0 g t)
  gk2 i e := rd S1x16x512 .f32 (m ((c.tc : Thread nD τ).loc main_arg8)) (ix3 0 i e)
  bgk e := rd S1x512 .f32 (m ((c.tc : Thread nD τ).loc main_arg9)) (ix2 0 e)
  gnw v := rd S1x256 .f32 (m ((c.tc : Thread nD τ).loc main_arg10)) (ix2 0 v)
  wa k e := rd S1x1024x1024 .f32 (m ((c.tc : Thread nD τ).loc main_arg11)) (ix3 0 k e)
  wb k e := rd S1x1024x1024 .f32 (m ((c.tc : Thread nD τ).loc main_arg12)) (ix3 0 k e)
  wo k e := rd S1x1024x1024 .f32 (m ((c.tc : Thread nD τ).loc main_arg13)) (ix3 0 k e)

/-- The rows of a chunk, numbered along the batch. -/
theorem chk_eq (x : Fin 4 → Fin 4096 → Fin 1024 → EReal) (b : Fin 4) (n : Fin 64) : chk x b n = fun t : Fin 64 => rowsN x b (64 * n + t) := funext fun t => by
  unfold chk rowsN
  exact congrArg (x b) (Fin.ext (by dsimp only; omega))

theorem rowsN_eq (x : Fin 4 → Fin 4096 → Fin 1024 → EReal) (b : Fin 4) (s : Fin 4096) (n : ℕ) (h : n = (s : ℕ)) : rowsN x b n = x b s := by
  subst h
  unfold rowsN
  exact congrArg (x b) (Fin.ext (by dsimp only; omega))

/-- The stages after the loop, of a projection, its summed decays and the states. -/
theorem refT_at {p : Par} {x : Fin 4 → Fin 4096 → Fin 1024 → EReal} {a0 : FVec Ideal S4x4096x1024 .f32} {a4 a5 : FVec Ideal S1x1024 .f32}
    {a6 : FVec Ideal S1x8x128x128 .f32} {a7 : FVec Ideal S1x8x128 .f32} {a10 : FVec Ideal S1x256 .f32} {a11 a12 a13 : FVec Ideal S1x1024x1024 .f32}
    {P : FVec Ideal S4x4096x7184 .f32} {L : FVec Ideal S4x4x64x64x128 .f32} {T : FVec Ideal S64x4x4x128x256 .f32}
    (HP : ∀ (b : Fin 4) (s : Fin 4096) (e : Fin 7184), P (ix3 b s e) = pr p (x b s) e)
    (HL : ∀ (b h : Fin 4) (n t : Fin 64) (d : Fin 128), L (ix5 b h n t d) = bc p (chk x b n) t ⟨128 * h + d, by omega⟩)
    (HT : ∀ (n : Fin 64) (b h : Fin 4) (d : Fin 128) (v : Fin 256), T (ix5 n b h d v) = st p (rowsN x b) n h d v)
    (h0 : ∀ b s k, a0 (ix3 b s k) = x b s k) (h4 : ∀ k : Fin 1024, a4 (ix2 0 k) = p.lnw k) (h5 : ∀ k : Fin 1024, a5 (ix2 0 k) = p.lnb k)
    (h6 : ∀ (g : Fin 8) (t s : Fin 128), a6 (ix4 0 g t s) = p.sw g t s) (h7 : ∀ (g : Fin 8) (t : Fin 128), a7 (ix3 0 g t) = p.sb g t)
    (h10 : ∀ v : Fin 256, a10 (ix2 0 v) = p.gnw v) (h11 : ∀ k e : Fin 1024, a11 (ix3 0 k e) = p.wa k e) (h12 : ∀ k e : Fin 1024, a12 (ix3 0 k e) = p.wb k e)
    (h13 : ∀ k e : Fin 1024, a13 (ix3 0 k e) = p.wo k e) (b : Fin 4) (s : Fin 4096) (d : Fin 1024) :
    refT a0 P L T a4 a5 a6 a7 a10 a11 a12 a13 (ix3 b s d) = out p silR (rowsN x b) s d := by
  unfold refT
  rw [h_at HP h0 h11 h12 h13]
  unfold out
  have e1 : rowsN x b (s : ℕ) = x b s := rowsN_eq x b s _ rfl
  have e2 : (fun e => yaT (guT P) (lnT (gvT P) a4 a5) a6 a7 (ix3 b s e))
      = ya p (fun t => rowsN x b (128 * ((s : ℕ) / 128) + t)) ⟨(s : ℕ) % 128, by omega⟩ := by
    funext e
    rw [ya_at h6 h7, gu_at HP]
    unfold ya
    dsimp only
    rw [rowsN_eq x b s (128 * ((s : ℕ) / 128) + (s : ℕ) % 128) (by omega)]
    refine congrArg (fun z => gelu (pr p (x b s) ⟨e, by omega⟩) * (z + p.sb ⟨(e : ℕ) / 128, by omega⟩ ⟨(s : ℕ) % 128, by omega⟩)) (Finset.sum_congr rfl fun t _ => ?_)
    rw [ln_at (gv_at HP) h4 h5, rowsN_eq x b ⟨128 * ((s : ℕ) / 128) + t, by omega⟩ _ rfl]
  have e3 : (fun e => ybT P (hnT (ooT (scT (qdT P L) (kdT P L)) (vvT P) (qdT P L) T) a10) (ix3 b s e))
      = yb p silR (fun t => rowsN x b (64 * ((s : ℕ) / 64) + t)) (st p (rowsN x b) ((s : ℕ) / 64)) ⟨(s : ℕ) % 64, by omega⟩ := by
    funext e
    rw [yb_at HP, hn_at h10]
    unfold yb
    dsimp only
    rw [rowsN_eq x b s (64 * ((s : ℕ) / 64) + (s : ℕ) % 64) (by omega)]
    refine congrArg (fun z => hn p z ⟨(e : ℕ) % 256, by omega⟩ * silR (pr p (x b s) ⟨4096 + e, by omega⟩)) (funext fun v => ?_)
    rw [oo_at]
    unfold oo
    rw [← chk_eq x b ⟨(s : ℕ) / 64, by omega⟩]
    refine Ideal.add_congr (Finset.sum_congr rfl fun r _ => ?_) (Finset.sum_congr rfl fun d _ => ?_)
    · rw [sc_at, vv_at HP]
      unfold sc
      simp only [qd_at HP HL, kd_at HP HL]
    · rw [qd_at HP HL, HT]
  rw [e2, e3, e1]

/-- The reference's first result at a token. -/
theorem ref_at (b : Fin 4) (s : Fin 4096) (d : Fin 1024) :
    rd S4x4096x1024 .f32 (out_main_v256 (F := Ideal) (STEP^[64] (entryContents preI m c))) (ix3 b s d) = out (parR m c) silR (rowsN (xR m c) b) s d := by
  simp only [rd]
  rw [out_eq]
  unfold lOf pOf
  rw [iter_main_arg0, iter_main_arg1, iter_main_arg2, iter_main_arg3, iter_main_arg4, iter_main_arg5, iter_main_arg6, iter_main_arg7, iter_main_arg8, iter_main_arg9,
    iter_main_arg10, iter_main_arg11, iter_main_arg12, iter_main_arg13]
  have HP : ∀ (b : Fin 4) (s : Fin 4096) (e : Fin 7184), projT (m ((c.tc : Thread nD τ).loc main_arg0)) (m ((c.tc : Thread nD τ).loc main_arg1)) (m ((c.tc : Thread nD τ).loc main_arg2)) (m ((c.tc : Thread nD τ).loc main_arg3)) (ix3 b s e) = pr (parR m c) (xR m c b s) e :=
    proj_at (fun _ _ _ => rfl) (fun _ => rfl) (fun _ _ => rfl) (fun _ => rfl)
  have HL : ∀ (b h : Fin 4) (n t : Fin 64) (d : Fin 128), (cumT (gkT (projT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8)) (m ((c.tc : Thread nD τ).loc main_arg9)))) (ix5 b h n t d) = bc (parR m c) (chk (xR m c) b n) t ⟨128 * h + d, by omega⟩ :=
    fun b h n t d => cum_at (fun b s e => gk_at HP (fun _ _ => rfl) (fun _ => rfl) b s e) b h n t d
  have eD : ∀ (n : Fin 64) (b h : Fin 4) (d : Fin 128), decT (cumT (gkT (projT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8)) (m ((c.tc : Thread nD τ).loc main_arg9)))) (ix4 n b h d) = Ideal.exp (bc (parR m c) (chk (xR m c) b n) 63 ⟨128 * h + d, by omega⟩) :=
    fun n b h d => dec_at HL n b h d
  have eK : ∀ (n : Fin 64) (b h : Fin 4) (d : Fin 128) (v : Fin 256), kvT (projT (m ((c.tc : Thread nD τ).loc main_arg0)) (m ((c.tc : Thread nD τ).loc main_arg1)) (m ((c.tc : Thread nD τ).loc main_arg2)) (m ((c.tc : Thread nD τ).loc main_arg3))) (cumT (gkT (projT (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8)) (m ((c.tc : Thread nD τ).loc main_arg9)))) (ix5 n b h d v)
      = ∑ s : Fin 64, ke (parR m c) (chk (xR m c) b n) h s d * vv (parR m c) (chk (xR m c) b n) h s v :=
    fun n b h d v => kv_at HP HL n b h d v
  have HT : ∀ (n : Fin 64) (b h : Fin 4) (d : Fin 128) (v : Fin 256), (STEP^[64] (entryContents preI m c) (Proc.devRef .tc main_v71_4) : FVec Ideal S64x4x4x128x256 .f32) (ix5 n b h d v)
      = st (parR m c) (rowsN (xR m c) b) n h d v :=
    fun n b h d v => U_rec m c (fun k hk b h d v => U_st m c _ (entry_dec m c) _ (entry_kv m c) eD eK k hk b h d v) 64 (le_refl _) n n.isLt b h d v
  exact refT_at HP HL HT (fun _ _ _ => rfl) (fun _ => rfl) (fun _ => rfl) (fun _ _ _ => rfl) (fun _ _ => rfl) (fun _ => rfl) (fun _ _ => rfl) (fun _ _ => rfl) (fun _ _ => rfl) b s d

end Cert.ReferenceIdeal.Stage

end
-- ==== Proof.MixPre.lean ====
module

public import proofs.«01_k».proof.Proof.MixHost
public import proofs.«01_k».proof.Proof.RefValue
public import proofs.«01_k».proof.Proof.FfnClaim
public import proofs.«01_k».proof.Proof.Gen.Pre_finite

/-! What the precondition gives, and the mixer's two spellings of the SiLU over real entries. -/

@[expose] public section

set_option maxRecDepth 16384

noncomputable section

namespace Cert.MixClaim

open Idealize.ShloMosaic Idealize.ShloMosaic.TcCoe Idealize.SL.Sem Cert.Scalars Cert.MixSpec Cert.FfnClaim

section Pre
variable {a0 : FVec Ideal Cert.KernelIdeal.S4x4096x1024 .f32} {a1 a4 a5 : FVec Ideal Cert.KernelIdeal.S1x1024 .f32} {a2 : FVec Ideal Cert.KernelIdeal.S1x1024x7184 .f32}
  {a3 : FVec Ideal Cert.KernelIdeal.S1x7184 .f32} {a6 : FVec Ideal Cert.KernelIdeal.S1x8x128x128 .f32} {a7 : FVec Ideal Cert.KernelIdeal.S1x8x128 .f32}
  {a8 : FVec Ideal Cert.KernelIdeal.S1x16x512 .f32} {a9 : FVec Ideal Cert.KernelIdeal.S1x512 .f32} {a10 : FVec Ideal Cert.KernelIdeal.S1x256 .f32}
  {a11 a12 a13 : FVec Ideal Cert.KernelIdeal.S1x1024x1024 .f32} {a14 a15 : FVec Ideal Cert.KernelIdeal.S1x1024x2816 .f32} {a16 : FVec Ideal Cert.KernelIdeal.S1x2816x1024 .f32}

/-- The precondition's first test says the tokens are real numbers, -/
theorem pre_x (h : (Cert.Pre_finite.fn (F := Ideal) a0 a1 a2 a3 a4 a5 a6 a7 a8 a9 a10 a11 a12 a13 a14 a15 a16).1 = fun _ => 1#1) (b : Fin 4) (s : Fin 4096) (k : Fin 1024) : IsR (a0 (ix3 b s k)) := by
  have h' := congrFun h (ix3 b s k)
  pointwise [Cert.Pre_finite.fn] at h'
  exact isR_of_abs (lt_of_cmp h')

/-- the second that the first norm's weight is, -/
theorem pre_n1 (h : (Cert.Pre_finite.fn (F := Ideal) a0 a1 a2 a3 a4 a5 a6 a7 a8 a9 a10 a11 a12 a13 a14 a15 a16).2.1 = fun _ => 1#1) (k : Fin 1024) : IsR (a1 (ix2 0 k)) := by
  have h' := congrFun h (ix2 0 k)
  pointwise [Cert.Pre_finite.fn] at h'
  exact isR_of_abs (lt_of_cmp h')

/-- the third that the projection's weight is, -/
theorem pre_w (h : (Cert.Pre_finite.fn (F := Ideal) a0 a1 a2 a3 a4 a5 a6 a7 a8 a9 a10 a11 a12 a13 a14 a15 a16).2.2.1 = fun _ => 1#1) (k : Fin 1024) (e : Fin 7184) : IsR (a2 (ix3 0 k e)) := by
  have h' := congrFun h (ix3 0 k e)
  pointwise [Cert.Pre_finite.fn] at h'
  exact isR_of_abs (lt_of_cmp h')

/-- the fourth that its bias is. -/
theorem pre_b (h : (Cert.Pre_finite.fn (F := Ideal) a0 a1 a2 a3 a4 a5 a6 a7 a8 a9 a10 a11 a12 a13 a14 a15 a16).2.2.2 = fun _ => 1#1) (e : Fin 7184) : IsR (a3 (ix2 0 e)) := by
  have h' := congrFun h (ix2 0 e)
  pointwise [Cert.Pre_finite.fn] at h'
  exact isR_of_abs (lt_of_cmp h')

end Pre

/-- Over real entries the projected row is real. -/
theorem isR_pr (p : Par) (x : Fin 1024 → EReal) (hx : ∀ k, IsR (x k)) (h1 : ∀ k, IsR (p.n1 k)) (hw : ∀ k e, IsR (p.w k e)) (hb : ∀ e, IsR (p.b e)) (e : Fin 7184) : IsR (pr p x e) :=
  (IsR.sum _ _ fun k _ => ((((hx k).mul (isR_rsqrt x hx)).mul (h1 k)).mul (hw k e))).add (hb e)

/-- Over real entries the two spellings of the SiLU give the same result. -/
theorem out_sil (p : Par) (X : ℕ → Fin 1024 → EReal) (hx : ∀ r k, IsR (X r k)) (h1 : ∀ k, IsR (p.n1 k)) (hw : ∀ k e, IsR (p.w k e)) (hb : ∀ e, IsR (p.b e)) (s : ℕ) (d : Fin 1024) :
    out p silK X s d = out p silR X s d := by
  have h : yb p silK (fun t => X (64 * (s / 64) + t)) (st p X (s / 64)) ⟨s % 64, by omega⟩ = yb p silR (fun t => X (64 * (s / 64) + t)) (st p X (s / 64)) ⟨s % 64, by omega⟩ := by
    funext e
    unfold yb
    rw [silK_eq (isR_pr p _ (fun k => hx _ k) h1 hw hb _)]
  unfold out
  rw [h]

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ)

open Cert.ReferenceIdeal Cert.ReferenceIdeal.Value Idealize.ShloMosaic.StableHlo in
/-- The reference's second result: the gate weight, cast. -/
theorem ref_fg (c : Dev Cert.ReferenceIdeal.nD) (k : Fin 1024) (e : Fin 2816) :
    Cert.ReferenceIdeal.Stage.rd S1024x2816 .bf16 (out_main_v258 (F := Ideal) (STEP^[64] (entryContents preI m' c))) (ix2 k e) = Cert.ReferenceIdeal.Stage.rd S1x1024x2816 .f32 (m' ((c.tc : Thread nD τ).loc main_arg14)) (ix3 0 k e) := by
  unfold out_main_v258
  rw [iter_main_arg14]
  pointwise [Cert.ReferenceIdeal.Stage.rd]

open Cert.ReferenceIdeal Cert.ReferenceIdeal.Value Idealize.ShloMosaic.StableHlo in
/-- Its third: the up weight, cast. -/
theorem ref_fu (c : Dev Cert.ReferenceIdeal.nD) (k : Fin 1024) (e : Fin 2816) :
    Cert.ReferenceIdeal.Stage.rd S1024x2816 .bf16 (out_main_v260 (F := Ideal) (STEP^[64] (entryContents preI m' c))) (ix2 k e) = Cert.ReferenceIdeal.Stage.rd S1x1024x2816 .f32 (m' ((c.tc : Thread nD τ).loc main_arg15)) (ix3 0 k e) := by
  unfold out_main_v260
  rw [iter_main_arg15]
  pointwise [Cert.ReferenceIdeal.Stage.rd]

open Cert.ReferenceIdeal Cert.ReferenceIdeal.Value Idealize.ShloMosaic.StableHlo in
/-- Its fourth: the down weight, cast. -/
theorem ref_fd (c : Dev Cert.ReferenceIdeal.nD) (k : Fin 2816) (e : Fin 1024) :
    Cert.ReferenceIdeal.Stage.rd S2816x1024 .bf16 (out_main_v262 (F := Ideal) (STEP^[64] (entryContents preI m' c))) (ix2 k e) = Cert.ReferenceIdeal.Stage.rd S1x2816x1024 .f32 (m' ((c.tc : Thread nD τ).loc main_arg16)) (ix3 0 k e) := by
  unfold out_main_v262
  rw [iter_main_arg16]
  pointwise [Cert.ReferenceIdeal.Stage.rd]

end Cert.MixClaim

end
-- ==== Proof.MixClaim.lean ====
module

public import proofs.«01_k».proof.Defs
public import proofs.«01_k».proof.Proof.MixFinal
public import proofs.«01_k».proof.Proof.MixPre
public import Idealize.ShloMosaic.Lib.Claim

/-! The mixer's call equals its reference, over real entries. -/

@[expose] public section

set_option maxRecDepth 16384

noncomputable section

namespace Cert.MixClaim

open Idealize.ShloMosaic Idealize.ShloMosaic.TcCoe Idealize.SL.Sem Cert.Scalars Cert.MixSpec

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ) (c' : Dev Cert.ReferenceIdeal.nD)

/-- Equal tokens have equal rows. -/
theorem rows_eq (h0 : Cert.ReferenceIdeal.Stage.rd Cert.ReferenceIdeal.S4x4096x1024 .f32 (m' ((c'.tc : Thread Cert.ReferenceIdeal.nD Cert.ReferenceIdeal.τ).loc Cert.ReferenceIdeal.main_arg0)) = Cert.KernelIdeal.Tile.rd Cert.KernelIdeal.S4x4096x1024 .f32 (m ((c.tc : Thread Cert.KernelIdeal.nD Cert.KernelIdeal.τ).loc Cert.KernelIdeal.main_arg0))) (b : Fin 4) : Cert.KernelIdeal.Tile.rows m c b = Cert.ReferenceIdeal.Stage.rowsN (Cert.ReferenceIdeal.Stage.xR m' c') b := by
  funext r k
  unfold Cert.KernelIdeal.Tile.rows Cert.ReferenceIdeal.Stage.rowsN Cert.ReferenceIdeal.Stage.xR
  exact (congrFun h0 _).symm

/-- Equal arguments give equal parameters. -/
theorem par_eq (h1 : Cert.ReferenceIdeal.Stage.rd Cert.ReferenceIdeal.S1x1024 .f32 (m' ((c'.tc : Thread Cert.ReferenceIdeal.nD Cert.ReferenceIdeal.τ).loc Cert.ReferenceIdeal.main_arg1)) = Cert.KernelIdeal.Tile.rd Cert.KernelIdeal.S1x1024 .f32 (m ((c.tc : Thread Cert.KernelIdeal.nD Cert.KernelIdeal.τ).loc Cert.KernelIdeal.main_arg1)))
    (h2 : Cert.ReferenceIdeal.Stage.rd Cert.ReferenceIdeal.S1x1024x7184 .f32 (m' ((c'.tc : Thread Cert.ReferenceIdeal.nD Cert.ReferenceIdeal.τ).loc Cert.ReferenceIdeal.main_arg2)) = Cert.KernelIdeal.Tile.rd Cert.KernelIdeal.S1x1024x7184 .f32 (m ((c.tc : Thread Cert.KernelIdeal.nD Cert.KernelIdeal.τ).loc Cert.KernelIdeal.main_arg2)))
    (h3 : Cert.ReferenceIdeal.Stage.rd Cert.ReferenceIdeal.S1x7184 .f32 (m' ((c'.tc : Thread Cert.ReferenceIdeal.nD Cert.ReferenceIdeal.τ).loc Cert.ReferenceIdeal.main_arg3)) = Cert.KernelIdeal.Tile.rd Cert.KernelIdeal.S1x7184 .f32 (m ((c.tc : Thread Cert.KernelIdeal.nD Cert.KernelIdeal.τ).loc Cert.KernelIdeal.main_arg3)))
    (h4 : Cert.ReferenceIdeal.Stage.rd Cert.ReferenceIdeal.S1x1024 .f32 (m' ((c'.tc : Thread Cert.ReferenceIdeal.nD Cert.ReferenceIdeal.τ).loc Cert.ReferenceIdeal.main_arg4)) = Cert.KernelIdeal.Tile.rd Cert.KernelIdeal.S1x1024 .f32 (m ((c.tc : Thread Cert.KernelIdeal.nD Cert.KernelIdeal.τ).loc Cert.KernelIdeal.main_arg4)))
    (h5 : Cert.ReferenceIdeal.Stage.rd Cert.ReferenceIdeal.S1x1024 .f32 (m' ((c'.tc : Thread Cert.ReferenceIdeal.nD Cert.ReferenceIdeal.τ).loc Cert.ReferenceIdeal.main_arg5)) = Cert.KernelIdeal.Tile.rd Cert.KernelIdeal.S1x1024 .f32 (m ((c.tc : Thread Cert.KernelIdeal.nD Cert.KernelIdeal.τ).loc Cert.KernelIdeal.main_arg5)))
    (h6 : Cert.ReferenceIdeal.Stage.rd Cert.ReferenceIdeal.S1x8x128x128 .f32 (m' ((c'.tc : Thread Cert.ReferenceIdeal.nD Cert.ReferenceIdeal.τ).loc Cert.ReferenceIdeal.main_arg6)) = Cert.KernelIdeal.Tile.rd Cert.KernelIdeal.S1x8x128x128 .f32 (m ((c.tc : Thread Cert.KernelIdeal.nD Cert.KernelIdeal.τ).loc Cert.KernelIdeal.main_arg6)))
    (h7 : Cert.ReferenceIdeal.Stage.rd Cert.ReferenceIdeal.S1x8x128 .f32 (m' ((c'.tc : Thread Cert.ReferenceIdeal.nD Cert.ReferenceIdeal.τ).loc Cert.ReferenceIdeal.main_arg7)) = Cert.KernelIdeal.Tile.rd Cert.KernelIdeal.S1x8x128 .f32 (m ((c.tc : Thread Cert.KernelIdeal.nD Cert.KernelIdeal.τ).loc Cert.KernelIdeal.main_arg7)))
    (h8 : Cert.ReferenceIdeal.Stage.rd Cert.ReferenceIdeal.S1x16x512 .f32 (m' ((c'.tc : Thread Cert.ReferenceIdeal.nD Cert.ReferenceIdeal.τ).loc Cert.ReferenceIdeal.main_arg8)) = Cert.KernelIdeal.Tile.rd Cert.KernelIdeal.S1x16x512 .f32 (m ((c.tc : Thread Cert.KernelIdeal.nD Cert.KernelIdeal.τ).loc Cert.KernelIdeal.main_arg8)))
    (h9 : Cert.ReferenceIdeal.Stage.rd Cert.ReferenceIdeal.S1x512 .f32 (m' ((c'.tc : Thread Cert.ReferenceIdeal.nD Cert.ReferenceIdeal.τ).loc Cert.ReferenceIdeal.main_arg9)) = Cert.KernelIdeal.Tile.rd Cert.KernelIdeal.S1x512 .f32 (m ((c.tc : Thread Cert.KernelIdeal.nD Cert.KernelIdeal.τ).loc Cert.KernelIdeal.main_arg9)))
    (h10 : Cert.ReferenceIdeal.Stage.rd Cert.ReferenceIdeal.S1x256 .f32 (m' ((c'.tc : Thread Cert.ReferenceIdeal.nD Cert.ReferenceIdeal.τ).loc Cert.ReferenceIdeal.main_arg10)) = Cert.KernelIdeal.Tile.rd Cert.KernelIdeal.S1x256 .f32 (m ((c.tc : Thread Cert.KernelIdeal.nD Cert.KernelIdeal.τ).loc Cert.KernelIdeal.main_arg10)))
    (h11 : Cert.ReferenceIdeal.Stage.rd Cert.ReferenceIdeal.S1x1024x1024 .f32 (m' ((c'.tc : Thread Cert.ReferenceIdeal.nD Cert.ReferenceIdeal.τ).loc Cert.ReferenceIdeal.main_arg11)) = Cert.KernelIdeal.Tile.rd Cert.KernelIdeal.S1x1024x1024 .f32 (m ((c.tc : Thread Cert.KernelIdeal.nD Cert.KernelIdeal.τ).loc Cert.KernelIdeal.main_arg11)))
    (h12 : Cert.ReferenceIdeal.Stage.rd Cert.ReferenceIdeal.S1x1024x1024 .f32 (m' ((c'.tc : Thread Cert.ReferenceIdeal.nD Cert.ReferenceIdeal.τ).loc Cert.ReferenceIdeal.main_arg12)) = Cert.KernelIdeal.Tile.rd Cert.KernelIdeal.S1x1024x1024 .f32 (m ((c.tc : Thread Cert.KernelIdeal.nD Cert.KernelIdeal.τ).loc Cert.KernelIdeal.main_arg12)))
    (h13 : Cert.ReferenceIdeal.Stage.rd Cert.ReferenceIdeal.S1x1024x1024 .f32 (m' ((c'.tc : Thread Cert.ReferenceIdeal.nD Cert.ReferenceIdeal.τ).loc Cert.ReferenceIdeal.main_arg13)) = Cert.KernelIdeal.Tile.rd Cert.KernelIdeal.S1x1024x1024 .f32 (m ((c.tc : Thread Cert.KernelIdeal.nD Cert.KernelIdeal.τ).loc Cert.KernelIdeal.main_arg13))) : Cert.KernelIdeal.Tile.par m c = Cert.ReferenceIdeal.Stage.parR m' c' := by
  unfold Cert.KernelIdeal.Tile.par Cert.ReferenceIdeal.Stage.parR
  rw [h1, h2, h3, h4, h5, h6, h7, h8, h9, h10, h11, h12, h13]

open Cert.ReferenceIdeal Cert.ReferenceIdeal.Value Idealize.ShloMosaic.StableHlo in
/-- The reference's first result is the kernel's. -/
theorem res23 (h0 : Cert.ReferenceIdeal.Stage.rd Cert.ReferenceIdeal.S4x4096x1024 .f32 (m' ((c'.tc : Thread Cert.ReferenceIdeal.nD Cert.ReferenceIdeal.τ).loc Cert.ReferenceIdeal.main_arg0)) = Cert.KernelIdeal.Tile.rd Cert.KernelIdeal.S4x4096x1024 .f32 (m ((c.tc : Thread Cert.KernelIdeal.nD Cert.KernelIdeal.τ).loc Cert.KernelIdeal.main_arg0))) (h1 : Cert.ReferenceIdeal.Stage.rd Cert.ReferenceIdeal.S1x1024 .f32 (m' ((c'.tc : Thread Cert.ReferenceIdeal.nD Cert.ReferenceIdeal.τ).loc Cert.ReferenceIdeal.main_arg1)) = Cert.KernelIdeal.Tile.rd Cert.KernelIdeal.S1x1024 .f32 (m ((c.tc : Thread Cert.KernelIdeal.nD Cert.KernelIdeal.τ).loc Cert.KernelIdeal.main_arg1)))
    (h2 : Cert.ReferenceIdeal.Stage.rd Cert.ReferenceIdeal.S1x1024x7184 .f32 (m' ((c'.tc : Thread Cert.ReferenceIdeal.nD Cert.ReferenceIdeal.τ).loc Cert.ReferenceIdeal.main_arg2)) = Cert.KernelIdeal.Tile.rd Cert.KernelIdeal.S1x1024x7184 .f32 (m ((c.tc : Thread Cert.KernelIdeal.nD Cert.KernelIdeal.τ).loc Cert.KernelIdeal.main_arg2)))
    (h3 : Cert.ReferenceIdeal.Stage.rd Cert.ReferenceIdeal.S1x7184 .f32 (m' ((c'.tc : Thread Cert.ReferenceIdeal.nD Cert.ReferenceIdeal.τ).loc Cert.ReferenceIdeal.main_arg3)) = Cert.KernelIdeal.Tile.rd Cert.KernelIdeal.S1x7184 .f32 (m ((c.tc : Thread Cert.KernelIdeal.nD Cert.KernelIdeal.τ).loc Cert.KernelIdeal.main_arg3)))
    (h4 : Cert.ReferenceIdeal.Stage.rd Cert.ReferenceIdeal.S1x1024 .f32 (m' ((c'.tc : Thread Cert.ReferenceIdeal.nD Cert.ReferenceIdeal.τ).loc Cert.ReferenceIdeal.main_arg4)) = Cert.KernelIdeal.Tile.rd Cert.KernelIdeal.S1x1024 .f32 (m ((c.tc : Thread Cert.KernelIdeal.nD Cert.KernelIdeal.τ).loc Cert.KernelIdeal.main_arg4)))
    (h5 : Cert.ReferenceIdeal.Stage.rd Cert.ReferenceIdeal.S1x1024 .f32 (m' ((c'.tc : Thread Cert.ReferenceIdeal.nD Cert.ReferenceIdeal.τ).loc Cert.ReferenceIdeal.main_arg5)) = Cert.KernelIdeal.Tile.rd Cert.KernelIdeal.S1x1024 .f32 (m ((c.tc : Thread Cert.KernelIdeal.nD Cert.KernelIdeal.τ).loc Cert.KernelIdeal.main_arg5)))
    (h6 : Cert.ReferenceIdeal.Stage.rd Cert.ReferenceIdeal.S1x8x128x128 .f32 (m' ((c'.tc : Thread Cert.ReferenceIdeal.nD Cert.ReferenceIdeal.τ).loc Cert.ReferenceIdeal.main_arg6)) = Cert.KernelIdeal.Tile.rd Cert.KernelIdeal.S1x8x128x128 .f32 (m ((c.tc : Thread Cert.KernelIdeal.nD Cert.KernelIdeal.τ).loc Cert.KernelIdeal.main_arg6)))
    (h7 : Cert.ReferenceIdeal.Stage.rd Cert.ReferenceIdeal.S1x8x128 .f32 (m' ((c'.tc : Thread Cert.ReferenceIdeal.nD Cert.ReferenceIdeal.τ).loc Cert.ReferenceIdeal.main_arg7)) = Cert.KernelIdeal.Tile.rd Cert.KernelIdeal.S1x8x128 .f32 (m ((c.tc : Thread Cert.KernelIdeal.nD Cert.KernelIdeal.τ).loc Cert.KernelIdeal.main_arg7)))
    (h8 : Cert.ReferenceIdeal.Stage.rd Cert.ReferenceIdeal.S1x16x512 .f32 (m' ((c'.tc : Thread Cert.ReferenceIdeal.nD Cert.ReferenceIdeal.τ).loc Cert.ReferenceIdeal.main_arg8)) = Cert.KernelIdeal.Tile.rd Cert.KernelIdeal.S1x16x512 .f32 (m ((c.tc : Thread Cert.KernelIdeal.nD Cert.KernelIdeal.τ).loc Cert.KernelIdeal.main_arg8)))
    (h9 : Cert.ReferenceIdeal.Stage.rd Cert.ReferenceIdeal.S1x512 .f32 (m' ((c'.tc : Thread Cert.ReferenceIdeal.nD Cert.ReferenceIdeal.τ).loc Cert.ReferenceIdeal.main_arg9)) = Cert.KernelIdeal.Tile.rd Cert.KernelIdeal.S1x512 .f32 (m ((c.tc : Thread Cert.KernelIdeal.nD Cert.KernelIdeal.τ).loc Cert.KernelIdeal.main_arg9)))
    (h10 : Cert.ReferenceIdeal.Stage.rd Cert.ReferenceIdeal.S1x256 .f32 (m' ((c'.tc : Thread Cert.ReferenceIdeal.nD Cert.ReferenceIdeal.τ).loc Cert.ReferenceIdeal.main_arg10)) = Cert.KernelIdeal.Tile.rd Cert.KernelIdeal.S1x256 .f32 (m ((c.tc : Thread Cert.KernelIdeal.nD Cert.KernelIdeal.τ).loc Cert.KernelIdeal.main_arg10)))
    (h11 : Cert.ReferenceIdeal.Stage.rd Cert.ReferenceIdeal.S1x1024x1024 .f32 (m' ((c'.tc : Thread Cert.ReferenceIdeal.nD Cert.ReferenceIdeal.τ).loc Cert.ReferenceIdeal.main_arg11)) = Cert.KernelIdeal.Tile.rd Cert.KernelIdeal.S1x1024x1024 .f32 (m ((c.tc : Thread Cert.KernelIdeal.nD Cert.KernelIdeal.τ).loc Cert.KernelIdeal.main_arg11)))
    (h12 : Cert.ReferenceIdeal.Stage.rd Cert.ReferenceIdeal.S1x1024x1024 .f32 (m' ((c'.tc : Thread Cert.ReferenceIdeal.nD Cert.ReferenceIdeal.τ).loc Cert.ReferenceIdeal.main_arg12)) = Cert.KernelIdeal.Tile.rd Cert.KernelIdeal.S1x1024x1024 .f32 (m ((c.tc : Thread Cert.KernelIdeal.nD Cert.KernelIdeal.τ).loc Cert.KernelIdeal.main_arg12)))
    (h13 : Cert.ReferenceIdeal.Stage.rd Cert.ReferenceIdeal.S1x1024x1024 .f32 (m' ((c'.tc : Thread Cert.ReferenceIdeal.nD Cert.ReferenceIdeal.τ).loc Cert.ReferenceIdeal.main_arg13)) = Cert.KernelIdeal.Tile.rd Cert.KernelIdeal.S1x1024x1024 .f32 (m ((c.tc : Thread Cert.KernelIdeal.nD Cert.KernelIdeal.τ).loc Cert.KernelIdeal.main_arg13))) (hx : ∀ b s k, IsR (Cert.ReferenceIdeal.Stage.xR m' c' b s k)) (h1r : ∀ k, IsR ((Cert.ReferenceIdeal.Stage.parR m' c').n1 k)) (hw : ∀ k e, IsR ((Cert.ReferenceIdeal.Stage.parR m' c').w k e))
    (hb : ∀ e, IsR ((Cert.ReferenceIdeal.Stage.parR m' c').b e)) :
    Cert.ReferenceIdeal.Stage.rd S4x4096x1024 .f32 (out_main_v256 (F := Ideal) (STEP^[64] (entryContents preI m' c')))
      = Cert.KernelIdeal.Tile.rd Cert.KernelIdeal.S4x4096x1024 .f32 ((Cert.KernelIdeal.Mix.dats m 0 c).arrAt 23 (Cert.KernelIdeal.cfgs 0).N) := by
  rw [Cert.KernelIdeal.Tile.final23 m c]
  funext y
  obtain ⟨b, s, d, rfl⟩ : ∃ (b : Fin 4) (s : Fin 4096) (d : Fin 1024), y = ix3 b s d := ⟨y 0, y 1, y 2, eq_ix3 y⟩
  refine (Cert.ReferenceIdeal.Stage.ref_at m' c' b s d).trans ?_
  change _ = out (Cert.KernelIdeal.Tile.par m c) silK (Cert.KernelIdeal.Tile.rows m c b) (s : ℕ) d
  rw [rows_eq m c m' c' h0 b, par_eq m c m' c' h1 h2 h3 h4 h5 h6 h7 h8 h9 h10 h11 h12 h13]
  exact (out_sil _ _ (fun r k => hx _ _ _) h1r hw hb _ d).symm

open Cert.ReferenceIdeal Cert.ReferenceIdeal.Value Idealize.ShloMosaic.StableHlo in
/-- The reference's cast of argument 14 is the kernel's. -/
theorem res24 (h14 : Cert.ReferenceIdeal.Stage.rd Cert.ReferenceIdeal.S1x1024x2816 .f32 (m' ((c'.tc : Thread Cert.ReferenceIdeal.nD Cert.ReferenceIdeal.τ).loc Cert.ReferenceIdeal.main_arg14)) = Cert.KernelIdeal.Tile.rd Cert.KernelIdeal.S1x1024x2816 .f32 (m ((c.tc : Thread Cert.KernelIdeal.nD Cert.KernelIdeal.τ).loc Cert.KernelIdeal.main_arg14))) :
    Cert.ReferenceIdeal.Stage.rd S1024x2816 .bf16 (out_main_v258 (F := Ideal) (STEP^[64] (entryContents preI m' c')))
      = Cert.KernelIdeal.Tile.rd Cert.KernelIdeal.S1024x2816 .bf16 ((Cert.KernelIdeal.Mix.dats m 0 c).arrAt 24 (Cert.KernelIdeal.cfgs 0).N) := by
  rw [Cert.KernelIdeal.Tile.final24 m c]
  funext y
  obtain ⟨k, e, rfl⟩ : ∃ (k : Fin 1024) (e : Fin 2816), y = ix2 k e := ⟨y 0, y 1, eq_ix2 y⟩
  exact (ref_fg m' c' k e).trans (congrFun h14 _)

open Cert.ReferenceIdeal Cert.ReferenceIdeal.Value Idealize.ShloMosaic.StableHlo in
/-- The reference's cast of argument 15 is the kernel's. -/
theorem res25 (h15 : Cert.ReferenceIdeal.Stage.rd Cert.ReferenceIdeal.S1x1024x2816 .f32 (m' ((c'.tc : Thread Cert.ReferenceIdeal.nD Cert.ReferenceIdeal.τ).loc Cert.ReferenceIdeal.main_arg15)) = Cert.KernelIdeal.Tile.rd Cert.KernelIdeal.S1x1024x2816 .f32 (m ((c.tc : Thread Cert.KernelIdeal.nD Cert.KernelIdeal.τ).loc Cert.KernelIdeal.main_arg15))) :
    Cert.ReferenceIdeal.Stage.rd S1024x2816 .bf16 (out_main_v260 (F := Ideal) (STEP^[64] (entryContents preI m' c')))
      = Cert.KernelIdeal.Tile.rd Cert.KernelIdeal.S1024x2816 .bf16 ((Cert.KernelIdeal.Mix.dats m 0 c).arrAt 25 (Cert.KernelIdeal.cfgs 0).N) := by
  rw [Cert.KernelIdeal.Tile.final25 m c]
  funext y
  obtain ⟨k, e, rfl⟩ : ∃ (k : Fin 1024) (e : Fin 2816), y = ix2 k e := ⟨y 0, y 1, eq_ix2 y⟩
  exact (ref_fu m' c' k e).trans (congrFun h15 _)

open Cert.ReferenceIdeal Cert.ReferenceIdeal.Value Idealize.ShloMosaic.StableHlo in
/-- The reference's cast of argument 16 is the kernel's. -/
theorem res26 (h16 : Cert.ReferenceIdeal.Stage.rd Cert.ReferenceIdeal.S1x2816x1024 .f32 (m' ((c'.tc : Thread Cert.ReferenceIdeal.nD Cert.ReferenceIdeal.τ).loc Cert.ReferenceIdeal.main_arg16)) = Cert.KernelIdeal.Tile.rd Cert.KernelIdeal.S1x2816x1024 .f32 (m ((c.tc : Thread Cert.KernelIdeal.nD Cert.KernelIdeal.τ).loc Cert.KernelIdeal.main_arg16))) :
    Cert.ReferenceIdeal.Stage.rd S2816x1024 .bf16 (out_main_v262 (F := Ideal) (STEP^[64] (entryContents preI m' c')))
      = Cert.KernelIdeal.Tile.rd Cert.KernelIdeal.S2816x1024 .bf16 ((Cert.KernelIdeal.Mix.dats m 0 c).arrAt 26 (Cert.KernelIdeal.cfgs 0).N) := by
  rw [Cert.KernelIdeal.Tile.final26 m c]
  funext y
  obtain ⟨k, e, rfl⟩ : ∃ (k : Fin 2816) (e : Fin 1024), y = ix2 k e := ⟨y 0, y 1, eq_ix2 y⟩
  exact (ref_fd m' c' k e).trans (congrFun h16 _)

open Cert.KernelIdeal Cert.KernelIdeal.Gen Cert.KernelIdeal.Mix in
/-- The kernel's run: its results are the call's arrays, and its arguments end as they were. -/
theorem run_vals (g : Dev nD → PrngReg) : θ_run (defs (F := Ideal)) (onTc (τ := τ) (main (F := Ideal))) ⟨m, fun _ => 0, g⟩ (fun r => ∀ c : Dev nD,
    r.2.mem ((c.tc : Thread nD τ).loc main_v58_0) = (dats m 0 c).arrAt 23 (cfgs 0).N
    ∧ r.2.mem ((c.tc : Thread nD τ).loc main_v58_1) = (dats m 0 c).arrAt 24 (cfgs 0).N
    ∧ r.2.mem ((c.tc : Thread nD τ).loc main_v58_2) = (dats m 0 c).arrAt 25 (cfgs 0).N
    ∧ r.2.mem ((c.tc : Thread nD τ).loc main_v58_3) = (dats m 0 c).arrAt 26 (cfgs 0).N) :=
  (θ_run defs _ _).mono (fun r h c => ⟨(h c).1 23, (h c).1 24, (h c).1 25, (h c).1 26⟩) (run_main m g)

set_option maxHeartbeats 8000000 in
/-- The mixer's results are its reference's, from memories agreeing on real arguments. -/
theorem algebraic : Cert.algebraic_KernelIdeal_ReferenceIdeal_pre_finite := by
  intro m g m' g' hpre hagree
  refine ⟨fun c => (Cert.KernelIdeal.Mix.dats m 0 c).arrAt 23 (Cert.KernelIdeal.cfgs 0).N, fun c => (Cert.KernelIdeal.Mix.dats m 0 c).arrAt 24 (Cert.KernelIdeal.cfgs 0).N,
    fun c => (Cert.KernelIdeal.Mix.dats m 0 c).arrAt 25 (Cert.KernelIdeal.cfgs 0).N, fun c => (Cert.KernelIdeal.Mix.dats m 0 c).arrAt 26 (Cert.KernelIdeal.cfgs 0).N, ?_, ?_⟩
  · exact (θ_run Cert.KernelIdeal.defs _ _).mono (fun r h c => ⟨(h.1 c).1, (h.1 c).2.1, (h.1 c).2.2.1, (h.1 c).2.2.2, h.2.1 c⟩) (θ_run_and (run_vals m g) (Cert.KernelIdeal.Mix.quiet m g))
  · refine (θ_run Cert.ReferenceIdeal.defs _ _).mono (fun r h c => ?_) (Cert.ReferenceIdeal.Value.run m' g')
    obtain ⟨r0, r1, r2, r3, ra⟩ := h c
    obtain ⟨e0, e1, e2, e3, e4, e5, e6, e7, e8, e9, e10, e11, e12, e13, e14, e15, e16⟩ := hagree c
    obtain ⟨p0, p1, p2, p3⟩ := hpre c
    refine ⟨r0.trans (res23 m c m' c e0 e1 e2 e3 e4 e5 e6 e7 e8 e9 e10 e11 e12 e13 ?_ ?_ ?_ ?_), r1.trans (res24 m c m' c e14), r2.trans (res25 m c m' c e15), r3.trans (res26 m c m' c e16), ra⟩
    · intro b s k
      refine (congrArg IsR (congrFun e0 (ix3 b s k))).mpr ?_
      exact pre_x p0 b s k
    · intro k
      refine (congrArg IsR (congrFun e1 (ix2 0 k))).mpr ?_
      exact pre_n1 p1 k
    · intro k e
      refine (congrArg IsR (congrFun e2 (ix3 0 k e))).mpr ?_
      exact pre_w p2 k e
    · intro e
      refine (congrArg IsR (congrFun e3 (ix2 0 e))).mpr ?_
      exact pre_b p3 e

end Cert.MixClaim

end
-- ==== Proof.lean ====
module

public import proofs.«01_k».proof.Defs
public import proofs.«01_k».proof.Proof.Gen.Ffn.Frame
public import proofs.«01_k».proof.Proof.FfnClaim
public import proofs.«01_k».proof.Proof.WordFrame
public import proofs.«01_k».proof.Proof.MixFrame
public import proofs.«01_k».proof.Proof.Gen.ReferenceIdeal.Run
public import proofs.«01_k».proof.Proof.Gen.Pre_finite
public import proofs.«01_k».proof.Proof.MixClaim
public import Idealize.ShloMosaic.Lib.Claim

/-! The claims of both calls, assembled. -/

@[expose] public section

noncomputable section

namespace Cert.Proof

open Idealize.ShloMosaic Idealize.SL.Sem

/-- The feed-forward program leaves its arguments as they were and every semaphore at zero. -/
theorem frame_ffn : Cert.quiescent_Ffn := fun m g _ => Cert.Ffn.Gen.frame m g

/-- So does its ideal form, -/
theorem frame_ffn_ideal : Cert.quiescent_FfnIdeal := fun m g _ => Cert.FfnIdeal.Gen.frame m g

/-- and its reference. -/
theorem frame_ffn_ref : Cert.quiescent_FfnReferenceIdeal := fun m g _ =>
  (θ_run Cert.FfnReferenceIdeal.defs _ _).mono (fun r h => ⟨fun c => (h c).2, sem_eq_zero_of_no_sems (by decide) r.2⟩)
    (Cert.FfnReferenceIdeal.Value.run (F := Ideal) m g)

/-- The printed mixer leaves its arguments as they were and every semaphore at zero. -/
theorem frame_mix : Cert.quiescent_Kernel := fun m g _ => Cert.Kernel.Mix.quiet m g

/-- So does its ideal form, -/
theorem frame_mix_ideal : Cert.quiescent_KernelIdeal := fun m g _ => Cert.KernelIdeal.Mix.quiet m g

/-- and its reference. -/
theorem frame_mix_ref : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- The named constants stand for the printed words. -/
theorem preserves_mix : Cert.preserves_Kernel_KernelIdeal :=
  ⟨IdealRules.named_const.statement Cert.KernelIdeal.κ "neg_log2e" .f32 0xBFB8AA3B#32 _ rfl,
    IdealRules.named_const.statement Cert.KernelIdeal.κ "log2e" .f32 0x3FB8AA3B#32 _ rfl,
    IdealRules.named_const.statement Cert.KernelIdeal.κ "gelu_c1" .f32 0x3D122279#32 _ rfl⟩

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts, Cert.Pre_finite.Gen.facts, Cert.Pre_ffn_finite.Gen.facts,
    frame_mix, frame_mix_ideal, fun m g _ => frame_mix_ideal m g trivial, frame_mix_ref, fun m g _ => frame_mix_ref m g trivial,
    frame_ffn, frame_ffn_ideal, fun m g _ => frame_ffn_ideal m g trivial, frame_ffn_ref,
    fun m g _ => frame_ffn_ref m g trivial, preserves_mix, Cert.MixClaim.algebraic, trivial, Cert.FfnClaim.algebraic⟩

end Cert.Proof

end
